-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S1x16384x16x128 : Shape := ⟨4, ![1, 16384, 16, 128]⟩
abbrev S1x16384x16x64 : Shape := ⟨4, ![1, 16384, 16, 64]⟩
abbrev S1x16384x64 : Shape := ⟨3, ![1, 16384, 64]⟩
abbrev S_ : Shape := ⟨0, ![]⟩

class Facts : Prop where
  bcast_S_S1x16384x16x128 : S_.BroadcastsInDim S1x16384x16x128 (![] : Fin 0 → Fin S1x16384x16x128.rank)
  reducesTo_S1x16384x16x128_S_d0_1_2_3 : S1x16384x16x128.ReducesTo [0, 1, 2, 3] S_
  h_S_ : 0 < S_.numel
  bcast_S_S1x16384x16x64 : S_.BroadcastsInDim S1x16384x16x64 (![] : Fin 0 → Fin S1x16384x16x64.rank)
  reducesTo_S1x16384x16x64_S_d0_1_2_3 : S1x16384x16x64.ReducesTo [0, 1, 2, 3] S_
  bcast_S_S1x16384x64 : S_.BroadcastsInDim S1x16384x64 (![] : Fin 0 → Fin S1x16384x64.rank)
  reducesTo_S1x16384x64_S_d0_1_2 : S1x16384x64.ReducesTo [0, 1, 2] S_

variable [Facts]

def fn_part1 {F : FTy → Type} [FloatOps F] (main_v13 : IVec S_ 1) (main_v16 : IVec S1x16384x64 1) : IVec S_ 1 :=
  let main_c_5 : IVec S_ 1 := constantI S_ 1 1#1
  let main_v17 : IVec S_ 1 := (fun x v => Host.reduce IntOp.andi x v reducesTo_S1x16384x64_S_d0_1_2 h_S_) main_v16 main_c_5
  let main_v18 : IVec S_ 1 := andi main_v13 main_v17
  main_v18

def fn {F : FTy → Type} [FloatOps F] (main_arg0 : FVec F S1x16384x16x128 .f32) (main_arg1 : FVec F S1x16384x16x64 .f32) (main_arg2 : FVec F S1x16384x16x128 .f32) (main_arg3 : FVec F S1x16384x64 .f32) (main_arg4 : FVec F S1x16384x16x128 .f32) : IVec S_ 1 :=
  let main_v0 : FVec F S1x16384x16x128 .f32 := Host.absf main_arg0
  let main_cst : FVec F S_ .f32 := constant S_ .f32 0x7F800000#32
  let main_v1 : FVec F S1x16384x16x128 .f32 := broadcastInDim S1x16384x16x128 ![] bcast_S_S1x16384x16x128 main_cst
  let main_v2 : IVec S1x16384x16x128 1 := cmpf .olt main_v0 main_v1
  let main_c : IVec S_ 1 := constantI S_ 1 1#1
  let main_v3 : IVec S_ 1 := (fun x v => Host.reduce IntOp.andi x v reducesTo_S1x16384x16x128_S_d0_1_2_3 h_S_) main_v2 main_c
  let main_v4 : FVec F S1x16384x16x64 .f32 := Host.absf main_arg1
  let main_cst_0 : FVec F S_ .f32 := constant S_ .f32 0x7F800000#32
  let main_v5 : FVec F S1x16384x16x64 .f32 := broadcastInDim S1x16384x16x64 ![] bcast_S_S1x16384x16x64 main_cst_0
  let main_v6 : IVec S1x16384x16x64 1 := cmpf .olt main_v4 main_v5
  let main_c_1 : IVec S_ 1 := constantI S_ 1 1#1
  let main_v7 : IVec S_ 1 := (fun x v => Host.reduce IntOp.andi x v reducesTo_S1x16384x16x64_S_d0_1_2_3 h_S_) main_v6 main_c_1
  let main_v8 : IVec S_ 1 := andi main_v3 main_v7
  let main_v9 : FVec F S1x16384x16x128 .f32 := Host.absf main_arg2
  let main_cst_2 : FVec F S_ .f32 := constant S_ .f32 0x7F800000#32
  let main_v10 : FVec F S1x16384x16x128 .f32 := broadcastInDim S1x16384x16x128 ![] bcast_S_S1x16384x16x128 main_cst_2
  let main_v11 : IVec S1x16384x16x128 1 := cmpf .olt main_v9 main_v10
  let main_c_3 : IVec S_ 1 := constantI S_ 1 1#1
  let main_v12 : IVec S_ 1 := (fun x v => Host.reduce IntOp.andi x v reducesTo_S1x16384x16x128_S_d0_1_2_3 h_S_) main_v11 main_c_3
  let main_v13 : IVec S_ 1 := andi main_v8 main_v12
  let main_v14 : FVec F S1x16384x64 .f32 := Host.absf main_arg3
  let main_cst_4 : FVec F S_ .f32 := constant S_ .f32 0x7F800000#32
  let main_v15 : FVec F S1x16384x64 .f32 := broadcastInDim S1x16384x64 ![] bcast_S_S1x16384x64 main_cst_4
  let main_v16 : IVec S1x16384x64 1 := cmpf .olt main_v14 main_v15
  fn_part1 (F := F) main_v13 main_v16
-- ==== Kernel.lean ====
abbrev S1x16384x16x128 : Shape := ⟨4, ![1, 16384, 16, 128]⟩
abbrev S1x16384x16x64 : Shape := ⟨4, ![1, 16384, 16, 64]⟩
abbrev S1x16384x64 : Shape := ⟨3, ![1, 16384, 64]⟩
abbrev S_ : Shape := ⟨0, ![]⟩
abbrev S1x16384x16x256 : Shape := ⟨4, ![1, 16384, 16, 256]⟩
abbrev S16384x64 : Shape := ⟨2, ![16384, 64]⟩
abbrev S16384x128 : Shape := ⟨2, ![16384, 128]⟩
abbrev S16384x16x256 : Shape := ⟨3, ![16384, 16, 256]⟩
abbrev S16x16384x256 : Shape := ⟨3, ![16, 16384, 256]⟩
abbrev S16384x16x128 : Shape := ⟨3, ![16384, 16, 128]⟩
abbrev S16x16384x128 : Shape := ⟨3, ![16, 16384, 128]⟩
abbrev S16384x2048 : Shape := ⟨2, ![16384, 2048]⟩
abbrev S1x4096x256 : Shape := ⟨3, ![1, 4096, 256]⟩
abbrev S1x16384x128 : Shape := ⟨3, ![1, 16384, 128]⟩
abbrev S4096x128 : Shape := ⟨2, ![4096, 128]⟩
abbrev S512x1024 : Shape := ⟨2, ![512, 1024]⟩
abbrev S512x1 : Shape := ⟨2, ![512, 1]⟩
abbrev S8x512x1 : Shape := ⟨3, ![8, 512, 1]⟩
abbrev S8x512x256 : Shape := ⟨3, ![8, 512, 256]⟩
abbrev S1x512x256 : Shape := ⟨3, ![1, 512, 256]⟩
abbrev S512x256 : Shape := ⟨2, ![512, 256]⟩
abbrev S1x1024x128 : Shape := ⟨3, ![1, 1024, 128]⟩
abbrev S1024x128 : Shape := ⟨2, ![1024, 128]⟩
abbrev S1024x256 : Shape := ⟨2, ![1024, 256]⟩
abbrev S1x512x1 : Shape := ⟨3, ![1, 512, 1]⟩
abbrev S512 : Shape := ⟨1, ![512]⟩
abbrev S512x512 : Shape := ⟨2, ![512, 512]⟩
abbrev S1x512x128 : Shape := ⟨3, ![1, 512, 128]⟩
abbrev S512x128 : Shape := ⟨2, ![512, 128]⟩

abbrev nBuf : Space → Nat
  | .hbm => 32
  | .vmem => 17
  | .smem => 0
  | _ => 0

abbrev bufTy : (tb : Table) → Fin (tcTables nBuf tb) → BufTy
  | .hbm, ⟨0, _⟩ => ⟨S1x16384x16x128, .f32⟩
  | .hbm, ⟨1, _⟩ => ⟨S1x16384x16x64, .f32⟩
  | .hbm, ⟨2, _⟩ => ⟨S1x16384x16x128, .f32⟩
  | .hbm, ⟨3, _⟩ => ⟨S1x16384x64, .f32⟩
  | .hbm, ⟨4, _⟩ => ⟨S1x16384x16x128, .f32⟩
  | .hbm, ⟨5, _⟩ => ⟨S_, .f32⟩
  | .hbm, ⟨6, _⟩ => ⟨S1x16384x16x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x16384x16x256, .f32⟩
  | .hbm, ⟨15, _⟩ => ⟨S1x16384x16x256, .f32⟩
  | .hbm, ⟨16, _⟩ => ⟨S1x16384x16x256, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x128, .f32⟩
  | .hbm, ⟨21, _⟩ => ⟨S16384x16x256, .f32⟩
  | .hbm, ⟨22, _⟩ => ⟨S16x16384x256, .f32⟩
  | .hbm, ⟨23, _⟩ => ⟨S16x16384x256, .bf16⟩
  | .hbm, ⟨24, _⟩ => ⟨S16384x16x128, .f32⟩
  | .hbm, ⟨25, _⟩ => ⟨S16x16384x128, .f32⟩
  | .hbm, ⟨26, _⟩ => ⟨S16x16384x128, .bf16⟩
  | .hbm, ⟨27, _⟩ => ⟨S16384x128, .bf16⟩
  | .hbm, ⟨28, _⟩ => ⟨S16384x16x128, .f32⟩
  | .hbm, ⟨29, _⟩ => ⟨S16x16384x128, .f32⟩
  | .hbm, ⟨30, _⟩ => ⟨S16x16384x128, .bf16⟩
  | .hbm, ⟨31, _⟩ => ⟨S16384x2048, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x16384x128, .bf16⟩
  | .local _ .vmem, ⟨3, _⟩ => ⟨S1x16384x128, .bf16⟩
  | .local _ .vmem, ⟨4, _⟩ => ⟨S16384x128, .bf16⟩
  | .local _ .vmem, ⟨5, _⟩ => ⟨S1x16384x128, .bf16⟩
  | .local _ .vmem, ⟨6, _⟩ => ⟨S1x16384x128, .bf16⟩
  | .local _ .vmem, ⟨7, _⟩ => ⟨S4096x128, .bf16⟩
  | .local _ .vmem, ⟨8, _⟩ => ⟨S4096x128, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1, .f32⟩
  | .local _ .vmem, ⟨14, _⟩ => ⟨S512x1, .f32⟩
  | .local _ .vmem, ⟨15, _⟩ => ⟨S8x512x1, .f32⟩
  | .local _ .vmem, ⟨16, _⟩ => ⟨S8x512x256, .f32⟩
  | _, _ => ⟨S1x16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  let c2_i32 : BitVec 32 := 2#32
  let v20 : BitVec 32 := Scalar.maxsi v0 c2_i32
  let v39 : BitVec 32 := Scalar.subi v20 v0
  let c512_i32 : BitVec 32 := 512#32
  let v40 : BitVec 32 := Scalar.muli v39 c512_i32
  v40
def k0_off1 (i : grid0.Coords) : Fin 3 → Nat :=
  let c0_24 : Index := 0#32
  let arg1 : BitVec 32 := BitVec.ofNat 32 (i 1).val
  let c8_i32 : BitVec 32 := 8#32
  let v0 : BitVec 32 := Scalar.muli arg1 c8_i32
  let c2_i32 : BitVec 32 := 2#32
  let v20 : BitVec 32 := Scalar.maxsi v0 c2_i32
  let v39 : BitVec 32 := Scalar.subi v20 v0
  let c512_i32 : BitVec 32 := 512#32
  let v40 : BitVec 32 := Scalar.muli v39 c512_i32
  let v41 : BitVec 32 := v40
  let v42 : Index := Scalar.indexCast v41
  let c0_25 : Index := 0#32
  ![0, v42.toNat, 0]
def k0_mult2 : BitVec 32 :=
  let c0_i32_26 : BitVec 32 := 0#32
  let c1024_i32 : BitVec 32 := 1024#32
  let v45 : BitVec 32 := Scalar.muli c0_i32_26 c1024_i32
  v45
def k0_off2 : Fin 3 → Nat :=
  let c0_27 : Index := 0#32
  let c0_i32_26 : BitVec 32 := 0#32
  let c1024_i32 : BitVec 32 := 1024#32
  let v45 : BitVec 32 := Scalar.muli c0_i32_26 c1024_i32
  let v46 : BitVec 32 := v45
  let v47 : Index := Scalar.indexCast v46
  let c0_28 : Index := 0#32
  ![0, v47.toNat, 0]
def k0_off3 : Fin 2 → Nat :=
  let c0_i32_26 : BitVec 32 := 0#32
  let c1024_i32 : BitVec 32 := 1024#32
  let v45 : BitVec 32 := Scalar.muli c0_i32_26 c1024_i32
  let v46 : BitVec 32 := v45
  let v50 : Index := Scalar.indexCast v46
  let c0_29 : Index := 0#32
  ![v50.toNat, 0]
@[reducible] def k0_t1_loop (i : grid0.Coords) : Scf.Loop 32 :=
  let c0_i32_39 : BitVec 32 := 0#32
  let c32_i32 : BitVec 32 := 32#32
  let arg1 : BitVec 32 := BitVec.ofNat 32 (i 1).val
  let v2 : BitVec 32 := Scalar.muli c32_i32 arg1
  let c12_i32 : BitVec 32 := 12#32
  let v3 : BitVec 32 := Scalar.addi v2 c12_i32
  let c0_i32_33 : BitVec 32 := 0#32
  let v59 : BitVec 1 := Scalar.cmpi .sgt v3 c0_i32_33
  let v60 : BitVec 32 := Scalar.extui v59
  let c0_i32_34 : BitVec 32 := 0#32
  let v61 : BitVec 1 := Scalar.cmpi .slt v3 c0_i32_34
  let v62 : BitVec 32 := Scalar.extui v61
  let v63 : BitVec 32 := Scalar.subi v60 v62
  let c4_i32 : BitVec 32 := 4#32
  let c0_i32_35 : BitVec 32 := 0#32
  let v64 : BitVec 1 := Scalar.cmpi .sgt c4_i32 c0_i32_35
  let v65 : BitVec 32 := Scalar.extui v64
  let c0_i32_36 : BitVec 32 := 0#32
  let v66 : BitVec 1 := Scalar.cmpi .slt c4_i32 c0_i32_36
  let v67 : BitVec 32 := Scalar.extui v66
  let v68 : BitVec 32 := Scalar.subi v65 v67
  let v69 : BitVec 1 := Scalar.cmpi .ne v63 v68
  let v70 : BitVec 32 := Scalar.remsi v3 c4_i32
  let c0_i32_37 : BitVec 32 := 0#32
  let v71 : BitVec 1 := Scalar.cmpi .ne v70 c0_i32_37
  let v72 : BitVec 1 := Scalar.andi v69 v71
  let v58 : BitVec 32 := Scalar.divsi v3 c4_i32
  let c1_i32_38 : BitVec 32 := 1#32
  let v73 : BitVec 32 := Scalar.subi v58 c1_i32_38
  let v74 : BitVec 32 := Scalar.select v72 v73 v58
  let v75 : BitVec 32 := Scalar.subi v74 c0_i32_39
  let c1_i32_42 : BitVec 32 := 1#32
  let v77 : BitVec 32 := Scalar.divsi v75 c1_i32_42
  let v78 : BitVec 32 := Scalar.muli v77 c1_i32_42
  let v79 : BitVec 32 := Scalar.addi c0_i32_39 v78
  let c1_i32_43 : BitVec 32 := 1#32
  ⟨c0_i32_39, v79, c1_i32_43⟩
def k0_mult3 (i : grid0.Coords) (arg16 : BitVec 32) : BitVec 32 :=
  let arg1 : BitVec 32 := BitVec.ofNat 32 (i 1).val
  let c8_i32 : BitVec 32 := 8#32
  let v0 : BitVec 32 := Scalar.muli arg1 c8_i32
  let v92 : BitVec 32 := Scalar.subi arg16 v0
  let c512_i32_52 : BitVec 32 := 512#32
  let v93 : BitVec 32 := Scalar.muli v92 c512_i32_52
  v93

def k0_off4 (i : grid0.Coords) (arg16 : BitVec 32) : Fin 3 → Nat :=
  let c0_53 : Index := 0#32
  let arg1 : BitVec 32 := BitVec.ofNat 32 (i 1).val
  let c8_i32 : BitVec 32 := 8#32
  let v0 : BitVec 32 := Scalar.muli arg1 c8_i32
  let v92 : BitVec 32 := Scalar.subi arg16 v0
  let c512_i32_52 : BitVec 32 := 512#32
  let v93 : BitVec 32 := Scalar.muli v92 c512_i32_52
  let v94 : BitVec 32 := v93
  let v95 : Index := Scalar.indexCast v94
  let c0_54 : Index := 0#32
  ![0, v95.toNat, 0]
def k0_mult4 (arg17 : BitVec 32) : BitVec 32 :=
  let c1024_i32_55 : BitVec 32 := 1024#32
  let v98 : BitVec 32 := Scalar.muli arg17 c1024_i32_55
  v98

def k0_off5 (arg17 : BitVec 32) : Fin 3 → Nat :=
  let c0_56 : Index := 0#32
  let c1024_i32_55 : BitVec 32 := 1024#32
  let v98 : BitVec 32 := Scalar.muli arg17 c1024_i32_55
  let v99 : BitVec 32 := v98
  let v100 : Index := Scalar.indexCast v99
  let c0_57 : Index := 0#32
  ![0, v100.toNat, 0]
def k0_off6 (arg17 : BitVec 32) : Fin 2 → Nat :=
  let c1024_i32_55 : BitVec 32 := 1024#32
  let v98 : BitVec 32 := Scalar.muli arg17 c1024_i32_55
  let v99 : BitVec 32 := v98
  let v103 : Index := Scalar.indexCast v99
  let c0_58 : Index := 0#32
  ![v103.toNat, 0]
def k0_off7 (i : grid0.Coords) (arg18 : BitVec 32) : Fin 3 → Nat :=
  let arg1 : BitVec 32 := BitVec.ofNat 32 (i 1).val
  let c8_i32 : BitVec 32 := 8#32
  let v0 : BitVec 32 := Scalar.muli arg1 c8_i32
  let v111 : BitVec 32 := Scalar.subi arg18 v0
  let v113 : Index := Scalar.indexCast v111
  let c0_64 : Index := 0#32
  let c0_65 : Index := 0#32
  ![v113.toNat, 0, 0]

def k0_mult5 (arg21 : BitVec 32) : BitVec 32 :=
  let c1024_i32_73 : BitVec 32 := 1024#32
  let v136 : BitVec 32 := Scalar.muli arg21 c1024_i32_73
  v136

def k0_off8 (arg21 : BitVec 32) : Fin 3 → Nat :=
  let c0_74 : Index := 0#32
  let c1024_i32_73 : BitVec 32 := 1024#32
  let v136 : BitVec 32 := Scalar.muli arg21 c1024_i32_73
  let v137 : BitVec 32 := v136
  let v138 : Index := Scalar.indexCast v137
  let c0_75 : Index := 0#32
  ![0, v138.toNat, 0]

def k0_chk4 (arg21 : BitVec 32) : Prop :=
  (1024 ∣ (k0_mult5 arg21).toNat) ∧
  (∀ a, (k0_off8 arg21) a + S1x1024x128.size a ≤ S1x16384x128.size a)
theorem k0_mult5_dvd : ∀ (arg21 : BitVec 32) (k0_hw4 : k0_chk4 arg21), 1024 ∣ (k0_mult5 arg21).toNat := fun arg21 k0_hw4 => k0_hw4.1
theorem k0_off8_inb : ∀ (arg21 : BitVec 32) (k0_hw4 : k0_chk4 arg21), ∀ a, (k0_off8 arg21) a + S1x1024x128.size a ≤ S1x16384x128.size a := fun arg21 k0_hw4 => k0_hw4.2

def k0_off9 (i : grid0.Coords) (arg20 : BitVec 32) : Fin 3 → Nat :=
  let arg1 : BitVec 32 := BitVec.ofNat 32 (i 1).val
  let c8_i32 : BitVec 32 := 8#32
  let v0 : BitVec 32 := Scalar.muli arg1 c8_i32
  let v135 : BitVec 32 := Scalar.subi arg20 v0
  let v144 : Index := Scalar.indexCast v135
  let c0_79 : Index := 0#32
  let c0_80 : Index := 0#32
  ![v144.toNat, 0, 0]

def k0_chk5 (i : grid0.Coords) (arg20 : BitVec 32) : Prop :=
  (∀ a, (k0_off9 i arg20) a + S1x512x256.size a ≤ S8x512x256.size a)
theorem k0_off9_inb : ∀ (i : grid0.Coords) (arg20 : BitVec 32) (k0_hw5 : k0_chk5 i arg20), ∀ a, (k0_off9 i arg20) a + S1x512x256.size a ≤ S8x512x256.size a := fun i arg20 k0_hw5 => k0_hw5

def k0_mult6 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_93 : BitVec 32 := 1#32
  let v169 : BitVec 32 := Scalar.addi arg16 c1_i32_93
  let c1_i32_87 : BitVec 32 := 1#32
  let v157 : BitVec 32 := Scalar.addi arg17 c1_i32_87
  let v158 : BitVec 1 := Scalar.cmpi .slt v157 v156
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let v174 : BitVec 32 := Scalar.subi v170 v0
  let c512_i32_96 : BitVec 32 := 512#32
  let v175 : BitVec 32 := Scalar.muli v174 c512_i32_96
  v175
def k0_off10 (i : grid0.Coords) (arg16 : BitVec 32) (arg17 : BitVec 32) : Fin 3 → Nat :=
  let c0_97 : Index := 0#32
  let c2_i32_86 : BitVec 32 := 2#32
  let v156 : BitVec 32 := Scalar.divsi arg16 c2_i32_86
  let v168 : BitVec 1 := Scalar.cmpi .eq arg17 v156
  let c1_i32_93 : BitVec 32 := 1#32
  let v169 : BitVec 32 := Scalar.addi arg16 c1_i32_93
  let c1_i32_87 : BitVec 32 := 1#32
  let v157 : BitVec 32 := Scalar.addi arg17 c1_i32_87
  let v158 : BitVec 1 := Scalar.cmpi .slt v157 v156
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let v174 : BitVec 32 := Scalar.subi v170 v0
  let c512_i32_96 : BitVec 32 := 512#32
  let v175 : BitVec 32 := Scalar.muli v174 c512_i32_96
  let v176 : BitVec 32 := v175
  let v177 : Index := Scalar.indexCast v176
  let c0_98 : Index := 0#32
  ![0, v177.toNat, 0]
def k0_mult7 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1024_i32_99 : BitVec 32 := 1024#32
  let v180 : BitVec 32 := Scalar.muli v173 c1024_i32_99
  v180
def k0_off11 (i : grid0.Coords) (arg16 : BitVec 32) (arg17 : BitVec 32) : Fin 3 → Nat :=
  let c0_100 : Index := 0#32
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1024_i32_99 : BitVec 32 := 1024#32
  let v180 : BitVec 32 := Scalar.muli v173 c1024_i32_99
  let v181 : BitVec 32 := v180
  let v182 : Index := Scalar.indexCast v181
  let c0_101 : Index := 0#32
  ![0, v182.toNat, 0]
def k0_off12 (i : grid0.Coords) (arg16 : BitVec 32) (arg17 : BitVec 32) : Fin 2 → Nat :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1024_i32_99 : BitVec 32 := 1024#32
  let v180 : BitVec 32 := Scalar.muli v173 c1024_i32_99
  let v181 : BitVec 32 := v180
  let v185 : Index := Scalar.indexCast v181
  let c0_102 : Index := 0#32
  ![v185.toNat, 0]
def k0_off13 (i : grid0.Coords) (arg16 : BitVec 32) : Fin 3 → Nat :=
  let arg1 : BitVec 32 := BitVec.ofNat 32 (i 1).val
  let c8_i32 : BitVec 32 := 8#32
  let v0 : BitVec 32 := Scalar.muli arg1 c8_i32
  let v193 : BitVec 32 := Scalar.subi arg16 v0
  let v195 : Index := Scalar.indexCast v193
  let c0_108 : Index := 0#32
  let c0_109 : Index := 0#32
  ![v195.toNat, 0, 0]
def k0_mult8 (arg19 : BitVec 32) : BitVec 32 :=
  let c1024_i32_117 : BitVec 32 := 1024#32
  let v218 : BitVec 32 := Scalar.muli arg19 c1024_i32_117
  v218

def k0_off14 (arg19 : BitVec 32) : Fin 3 → Nat :=
  let c0_118 : Index := 0#32
  let c1024_i32_117 : BitVec 32 := 1024#32
  let v218 : BitVec 32 := Scalar.muli arg19 c1024_i32_117
  let v219 : BitVec 32 := v218
  let v220 : Index := Scalar.indexCast v219
  let c0_119 : Index := 0#32
  ![0, v220.toNat, 0]

def k0_chk6 (arg19 : BitVec 32) : Prop :=
  (1024 ∣ (k0_mult8 arg19).toNat) ∧
  (∀ a, (k0_off14 arg19) a + S1x1024x128.size a ≤ S1x16384x128.size a)
theorem k0_mult8_dvd : ∀ (arg19 : BitVec 32) (k0_hw6 : k0_chk6 arg19), 1024 ∣ (k0_mult8 arg19).toNat := fun arg19 k0_hw6 => k0_hw6.1
theorem k0_off14_inb : ∀ (arg19 : BitVec 32) (k0_hw6 : k0_chk6 arg19), ∀ a, (k0_off14 arg19) a + S1x1024x128.size a ≤ S1x16384x128.size a := fun arg19 k0_hw6 => k0_hw6.2

def k0_off15 (i : grid0.Coords) (arg18 : BitVec 32) : Fin 3 → Nat :=
  let arg1 : BitVec 32 := BitVec.ofNat 32 (i 1).val
  let c8_i32 : BitVec 32 := 8#32
  let v0 : BitVec 32 := Scalar.muli arg1 c8_i32
  let v217 : BitVec 32 := Scalar.subi arg18 v0
  let v226 : Index := Scalar.indexCast v217
  let c0_123 : Index := 0#32
  let c0_124 : Index := 0#32
  ![v226.toNat, 0, 0]

def k0_chk3 (i : grid0.Coords) (arg18 : BitVec 32) : Prop :=
  (∀ a, (k0_off7 i arg18) a + S1x512x1.size a ≤ S8x512x1.size a) ∧
  (∀ a, (k0_off15 i arg18) a + S1x512x256.size a ≤ S8x512x256.size a)
theorem k0_off7_inb : ∀ (i : grid0.Coords) (arg18 : BitVec 32) (k0_hw3 : k0_chk3 i arg18), ∀ a, (k0_off7 i arg18) a + S1x512x1.size a ≤ S8x512x1.size a := fun i arg18 k0_hw3 => k0_hw3.1
theorem k0_off15_inb : ∀ (i : grid0.Coords) (arg18 : BitVec 32) (k0_hw3 : k0_chk3 i arg18), ∀ a, (k0_off15 i arg18) a + S1x512x256.size a ≤ S8x512x256.size a := fun i arg18 k0_hw3 => k0_hw3.2

def k0_mult9 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_137 : BitVec 32 := 1#32
  let v251 : BitVec 32 := Scalar.addi v170 c1_i32_137
  let c1_i32_131 : BitVec 32 := 1#32
  let v239 : BitVec 32 := Scalar.addi v173 c1_i32_131
  let v240 : BitVec 1 := Scalar.cmpi .slt v239 v238
  let c1_i32_132 : BitVec 32 := 1#32
  let v241 : BitVec 32 := Scalar.addi v170 c1_i32_132
  let v242 : BitVec 1 := Scalar.cmpi .slt v241 v1
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let v256 : BitVec 32 := Scalar.subi v252 v0
  let c512_i32_140 : BitVec 32 := 512#32
  let v257 : BitVec 32 := Scalar.muli v256 c512_i32_140
  v257
def k0_off16 (i : grid0.Coords) (arg16 : BitVec 32) (arg17 : BitVec 32) : Fin 3 → Nat :=
  let c0_141 : Index := 0#32
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_137 : BitVec 32 := 1#32
  let v251 : BitVec 32 := Scalar.addi v170 c1_i32_137
  let c1_i32_131 : BitVec 32 := 1#32
  let v239 : BitVec 32 := Scalar.addi v173 c1_i32_131
  let v240 : BitVec 1 := Scalar.cmpi .slt v239 v238
  let c1_i32_132 : BitVec 32 := 1#32
  let v241 : BitVec 32 := Scalar.addi v170 c1_i32_132
  let v242 : BitVec 1 := Scalar.cmpi .slt v241 v1
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let v256 : BitVec 32 := Scalar.subi v252 v0
  let c512_i32_140 : BitVec 32 := 512#32
  let v257 : BitVec 32 := Scalar.muli v256 c512_i32_140
  let v258 : BitVec 32 := v257
  let v259 : Index := Scalar.indexCast v258
  let c0_142 : Index := 0#32
  ![0, v259.toNat, 0]
def k0_mult10 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1024_i32_143 : BitVec 32 := 1024#32
  let v262 : BitVec 32 := Scalar.muli v255 c1024_i32_143
  v262
def k0_off17 (i : grid0.Coords) (arg16 : BitVec 32) (arg17 : BitVec 32) : Fin 3 → Nat :=
  let c0_144 : Index := 0#32
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1024_i32_143 : BitVec 32 := 1024#32
  let v262 : BitVec 32 := Scalar.muli v255 c1024_i32_143
  let v263 : BitVec 32 := v262
  let v264 : Index := Scalar.indexCast v263
  let c0_145 : Index := 0#32
  ![0, v264.toNat, 0]
def k0_off18 (i : grid0.Coords) (arg16 : BitVec 32) (arg17 : BitVec 32) : Fin 2 → Nat :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1024_i32_143 : BitVec 32 := 1024#32
  let v262 : BitVec 32 := Scalar.muli v255 c1024_i32_143
  let v263 : BitVec 32 := v262
  let v267 : Index := Scalar.indexCast v263
  let c0_146 : Index := 0#32
  ![v267.toNat, 0]
def k0_off19 (i : grid0.Coords) (arg16 : BitVec 32) (arg17 : BitVec 32) : Fin 3 → Nat :=
  let c2_i32_86 : BitVec 32 := 2#32
  let v156 : BitVec 32 := Scalar.divsi arg16 c2_i32_86
  let v168 : BitVec 1 := Scalar.cmpi .eq arg17 v156
  let c1_i32_93 : BitVec 32 := 1#32
  let v169 : BitVec 32 := Scalar.addi arg16 c1_i32_93
  let c1_i32_87 : BitVec 32 := 1#32
  let v157 : BitVec 32 := Scalar.addi arg17 c1_i32_87
  let v158 : BitVec 1 := Scalar.cmpi .slt v157 v156
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let v275 : BitVec 32 := Scalar.subi v170 v0
  let v277 : Index := Scalar.indexCast v275
  let c0_152 : Index := 0#32
  let c0_153 : Index := 0#32
  ![v277.toNat, 0, 0]
def k0_mult11 (arg17 : BitVec 32) : BitVec 32 :=
  let c1024_i32_161 : BitVec 32 := 1024#32
  let v300 : BitVec 32 := Scalar.muli arg17 c1024_i32_161
  v300
def k0_off20 (arg17 : BitVec 32) : Fin 3 → Nat :=
  let c0_162 : Index := 0#32
  let c1024_i32_161 : BitVec 32 := 1024#32
  let v300 : BitVec 32 := Scalar.muli arg17 c1024_i32_161
  let v301 : BitVec 32 := v300
  let v302 : Index := Scalar.indexCast v301
  let c0_163 : Index := 0#32
  ![0, v302.toNat, 0]
def k0_off21 (i : grid0.Coords) (arg16 : BitVec 32) : Fin 3 → Nat :=
  let arg1 : BitVec 32 := BitVec.ofNat 32 (i 1).val
  let c8_i32 : BitVec 32 := 8#32
  let v0 : BitVec 32 := Scalar.muli arg1 c8_i32
  let v299 : BitVec 32 := Scalar.subi arg16 v0
  let v308 : Index := Scalar.indexCast v299
  let c0_167 : Index := 0#32
  let c0_168 : Index := 0#32
  ![v308.toNat, 0, 0]

def k0_chk1 (i : grid0.Coords) (arg16 : BitVec 32) : Prop :=
  (512 ∣ (k0_mult3 i arg16).toNat) ∧
  (∀ a, (k0_off4 i arg16) a + S1x512x256.size a ≤ S1x4096x256.size a) ∧
  (∀ a, (k0_off13 i arg16) a + S1x512x1.size a ≤ S8x512x1.size a) ∧
  (∀ a, (k0_off21 i arg16) a + S1x512x256.size a ≤ S8x512x256.size a)
theorem k0_mult3_dvd : ∀ (i : grid0.Coords) (arg16 : BitVec 32) (k0_hw1 : k0_chk1 i arg16), 512 ∣ (k0_mult3 i arg16).toNat := fun i arg16 k0_hw1 => k0_hw1.1
theorem k0_off4_inb : ∀ (i : grid0.Coords) (arg16 : BitVec 32) (k0_hw1 : k0_chk1 i arg16), ∀ a, (k0_off4 i arg16) a + S1x512x256.size a ≤ S1x4096x256.size a := fun i arg16 k0_hw1 => k0_hw1.2.1
theorem k0_off13_inb : ∀ (i : grid0.Coords) (arg16 : BitVec 32) (k0_hw1 : k0_chk1 i arg16), ∀ a, (k0_off13 i arg16) a + S1x512x1.size a ≤ S8x512x1.size a := fun i arg16 k0_hw1 => k0_hw1.2.2.1
theorem k0_off21_inb : ∀ (i : grid0.Coords) (arg16 : BitVec 32) (k0_hw1 : k0_chk1 i arg16), ∀ a, (k0_off21 i arg16) a + S1x512x256.size a ≤ S8x512x256.size a := fun i arg16 k0_hw1 => k0_hw1.2.2.2

def k0_mult12 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1_i32_137 : BitVec 32 := 1#32
  let v251 : BitVec 32 := Scalar.addi v170 c1_i32_137
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let c2_i32_174 : BitVec 32 := 2#32
  let v320 : BitVec 32 := Scalar.divsi v252 c2_i32_174
  let v332 : BitVec 1 := Scalar.cmpi .eq v255 v320
  let c1_i32_181 : BitVec 32 := 1#32
  let v333 : BitVec 32 := Scalar.addi v252 c1_i32_181
  let c1_i32_175 : BitVec 32 := 1#32
  let v321 : BitVec 32 := Scalar.addi v255 c1_i32_175
  let v322 : BitVec 1 := Scalar.cmpi .slt v321 v320
  let c1_i32_176 : BitVec 32 := 1#32
  let v323 : BitVec 32 := Scalar.addi v252 c1_i32_176
  let v324 : BitVec 1 := Scalar.cmpi .slt v323 v1
  let c1_i32_177 : BitVec 32 := 1#32
  let v325 : BitVec 32 := Scalar.addi v252 c1_i32_177
  let v326 : BitVec 32 := Scalar.select v324 v325 v0
  let v327 : BitVec 32 := Scalar.select v322 v252 v326
  let v334 : BitVec 32 := Scalar.select v332 v333 v327
  let v338 : BitVec 32 := Scalar.subi v334 v0
  let c512_i32_184 : BitVec 32 := 512#32
  let v339 : BitVec 32 := Scalar.muli v338 c512_i32_184
  v339
def k0_off22 (i : grid0.Coords) (arg16 : BitVec 32) (arg17 : BitVec 32) : Fin 3 → Nat :=
  let c0_185 : Index := 0#32
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1_i32_137 : BitVec 32 := 1#32
  let v251 : BitVec 32 := Scalar.addi v170 c1_i32_137
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let c2_i32_174 : BitVec 32 := 2#32
  let v320 : BitVec 32 := Scalar.divsi v252 c2_i32_174
  let v332 : BitVec 1 := Scalar.cmpi .eq v255 v320
  let c1_i32_181 : BitVec 32 := 1#32
  let v333 : BitVec 32 := Scalar.addi v252 c1_i32_181
  let c1_i32_175 : BitVec 32 := 1#32
  let v321 : BitVec 32 := Scalar.addi v255 c1_i32_175
  let v322 : BitVec 1 := Scalar.cmpi .slt v321 v320
  let c1_i32_176 : BitVec 32 := 1#32
  let v323 : BitVec 32 := Scalar.addi v252 c1_i32_176
  let v324 : BitVec 1 := Scalar.cmpi .slt v323 v1
  let c1_i32_177 : BitVec 32 := 1#32
  let v325 : BitVec 32 := Scalar.addi v252 c1_i32_177
  let v326 : BitVec 32 := Scalar.select v324 v325 v0
  let v327 : BitVec 32 := Scalar.select v322 v252 v326
  let v334 : BitVec 32 := Scalar.select v332 v333 v327
  let v338 : BitVec 32 := Scalar.subi v334 v0
  let c512_i32_184 : BitVec 32 := 512#32
  let v339 : BitVec 32 := Scalar.muli v338 c512_i32_184
  let v340 : BitVec 32 := v339
  let v341 : Index := Scalar.indexCast v340
  let c0_186 : Index := 0#32
  ![0, v341.toNat, 0]
def k0_mult13 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1_i32_137 : BitVec 32 := 1#32
  let v251 : BitVec 32 := Scalar.addi v170 c1_i32_137
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let c2_i32_174 : BitVec 32 := 2#32
  let v320 : BitVec 32 := Scalar.divsi v252 c2_i32_174
  let v332 : BitVec 1 := Scalar.cmpi .eq v255 v320
  let c1_i32_182 : BitVec 32 := 1#32
  let v335 : BitVec 32 := Scalar.addi v252 c1_i32_182
  let c2_i32_183 : BitVec 32 := 2#32
  let v336 : BitVec 32 := Scalar.divsi v335 c2_i32_183
  let c1_i32_175 : BitVec 32 := 1#32
  let v321 : BitVec 32 := Scalar.addi v255 c1_i32_175
  let v322 : BitVec 1 := Scalar.cmpi .slt v321 v320
  let c1_i32_178 : BitVec 32 := 1#32
  let v328 : BitVec 32 := Scalar.addi v255 c1_i32_178
  let c1_i32_176 : BitVec 32 := 1#32
  let v323 : BitVec 32 := Scalar.addi v252 c1_i32_176
  let v324 : BitVec 1 := Scalar.cmpi .slt v323 v1
  let c0_i32_180 : BitVec 32 := 0#32
  let c2_i32_179 : BitVec 32 := 2#32
  let v329 : BitVec 32 := Scalar.divsi v0 c2_i32_179
  let v330 : BitVec 32 := Scalar.select v324 c0_i32_180 v329
  let v331 : BitVec 32 := Scalar.select v322 v328 v330
  let v337 : BitVec 32 := Scalar.select v332 v336 v331
  let c1024_i32_187 : BitVec 32 := 1024#32
  let v344 : BitVec 32 := Scalar.muli v337 c1024_i32_187
  v344
def k0_off23 (i : grid0.Coords) (arg16 : BitVec 32) (arg17 : BitVec 32) : Fin 3 → Nat :=
  let c0_188 : Index := 0#32
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1_i32_137 : BitVec 32 := 1#32
  let v251 : BitVec 32 := Scalar.addi v170 c1_i32_137
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let c2_i32_174 : BitVec 32 := 2#32
  let v320 : BitVec 32 := Scalar.divsi v252 c2_i32_174
  let v332 : BitVec 1 := Scalar.cmpi .eq v255 v320
  let c1_i32_182 : BitVec 32 := 1#32
  let v335 : BitVec 32 := Scalar.addi v252 c1_i32_182
  let c2_i32_183 : BitVec 32 := 2#32
  let v336 : BitVec 32 := Scalar.divsi v335 c2_i32_183
  let c1_i32_175 : BitVec 32 := 1#32
  let v321 : BitVec 32 := Scalar.addi v255 c1_i32_175
  let v322 : BitVec 1 := Scalar.cmpi .slt v321 v320
  let c1_i32_178 : BitVec 32 := 1#32
  let v328 : BitVec 32 := Scalar.addi v255 c1_i32_178
  let c1_i32_176 : BitVec 32 := 1#32
  let v323 : BitVec 32 := Scalar.addi v252 c1_i32_176
  let v324 : BitVec 1 := Scalar.cmpi .slt v323 v1
  let c0_i32_180 : BitVec 32 := 0#32
  let c2_i32_179 : BitVec 32 := 2#32
  let v329 : BitVec 32 := Scalar.divsi v0 c2_i32_179
  let v330 : BitVec 32 := Scalar.select v324 c0_i32_180 v329
  let v331 : BitVec 32 := Scalar.select v322 v328 v330
  let v337 : BitVec 32 := Scalar.select v332 v336 v331
  let c1024_i32_187 : BitVec 32 := 1024#32
  let v344 : BitVec 32 := Scalar.muli v337 c1024_i32_187
  let v345 : BitVec 32 := v344
  let v346 : Index := Scalar.indexCast v345
  let c0_189 : Index := 0#32
  ![0, v346.toNat, 0]
def k0_off24 (i : grid0.Coords) (arg16 : BitVec 32) (arg17 : BitVec 32) : Fin 2 → Nat :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1_i32_137 : BitVec 32 := 1#32
  let v251 : BitVec 32 := Scalar.addi v170 c1_i32_137
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let c2_i32_174 : BitVec 32 := 2#32
  let v320 : BitVec 32 := Scalar.divsi v252 c2_i32_174
  let v332 : BitVec 1 := Scalar.cmpi .eq v255 v320
  let c1_i32_182 : BitVec 32 := 1#32
  let v335 : BitVec 32 := Scalar.addi v252 c1_i32_182
  let c2_i32_183 : BitVec 32 := 2#32
  let v336 : BitVec 32 := Scalar.divsi v335 c2_i32_183
  let c1_i32_175 : BitVec 32 := 1#32
  let v321 : BitVec 32 := Scalar.addi v255 c1_i32_175
  let v322 : BitVec 1 := Scalar.cmpi .slt v321 v320
  let c1_i32_178 : BitVec 32 := 1#32
  let v328 : BitVec 32 := Scalar.addi v255 c1_i32_178
  let c1_i32_176 : BitVec 32 := 1#32
  let v323 : BitVec 32 := Scalar.addi v252 c1_i32_176
  let v324 : BitVec 1 := Scalar.cmpi .slt v323 v1
  let c0_i32_180 : BitVec 32 := 0#32
  let c2_i32_179 : BitVec 32 := 2#32
  let v329 : BitVec 32 := Scalar.divsi v0 c2_i32_179
  let v330 : BitVec 32 := Scalar.select v324 c0_i32_180 v329
  let v331 : BitVec 32 := Scalar.select v322 v328 v330
  let v337 : BitVec 32 := Scalar.select v332 v336 v331
  let c1024_i32_187 : BitVec 32 := 1024#32
  let v344 : BitVec 32 := Scalar.muli v337 c1024_i32_187
  let v345 : BitVec 32 := v344
  let v349 : Index := Scalar.indexCast v345
  let c0_190 : Index := 0#32
  ![v349.toNat, 0]
def k0_off25 (i : grid0.Coords) (arg16 : BitVec 32) (arg17 : BitVec 32) : Fin 3 → Nat :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_137 : BitVec 32 := 1#32
  let v251 : BitVec 32 := Scalar.addi v170 c1_i32_137
  let c1_i32_131 : BitVec 32 := 1#32
  let v239 : BitVec 32 := Scalar.addi v173 c1_i32_131
  let v240 : BitVec 1 := Scalar.cmpi .slt v239 v238
  let c1_i32_132 : BitVec 32 := 1#32
  let v241 : BitVec 32 := Scalar.addi v170 c1_i32_132
  let v242 : BitVec 1 := Scalar.cmpi .slt v241 v1
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let v357 : BitVec 32 := Scalar.subi v252 v0
  let v359 : Index := Scalar.indexCast v357
  let c0_196 : Index := 0#32
  let c0_197 : Index := 0#32
  ![v359.toNat, 0, 0]
def k0_mult14 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1024_i32_205 : BitVec 32 := 1024#32
  let v382 : BitVec 32 := Scalar.muli v173 c1024_i32_205
  v382
def k0_off26 (i : grid0.Coords) (arg16 : BitVec 32) (arg17 : BitVec 32) : Fin 3 → Nat :=
  let c0_206 : Index := 0#32
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1024_i32_205 : BitVec 32 := 1024#32
  let v382 : BitVec 32 := Scalar.muli v173 c1024_i32_205
  let v383 : BitVec 32 := v382
  let v384 : Index := Scalar.indexCast v383
  let c0_207 : Index := 0#32
  ![0, v384.toNat, 0]
def k0_off27 (i : grid0.Coords) (arg16 : BitVec 32) (arg17 : BitVec 32) : Fin 3 → Nat :=
  let c2_i32_86 : BitVec 32 := 2#32
  let v156 : BitVec 32 := Scalar.divsi arg16 c2_i32_86
  let v168 : BitVec 1 := Scalar.cmpi .eq arg17 v156
  let c1_i32_93 : BitVec 32 := 1#32
  let v169 : BitVec 32 := Scalar.addi arg16 c1_i32_93
  let c1_i32_87 : BitVec 32 := 1#32
  let v157 : BitVec 32 := Scalar.addi arg17 c1_i32_87
  let v158 : BitVec 1 := Scalar.cmpi .slt v157 v156
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let v381 : BitVec 32 := Scalar.subi v170 v0
  let v390 : Index := Scalar.indexCast v381
  let c0_211 : Index := 0#32
  let c0_212 : Index := 0#32
  ![v390.toNat, 0, 0]

def k0_chk2 (i : grid0.Coords) (arg16 : BitVec 32) (arg17 : BitVec 32) : Prop :=
  (1024 ∣ (k0_mult4 arg17).toNat) ∧
  (∀ a, (k0_off5 arg17) a + S1x1024x128.size a ≤ S1x16384x128.size a) ∧
  (∀ a, (k0_off6 arg17) a + S1024x128.size a ≤ S16384x128.size a) ∧
  (512 ∣ (k0_mult6 i arg16 arg17).toNat) ∧
  (∀ a, (k0_off10 i arg16 arg17) a + S1x512x256.size a ≤ S1x4096x256.size a) ∧
  (1024 ∣ (k0_mult7 i arg16 arg17).toNat) ∧
  (∀ a, (k0_off11 i arg16 arg17) a + S1x1024x128.size a ≤ S1x16384x128.size a) ∧
  (∀ a, (k0_off12 i arg16 arg17) a + S1024x128.size a ≤ S16384x128.size a) ∧
  (512 ∣ (k0_mult9 i arg16 arg17).toNat) ∧
  (∀ a, (k0_off16 i arg16 arg17) a + S1x512x256.size a ≤ S1x4096x256.size a) ∧
  (1024 ∣ (k0_mult10 i arg16 arg17).toNat) ∧
  (∀ a, (k0_off17 i arg16 arg17) a + S1x1024x128.size a ≤ S1x16384x128.size a) ∧
  (∀ a, (k0_off18 i arg16 arg17) a + S1024x128.size a ≤ S16384x128.size a) ∧
  (∀ a, (k0_off19 i arg16 arg17) a + S1x512x1.size a ≤ S8x512x1.size a) ∧
  (1024 ∣ (k0_mult11 arg17).toNat) ∧
  (∀ a, (k0_off20 arg17) a + S1x1024x128.size a ≤ S1x16384x128.size a) ∧
  (512 ∣ (k0_mult12 i arg16 arg17).toNat) ∧
  (∀ a, (k0_off22 i arg16 arg17) a + S1x512x256.size a ≤ S1x4096x256.size a) ∧
  (1024 ∣ (k0_mult13 i arg16 arg17).toNat) ∧
  (∀ a, (k0_off23 i arg16 arg17) a + S1x1024x128.size a ≤ S1x16384x128.size a) ∧
  (∀ a, (k0_off24 i arg16 arg17) a + S1024x128.size a ≤ S16384x128.size a) ∧
  (∀ a, (k0_off25 i arg16 arg17) a + S1x512x1.size a ≤ S8x512x1.size a) ∧
  (1024 ∣ (k0_mult14 i arg16 arg17).toNat) ∧
  (∀ a, (k0_off26 i arg16 arg17) a + S1x1024x128.size a ≤ S1x16384x128.size a) ∧
  (∀ a, (k0_off27 i arg16 arg17) a + S1x512x256.size a ≤ S8x512x256.size a)
theorem k0_mult4_dvd : ∀ (i : grid0.Coords) (arg16 : BitVec 32) (arg17 : BitVec 32) (k0_hw2 : k0_chk2 i arg16 arg17), 1024 ∣ (k0_mult4 arg17).toNat := fun i arg16 arg17 k0_hw2 => k0_hw2.1
theorem k0_off5_inb : ∀ (i : grid0.Coords) (arg16 : BitVec 32) (arg17 : BitVec 32) (k0_hw2 : k0_chk2 i arg16 arg17), ∀ a, (k0_off5 arg17) a + S1x1024x128.size a ≤ S1x16384x128.size a := fun i arg16 arg17 k0_hw2 => k0_hw2.2.1
theorem k0_off6_inb : ∀ (i : grid0.Coords) (arg16 : BitVec 32) (arg17 : BitVec 32) (k0_hw2 : k0_chk2 i arg16 arg17), ∀ a, (k0_off6 arg17) a + S1024x128.size a ≤ S16384x128.size a := fun i arg16 arg17 k0_hw2 => k0_hw2.2.2.1
theorem k0_mult6_dvd : ∀ (i : grid0.Coords) (arg16 : BitVec 32) (arg17 : BitVec 32) (k0_hw2 : k0_chk2 i arg16 arg17), 512 ∣ (k0_mult6 i arg16 arg17).toNat := fun i arg16 arg17 k0_hw2 => k0_hw2.2.2.2.1
theorem k0_off10_inb : ∀ (i : grid0.Coords) (arg16 : BitVec 32) (arg17 : BitVec 32) (k0_hw2 : k0_chk2 i arg16 arg17), ∀ a, (k0_off10 i arg16 arg17) a + S1x512x256.size a ≤ S1x4096x256.size a := fun i arg16 arg17 k0_hw2 => k0_hw2.2.2.2.2.1
theorem k0_mult7_dvd : ∀ (i : grid0.Coords) (arg16 : BitVec 32) (arg17 : BitVec 32) (k0_hw2 : k0_chk2 i arg16 arg17), 1024 ∣ (k0_mult7 i arg16 arg17).toNat := fun i arg16 arg17 k0_hw2 => k0_hw2.2.2.2.2.2.1
theorem k0_off11_inb : ∀ (i : grid0.Coords) (arg16 : BitVec 32) (arg17 : BitVec 32) (k0_hw2 : k0_chk2 i arg16 arg17), ∀ a, (k0_off11 i arg16 arg17) a + S1x1024x128.size a ≤ S1x16384x128.size a := fun i arg16 arg17 k0_hw2 => k0_hw2.2.2.2.2.2.2.1
theorem k0_off12_inb : ∀ (i : grid0.Coords) (arg16 : BitVec 32) (arg17 : BitVec 32) (k0_hw2 : k0_chk2 i arg16 arg17), ∀ a, (k0_off12 i arg16 arg17) a + S1024x128.size a ≤ S16384x128.size a := fun i arg16 arg17 k0_hw2 => k0_hw2.2.2.2.2.2.2.2.1
theorem k0_mult9_dvd : ∀ (i : grid0.Coords) (arg16 : BitVec 32) (arg17 : BitVec 32) (k0_hw2 : k0_chk2 i arg16 arg17), 512 ∣ (k0_mult9 i arg16 arg17).toNat := fun i arg16 arg17 k0_hw2 => k0_hw2.2.2.2.2.2.2.2.2.1
theorem k0_off16_inb : ∀ (i : grid0.Coords) (arg16 : BitVec 32) (arg17 : BitVec 32) (k0_hw2 : k0_chk2 i arg16 arg17), ∀ a, (k0_off16 i arg16 arg17) a + S1x512x256.size a ≤ S1x4096x256.size a := fun i arg16 arg17 k0_hw2 => k0_hw2.2.2.2.2.2.2.2.2.2.1
theorem k0_mult10_dvd : ∀ (i : grid0.Coords) (arg16 : BitVec 32) (arg17 : BitVec 32) (k0_hw2 : k0_chk2 i arg16 arg17), 1024 ∣ (k0_mult10 i arg16 arg17).toNat := fun i arg16 arg17 k0_hw2 => k0_hw2.2.2.2.2.2.2.2.2.2.2.1
theorem k0_off17_inb : ∀ (i : grid0.Coords) (arg16 : BitVec 32) (arg17 : BitVec 32) (k0_hw2 : k0_chk2 i arg16 arg17), ∀ a, (k0_off17 i arg16 arg17) a + S1x1024x128.size a ≤ S1x16384x128.size a := fun i arg16 arg17 k0_hw2 => k0_hw2.2.2.2.2.2.2.2.2.2.2.2.1
theorem k0_off18_inb : ∀ (i : grid0.Coords) (arg16 : BitVec 32) (arg17 : BitVec 32) (k0_hw2 : k0_chk2 i arg16 arg17), ∀ a, (k0_off18 i arg16 arg17) a + S1024x128.size a ≤ S16384x128.size a := fun i arg16 arg17 k0_hw2 => k0_hw2.2.2.2.2.2.2.2.2.2.2.2.2.1
theorem k0_off19_inb : ∀ (i : grid0.Coords) (arg16 : BitVec 32) (arg17 : BitVec 32) (k0_hw2 : k0_chk2 i arg16 arg17), ∀ a, (k0_off19 i arg16 arg17) a + S1x512x1.size a ≤ S8x512x1.size a := fun i arg16 arg17 k0_hw2 => k0_hw2.2.2.2.2.2.2.2.2.2.2.2.2.2.1
theorem k0_mult11_dvd : ∀ (i : grid0.Coords) (arg16 : BitVec 32) (arg17 : BitVec 32) (k0_hw2 : k0_chk2 i arg16 arg17), 1024 ∣ (k0_mult11 arg17).toNat := fun i arg16 arg17 k0_hw2 => k0_hw2.2.2.2.2.2.2.2.2.2.2.2.2.2.2.1
theorem k0_off20_inb : ∀ (i : grid0.Coords) (arg16 : BitVec 32) (arg17 : BitVec 32) (k0_hw2 : k0_chk2 i arg16 arg17), ∀ a, (k0_off20 arg17) a + S1x1024x128.size a ≤ S1x16384x128.size a := fun i arg16 arg17 k0_hw2 => k0_hw2.2.2.2.2.2.2.2.2.2.2.2.2.2.2.2.1
theorem k0_mult12_dvd : ∀ (i : grid0.Coords) (arg16 : BitVec 32) (arg17 : BitVec 32) (k0_hw2 : k0_chk2 i arg16 arg17), 512 ∣ (k0_mult12 i arg16 arg17).toNat := fun i arg16 arg17 k0_hw2 => k0_hw2.2.2.2.2.2.2.2.2.2.2.2.2.2.2.2.2.1
theorem k0_off22_inb : ∀ (i : grid0.Coords) (arg16 : BitVec 32) (arg17 : BitVec 32) (k0_hw2 : k0_chk2 i arg16 arg17), ∀ a, (k0_off22 i arg16 arg17) a + S1x512x256.size a ≤ S1x4096x256.size a := fun i arg16 arg17 k0_hw2 => k0_hw2.2.2.2.2.2.2.2.2.2.2.2.2.2.2.2.2.2.1
theorem k0_mult13_dvd : ∀ (i : grid0.Coords) (arg16 : BitVec 32) (arg17 : BitVec 32) (k0_hw2 : k0_chk2 i arg16 arg17), 1024 ∣ (k0_mult13 i arg16 arg17).toNat := fun i arg16 arg17 k0_hw2 => k0_hw2.2.2.2.2.2.2.2.2.2.2.2.2.2.2.2.2.2.2.1
theorem k0_off23_inb : ∀ (i : grid0.Coords) (arg16 : BitVec 32) (arg17 : BitVec 32) (k0_hw2 : k0_chk2 i arg16 arg17), ∀ a, (k0_off23 i arg16 arg17) a + S1x1024x128.size a ≤ S1x16384x128.size a := fun i arg16 arg17 k0_hw2 => k0_hw2.2.2.2.2.2.2.2.2.2.2.2.2.2.2.2.2.2.2.2.1
theorem k0_off24_inb : ∀ (i : grid0.Coords) (arg16 : BitVec 32) (arg17 : BitVec 32) (k0_hw2 : k0_chk2 i arg16 arg17), ∀ a, (k0_off24 i arg16 arg17) a + S1024x128.size a ≤ S16384x128.size a := fun i arg16 arg17 k0_hw2 => k0_hw2.2.2.2.2.2.2.2.2.2.2.2.2.2.2.2.2.2.2.2.2.1
theorem k0_off25_inb : ∀ (i : grid0.Coords) (arg16 : BitVec 32) (arg17 : BitVec 32) (k0_hw2 : k0_chk2 i arg16 arg17), ∀ a, (k0_off25 i arg16 arg17) a + S1x512x1.size a ≤ S8x512x1.size a := fun i arg16 arg17 k0_hw2 => k0_hw2.2.2.2.2.2.2.2.2.2.2.2.2.2.2.2.2.2.2.2.2.2.1
theorem k0_mult14_dvd : ∀ (i : grid0.Coords) (arg16 : BitVec 32) (arg17 : BitVec 32) (k0_hw2 : k0_chk2 i arg16 arg17), 1024 ∣ (k0_mult14 i arg16 arg17).toNat := fun i arg16 arg17 k0_hw2 => k0_hw2.2.2.2.2.2.2.2.2.2.2.2.2.2.2.2.2.2.2.2.2.2.2.1
theorem k0_off26_inb : ∀ (i : grid0.Coords) (arg16 : BitVec 32) (arg17 : BitVec 32) (k0_hw2 : k0_chk2 i arg16 arg17), ∀ a, (k0_off26 i arg16 arg17) a + S1x1024x128.size a ≤ S1x16384x128.size a := fun i arg16 arg17 k0_hw2 => k0_hw2.2.2.2.2.2.2.2.2.2.2.2.2.2.2.2.2.2.2.2.2.2.2.2.1
theorem k0_off27_inb : ∀ (i : grid0.Coords) (arg16 : BitVec 32) (arg17 : BitVec 32) (k0_hw2 : k0_chk2 i arg16 arg17), ∀ a, (k0_off27 i arg16 arg17) a + S1x512x256.size a ≤ S8x512x256.size a := fun i arg16 arg17 k0_hw2 => k0_hw2.2.2.2.2.2.2.2.2.2.2.2.2.2.2.2.2.2.2.2.2.2.2.2.2

@[reducible] def k0_t2_loop (i : grid0.Coords) : Scf.Loop 32 :=
  let c0_i32_39 : BitVec 32 := 0#32
  let c32_i32 : BitVec 32 := 32#32
  let arg1 : BitVec 32 := BitVec.ofNat 32 (i 1).val
  let v2 : BitVec 32 := Scalar.muli c32_i32 arg1
  let c12_i32 : BitVec 32 := 12#32
  let v3 : BitVec 32 := Scalar.addi v2 c12_i32
  let c0_i32_33 : BitVec 32 := 0#32
  let v59 : BitVec 1 := Scalar.cmpi .sgt v3 c0_i32_33
  let v60 : BitVec 32 := Scalar.extui v59
  let c0_i32_34 : BitVec 32 := 0#32
  let v61 : BitVec 1 := Scalar.cmpi .slt v3 c0_i32_34
  let v62 : BitVec 32 := Scalar.extui v61
  let v63 : BitVec 32 := Scalar.subi v60 v62
  let c4_i32 : BitVec 32 := 4#32
  let c0_i32_35 : BitVec 32 := 0#32
  let v64 : BitVec 1 := Scalar.cmpi .sgt c4_i32 c0_i32_35
  let v65 : BitVec 32 := Scalar.extui v64
  let c0_i32_36 : BitVec 32 := 0#32
  let v66 : BitVec 1 := Scalar.cmpi .slt c4_i32 c0_i32_36
  let v67 : BitVec 32 := Scalar.extui v66
  let v68 : BitVec 32 := Scalar.subi v65 v67
  let v69 : BitVec 1 := Scalar.cmpi .ne v63 v68
  let v70 : BitVec 32 := Scalar.remsi v3 c4_i32
  let c0_i32_37 : BitVec 32 := 0#32
  let v71 : BitVec 1 := Scalar.cmpi .ne v70 c0_i32_37
  let v72 : BitVec 1 := Scalar.andi v69 v71
  let v58 : BitVec 32 := Scalar.divsi v3 c4_i32
  let c1_i32_38 : BitVec 32 := 1#32
  let v73 : BitVec 32 := Scalar.subi v58 c1_i32_38
  let v74 : BitVec 32 := Scalar.select v72 v73 v58
  let v75 : BitVec 32 := Scalar.subi v74 c0_i32_39
  let c1_i32_42 : BitVec 32 := 1#32
  let v77 : BitVec 32 := Scalar.divsi v75 c1_i32_42
  let v78 : BitVec 32 := Scalar.muli v77 c1_i32_42
  let v79 : BitVec 32 := Scalar.addi c0_i32_39 v78
  let v76 : BitVec 32 := Scalar.addi c0_i32_39 v75
  let c1_i32_44 : BitVec 32 := 1#32
  ⟨v79, v76, c1_i32_44⟩
def k0_mult15 (i : grid0.Coords) (arg16 : BitVec 32) : BitVec 32 :=
  let arg1 : BitVec 32 := BitVec.ofNat 32 (i 1).val
  let c8_i32 : BitVec 32 := 8#32
  let v0 : BitVec 32 := Scalar.muli arg1 c8_i32
  let v92 : BitVec 32 := Scalar.subi arg16 v0
  let c512_i32_52 : BitVec 32 := 512#32
  let v93 : BitVec 32 := Scalar.muli v92 c512_i32_52
  v93

def k0_off28 (i : grid0.Coords) (arg16 : BitVec 32) : Fin 3 → Nat :=
  let c0_53 : Index := 0#32
  let arg1 : BitVec 32 := BitVec.ofNat 32 (i 1).val
  let c8_i32 : BitVec 32 := 8#32
  let v0 : BitVec 32 := Scalar.muli arg1 c8_i32
  let v92 : BitVec 32 := Scalar.subi arg16 v0
  let c512_i32_52 : BitVec 32 := 512#32
  let v93 : BitVec 32 := Scalar.muli v92 c512_i32_52
  let v94 : BitVec 32 := v93
  let v95 : Index := Scalar.indexCast v94
  let c0_54 : Index := 0#32
  ![0, v95.toNat, 0]
def k0_mult16 (arg17 : BitVec 32) : BitVec 32 :=
  let c1024_i32_55 : BitVec 32 := 1024#32
  let v98 : BitVec 32 := Scalar.muli arg17 c1024_i32_55
  v98

def k0_off29 (arg17 : BitVec 32) : Fin 3 → Nat :=
  let c0_56 : Index := 0#32
  let c1024_i32_55 : BitVec 32 := 1024#32
  let v98 : BitVec 32 := Scalar.muli arg17 c1024_i32_55
  let v99 : BitVec 32 := v98
  let v100 : Index := Scalar.indexCast v99
  let c0_57 : Index := 0#32
  ![0, v100.toNat, 0]
def k0_off30 (arg17 : BitVec 32) : Fin 2 → Nat :=
  let c1024_i32_55 : BitVec 32 := 1024#32
  let v98 : BitVec 32 := Scalar.muli arg17 c1024_i32_55
  let v99 : BitVec 32 := v98
  let v103 : Index := Scalar.indexCast v99
  let c0_58 : Index := 0#32
  ![v103.toNat, 0]
def k0_off31 (i : grid0.Coords) (arg18 : BitVec 32) : Fin 3 → Nat :=
  let arg1 : BitVec 32 := BitVec.ofNat 32 (i 1).val
  let c8_i32 : BitVec 32 := 8#32
  let v0 : BitVec 32 := Scalar.muli arg1 c8_i32
  let v111 : BitVec 32 := Scalar.subi arg18 v0
  let v113 : Index := Scalar.indexCast v111
  let c0_64 : Index := 0#32
  let c0_65 : Index := 0#32
  ![v113.toNat, 0, 0]

def k0_mult17 (arg21 : BitVec 32) : BitVec 32 :=
  let c1024_i32_73 : BitVec 32 := 1024#32
  let v136 : BitVec 32 := Scalar.muli arg21 c1024_i32_73
  v136

def k0_off32 (arg21 : BitVec 32) : Fin 3 → Nat :=
  let c0_74 : Index := 0#32
  let c1024_i32_73 : BitVec 32 := 1024#32
  let v136 : BitVec 32 := Scalar.muli arg21 c1024_i32_73
  let v137 : BitVec 32 := v136
  let v138 : Index := Scalar.indexCast v137
  let c0_75 : Index := 0#32
  ![0, v138.toNat, 0]

def k0_chk10 (i : grid0.Coords) (k0_t2 : Fin (k0_t2_loop i).trips) (arg21 : BitVec 32) : Prop :=
  (1024 ∣ (k0_mult17 arg21).toNat) ∧
  (∀ a, (k0_off32 arg21) a + S1x1024x128.size a ≤ S1x16384x128.size a)
theorem k0_mult17_dvd : ∀ (i : grid0.Coords) (k0_t2 : Fin (k0_t2_loop i).trips) (arg21 : BitVec 32) (k0_hw10 : k0_chk10 i k0_t2 arg21), 1024 ∣ (k0_mult17 arg21).toNat := fun i k0_t2 arg21 k0_hw10 => k0_hw10.1
theorem k0_off32_inb : ∀ (i : grid0.Coords) (k0_t2 : Fin (k0_t2_loop i).trips) (arg21 : BitVec 32) (k0_hw10 : k0_chk10 i k0_t2 arg21), ∀ a, (k0_off32 arg21) a + S1x1024x128.size a ≤ S1x16384x128.size a := fun i k0_t2 arg21 k0_hw10 => k0_hw10.2

def k0_off33 (i : grid0.Coords) (arg20 : BitVec 32) : Fin 3 → Nat :=
  let arg1 : BitVec 32 := BitVec.ofNat 32 (i 1).val
  let c8_i32 : BitVec 32 := 8#32
  let v0 : BitVec 32 := Scalar.muli arg1 c8_i32
  let v135 : BitVec 32 := Scalar.subi arg20 v0
  let v144 : Index := Scalar.indexCast v135
  let c0_79 : Index := 0#32
  let c0_80 : Index := 0#32
  ![v144.toNat, 0, 0]

def k0_chk11 (i : grid0.Coords) (k0_t2 : Fin (k0_t2_loop i).trips) (arg20 : BitVec 32) : Prop :=
  (∀ a, (k0_off33 i arg20) a + S1x512x256.size a ≤ S8x512x256.size a)
theorem k0_off33_inb : ∀ (i : grid0.Coords) (k0_t2 : Fin (k0_t2_loop i).trips) (arg20 : BitVec 32) (k0_hw11 : k0_chk11 i k0_t2 arg20), ∀ a, (k0_off33 i arg20) a + S1x512x256.size a ≤ S8x512x256.size a := fun i k0_t2 arg20 k0_hw11 => k0_hw11

def k0_mult18 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_93 : BitVec 32 := 1#32
  let v169 : BitVec 32 := Scalar.addi arg16 c1_i32_93
  let c1_i32_87 : BitVec 32 := 1#32
  let v157 : BitVec 32 := Scalar.addi arg17 c1_i32_87
  let v158 : BitVec 1 := Scalar.cmpi .slt v157 v156
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let v174 : BitVec 32 := Scalar.subi v170 v0
  let c512_i32_96 : BitVec 32 := 512#32
  let v175 : BitVec 32 := Scalar.muli v174 c512_i32_96
  v175
def k0_off34 (i : grid0.Coords) (arg16 : BitVec 32) (arg17 : BitVec 32) : Fin 3 → Nat :=
  let c0_97 : Index := 0#32
  let c2_i32_86 : BitVec 32 := 2#32
  let v156 : BitVec 32 := Scalar.divsi arg16 c2_i32_86
  let v168 : BitVec 1 := Scalar.cmpi .eq arg17 v156
  let c1_i32_93 : BitVec 32 := 1#32
  let v169 : BitVec 32 := Scalar.addi arg16 c1_i32_93
  let c1_i32_87 : BitVec 32 := 1#32
  let v157 : BitVec 32 := Scalar.addi arg17 c1_i32_87
  let v158 : BitVec 1 := Scalar.cmpi .slt v157 v156
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let v174 : BitVec 32 := Scalar.subi v170 v0
  let c512_i32_96 : BitVec 32 := 512#32
  let v175 : BitVec 32 := Scalar.muli v174 c512_i32_96
  let v176 : BitVec 32 := v175
  let v177 : Index := Scalar.indexCast v176
  let c0_98 : Index := 0#32
  ![0, v177.toNat, 0]
def k0_mult19 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1024_i32_99 : BitVec 32 := 1024#32
  let v180 : BitVec 32 := Scalar.muli v173 c1024_i32_99
  v180
def k0_off35 (i : grid0.Coords) (arg16 : BitVec 32) (arg17 : BitVec 32) : Fin 3 → Nat :=
  let c0_100 : Index := 0#32
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1024_i32_99 : BitVec 32 := 1024#32
  let v180 : BitVec 32 := Scalar.muli v173 c1024_i32_99
  let v181 : BitVec 32 := v180
  let v182 : Index := Scalar.indexCast v181
  let c0_101 : Index := 0#32
  ![0, v182.toNat, 0]
def k0_off36 (i : grid0.Coords) (arg16 : BitVec 32) (arg17 : BitVec 32) : Fin 2 → Nat :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1024_i32_99 : BitVec 32 := 1024#32
  let v180 : BitVec 32 := Scalar.muli v173 c1024_i32_99
  let v181 : BitVec 32 := v180
  let v185 : Index := Scalar.indexCast v181
  let c0_102 : Index := 0#32
  ![v185.toNat, 0]
def k0_off37 (i : grid0.Coords) (arg16 : BitVec 32) : Fin 3 → Nat :=
  let arg1 : BitVec 32 := BitVec.ofNat 32 (i 1).val
  let c8_i32 : BitVec 32 := 8#32
  let v0 : BitVec 32 := Scalar.muli arg1 c8_i32
  let v193 : BitVec 32 := Scalar.subi arg16 v0
  let v195 : Index := Scalar.indexCast v193
  let c0_108 : Index := 0#32
  let c0_109 : Index := 0#32
  ![v195.toNat, 0, 0]
def k0_mult20 (arg19 : BitVec 32) : BitVec 32 :=
  let c1024_i32_117 : BitVec 32 := 1024#32
  let v218 : BitVec 32 := Scalar.muli arg19 c1024_i32_117
  v218

def k0_off38 (arg19 : BitVec 32) : Fin 3 → Nat :=
  let c0_118 : Index := 0#32
  let c1024_i32_117 : BitVec 32 := 1024#32
  let v218 : BitVec 32 := Scalar.muli arg19 c1024_i32_117
  let v219 : BitVec 32 := v218
  let v220 : Index := Scalar.indexCast v219
  let c0_119 : Index := 0#32
  ![0, v220.toNat, 0]

def k0_chk12 (i : grid0.Coords) (k0_t2 : Fin (k0_t2_loop i).trips) (arg19 : BitVec 32) : Prop :=
  (1024 ∣ (k0_mult20 arg19).toNat) ∧
  (∀ a, (k0_off38 arg19) a + S1x1024x128.size a ≤ S1x16384x128.size a)
theorem k0_mult20_dvd : ∀ (i : grid0.Coords) (k0_t2 : Fin (k0_t2_loop i).trips) (arg19 : BitVec 32) (k0_hw12 : k0_chk12 i k0_t2 arg19), 1024 ∣ (k0_mult20 arg19).toNat := fun i k0_t2 arg19 k0_hw12 => k0_hw12.1
theorem k0_off38_inb : ∀ (i : grid0.Coords) (k0_t2 : Fin (k0_t2_loop i).trips) (arg19 : BitVec 32) (k0_hw12 : k0_chk12 i k0_t2 arg19), ∀ a, (k0_off38 arg19) a + S1x1024x128.size a ≤ S1x16384x128.size a := fun i k0_t2 arg19 k0_hw12 => k0_hw12.2

def k0_off39 (i : grid0.Coords) (arg18 : BitVec 32) : Fin 3 → Nat :=
  let arg1 : BitVec 32 := BitVec.ofNat 32 (i 1).val
  let c8_i32 : BitVec 32 := 8#32
  let v0 : BitVec 32 := Scalar.muli arg1 c8_i32
  let v217 : BitVec 32 := Scalar.subi arg18 v0
  let v226 : Index := Scalar.indexCast v217
  let c0_123 : Index := 0#32
  let c0_124 : Index := 0#32
  ![v226.toNat, 0, 0]

def k0_chk9 (i : grid0.Coords) (k0_t2 : Fin (k0_t2_loop i).trips) (arg18 : BitVec 32) : Prop :=
  (∀ a, (k0_off31 i arg18) a + S1x512x1.size a ≤ S8x512x1.size a) ∧
  (∀ a, (k0_off39 i arg18) a + S1x512x256.size a ≤ S8x512x256.size a)
theorem k0_off31_inb : ∀ (i : grid0.Coords) (k0_t2 : Fin (k0_t2_loop i).trips) (arg18 : BitVec 32) (k0_hw9 : k0_chk9 i k0_t2 arg18), ∀ a, (k0_off31 i arg18) a + S1x512x1.size a ≤ S8x512x1.size a := fun i k0_t2 arg18 k0_hw9 => k0_hw9.1
theorem k0_off39_inb : ∀ (i : grid0.Coords) (k0_t2 : Fin (k0_t2_loop i).trips) (arg18 : BitVec 32) (k0_hw9 : k0_chk9 i k0_t2 arg18), ∀ a, (k0_off39 i arg18) a + S1x512x256.size a ≤ S8x512x256.size a := fun i k0_t2 arg18 k0_hw9 => k0_hw9.2

def k0_mult21 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_137 : BitVec 32 := 1#32
  let v251 : BitVec 32 := Scalar.addi v170 c1_i32_137
  let c1_i32_131 : BitVec 32 := 1#32
  let v239 : BitVec 32 := Scalar.addi v173 c1_i32_131
  let v240 : BitVec 1 := Scalar.cmpi .slt v239 v238
  let c1_i32_132 : BitVec 32 := 1#32
  let v241 : BitVec 32 := Scalar.addi v170 c1_i32_132
  let v242 : BitVec 1 := Scalar.cmpi .slt v241 v1
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let v256 : BitVec 32 := Scalar.subi v252 v0
  let c512_i32_140 : BitVec 32 := 512#32
  let v257 : BitVec 32 := Scalar.muli v256 c512_i32_140
  v257
def k0_off40 (i : grid0.Coords) (arg16 : BitVec 32) (arg17 : BitVec 32) : Fin 3 → Nat :=
  let c0_141 : Index := 0#32
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_137 : BitVec 32 := 1#32
  let v251 : BitVec 32 := Scalar.addi v170 c1_i32_137
  let c1_i32_131 : BitVec 32 := 1#32
  let v239 : BitVec 32 := Scalar.addi v173 c1_i32_131
  let v240 : BitVec 1 := Scalar.cmpi .slt v239 v238
  let c1_i32_132 : BitVec 32 := 1#32
  let v241 : BitVec 32 := Scalar.addi v170 c1_i32_132
  let v242 : BitVec 1 := Scalar.cmpi .slt v241 v1
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let v256 : BitVec 32 := Scalar.subi v252 v0
  let c512_i32_140 : BitVec 32 := 512#32
  let v257 : BitVec 32 := Scalar.muli v256 c512_i32_140
  let v258 : BitVec 32 := v257
  let v259 : Index := Scalar.indexCast v258
  let c0_142 : Index := 0#32
  ![0, v259.toNat, 0]
def k0_mult22 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1024_i32_143 : BitVec 32 := 1024#32
  let v262 : BitVec 32 := Scalar.muli v255 c1024_i32_143
  v262
def k0_off41 (i : grid0.Coords) (arg16 : BitVec 32) (arg17 : BitVec 32) : Fin 3 → Nat :=
  let c0_144 : Index := 0#32
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1024_i32_143 : BitVec 32 := 1024#32
  let v262 : BitVec 32 := Scalar.muli v255 c1024_i32_143
  let v263 : BitVec 32 := v262
  let v264 : Index := Scalar.indexCast v263
  let c0_145 : Index := 0#32
  ![0, v264.toNat, 0]
def k0_off42 (i : grid0.Coords) (arg16 : BitVec 32) (arg17 : BitVec 32) : Fin 2 → Nat :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1024_i32_143 : BitVec 32 := 1024#32
  let v262 : BitVec 32 := Scalar.muli v255 c1024_i32_143
  let v263 : BitVec 32 := v262
  let v267 : Index := Scalar.indexCast v263
  let c0_146 : Index := 0#32
  ![v267.toNat, 0]
def k0_off43 (i : grid0.Coords) (arg16 : BitVec 32) (arg17 : BitVec 32) : Fin 3 → Nat :=
  let c2_i32_86 : BitVec 32 := 2#32
  let v156 : BitVec 32 := Scalar.divsi arg16 c2_i32_86
  let v168 : BitVec 1 := Scalar.cmpi .eq arg17 v156
  let c1_i32_93 : BitVec 32 := 1#32
  let v169 : BitVec 32 := Scalar.addi arg16 c1_i32_93
  let c1_i32_87 : BitVec 32 := 1#32
  let v157 : BitVec 32 := Scalar.addi arg17 c1_i32_87
  let v158 : BitVec 1 := Scalar.cmpi .slt v157 v156
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let v275 : BitVec 32 := Scalar.subi v170 v0
  let v277 : Index := Scalar.indexCast v275
  let c0_152 : Index := 0#32
  let c0_153 : Index := 0#32
  ![v277.toNat, 0, 0]
def k0_mult23 (arg17 : BitVec 32) : BitVec 32 :=
  let c1024_i32_161 : BitVec 32 := 1024#32
  let v300 : BitVec 32 := Scalar.muli arg17 c1024_i32_161
  v300
def k0_off44 (arg17 : BitVec 32) : Fin 3 → Nat :=
  let c0_162 : Index := 0#32
  let c1024_i32_161 : BitVec 32 := 1024#32
  let v300 : BitVec 32 := Scalar.muli arg17 c1024_i32_161
  let v301 : BitVec 32 := v300
  let v302 : Index := Scalar.indexCast v301
  let c0_163 : Index := 0#32
  ![0, v302.toNat, 0]
def k0_off45 (i : grid0.Coords) (arg16 : BitVec 32) : Fin 3 → Nat :=
  let arg1 : BitVec 32 := BitVec.ofNat 32 (i 1).val
  let c8_i32 : BitVec 32 := 8#32
  let v0 : BitVec 32 := Scalar.muli arg1 c8_i32
  let v299 : BitVec 32 := Scalar.subi arg16 v0
  let v308 : Index := Scalar.indexCast v299
  let c0_167 : Index := 0#32
  let c0_168 : Index := 0#32
  ![v308.toNat, 0, 0]

def k0_chk7 (i : grid0.Coords) (k0_t2 : Fin (k0_t2_loop i).trips) (arg16 : BitVec 32) : Prop :=
  (512 ∣ (k0_mult15 i arg16).toNat) ∧
  (∀ a, (k0_off28 i arg16) a + S1x512x256.size a ≤ S1x4096x256.size a) ∧
  (∀ a, (k0_off37 i arg16) a + S1x512x1.size a ≤ S8x512x1.size a) ∧
  (∀ a, (k0_off45 i arg16) a + S1x512x256.size a ≤ S8x512x256.size a)
theorem k0_mult15_dvd : ∀ (i : grid0.Coords) (k0_t2 : Fin (k0_t2_loop i).trips) (arg16 : BitVec 32) (k0_hw7 : k0_chk7 i k0_t2 arg16), 512 ∣ (k0_mult15 i arg16).toNat := fun i k0_t2 arg16 k0_hw7 => k0_hw7.1
theorem k0_off28_inb : ∀ (i : grid0.Coords) (k0_t2 : Fin (k0_t2_loop i).trips) (arg16 : BitVec 32) (k0_hw7 : k0_chk7 i k0_t2 arg16), ∀ a, (k0_off28 i arg16) a + S1x512x256.size a ≤ S1x4096x256.size a := fun i k0_t2 arg16 k0_hw7 => k0_hw7.2.1
theorem k0_off37_inb : ∀ (i : grid0.Coords) (k0_t2 : Fin (k0_t2_loop i).trips) (arg16 : BitVec 32) (k0_hw7 : k0_chk7 i k0_t2 arg16), ∀ a, (k0_off37 i arg16) a + S1x512x1.size a ≤ S8x512x1.size a := fun i k0_t2 arg16 k0_hw7 => k0_hw7.2.2.1
theorem k0_off45_inb : ∀ (i : grid0.Coords) (k0_t2 : Fin (k0_t2_loop i).trips) (arg16 : BitVec 32) (k0_hw7 : k0_chk7 i k0_t2 arg16), ∀ a, (k0_off45 i arg16) a + S1x512x256.size a ≤ S8x512x256.size a := fun i k0_t2 arg16 k0_hw7 => k0_hw7.2.2.2

def k0_mult24 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1_i32_137 : BitVec 32 := 1#32
  let v251 : BitVec 32 := Scalar.addi v170 c1_i32_137
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let c2_i32_174 : BitVec 32 := 2#32
  let v320 : BitVec 32 := Scalar.divsi v252 c2_i32_174
  let v332 : BitVec 1 := Scalar.cmpi .eq v255 v320
  let c1_i32_181 : BitVec 32 := 1#32
  let v333 : BitVec 32 := Scalar.addi v252 c1_i32_181
  let c1_i32_175 : BitVec 32 := 1#32
  let v321 : BitVec 32 := Scalar.addi v255 c1_i32_175
  let v322 : BitVec 1 := Scalar.cmpi .slt v321 v320
  let c1_i32_176 : BitVec 32 := 1#32
  let v323 : BitVec 32 := Scalar.addi v252 c1_i32_176
  let v324 : BitVec 1 := Scalar.cmpi .slt v323 v1
  let c1_i32_177 : BitVec 32 := 1#32
  let v325 : BitVec 32 := Scalar.addi v252 c1_i32_177
  let v326 : BitVec 32 := Scalar.select v324 v325 v0
  let v327 : BitVec 32 := Scalar.select v322 v252 v326
  let v334 : BitVec 32 := Scalar.select v332 v333 v327
  let v338 : BitVec 32 := Scalar.subi v334 v0
  let c512_i32_184 : BitVec 32 := 512#32
  let v339 : BitVec 32 := Scalar.muli v338 c512_i32_184
  v339
def k0_off46 (i : grid0.Coords) (arg16 : BitVec 32) (arg17 : BitVec 32) : Fin 3 → Nat :=
  let c0_185 : Index := 0#32
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1_i32_137 : BitVec 32 := 1#32
  let v251 : BitVec 32 := Scalar.addi v170 c1_i32_137
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let c2_i32_174 : BitVec 32 := 2#32
  let v320 : BitVec 32 := Scalar.divsi v252 c2_i32_174
  let v332 : BitVec 1 := Scalar.cmpi .eq v255 v320
  let c1_i32_181 : BitVec 32 := 1#32
  let v333 : BitVec 32 := Scalar.addi v252 c1_i32_181
  let c1_i32_175 : BitVec 32 := 1#32
  let v321 : BitVec 32 := Scalar.addi v255 c1_i32_175
  let v322 : BitVec 1 := Scalar.cmpi .slt v321 v320
  let c1_i32_176 : BitVec 32 := 1#32
  let v323 : BitVec 32 := Scalar.addi v252 c1_i32_176
  let v324 : BitVec 1 := Scalar.cmpi .slt v323 v1
  let c1_i32_177 : BitVec 32 := 1#32
  let v325 : BitVec 32 := Scalar.addi v252 c1_i32_177
  let v326 : BitVec 32 := Scalar.select v324 v325 v0
  let v327 : BitVec 32 := Scalar.select v322 v252 v326
  let v334 : BitVec 32 := Scalar.select v332 v333 v327
  let v338 : BitVec 32 := Scalar.subi v334 v0
  let c512_i32_184 : BitVec 32 := 512#32
  let v339 : BitVec 32 := Scalar.muli v338 c512_i32_184
  let v340 : BitVec 32 := v339
  let v341 : Index := Scalar.indexCast v340
  let c0_186 : Index := 0#32
  ![0, v341.toNat, 0]
def k0_mult25 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1_i32_137 : BitVec 32 := 1#32
  let v251 : BitVec 32 := Scalar.addi v170 c1_i32_137
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let c2_i32_174 : BitVec 32 := 2#32
  let v320 : BitVec 32 := Scalar.divsi v252 c2_i32_174
  let v332 : BitVec 1 := Scalar.cmpi .eq v255 v320
  let c1_i32_182 : BitVec 32 := 1#32
  let v335 : BitVec 32 := Scalar.addi v252 c1_i32_182
  let c2_i32_183 : BitVec 32 := 2#32
  let v336 : BitVec 32 := Scalar.divsi v335 c2_i32_183
  let c1_i32_175 : BitVec 32 := 1#32
  let v321 : BitVec 32 := Scalar.addi v255 c1_i32_175
  let v322 : BitVec 1 := Scalar.cmpi .slt v321 v320
  let c1_i32_178 : BitVec 32 := 1#32
  let v328 : BitVec 32 := Scalar.addi v255 c1_i32_178
  let c1_i32_176 : BitVec 32 := 1#32
  let v323 : BitVec 32 := Scalar.addi v252 c1_i32_176
  let v324 : BitVec 1 := Scalar.cmpi .slt v323 v1
  let c0_i32_180 : BitVec 32 := 0#32
  let c2_i32_179 : BitVec 32 := 2#32
  let v329 : BitVec 32 := Scalar.divsi v0 c2_i32_179
  let v330 : BitVec 32 := Scalar.select v324 c0_i32_180 v329
  let v331 : BitVec 32 := Scalar.select v322 v328 v330
  let v337 : BitVec 32 := Scalar.select v332 v336 v331
  let c1024_i32_187 : BitVec 32 := 1024#32
  let v344 : BitVec 32 := Scalar.muli v337 c1024_i32_187
  v344
def k0_off47 (i : grid0.Coords) (arg16 : BitVec 32) (arg17 : BitVec 32) : Fin 3 → Nat :=
  let c0_188 : Index := 0#32
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1_i32_137 : BitVec 32 := 1#32
  let v251 : BitVec 32 := Scalar.addi v170 c1_i32_137
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let c2_i32_174 : BitVec 32 := 2#32
  let v320 : BitVec 32 := Scalar.divsi v252 c2_i32_174
  let v332 : BitVec 1 := Scalar.cmpi .eq v255 v320
  let c1_i32_182 : BitVec 32 := 1#32
  let v335 : BitVec 32 := Scalar.addi v252 c1_i32_182
  let c2_i32_183 : BitVec 32 := 2#32
  let v336 : BitVec 32 := Scalar.divsi v335 c2_i32_183
  let c1_i32_175 : BitVec 32 := 1#32
  let v321 : BitVec 32 := Scalar.addi v255 c1_i32_175
  let v322 : BitVec 1 := Scalar.cmpi .slt v321 v320
  let c1_i32_178 : BitVec 32 := 1#32
  let v328 : BitVec 32 := Scalar.addi v255 c1_i32_178
  let c1_i32_176 : BitVec 32 := 1#32
  let v323 : BitVec 32 := Scalar.addi v252 c1_i32_176
  let v324 : BitVec 1 := Scalar.cmpi .slt v323 v1
  let c0_i32_180 : BitVec 32 := 0#32
  let c2_i32_179 : BitVec 32 := 2#32
  let v329 : BitVec 32 := Scalar.divsi v0 c2_i32_179
  let v330 : BitVec 32 := Scalar.select v324 c0_i32_180 v329
  let v331 : BitVec 32 := Scalar.select v322 v328 v330
  let v337 : BitVec 32 := Scalar.select v332 v336 v331
  let c1024_i32_187 : BitVec 32 := 1024#32
  let v344 : BitVec 32 := Scalar.muli v337 c1024_i32_187
  let v345 : BitVec 32 := v344
  let v346 : Index := Scalar.indexCast v345
  let c0_189 : Index := 0#32
  ![0, v346.toNat, 0]
def k0_off48 (i : grid0.Coords) (arg16 : BitVec 32) (arg17 : BitVec 32) : Fin 2 → Nat :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_138 : BitVec 32 := 1#32
  let v253 : BitVec 32 := Scalar.addi v170 c1_i32_138
  let c2_i32_139 : BitVec 32 := 2#32
  let v254 : BitVec 32 := Scalar.divsi v253 c2_i32_139
  let c1_i32_131 : BitVec 32 := 1#32
  let v239 : BitVec 32 := Scalar.addi v173 c1_i32_131
  let v240 : BitVec 1 := Scalar.cmpi .slt v239 v238
  let c1_i32_134 : BitVec 32 := 1#32
  let v246 : BitVec 32 := Scalar.addi v173 c1_i32_134
  let c1_i32_132 : BitVec 32 := 1#32
  let v241 : BitVec 32 := Scalar.addi v170 c1_i32_132
  let v242 : BitVec 1 := Scalar.cmpi .slt v241 v1
  let c0_i32_136 : BitVec 32 := 0#32
  let c2_i32_135 : BitVec 32 := 2#32
  let v247 : BitVec 32 := Scalar.divsi v0 c2_i32_135
  let v248 : BitVec 32 := Scalar.select v242 c0_i32_136 v247
  let v249 : BitVec 32 := Scalar.select v240 v246 v248
  let v255 : BitVec 32 := Scalar.select v250 v254 v249
  let c1_i32_137 : BitVec 32 := 1#32
  let v251 : BitVec 32 := Scalar.addi v170 c1_i32_137
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let c2_i32_174 : BitVec 32 := 2#32
  let v320 : BitVec 32 := Scalar.divsi v252 c2_i32_174
  let v332 : BitVec 1 := Scalar.cmpi .eq v255 v320
  let c1_i32_182 : BitVec 32 := 1#32
  let v335 : BitVec 32 := Scalar.addi v252 c1_i32_182
  let c2_i32_183 : BitVec 32 := 2#32
  let v336 : BitVec 32 := Scalar.divsi v335 c2_i32_183
  let c1_i32_175 : BitVec 32 := 1#32
  let v321 : BitVec 32 := Scalar.addi v255 c1_i32_175
  let v322 : BitVec 1 := Scalar.cmpi .slt v321 v320
  let c1_i32_178 : BitVec 32 := 1#32
  let v328 : BitVec 32 := Scalar.addi v255 c1_i32_178
  let c1_i32_176 : BitVec 32 := 1#32
  let v323 : BitVec 32 := Scalar.addi v252 c1_i32_176
  let v324 : BitVec 1 := Scalar.cmpi .slt v323 v1
  let c0_i32_180 : BitVec 32 := 0#32
  let c2_i32_179 : BitVec 32 := 2#32
  let v329 : BitVec 32 := Scalar.divsi v0 c2_i32_179
  let v330 : BitVec 32 := Scalar.select v324 c0_i32_180 v329
  let v331 : BitVec 32 := Scalar.select v322 v328 v330
  let v337 : BitVec 32 := Scalar.select v332 v336 v331
  let c1024_i32_187 : BitVec 32 := 1024#32
  let v344 : BitVec 32 := Scalar.muli v337 c1024_i32_187
  let v345 : BitVec 32 := v344
  let v349 : Index := Scalar.indexCast v345
  let c0_190 : Index := 0#32
  ![v349.toNat, 0]
def k0_off49 (i : grid0.Coords) (arg16 : BitVec 32) (arg17 : BitVec 32) : Fin 3 → Nat :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1_i32_93 : BitVec 32 := 1#32
  let v169 : BitVec 32 := Scalar.addi arg16 c1_i32_93
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let c2_i32_130 : BitVec 32 := 2#32
  let v238 : BitVec 32 := Scalar.divsi v170 c2_i32_130
  let v250 : BitVec 1 := Scalar.cmpi .eq v173 v238
  let c1_i32_137 : BitVec 32 := 1#32
  let v251 : BitVec 32 := Scalar.addi v170 c1_i32_137
  let c1_i32_131 : BitVec 32 := 1#32
  let v239 : BitVec 32 := Scalar.addi v173 c1_i32_131
  let v240 : BitVec 1 := Scalar.cmpi .slt v239 v238
  let c1_i32_132 : BitVec 32 := 1#32
  let v241 : BitVec 32 := Scalar.addi v170 c1_i32_132
  let v242 : BitVec 1 := Scalar.cmpi .slt v241 v1
  let c1_i32_133 : BitVec 32 := 1#32
  let v243 : BitVec 32 := Scalar.addi v170 c1_i32_133
  let v244 : BitVec 32 := Scalar.select v242 v243 v0
  let v245 : BitVec 32 := Scalar.select v240 v170 v244
  let v252 : BitVec 32 := Scalar.select v250 v251 v245
  let v357 : BitVec 32 := Scalar.subi v252 v0
  let v359 : Index := Scalar.indexCast v357
  let c0_196 : Index := 0#32
  let c0_197 : Index := 0#32
  ![v359.toNat, 0, 0]
def k0_mult26 (i : grid0.Coords) (arg16 : BitVec 32) (arg17 : BitVec 32) : BitVec 32 :=
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1024_i32_205 : BitVec 32 := 1024#32
  let v382 : BitVec 32 := Scalar.muli v173 c1024_i32_205
  v382
def k0_off50 (i : grid0.Coords) (arg16 : BitVec 32) (arg17 : BitVec 32) : Fin 3 → Nat :=
  let c0_206 : Index := 0#32
  let c2_i32_86 : BitVec 32 := 2#32
  let v156 : BitVec 32 := Scalar.divsi arg16 c2_i32_86
  let v168 : BitVec 1 := Scalar.cmpi .eq arg17 v156
  let c1_i32_94 : BitVec 32 := 1#32
  let v171 : BitVec 32 := Scalar.addi arg16 c1_i32_94
  let c2_i32_95 : BitVec 32 := 2#32
  let v172 : BitVec 32 := Scalar.divsi v171 c2_i32_95
  let c1_i32_87 : BitVec 32 := 1#32
  let v157 : BitVec 32 := Scalar.addi arg17 c1_i32_87
  let v158 : BitVec 1 := Scalar.cmpi .slt v157 v156
  let c1_i32_90 : BitVec 32 := 1#32
  let v164 : BitVec 32 := Scalar.addi arg17 c1_i32_90
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c0_i32_92 : BitVec 32 := 0#32
  let c2_i32_91 : BitVec 32 := 2#32
  let v165 : BitVec 32 := Scalar.divsi v0 c2_i32_91
  let v166 : BitVec 32 := Scalar.select v160 c0_i32_92 v165
  let v167 : BitVec 32 := Scalar.select v158 v164 v166
  let v173 : BitVec 32 := Scalar.select v168 v172 v167
  let c1024_i32_205 : BitVec 32 := 1024#32
  let v382 : BitVec 32 := Scalar.muli v173 c1024_i32_205
  let v383 : BitVec 32 := v382
  let v384 : Index := Scalar.indexCast v383
  let c0_207 : Index := 0#32
  ![0, v384.toNat, 0]
def k0_off51 (i : grid0.Coords) (arg16 : BitVec 32) (arg17 : BitVec 32) : Fin 3 → Nat :=
  let c2_i32_86 : BitVec 32 := 2#32
  let v156 : BitVec 32 := Scalar.divsi arg16 c2_i32_86
  let v168 : BitVec 1 := Scalar.cmpi .eq arg17 v156
  let c1_i32_93 : BitVec 32 := 1#32
  let v169 : BitVec 32 := Scalar.addi arg16 c1_i32_93
  let c1_i32_87 : BitVec 32 := 1#32
  let v157 : BitVec 32 := Scalar.addi arg17 c1_i32_87
  let v158 : BitVec 1 := Scalar.cmpi .slt v157 v156
  let c1_i32_88 : BitVec 32 := 1#32
  let v159 : BitVec 32 := Scalar.addi arg16 c1_i32_88
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let v160 : BitVec 1 := Scalar.cmpi .slt v159 v1
  let c1_i32_89 : BitVec 32 := 1#32
  let v161 : BitVec 32 := Scalar.addi arg16 c1_i32_89
  let v162 : BitVec 32 := Scalar.select v160 v161 v0
  let v163 : BitVec 32 := Scalar.select v158 arg16 v162
  let v170 : BitVec 32 := Scalar.select v168 v169 v163
  let v381 : BitVec 32 := Scalar.subi v170 v0
  let v390 : Index := Scalar.indexCast v381
  let c0_211 : Index := 0#32
  let c0_212 : Index := 0#32
  ![v390.toNat, 0, 0]

def k0_chk8 (i : grid0.Coords) (k0_t2 : Fin (k0_t2_loop i).trips) (arg16 : BitVec 32) (arg17 : BitVec 32) : Prop :=
  (1024 ∣ (k0_mult16 arg17).toNat) ∧
  (∀ a, (k0_off29 arg17) a + S1x1024x128.size a ≤ S1x16384x128.size a) ∧
  (∀ a, (k0_off30 arg17) a + S1024x128.size a ≤ S16384x128.size a) ∧
  (512 ∣ (k0_mult18 i arg16 arg17).toNat) ∧
  (∀ a, (k0_off34 i arg16 arg17) a + S1x512x256.size a ≤ S1x4096x256.size a) ∧
  (1024 ∣ (k0_mult19 i arg16 arg17).toNat) ∧
  (∀ a, (k0_off35 i arg16 arg17) a + S1x1024x128.size a ≤ S1x16384x128.size a) ∧
  (∀ a, (k0_off36 i arg16 arg17) a + S1024x128.size a ≤ S16384x128.size a) ∧
  (512 ∣ (k0_mult21 i arg16 arg17).toNat) ∧
  (∀ a, (k0_off40 i arg16 arg17) a + S1x512x256.size a ≤ S1x4096x256.size a) ∧
  (1024 ∣ (k0_mult22 i arg16 arg17).toNat) ∧
  (∀ a, (k0_off41 i arg16 arg17) a + S1x1024x128.size a ≤ S1x16384x128.size a) ∧
  (∀ a, (k0_off42 i arg16 arg17) a + S1024x128.size a ≤ S16384x128.size a) ∧
  (∀ a, (k0_off43 i arg16 arg17) a + S1x512x1.size a ≤ S8x512x1.size a) ∧
  (1024 ∣ (k0_mult23 arg17).toNat) ∧
  (∀ a, (k0_off44 arg17) a + S1x1024x128.size a ≤ S1x16384x128.size a) ∧
  (512 ∣ (k0_mult24 i arg16 arg17).toNat) ∧
  (∀ a, (k0_off46 i arg16 arg17) a + S1x512x256.size a ≤ S1x4096x256.size a) ∧
  (1024 ∣ (k0_mult25 i arg16 arg17).toNat) ∧
  (∀ a, (k0_off47 i arg16 arg17) a + S1x1024x128.size a ≤ S1x16384x128.size a) ∧
  (∀ a, (k0_off48 i arg16 arg17) a + S1024x128.size a ≤ S16384x128.size a) ∧
  (∀ a, (k0_off49 i arg16 arg17) a + S1x512x1.size a ≤ S8x512x1.size a) ∧
  (1024 ∣ (k0_mult26 i arg16 arg17).toNat) ∧
  (∀ a, (k0_off50 i arg16 arg17) a + S1x1024x128.size a ≤ S1x16384x128.size a) ∧
  (∀ a, (k0_off51 i arg16 arg17) a + S1x512x256.size a ≤ S8x512x256.size a)
theorem k0_mult16_dvd : ∀ (i : grid0.Coords) (k0_t2 : Fin (k0_t2_loop i).trips) (arg16 : BitVec 32) (arg17 : BitVec 32) (k0_hw8 : k0_chk8 i k0_t2 arg16 arg17), 1024 ∣ (k0_mult16 arg17).toNat := fun i k0_t2 arg16 arg17 k0_hw8 => k0_hw8.1
theorem k0_off29_inb : ∀ (i : grid0.Coords) (k0_t2 : Fin (k0_t2_loop i).trips) (arg16 : BitVec 32) (arg17 : BitVec 32) (k0_hw8 : k0_chk8 i k0_t2 arg16 arg17), ∀ a, (k0_off29 arg17) a + S1x1024x128.size a ≤ S1x16384x128.size a := fun i k0_t2 arg16 arg17 k0_hw8 => k0_hw8.2.1
theorem k0_off30_inb : ∀ (i : grid0.Coords) (k0_t2 : Fin (k0_t2_loop i).trips) (arg16 : BitVec 32) (arg17 : BitVec 32) (k0_hw8 : k0_chk8 i k0_t2 arg16 arg17), ∀ a, (k0_off30 arg17) a + S1024x128.size a ≤ S16384x128.size a := fun i k0_t2 arg16 arg17 k0_hw8 => k0_hw8.2.2.1
theorem k0_mult18_dvd : ∀ (i : grid0.Coords) (k0_t2 : Fin (k0_t2_loop i).trips) (arg16 : BitVec 32) (arg17 : BitVec 32) (k0_hw8 : k0_chk8 i k0_t2 arg16 arg17), 512 ∣ (k0_mult18 i arg16 arg17).toNat := fun i k0_t2 arg16 arg17 k0_hw8 => k0_hw8.2.2.2.1
theorem k0_off34_inb : ∀ (i : grid0.Coords) (k0_t2 : Fin (k0_t2_loop i).trips) (arg16 : BitVec 32) (arg17 : BitVec 32) (k0_hw8 : k0_chk8 i k0_t2 arg16 arg17), ∀ a, (k0_off34 i arg16 arg17) a + S1x512x256.size a ≤ S1x4096x256.size a := fun i k0_t2 arg16 arg17 k0_hw8 => k0_hw8.2.2.2.2.1
theorem k0_mult19_dvd : ∀ (i : grid0.Coords) (k0_t2 : Fin (k0_t2_loop i).trips) (arg16 : BitVec 32) (arg17 : BitVec 32) (k0_hw8 : k0_chk8 i k0_t2 arg16 arg17), 1024 ∣ (k0_mult19 i arg16 arg17).toNat := fun i k0_t2 arg16 arg17 k0_hw8 => k0_hw8.2.2.2.2.2.1
theorem k0_off35_inb : ∀ (i : grid0.Coords) (k0_t2 : Fin (k0_t2_loop i).trips) (arg16 : BitVec 32) (arg17 : BitVec 32) (k0_hw8 : k0_chk8 i k0_t2 arg16 arg17), ∀ a, (k0_off35 i arg16 arg17) a + S1x1024x128.size a ≤ S1x16384x128.size a := fun i k0_t2 arg16 arg17 k0_hw8 => k0_hw8.2.2.2.2.2.2.1
theorem k0_off36_inb : ∀ (i : grid0.Coords) (k0_t2 : Fin (k0_t2_loop i).trips) (arg16 : BitVec 32) (arg17 : BitVec 32) (k0_hw8 : k0_chk8 i k0_t2 arg16 arg17), ∀ a, (k0_off36 i arg16 arg17) a + S1024x128.size a ≤ S16384x128.size a := fun i k0_t2 arg16 arg17 k0_hw8 => k0_hw8.2.2.2.2.2.2.2.1
theorem k0_mult21_dvd : ∀ (i : grid0.Coords) (k0_t2 : Fin (k0_t2_loop i).trips) (arg16 : BitVec 32) (arg17 : BitVec 32) (k0_hw8 : k0_chk8 i k0_t2 arg16 arg17), 512 ∣ (k0_mult21 i arg16 arg17).toNat := fun i k0_t2 arg16 arg17 k0_hw8 => k0_hw8.2.2.2.2.2.2.2.2.1
theorem k0_off40_inb : ∀ (i : grid0.Coords) (k0_t2 : Fin (k0_t2_loop i).trips) (arg16 : BitVec 32) (arg17 : BitVec 32) (k0_hw8 : k0_chk8 i k0_t2 arg16 arg17), ∀ a, (k0_off40 i arg16 arg17) a + S1x512x256.size a ≤ S1x4096x256.size a := fun i k0_t2 arg16 arg17 k0_hw8 => k0_hw8.2.2.2.2.2.2.2.2.2.1
theorem k0_mult22_dvd : ∀ (i : grid0.Coords) (k0_t2 : Fin (k0_t2_loop i).trips) (arg16 : BitVec 32) (arg17 : BitVec 32) (k0_hw8 : k0_chk8 i k0_t2 arg16 arg17), 1024 ∣ (k0_mult22 i arg16 arg17).toNat := fun i k0_t2 arg16 arg17 k0_hw8 => k0_hw8.2.2.2.2.2.2.2.2.2.2.1
theorem k0_off41_inb : ∀ (i : grid0.Coords) (k0_t2 : Fin (k0_t2_loop i).trips) (arg16 : BitVec 32) (arg17 : BitVec 32) (k0_hw8 : k0_chk8 i k0_t2 arg16 arg17), ∀ a, (k0_off41 i arg16 arg17) a + S1x1024x128.size a ≤ S1x16384x128.size a := fun i k0_t2 arg16 arg17 k0_hw8 => k0_hw8.2.2.2.2.2.2.2.2.2.2.2.1
theorem k0_off42_inb : ∀ (i : grid0.Coords) (k0_t2 : Fin (k0_t2_loop i).trips) (arg16 : BitVec 32) (arg17 : BitVec 32) (k0_hw8 : k0_chk8 i k0_t2 arg16 arg17), ∀ a, (k0_off42 i arg16 arg17) a + S1024x128.size a ≤ S16384x128.size a := fun i k0_t2 arg16 arg17 k0_hw8 => k0_hw8.2.2.2.2.2.2.2.2.2.2.2.2.1
theorem k0_off43_inb : ∀ (i : grid0.Coords) (k0_t2 : Fin (k0_t2_loop i).trips) (arg16 : BitVec 32) (arg17 : BitVec 32) (k0_hw8 : k0_chk8 i k0_t2 arg16 arg17), ∀ a, (k0_off43 i arg16 arg17) a + S1x512x1.size a ≤ S8x512x1.size a := fun i k0_t2 arg16 arg17 k0_hw8 => k0_hw8.2.2.2.2.2.2.2.2.2.2.2.2.2.1
theorem k0_mult23_dvd : ∀ (i : grid0.Coords) (k0_t2 : Fin (k0_t2_loop i).trips) (arg16 : BitVec 32) (arg17 : BitVec 32) (k0_hw8 : k0_chk8 i k0_t2 arg16 arg17), 1024 ∣ (k0_mult23 arg17).toNat := fun i k0_t2 arg16 arg17 k0_hw8 => k0_hw8.2.2.2.2.2.2.2.2.2.2.2.2.2.2.1
theorem k0_off44_inb : ∀ (i : grid0.Coords) (k0_t2 : Fin (k0_t2_loop i).trips) (arg16 : BitVec 32) (arg17 : BitVec 32) (k0_hw8 : k0_chk8 i k0_t2 arg16 arg17), ∀ a, (k0_off44 arg17) a + S1x1024x128.size a ≤ S1x16384x128.size a := fun i k0_t2 arg16 arg17 k0_hw8 => k0_hw8.2.2.2.2.2.2.2.2.2.2.2.2.2.2.2.1
theorem k0_mult24_dvd : ∀ (i : grid0.Coords) (k0_t2 : Fin (k0_t2_loop i).trips) (arg16 : BitVec 32) (arg17 : BitVec 32) (k0_hw8 : k0_chk8 i k0_t2 arg16 arg17), 512 ∣ (k0_mult24 i arg16 arg17).toNat := fun i k0_t2 arg16 arg17 k0_hw8 => k0_hw8.2.2.2.2.2.2.2.2.2.2.2.2.2.2.2.2.1
theorem k0_off46_inb : ∀ (i : grid0.Coords) (k0_t2 : Fin (k0_t2_loop i).trips) (arg16 : BitVec 32) (arg17 : BitVec 32) (k0_hw8 : k0_chk8 i k0_t2 arg16 arg17), ∀ a, (k0_off46 i arg16 arg17) a + S1x512x256.size a ≤ S1x4096x256.size a := fun i k0_t2 arg16 arg17 k0_hw8 => k0_hw8.2.2.2.2.2.2.2.2.2.2.2.2.2.2.2.2.2.1
theorem k0_mult25_dvd : ∀ (i : grid0.Coords) (k0_t2 : Fin (k0_t2_loop i).trips) (arg16 : BitVec 32) (arg17 : BitVec 32) (k0_hw8 : k0_chk8 i k0_t2 arg16 arg17), 1024 ∣ (k0_mult25 i arg16 arg17).toNat := fun i k0_t2 arg16 arg17 k0_hw8 => k0_hw8.2.2.2.2.2.2.2.2.2.2.2.2.2.2.2.2.2.2.1
theorem k0_off47_inb : ∀ (i : grid0.Coords) (k0_t2 : Fin (k0_t2_loop i).trips) (arg16 : BitVec 32) (arg17 : BitVec 32) (k0_hw8 : k0_chk8 i k0_t2 arg16 arg17), ∀ a, (k0_off47 i arg16 arg17) a + S1x1024x128.size a ≤ S1x16384x128.size a := fun i k0_t2 arg16 arg17 k0_hw8 => k0_hw8.2.2.2.2.2.2.2.2.2.2.2.2.2.2.2.2.2.2.2.1
theorem k0_off48_inb : ∀ (i : grid0.Coords) (k0_t2 : Fin (k0_t2_loop i).trips) (arg16 : BitVec 32) (arg17 : BitVec 32) (k0_hw8 : k0_chk8 i k0_t2 arg16 arg17), ∀ a, (k0_off48 i arg16 arg17) a + S1024x128.size a ≤ S16384x128.size a := fun i k0_t2 arg16 arg17 k0_hw8 => k0_hw8.2.2.2.2.2.2.2.2.2.2.2.2.2.2.2.2.2.2.2.2.1
theorem k0_off49_inb : ∀ (i : grid0.Coords) (k0_t2 : Fin (k0_t2_loop i).trips) (arg16 : BitVec 32) (arg17 : BitVec 32) (k0_hw8 : k0_chk8 i k0_t2 arg16 arg17), ∀ a, (k0_off49 i arg16 arg17) a + S1x512x1.size a ≤ S8x512x1.size a := fun i k0_t2 arg16 arg17 k0_hw8 => k0_hw8.2.2.2.2.2.2.2.2.2.2.2.2.2.2.2.2.2.2.2.2.2.1
theorem k0_mult26_dvd : ∀ (i : grid0.Coords) (k0_t2 : Fin (k0_t2_loop i).trips) (arg16 : BitVec 32) (arg17 : BitVec 32) (k0_hw8 : k0_chk8 i k0_t2 arg16 arg17), 1024 ∣ (k0_mult26 i arg16 arg17).toNat := fun i k0_t2 arg16 arg17 k0_hw8 => k0_hw8.2.2.2.2.2.2.2.2.2.2.2.2.2.2.2.2.2.2.2.2.2.2.1
theorem k0_off50_inb : ∀ (i : grid0.Coords) (k0_t2 : Fin (k0_t2_loop i).trips) (arg16 : BitVec 32) (arg17 : BitVec 32) (k0_hw8 : k0_chk8 i k0_t2 arg16 arg17), ∀ a, (k0_off50 i arg16 arg17) a + S1x1024x128.size a ≤ S1x16384x128.size a := fun i k0_t2 arg16 arg17 k0_hw8 => k0_hw8.2.2.2.2.2.2.2.2.2.2.2.2.2.2.2.2.2.2.2.2.2.2.2.1
theorem k0_off51_inb : ∀ (i : grid0.Coords) (k0_t2 : Fin (k0_t2_loop i).trips) (arg16 : BitVec 32) (arg17 : BitVec 32) (k0_hw8 : k0_chk8 i k0_t2 arg16 arg17), ∀ a, (k0_off51 i arg16 arg17) a + S1x512x256.size a ≤ S8x512x256.size a := fun i k0_t2 arg16 arg17 k0_hw8 => k0_hw8.2.2.2.2.2.2.2.2.2.2.2.2.2.2.2.2.2.2.2.2.2.2.2.2

def k0_cond1 (i : grid0.Coords) : BitVec 1 :=
  let arg1 : BitVec 32 := BitVec.ofNat 32 (i 1).val
  let c0_i32_46 : BitVec 32 := 0#32
  let v83 : BitVec 1 := Scalar.cmpi .sge arg1 c0_i32_46
  let v84 : BitVec 32 := Scalar.extui v83
  let c0_i32_47 : BitVec 32 := 0#32
  let v85 : BitVec 1 := Scalar.cmpi .ne v84 c0_i32_47
  v85

def k0_mult27 : BitVec 32 :=
  let c512_i32_53 : BitVec 32 := 512#32
  c512_i32_53
def k0_mult28 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c0_i32_52 : BitVec 32 := 0#32
  let v92 : BitVec 32 := Scalar.addi v82 c0_i32_52
  let c1024_i32_56 : BitVec 32 := 1024#32
  let v97 : BitVec 32 := Scalar.muli v92 c1024_i32_56
  v97
def k0_off52 (i : grid0.Coords) : Fin 3 → Nat :=
  let c0_57 : Index := 0#32
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c0_i32_52 : BitVec 32 := 0#32
  let v92 : BitVec 32 := Scalar.addi v82 c0_i32_52
  let c1024_i32_56 : BitVec 32 := 1024#32
  let v97 : BitVec 32 := Scalar.muli v92 c1024_i32_56
  let v98 : BitVec 32 := v97
  let v99 : Index := Scalar.indexCast v98
  let c0_58 : Index := 0#32
  ![0, v99.toNat, 0]
def k0_off53 (i : grid0.Coords) : Fin 2 → Nat :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c0_i32_52 : BitVec 32 := 0#32
  let v92 : BitVec 32 := Scalar.addi v82 c0_i32_52
  let c1024_i32_56 : BitVec 32 := 1024#32
  let v97 : BitVec 32 := Scalar.muli v92 c1024_i32_56
  let v98 : BitVec 32 := v97
  let v102 : Index := Scalar.indexCast v98
  let c0_59 : Index := 0#32
  ![v102.toNat, 0]
def k0_mult29 (v81_5 : BitVec 32) : BitVec 32 :=
  let c1024_i32_78 : BitVec 32 := 1024#32
  let v139 : BitVec 32 := Scalar.muli v81_5 c1024_i32_78
  v139

def k0_off54 (v81_5 : BitVec 32) : Fin 3 → Nat :=
  let c0_79 : Index := 0#32
  let c1024_i32_78 : BitVec 32 := 1024#32
  let v139 : BitVec 32 := Scalar.muli v81_5 c1024_i32_78
  let v140 : BitVec 32 := v139
  let v141 : Index := Scalar.indexCast v140
  let c0_80 : Index := 0#32
  ![0, v141.toNat, 0]

def k0_chk13 (i : grid0.Coords) (v81_5 : BitVec 32) : Prop :=
  (∀ (k0_h1 : k0_cond1 i = 1#1), 1024 ∣ (k0_mult29 v81_5).toNat) ∧
  (∀ (k0_h1 : k0_cond1 i = 1#1), ∀ a, (k0_off54 v81_5) a + S1x1024x128.size a ≤ S1x16384x128.size a)
theorem k0_mult29_dvd : ∀ (i : grid0.Coords) (v81_5 : BitVec 32) (k0_hw13 : k0_chk13 i v81_5), ∀ (k0_h1 : k0_cond1 i = 1#1), 1024 ∣ (k0_mult29 v81_5).toNat := fun i v81_5 k0_hw13 k0_h1 => k0_hw13.1 k0_h1
theorem k0_off54_inb : ∀ (i : grid0.Coords) (v81_5 : BitVec 32) (k0_hw13 : k0_chk13 i v81_5), ∀ (k0_h1 : k0_cond1 i = 1#1), ∀ a, (k0_off54 v81_5) a + S1x1024x128.size a ≤ S1x16384x128.size a := fun i v81_5 k0_hw13 k0_h1 => k0_hw13.2 k0_h1

def k0_off55 (i : grid0.Coords) (v81_4 : BitVec 32) : Fin 3 → Nat :=
  let arg1 : BitVec 32 := BitVec.ofNat 32 (i 1).val
  let c8_i32 : BitVec 32 := 8#32
  let v0 : BitVec 32 := Scalar.muli arg1 c8_i32
  let v138 : BitVec 32 := Scalar.subi v81_4 v0
  let v147 : Index := Scalar.indexCast v138
  let c0_84 : Index := 0#32
  let c0_85 : Index := 0#32
  ![v147.toNat, 0, 0]

def k0_chk14 (i : grid0.Coords) (v81_4 : BitVec 32) : Prop :=
  (∀ (k0_h1 : k0_cond1 i = 1#1), ∀ a, (k0_off55 i v81_4) a + S1x512x256.size a ≤ S8x512x256.size a)
theorem k0_off55_inb : ∀ (i : grid0.Coords) (v81_4 : BitVec 32) (k0_hw14 : k0_chk14 i v81_4), ∀ (k0_h1 : k0_cond1 i = 1#1), ∀ a, (k0_off55 i v81_4) a + S1x512x256.size a ≤ S8x512x256.size a := fun i v81_4 k0_hw14 k0_h1 => k0_hw14 k0_h1

def k0_mult30 : BitVec 32 :=
  let c1024_i32_92 : BitVec 32 := 1024#32
  c1024_i32_92
def k0_mult31 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c1_i32_91 : BitVec 32 := 1#32
  let v159 : BitVec 32 := Scalar.addi v82 c1_i32_91
  let c1024_i32_95 : BitVec 32 := 1024#32
  let v164 : BitVec 32 := Scalar.muli v159 c1024_i32_95
  v164
def k0_off56 (i : grid0.Coords) (c1_i32_91 : BitVec 32) : Fin 3 → Nat :=
  let c0_96 : Index := 0#32
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let v159 : BitVec 32 := Scalar.addi v82 c1_i32_91
  let c1024_i32_95 : BitVec 32 := 1024#32
  let v164 : BitVec 32 := Scalar.muli v159 c1024_i32_95
  let v165 : BitVec 32 := v164
  let v166 : Index := Scalar.indexCast v165
  let c0_97 : Index := 0#32
  ![0, v166.toNat, 0]
def k0_off57 (i : grid0.Coords) : Fin 2 → Nat :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c1_i32_91 : BitVec 32 := 1#32
  let v159 : BitVec 32 := Scalar.addi v82 c1_i32_91
  let c1024_i32_95 : BitVec 32 := 1024#32
  let v164 : BitVec 32 := Scalar.muli v159 c1024_i32_95
  let v165 : BitVec 32 := v164
  let v169 : Index := Scalar.indexCast v165
  let c0_98 : Index := 0#32
  ![v169.toNat, 0]
def k0_mult32 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c0_i32_116 : BitVec 32 := 0#32
  let v205 : BitVec 32 := Scalar.addi v82 c0_i32_116
  let c1024_i32_117 : BitVec 32 := 1024#32
  let v206 : BitVec 32 := Scalar.muli v205 c1024_i32_117
  v206
def k0_mult33 : BitVec 32 :=
  let c1536_i32 : BitVec 32 := 1536#32
  c1536_i32
def k0_mult34 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c1_i32_134 : BitVec 32 := 1#32
  let v229 : BitVec 32 := Scalar.addi v82 c1_i32_134
  let c1024_i32_137 : BitVec 32 := 1024#32
  let v234 : BitVec 32 := Scalar.muli v229 c1024_i32_137
  v234
def k0_off58 (i : grid0.Coords) (c1_i32_134 : BitVec 32) : Fin 3 → Nat :=
  let c0_138 : Index := 0#32
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let v229 : BitVec 32 := Scalar.addi v82 c1_i32_134
  let c1024_i32_137 : BitVec 32 := 1024#32
  let v234 : BitVec 32 := Scalar.muli v229 c1024_i32_137
  let v235 : BitVec 32 := v234
  let v236 : Index := Scalar.indexCast v235
  let c0_139 : Index := 0#32
  ![0, v236.toNat, 0]
def k0_off59 (i : grid0.Coords) : Fin 2 → Nat :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c1_i32_134 : BitVec 32 := 1#32
  let v229 : BitVec 32 := Scalar.addi v82 c1_i32_134
  let c1024_i32_137 : BitVec 32 := 1024#32
  let v234 : BitVec 32 := Scalar.muli v229 c1024_i32_137
  let v235 : BitVec 32 := v234
  let v239 : Index := Scalar.indexCast v235
  let c0_140 : Index := 0#32
  ![v239.toNat, 0]
def k0_mult35 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c0_i32_158 : BitVec 32 := 0#32
  let v275 : BitVec 32 := Scalar.addi v82 c0_i32_158
  let c1024_i32_159 : BitVec 32 := 1024#32
  let v276 : BitVec 32 := Scalar.muli v275 c1024_i32_159
  v276
def k0_cond2 (i : grid0.Coords) : BitVec 1 :=
  let arg1 : BitVec 32 := BitVec.ofNat 32 (i 1).val
  let c0_i32_48 : BitVec 32 := 0#32
  let v86 : BitVec 1 := Scalar.cmpi .sge arg1 c0_i32_48
  let v87 : BitVec 32 := Scalar.extui v86
  let c0_i32_49 : BitVec 32 := 0#32
  let v88 : BitVec 1 := Scalar.cmpi .ne v87 c0_i32_49
  v88

def k0_mult36 : BitVec 32 :=
  let c2048_i32 : BitVec 32 := 2048#32
  c2048_i32
def k0_mult37 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c2_i32_52 : BitVec 32 := 2#32
  let v92 : BitVec 32 := Scalar.addi v82 c2_i32_52
  let c1024_i32_55 : BitVec 32 := 1024#32
  let v97 : BitVec 32 := Scalar.muli v92 c1024_i32_55
  v97
def k0_off60 (i : grid0.Coords) (c2_i32_52 : BitVec 32) : Fin 3 → Nat :=
  let c0_56 : Index := 0#32
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let v92 : BitVec 32 := Scalar.addi v82 c2_i32_52
  let c1024_i32_55 : BitVec 32 := 1024#32
  let v97 : BitVec 32 := Scalar.muli v92 c1024_i32_55
  let v98 : BitVec 32 := v97
  let v99 : Index := Scalar.indexCast v98
  let c0_57 : Index := 0#32
  ![0, v99.toNat, 0]
def k0_off61 (i : grid0.Coords) (c2_i32_52 : BitVec 32) : Fin 2 → Nat :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let v92 : BitVec 32 := Scalar.addi v82 c2_i32_52
  let c1024_i32_55 : BitVec 32 := 1024#32
  let v97 : BitVec 32 := Scalar.muli v92 c1024_i32_55
  let v98 : BitVec 32 := v97
  let v102 : Index := Scalar.indexCast v98
  let c0_58 : Index := 0#32
  ![v102.toNat, 0]
def k0_mult38 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c1_i32_76 : BitVec 32 := 1#32
  let v138 : BitVec 32 := Scalar.addi v82 c1_i32_76
  let c1024_i32_77 : BitVec 32 := 1024#32
  let v139 : BitVec 32 := Scalar.muli v138 c1024_i32_77
  v139
def k0_mult39 : BitVec 32 :=
  let c2560_i32 : BitVec 32 := 2560#32
  c2560_i32
def k0_mult40 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c2_i32_92 : BitVec 32 := 2#32
  let v162 : BitVec 32 := Scalar.addi v82 c2_i32_92
  let c1024_i32_95 : BitVec 32 := 1024#32
  let v167 : BitVec 32 := Scalar.muli v162 c1024_i32_95
  v167
def k0_off62 (i : grid0.Coords) (c2_i32_92 : BitVec 32) : Fin 3 → Nat :=
  let c0_96 : Index := 0#32
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let v162 : BitVec 32 := Scalar.addi v82 c2_i32_92
  let c1024_i32_95 : BitVec 32 := 1024#32
  let v167 : BitVec 32 := Scalar.muli v162 c1024_i32_95
  let v168 : BitVec 32 := v167
  let v169 : Index := Scalar.indexCast v168
  let c0_97 : Index := 0#32
  ![0, v169.toNat, 0]
def k0_off63 (i : grid0.Coords) : Fin 2 → Nat :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c2_i32_92 : BitVec 32 := 2#32
  let v162 : BitVec 32 := Scalar.addi v82 c2_i32_92
  let c1024_i32_95 : BitVec 32 := 1024#32
  let v167 : BitVec 32 := Scalar.muli v162 c1024_i32_95
  let v168 : BitVec 32 := v167
  let v172 : Index := Scalar.indexCast v168
  let c0_98 : Index := 0#32
  ![v172.toNat, 0]
def k0_mult41 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c1_i32_116 : BitVec 32 := 1#32
  let v208 : BitVec 32 := Scalar.addi v82 c1_i32_116
  let c1024_i32_117 : BitVec 32 := 1024#32
  let v209 : BitVec 32 := Scalar.muli v208 c1024_i32_117
  v209
def k0_mult42 : BitVec 32 :=
  let c3072_i32 : BitVec 32 := 3072#32
  c3072_i32
def k0_mult43 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c3_i32 : BitVec 32 := 3#32
  let v232 : BitVec 32 := Scalar.addi v82 c3_i32
  let c1024_i32_135 : BitVec 32 := 1024#32
  let v237 : BitVec 32 := Scalar.muli v232 c1024_i32_135
  v237
def k0_mult44 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c2_i32_156 : BitVec 32 := 2#32
  let v278 : BitVec 32 := Scalar.addi v82 c2_i32_156
  let c1024_i32_157 : BitVec 32 := 1024#32
  let v279 : BitVec 32 := Scalar.muli v278 c1024_i32_157
  v279
def k0_cond3 (i : grid0.Coords) : BitVec 1 :=
  let arg1 : BitVec 32 := BitVec.ofNat 32 (i 1).val
  let c0_i32_50 : BitVec 32 := 0#32
  let v89 : BitVec 1 := Scalar.cmpi .sge arg1 c0_i32_50
  let v90 : BitVec 32 := Scalar.extui v89
  let c0_i32_51 : BitVec 32 := 0#32
  let v91 : BitVec 1 := Scalar.cmpi .ne v90 c0_i32_51
  v91

def k0_mult45 : BitVec 32 :=
  let c3584_i32 : BitVec 32 := 3584#32
  c3584_i32
def k0_mult46 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c3_i32 : BitVec 32 := 3#32
  let v92 : BitVec 32 := Scalar.addi v82 c3_i32
  let c1024_i32_54 : BitVec 32 := 1024#32
  let v97 : BitVec 32 := Scalar.muli v92 c1024_i32_54
  v97
def k0_off64 (i : grid0.Coords) (c3_i32 : BitVec 32) : Fin 3 → Nat :=
  let c0_55 : Index := 0#32
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let v92 : BitVec 32 := Scalar.addi v82 c3_i32
  let c1024_i32_54 : BitVec 32 := 1024#32
  let v97 : BitVec 32 := Scalar.muli v92 c1024_i32_54
  let v98 : BitVec 32 := v97
  let v99 : Index := Scalar.indexCast v98
  let c0_56 : Index := 0#32
  ![0, v99.toNat, 0]
def k0_off65 (i : grid0.Coords) : Fin 2 → Nat :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c3_i32 : BitVec 32 := 3#32
  let v92 : BitVec 32 := Scalar.addi v82 c3_i32
  let c1024_i32_54 : BitVec 32 := 1024#32
  let v97 : BitVec 32 := Scalar.muli v92 c1024_i32_54
  let v98 : BitVec 32 := v97
  let v102 : Index := Scalar.indexCast v98
  let c0_57 : Index := 0#32
  ![v102.toNat, 0]
def k0_mult47 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c2_i32_75 : BitVec 32 := 2#32
  let v138 : BitVec 32 := Scalar.addi v82 c2_i32_75
  let c1024_i32_76 : BitVec 32 := 1024#32
  let v139 : BitVec 32 := Scalar.muli v138 c1024_i32_76
  v139
def k0_mult48 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c3_i32_105 : BitVec 32 := 3#32
  let v190 : BitVec 32 := Scalar.addi v82 c3_i32_105
  let c1024_i32_106 : BitVec 32 := 1024#32
  let v191 : BitVec 32 := Scalar.muli v190 c1024_i32_106
  v191
def k0_off66 (i : grid0.Coords) : Fin 3 → Nat :=
  let c0_107 : Index := 0#32
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c3_i32_105 : BitVec 32 := 3#32
  let v190 : BitVec 32 := Scalar.addi v82 c3_i32_105
  let c1024_i32_106 : BitVec 32 := 1024#32
  let v191 : BitVec 32 := Scalar.muli v190 c1024_i32_106
  let v192 : BitVec 32 := v191
  let v193 : Index := Scalar.indexCast v192
  let c0_108 : Index := 0#32
  ![0, v193.toNat, 0]
def k0_mult49 (i : grid0.Coords) : BitVec 32 :=
  let arg1 : BitVec 32 := BitVec.ofNat 32 (i 1).val
  let c8_i32 : BitVec 32 := 8#32
  let v0 : BitVec 32 := Scalar.muli arg1 c8_i32
  let c2_i32_45 : BitVec 32 := 2#32
  let v82 : BitVec 32 := Scalar.divsi v0 c2_i32_45
  let c3_i32_122 : BitVec 32 := 3#32
  let v214 : BitVec 32 := Scalar.addi v82 c3_i32_122
  let c1024_i32_123 : BitVec 32 := 1024#32
  let v215 : BitVec 32 := Scalar.muli v214 c1024_i32_123
  v215
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1x16384x16x128 : Shape := ⟨4, ![1, 16384, 16, 128]⟩
abbrev S1x16384x16x64 : Shape := ⟨4, ![1, 16384, 16, 64]⟩
abbrev S1x16384x64 : Shape := ⟨3, ![1, 16384, 64]⟩
abbrev S_ : Shape := ⟨0, ![]⟩
abbrev S1x16x16384x16384 : Shape := ⟨4, ![1, 16, 16384, 16384]⟩
abbrev S1x16384x16384x16 : Shape := ⟨4, ![1, 16384, 16384, 16]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16x16384 : Shape := ⟨3, ![1, 16, 16384]⟩
abbrev S1x16x16384x1 : Shape := ⟨4, ![1, 16, 16384, 1]⟩
abbrev S1x16x128x16384 : Shape := ⟨4, ![1, 16, 128, 16384]⟩
abbrev S16384x2048 : Shape := ⟨2, ![16384, 2048]⟩

abbrev nBuf : Space → Nat
  | .hbm => 44
  | .vmem => 0
  | .smem => 0
  | _ => 0

abbrev bufTy : (tb : Table) → Fin (tcTables nBuf tb) → BufTy
  | .hbm, ⟨0, _⟩ => ⟨S1x16384x16x128, .f32⟩
  | .hbm, ⟨1, _⟩ => ⟨S1x16384x16x64, .f32⟩
  | .hbm, ⟨2, _⟩ => ⟨S1x16384x16x128, .f32⟩
  | .hbm, ⟨3, _⟩ => ⟨S1x16384x64, .f32⟩
  | .hbm, ⟨4, _⟩ => ⟨S1x16384x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x16x16384x16384, .f32⟩
  | .hbm, ⟨10, _⟩ => ⟨S1x16384x16384x16, .f32⟩
  | .hbm, ⟨11, _⟩ => ⟨S1x16x16384x16384, .f32⟩
  | .hbm, ⟨12, _⟩ => ⟨S1x16x16384x16384, .f32⟩
  | .hbm, ⟨13, _⟩ => ⟨S1x16x16384x16384, .f32⟩
  | .hbm, ⟨14, _⟩ => ⟨S1x16x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S_, .f32⟩
  | .hbm, ⟨22, _⟩ => ⟨S_, .f32⟩
  | .hbm, ⟨23, _⟩ => ⟨S1x16x16384x16384, .i1⟩
  | .hbm, ⟨24, _⟩ => ⟨S1x16x16384x16384, .f32⟩
  | .hbm, ⟨25, _⟩ => ⟨S1x16x16384x16384, .f32⟩
  | .hbm, ⟨26, _⟩ => ⟨S_, .f32⟩
  | .hbm, ⟨27, _⟩ => ⟨S1x16x16384, .f32⟩
  | .hbm, ⟨28, _⟩ => ⟨S_, .f32⟩
  | .hbm, ⟨29, _⟩ => ⟨S1x16x16384, .f32⟩
  | .hbm, ⟨30, _⟩ => ⟨S1x16x16384, .f32⟩
  | .hbm, ⟨31, _⟩ => ⟨S1x16x16384x1, .f32⟩
  | .hbm, ⟨32, _⟩ => ⟨S1x16x16384x16384, .f32⟩
  | .hbm, ⟨33, _⟩ => ⟨S1x16x16384x16384, .f32⟩
  | .hbm, ⟨34, _⟩ => ⟨S1x16x16384x16384, .f32⟩
  | .hbm, ⟨35, _⟩ => ⟨S_, .f32⟩
  | .hbm, ⟨36, _⟩ => ⟨S1x16x16384, .f32⟩
  | .hbm, ⟨37, _⟩ => ⟨S1x16x16384x1, .f32⟩
  | .hbm, ⟨38, _⟩ => ⟨S1x16x16384x16384, .f32⟩
  | .hbm, ⟨39, _⟩ => ⟨S1x16x16384x16384, .f32⟩
  | .hbm, ⟨40, _⟩ => ⟨S1x16x128x16384, .f32⟩
  | .hbm, ⟨41, _⟩ => ⟨S1x16384x16x128, .f32⟩
  | .hbm, ⟨42, _⟩ => ⟨S16384x2048, .f32⟩
  | .hbm, ⟨43, _⟩ => ⟨S16384x2048, .bf16⟩
  | _, _ => ⟨S1x16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel2.lean ====
abbrev S1x16384x2048 : Shape := ⟨3, ![1, 16384, 2048]⟩
abbrev S1x2048 : Shape := ⟨2, ![1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S16384x2048 : Shape := ⟨2, ![16384, 2048]⟩
abbrev S2048x11264 : Shape := ⟨2, ![2048, 11264]⟩
abbrev S3x11264 : Shape := ⟨2, ![3, 11264]⟩
abbrev S5632x2048 : Shape := ⟨2, ![5632, 2048]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S528x2048 : Shape := ⟨2, ![528, 2048]⟩
abbrev S528x512 : Shape := ⟨2, ![528, 512]⟩
abbrev S16 : Shape := ⟨1, ![16]⟩
abbrev S16x1 : Shape := ⟨2, ![16, 1]⟩
abbrev S128x2048 : Shape := ⟨2, ![128, 2048]⟩
abbrev S128 : Shape := ⟨1, ![128]⟩
abbrev S128x1 : Shape := ⟨2, ![128, 1]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 39
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x11264, .f32⟩
  | .hbm, ⟨3, _⟩ => ⟨S1x3x11264, .f32⟩
  | .hbm, ⟨4, _⟩ => ⟨S1x11264, .f32⟩
  | .hbm, ⟨5, _⟩ => ⟨S1x5632x2048, .f32⟩
  | .hbm, ⟨6, _⟩ => ⟨S1x2048, .f32⟩
  | .hbm, ⟨7, _⟩ => ⟨S16384x2048, .f32⟩
  | .hbm, ⟨8, _⟩ => ⟨S2048x11264, .f32⟩
  | .hbm, ⟨9, _⟩ => ⟨S2048x11264, .bf16⟩
  | .hbm, ⟨10, _⟩ => ⟨S3x11264, .f32⟩
  | .hbm, ⟨11, _⟩ => ⟨S5632x2048, .f32⟩
  | .hbm, ⟨12, _⟩ => ⟨S5632x2048, .bf16⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x2048, .bf16⟩
  | .local _ .vmem, ⟨18, _⟩ => ⟨S512x2048, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S3x512, .f32⟩
  | .local _ .vmem, ⟨24, _⟩ => ⟨S3x512, .f32⟩
  | .local _ .vmem, ⟨25, _⟩ => ⟨S3x512, .f32⟩
  | .local _ .vmem, ⟨26, _⟩ => ⟨S3x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S512x2048, .bf16⟩
  | .local _ .vmem, ⟨32, _⟩ => ⟨S512x2048, .bf16⟩
  | .local _ .vmem, ⟨33, _⟩ => ⟨S1x2048, .f32⟩
  | .local _ .vmem, ⟨34, _⟩ => ⟨S512x2048, .f32⟩
  | .local _ .vmem, ⟨35, _⟩ => ⟨S512x2048, .f32⟩
  | .local _ .vmem, ⟨36, _⟩ => ⟨S528x2048, .bf16⟩
  | .local _ .vmem, ⟨37, _⟩ => ⟨S528x512, .f32⟩
  | .local _ .vmem, ⟨38, _⟩ => ⟨S528x512, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg18_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c4_i32 : BitVec 32 := 4#32
  let v35 : BitVec 32 := Scalar.addi c0_i32_17 c4_i32
  let c1_i32 : BitVec 32 := 1#32
  ⟨c0_i32_17, v35, c1_i32⟩
def k0_mult1 (k0_t1 : Fin k0_t1_loop.trips) : BitVec 32 :=
  let c0_i32_17 : BitVec 32 := 0#32
  let c1_i32 : BitVec 32 := 1#32
  let arg24 : BitVec 32 := Scf.iv c0_i32_17 c1_i32 k0_t1
  let c128_i32 : BitVec 32 := 128#32
  let v38 : BitVec 32 := Scalar.muli arg24 c128_i32
  v38
def k0_off1 (k0_t1 : Fin k0_t1_loop.trips) : Fin 2 → Nat :=
  let c0_i32_17 : BitVec 32 := 0#32
  let c1_i32 : BitVec 32 := 1#32
  let arg24 : BitVec 32 := Scf.iv c0_i32_17 c1_i32 k0_t1
  let c128_i32 : BitVec 32 := 128#32
  let v38 : BitVec 32 := Scalar.muli arg24 c128_i32
  let v39 : BitVec 32 := v38
  let v40 : Index := Scalar.indexCast v39
  let c0_22 : Index := 0#32
  ![v40.toNat, 0]
def k0_off2 (k0_t1 : Fin k0_t1_loop.trips) : Fin 2 → Nat :=
  let c16_i32 : BitVec 32 := 16#32
  let c0_i32_17 : BitVec 32 := 0#32
  let c1_i32 : BitVec 32 := 1#32
  let arg24 : BitVec 32 := Scf.iv c0_i32_17 c1_i32 k0_t1
  let c128_i32 : BitVec 32 := 128#32
  let v38 : BitVec 32 := Scalar.muli arg24 c128_i32
  let v39 : BitVec 32 := v38
  let v56 : BitVec 32 := Scalar.addi c16_i32 v39
  let v57 : Index := Scalar.indexCast v56
  let c0_26 : Index := 0#32
  ![v57.toNat, 0]
def k0_cond2 (i : grid0.Coords) : BitVec 1 :=
  let arg1 : BitVec 32 := BitVec.ofNat 32 (i 1).val
  let c5_i32 : BitVec 32 := 5#32
  let v3 : BitVec 1 := Scalar.cmpi .slt arg1 c5_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c5_i32_2 : BitVec 32 := 5#32
  let v6 : BitVec 1 := Scalar.cmpi .eq arg1 c5_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c5_i32_4 : BitVec 32 := 5#32
  let v9 : BitVec 1 := Scalar.cmpi .eq arg1 c5_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c10_i32 : BitVec 32 := 10#32
  let v2 : BitVec 32 := Scalar.minsi v1 c10_i32
  let c11_i32 : BitVec 32 := 11#32
  let v3 : BitVec 32 := Scalar.addi c11_i32 v2
  let c0_i32_0 : BitVec 32 := 0#32
  let c0_i32_1 : BitVec 32 := 0#32
  ![c0_i32_0.toNat, v3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c10_i32 : BitVec 32 := 10#32
  let v2 : BitVec 32 := Scalar.minsi v1 c10_i32
  let c11_i32 : BitVec 32 := 11#32
  let v3 : BitVec 32 := Scalar.addi c11_i32 v2
  let c0_i32_0 : BitVec 32 := 0#32
  let c0_i32_1 : BitVec 32 := 0#32
  ![c0_i32_0.toNat, v3.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c10_i32 : BitVec 32 := 10#32
  let v2 : BitVec 32 := Scalar.minsi v1 c10_i32
  let c11_i32 : BitVec 32 := 11#32
  let v3 : BitVec 32 := Scalar.addi c11_i32 v2
  let c0_i32_0 : BitVec 32 := 0#32
  let c0_i32_1 : BitVec 32 := 0#32
  ![c0_i32_0.toNat, v3.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  ![c0_i32.toNat, v2.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c10_i32 : BitVec 32 := 10#32
  let v2 : BitVec 32 := Scalar.minsi v1 c10_i32
  let c11_i32 : BitVec 32 := 11#32
  let v3 : BitVec 32 := Scalar.addi c11_i32 v2
  let c0_i32 : BitVec 32 := 0#32
  let c0_i32_0 : BitVec 32 := 0#32
  ![c0_i32.toNat, v3.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  ![c0_i32.toNat, v2.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c10_i32 : BitVec 32 := 10#32
  let v2 : BitVec 32 := Scalar.minsi v1 c10_i32
  let c11_i32 : BitVec 32 := 11#32
  let v3 : BitVec 32 := Scalar.addi c11_i32 v2
  let c0_i32 : BitVec 32 := 0#32
  let c0_i32_0 : BitVec 32 := 0#32
  ![c0_i32.toNat, v3.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  ![c0_i32.toNat, v2.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c10_i32 : BitVec 32 := 10#32
  let v2 : BitVec 32 := Scalar.minsi v1 c10_i32
  let c11_i32 : BitVec 32 := 11#32
  let v3 : BitVec 32 := Scalar.addi c11_i32 v2
  let c0_i32 : BitVec 32 := 0#32
  let c0_i32_0 : BitVec 32 := 0#32
  ![c0_i32.toNat, v3.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S3x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S512x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Reference2Ideal.lean ====
abbrev S1x16384x2048 : Shape := ⟨3, ![1, 16384, 2048]⟩
abbrev S1x2048 : Shape := ⟨2, ![1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S2048x11264 : Shape := ⟨2, ![2048, 11264]⟩
abbrev S1x16384x11264 : Shape := ⟨3, ![1, 16384, 11264]⟩
abbrev S1x16386x11264 : Shape := ⟨3, ![1, 16386, 11264]⟩
abbrev S11264 : Shape := ⟨1, ![11264]⟩
abbrev S1x1x11264 : Shape := ⟨3, ![1, 1, 11264]⟩
abbrev S1x16384x5632 : Shape := ⟨3, ![1, 16384, 5632]⟩
abbrev S5632x2048 : Shape := ⟨2, ![5632, 2048]⟩
abbrev S16384x2048 : Shape := ⟨2, ![16384, 2048]⟩

abbrev nBuf : Space → Nat
  | .hbm => 94
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x11264, .f32⟩
  | .hbm, ⟨3, _⟩ => ⟨S1x3x11264, .f32⟩
  | .hbm, ⟨4, _⟩ => ⟨S1x11264, .f32⟩
  | .hbm, ⟨5, _⟩ => ⟨S1x5632x2048, .f32⟩
  | .hbm, ⟨6, _⟩ => ⟨S1x2048, .f32⟩
  | .hbm, ⟨7, _⟩ => ⟨S2048, .f32⟩
  | .hbm, ⟨8, _⟩ => ⟨S1x16384x2048, .f32⟩
  | .hbm, ⟨9, _⟩ => ⟨S_, .f32⟩
  | .hbm, ⟨10, _⟩ => ⟨S1x16384, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S1x16384x1, .f32⟩
  | .hbm, ⟨19, _⟩ => ⟨S1x16384x2048, .f32⟩
  | .hbm, ⟨20, _⟩ => ⟨S1x16384x2048, .f32⟩
  | .hbm, ⟨21, _⟩ => ⟨S1x1x2048, .f32⟩
  | .hbm, ⟨22, _⟩ => ⟨S1x16384x2048, .f32⟩
  | .hbm, ⟨23, _⟩ => ⟨S1x16384x2048, .f32⟩
  | .hbm, ⟨24, _⟩ => ⟨S2048x11264, .f32⟩
  | .hbm, ⟨25, _⟩ => ⟨S1x16384x11264, .f32⟩
  | .hbm, ⟨26, _⟩ => ⟨S_, .i32⟩
  | .hbm, ⟨27, _⟩ => ⟨S_, .f32⟩
  | .hbm, ⟨28, _⟩ => ⟨S1x16386x11264, .f32⟩
  | .hbm, ⟨29, _⟩ => ⟨S11264, .f32⟩
  | .hbm, ⟨30, _⟩ => ⟨S1x16384x11264, .f32⟩
  | .hbm, ⟨31, _⟩ => ⟨S1x1x11264, .f32⟩
  | .hbm, ⟨32, _⟩ => ⟨S11264, .f32⟩
  | .hbm, ⟨33, _⟩ => ⟨S1x1x11264, .f32⟩
  | .hbm, ⟨34, _⟩ => ⟨S1x16384x11264, .f32⟩
  | .hbm, ⟨35, _⟩ => ⟨S1x16384x11264, .f32⟩
  | .hbm, ⟨36, _⟩ => ⟨S1x1x11264, .f32⟩
  | .hbm, ⟨37, _⟩ => ⟨S1x16384x11264, .f32⟩
  | .hbm, ⟨38, _⟩ => ⟨S1x16384x11264, .f32⟩
  | .hbm, ⟨39, _⟩ => ⟨S1x16384x11264, .f32⟩
  | .hbm, ⟨40, _⟩ => ⟨S1x1x11264, .f32⟩
  | .hbm, ⟨41, _⟩ => ⟨S11264, .f32⟩
  | .hbm, ⟨42, _⟩ => ⟨S1x1x11264, .f32⟩
  | .hbm, ⟨43, _⟩ => ⟨S1x16384x11264, .f32⟩
  | .hbm, ⟨44, _⟩ => ⟨S1x16384x11264, .f32⟩
  | .hbm, ⟨45, _⟩ => ⟨S1x16384x11264, .f32⟩
  | .hbm, ⟨46, _⟩ => ⟨S1x16384x11264, .f32⟩
  | .hbm, ⟨47, _⟩ => ⟨S1x1x11264, .f32⟩
  | .hbm, ⟨48, _⟩ => ⟨S11264, .f32⟩
  | .hbm, ⟨49, _⟩ => ⟨S1x1x11264, .f32⟩
  | .hbm, ⟨50, _⟩ => ⟨S1x16384x11264, .f32⟩
  | .hbm, ⟨51, _⟩ => ⟨S1x16384x11264, .f32⟩
  | .hbm, ⟨52, _⟩ => ⟨S1x16384x11264, .f32⟩
  | .hbm, ⟨53, _⟩ => ⟨S1x16384x5632, .f32⟩
  | .hbm, ⟨54, _⟩ => ⟨S1x16384x5632, .f32⟩
  | .hbm, ⟨55, _⟩ => ⟨S1x16384x5632, .f32⟩
  | .hbm, ⟨56, _⟩ => ⟨S1x16384x5632, .f32⟩
  | .hbm, ⟨57, _⟩ => ⟨S_, .f32⟩
  | .hbm, ⟨58, _⟩ => ⟨S1x16384x5632, .f32⟩
  | .hbm, ⟨59, _⟩ => ⟨S1x16384x5632, .f32⟩
  | .hbm, ⟨60, _⟩ => ⟨S1x16384x5632, .f32⟩
  | .hbm, ⟨61, _⟩ => ⟨S_, .f32⟩
  | .hbm, ⟨62, _⟩ => ⟨S1x16384x5632, .f32⟩
  | .hbm, ⟨63, _⟩ => ⟨S1x16384x5632, .f32⟩
  | .hbm, ⟨64, _⟩ => ⟨S1x16384x5632, .f32⟩
  | .hbm, ⟨65, _⟩ => ⟨S_, .f32⟩
  | .hbm, ⟨66, _⟩ => ⟨S1x16384x5632, .f32⟩
  | .hbm, ⟨67, _⟩ => ⟨S1x16384x5632, .f32⟩
  | .hbm, ⟨68, _⟩ => ⟨S_, .f32⟩
  | .hbm, ⟨69, _⟩ => ⟨S1x16384x5632, .f32⟩
  | .hbm, ⟨70, _⟩ => ⟨S1x16384x5632, .f32⟩
  | .hbm, ⟨71, _⟩ => ⟨S1x16384x5632, .f32⟩
  | .hbm, ⟨72, _⟩ => ⟨S1x16384x5632, .f32⟩
  | .hbm, ⟨73, _⟩ => ⟨S5632x2048, .f32⟩
  | .hbm, ⟨74, _⟩ => ⟨S1x16384x2048, .f32⟩
  | .hbm, ⟨75, _⟩ => ⟨S2048, .f32⟩
  | .hbm, ⟨76, _⟩ => ⟨S1x16384x2048, .f32⟩
  | .hbm, ⟨77, _⟩ => ⟨S_, .f32⟩
  | .hbm, ⟨78, _⟩ => ⟨S1x16384, .f32⟩
  | .hbm, ⟨79, _⟩ => ⟨S1x16384x1, .f32⟩
  | .hbm, ⟨80, _⟩ => ⟨S_, .f32⟩
  | .hbm, ⟨81, _⟩ => ⟨S1x16384x1, .f32⟩
  | .hbm, ⟨82, _⟩ => ⟨S1x16384x1, .f32⟩
  | .hbm, ⟨83, _⟩ => ⟨S_, .f32⟩
  | .hbm, ⟨84, _⟩ => ⟨S1x16384x1, .f32⟩
  | .hbm, ⟨85, _⟩ => ⟨S1x16384x1, .f32⟩
  | .hbm, ⟨86, _⟩ => ⟨S1x16384x1, .f32⟩
  | .hbm, ⟨87, _⟩ => ⟨S1x16384x2048, .f32⟩
  | .hbm, ⟨88, _⟩ => ⟨S1x16384x2048, .f32⟩
  | .hbm, ⟨89, _⟩ => ⟨S1x1x2048, .f32⟩
  | .hbm, ⟨90, _⟩ => ⟨S1x16384x2048, .f32⟩
  | .hbm, ⟨91, _⟩ => ⟨S1x16384x2048, .f32⟩
  | .hbm, ⟨92, _⟩ => ⟨S1x16384x2048, .f32⟩
  | .hbm, ⟨93, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_2 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Kernel3.lean ====
abbrev S1x16384x2048 : Shape := ⟨3, ![1, 16384, 2048]⟩
abbrev S1x2048 : Shape := ⟨2, ![1, 2048]⟩
abbrev S1x2048x6208 : Shape := ⟨3, ![1, 2048, 6208]⟩
abbrev S2048x6208 : Shape := ⟨2, ![2048, 6208]⟩
abbrev S6208x2048 : Shape := ⟨2, ![6208, 2048]⟩
abbrev S1088x2048 : Shape := ⟨2, ![1088, 2048]⟩
abbrev S64x2048 : Shape := ⟨2, ![64, 2048]⟩
abbrev S32x2048 : Shape := ⟨2, ![32, 2048]⟩
abbrev S_ : Shape := ⟨0, ![]⟩
abbrev S128x2048 : Shape := ⟨2, ![128, 2048]⟩
abbrev S1280x2048 : Shape := ⟨2, ![1280, 2048]⟩
abbrev S16384x2048 : Shape := ⟨2, ![16384, 2048]⟩
abbrev S4096x2048 : Shape := ⟨2, ![4096, 2048]⟩
abbrev S1024x2048 : Shape := ⟨2, ![1024, 2048]⟩
abbrev S16384x4096 : Shape := ⟨2, ![16384, 4096]⟩
abbrev S16384x1024 : Shape := ⟨2, ![16384, 1024]⟩
abbrev S16384x1280 : Shape := ⟨2, ![16384, 1280]⟩
abbrev S1024x1024 : Shape := ⟨2, ![1024, 1024]⟩
abbrev S1024x1280 : Shape := ⟨2, ![1024, 1280]⟩
abbrev S128 : Shape := ⟨1, ![128]⟩
abbrev S128x1 : Shape := ⟨2, ![128, 1]⟩

abbrev nBuf : Space → Nat
  | .hbm => 19
  | .vmem => 14
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x6208, .f32⟩
  | .hbm, ⟨3, _⟩ => ⟨S2048x6208, .f32⟩
  | .hbm, ⟨4, _⟩ => ⟨S6208x2048, .f32⟩
  | .hbm, ⟨5, _⟩ => ⟨S6208x2048, .bf16⟩
  | .hbm, ⟨6, _⟩ => ⟨S1088x2048, .bf16⟩
  | .hbm, ⟨7, _⟩ => ⟨S64x2048, .bf16⟩
  | .hbm, ⟨8, _⟩ => ⟨S32x2048, .bf16⟩
  | .hbm, ⟨9, _⟩ => ⟨S32x2048, .bf16⟩
  | .hbm, ⟨10, _⟩ => ⟨S_, .bf16⟩
  | .hbm, ⟨11, _⟩ => ⟨S128x2048, .bf16⟩
  | .hbm, ⟨12, _⟩ => ⟨S1280x2048, .bf16⟩
  | .hbm, ⟨13, _⟩ => ⟨S16384x2048, .f32⟩
  | .hbm, ⟨14, _⟩ => ⟨S4096x2048, .bf16⟩
  | .hbm, ⟨15, _⟩ => ⟨S1024x2048, .bf16⟩
  | .hbm, ⟨16, _⟩ => ⟨S16384x4096, .bf16⟩
  | .hbm, ⟨17, _⟩ => ⟨S16384x1024, .bf16⟩
  | .hbm, ⟨18, _⟩ => ⟨S16384x1280, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1280x2048, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1280, .bf16⟩
  | .local _ .vmem, ⟨12, _⟩ => ⟨S1024x1280, .bf16⟩
  | .local _ .vmem, ⟨13, _⟩ => ⟨S1024x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v13 : BitVec 32 := Scalar.addi c0_i32_6 c8_i32
  let c1_i32 : BitVec 32 := 1#32
  ⟨c0_i32_6, v13, c1_i32⟩
def k0_mult1 (k0_t1 : Fin k0_t1_loop.trips) : BitVec 32 :=
  let c0_i32_6 : BitVec 32 := 0#32
  let c1_i32 : BitVec 32 := 1#32
  let arg11 : BitVec 32 := Scf.iv c0_i32_6 c1_i32 k0_t1
  let c128_i32 : BitVec 32 := 128#32
  let v14 : BitVec 32 := Scalar.muli arg11 c128_i32
  v14
def k0_off1 (k0_t1 : Fin k0_t1_loop.trips) : Fin 2 → Nat :=
  let c0_i32_6 : BitVec 32 := 0#32
  let c1_i32 : BitVec 32 := 1#32
  let arg11 : BitVec 32 := Scf.iv c0_i32_6 c1_i32 k0_t1
  let c128_i32 : BitVec 32 := 128#32
  let v14 : BitVec 32 := Scalar.muli arg11 c128_i32
  let v15 : BitVec 32 := v14
  let v16 : Index := Scalar.indexCast v15
  let c0_8 : Index := 0#32
  ![v16.toNat, 0]
def k0_off2 (k0_t1 : Fin k0_t1_loop.trips) : Fin 2 → Nat :=
  let c0_i32_11 : BitVec 32 := 0#32
  let c0_i32_6 : BitVec 32 := 0#32
  let c1_i32 : BitVec 32 := 1#32
  let arg11 : BitVec 32 := Scf.iv c0_i32_6 c1_i32 k0_t1
  let c128_i32 : BitVec 32 := 128#32
  let v14 : BitVec 32 := Scalar.muli arg11 c128_i32
  let v15 : BitVec 32 := v14
  let v32 : BitVec 32 := Scalar.addi c0_i32_11 v15
  let v33 : Index := Scalar.indexCast v32
  let c0_12 : Index := 0#32
  ![v33.toNat, 0]
def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .eq arg1 c4_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c5_i32 : BitVec 32 := 5#32
  let v9 : BitVec 1 := Scalar.cmpi .eq arg1 c5_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1280x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S1x16384x2048 : Shape := ⟨3, ![1, 16384, 2048]⟩
abbrev S1x2048 : Shape := ⟨2, ![1, 2048]⟩
abbrev S1x2048x6208 : Shape := ⟨3, ![1, 2048, 6208]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S2048x6208 : Shape := ⟨2, ![2048, 6208]⟩
abbrev S1x16384x6208 : Shape := ⟨3, ![1, 16384, 6208]⟩
abbrev S16384x6208 : Shape := ⟨2, ![16384, 6208]⟩
abbrev S16384x64 : Shape := ⟨2, ![16384, 64]⟩
abbrev S16384x1088 : Shape := ⟨2, ![16384, 1088]⟩
abbrev S16384x32 : Shape := ⟨2, ![16384, 32]⟩
abbrev S16384x128 : Shape := ⟨2, ![16384, 128]⟩
abbrev S16384x1280 : Shape := ⟨2, ![16384, 1280]⟩
abbrev S16384x4096 : Shape := ⟨2, ![16384, 4096]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x6208, .f32⟩
  | .hbm, ⟨3, _⟩ => ⟨S2048, .f32⟩
  | .hbm, ⟨4, _⟩ => ⟨S1x16384x2048, .f32⟩
  | .hbm, ⟨5, _⟩ => ⟨S_, .f32⟩
  | .hbm, ⟨6, _⟩ => ⟨S1x16384, .f32⟩
  | .hbm, ⟨7, _⟩ => ⟨S1x16384x1, .f32⟩
  | .hbm, ⟨8, _⟩ => ⟨S_, .f32⟩
  | .hbm, ⟨9, _⟩ => ⟨S1x16384x1, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S1x16384x1, .f32⟩
  | .hbm, ⟨15, _⟩ => ⟨S1x16384x2048, .f32⟩
  | .hbm, ⟨16, _⟩ => ⟨S1x16384x2048, .f32⟩
  | .hbm, ⟨17, _⟩ => ⟨S1x1x2048, .f32⟩
  | .hbm, ⟨18, _⟩ => ⟨S1x16384x2048, .f32⟩
  | .hbm, ⟨19, _⟩ => ⟨S1x16384x2048, .f32⟩
  | .hbm, ⟨20, _⟩ => ⟨S2048x6208, .f32⟩
  | .hbm, ⟨21, _⟩ => ⟨S1x16384x6208, .f32⟩
  | .hbm, ⟨22, _⟩ => ⟨S16384x6208, .f32⟩
  | .hbm, ⟨23, _⟩ => ⟨S16384x64, .f32⟩
  | .hbm, ⟨24, _⟩ => ⟨S16384x1088, .f32⟩
  | .hbm, ⟨25, _⟩ => ⟨S16384x32, .f32⟩
  | .hbm, ⟨26, _⟩ => ⟨S16384x32, .f32⟩
  | .hbm, ⟨27, _⟩ => ⟨S_, .f32⟩
  | .hbm, ⟨28, _⟩ => ⟨S16384x128, .f32⟩
  | .hbm, ⟨29, _⟩ => ⟨S16384x1280, .f32⟩
  | .hbm, ⟨30, _⟩ => ⟨S16384x4096, .f32⟩
  | .hbm, ⟨31, _⟩ => ⟨S16384x4096, .bf16⟩
  | .hbm, ⟨32, _⟩ => ⟨S16384x1024, .f32⟩
  | .hbm, ⟨33, _⟩ => ⟨S16384x1024, .bf16⟩
  | .hbm, ⟨34, _⟩ => ⟨S16384x1280, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Stage.lean ====
/-
  The three stages of one tick of the attention kernel, as programs over any memrefs, offsets and values, and what each
  leaves in the buffers it touches. A buffer is held at its contents (`owns`): a load reads a window of them, a store
  puts a window over them.
-/
module

public import proofs.«01_k».proof.Proof.Gen.KernelIdeal.Skeleton
public import proofs.«01_k».proof.Proof.Gen.KernelIdeal.Loops
public import Idealize.ShloMosaic.Lib.VecWindow
public import Idealize.ShloMosaic.Lib.Tactic

@[expose] public section

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- The kernel's programs. -/
abbrev Pr (F : FTy → Type) (α : Type) : Type 1 := Prog (TpuEff nD τ sig (Elt F) Λ₀ .tc) α

/-- The weakest precondition of the body's programs on core `c`. -/
abbrev WP (c : Dev nD) {α : Type} (p : Pr F α) (Q : α → sProp 𝕄) : sProp 𝕄 :=
  wp frame (wpE defs₀ 𝒱₀ (c : Thread nD τ) none) Set.univ p Q

/-- Core `c` holds the buffer at the contents `X`. -/
abbrev own (c : Dev nD) {S : Shape} {e : EltTy} (a : Memref sig .tc .vmem S e) (X : S.Idx → Elt F e) : sProp 𝕄 :=
  owns (c : Thread nD τ) a fullShare X

section Steps

variable (c : Dev nD) {α : Type} {S : Shape} {e : EltTy} {a : Memref sig .tc .vmem S e}

/-- What a buffer holds is what its memref reads of some contents. -/
theorem own_elim {X : S.Idx → Elt F e} {R : sProp 𝕄}
    (h : ∀ f : a.view.ty.Contents (Elt F), a.view.read (Elt F) f = X → (a.view.loc (c : Thread nD τ) ↦[a.view.set]{fullShare} f : sProp 𝕄) ⊢ R) :
    own c a X ⊢ R := by
  iintro H
  ihave H' := (show (own c a X) ⊢ iprop(∃ f : a.view.ty.Contents (Elt F), ⌜a.view.read (Elt F) f = X⌝ ∗ (a.view.loc (c : Thread nD τ) ↦[a.view.set]{fullShare} f)) from .rfl) $$ H
  icases H' with ⟨%f, %hf, H⟩
  iapply (h f hf) $$ H

theorem wand_left {A B R Y : sProp 𝕄} (h : A ⊢ B) : iprop((A -∗ R) -∗ Y) ⊢ iprop((B -∗ R) -∗ Y) := by
  iintro H K
  iapply H
  iintro HA
  iapply K
  iapply h $$ HA

/-- A load reads a window of the contents. -/
theorem wp_ld {Q : α → sProp 𝕄} {off size : Fin S.rank → ℕ} {inb : ∀ x, off x + size x ≤ S.size x}
    {hl : a.view.LoadsAt (Rect.unit (s := S) off size inb).toLoadRect}
    {k : ((Rect.unit (s := S) off size inb).toLoadRect.shape.Idx → Elt F e) → Pr F α} (X : S.Idx → Elt F e) :
    (own c a X) ⊢ iprop((own c a X -∗ WP c (k (VecWindow.window X off size inb)) Q)
      -∗ WP c (.op (.load a (Rect.unit (s := S) off size inb).toLoadRect hl) k) Q) := by
  refine own_elim c fun f hf => ?_
  subst hf
  exact (wp_load (defs := defs₀) 𝒱₀ (c : Thread nD τ) none Set.univ (m := a) (hl := hl) (k := k) (f := f) (q := fullShare) (View.setOn_subset_set _ _)).trans
    (wand_left (owns_intro (c : Thread nD τ) a fullShare f))

/-- A store puts its payload over a window of the contents. -/
theorem wp_st {Q : α → sProp 𝕄} {off size : Fin S.rank → ℕ} {inb : ∀ x, off x + size x ≤ S.size x}
    {w : (Rect.unit (s := S) off size inb).shape.Idx → Elt F e}
    {hx : (a.access (Rect.unit (s := S) off size inb)).Stores Finset.univ} {hm : Finset.univ = Finset.univ ∨ ∀ x, (Rect.unit (s := S) off size inb).stride x = 1}
    {k : PUnit → Pr F α} (X : S.Idx → Elt F e) :
    (own c a X) ⊢ iprop((own c a (VecWindow.put X off size w) -∗ WP c (k ⟨⟩) Q)
      -∗ WP c (.op (.store a (Rect.unit (s := S) off size inb) w Finset.univ hx hm) k) Q) := by
  refine own_elim c fun f hf => ?_
  subst hf
  have e : a.view.read (Elt F) ((a.access (Rect.unit (s := S) off size inb)).write (Elt F) f w Finset.univ)
      = VecWindow.put (a.view.read (Elt F) f) off size w :=
    View.read_writes_cons_put (Val := Elt F) a.view f inb w [] rfl
  rw [← e]
  exact (wp_store (defs := defs₀) 𝒱₀ (c : Thread nD τ) none Set.univ (m := a) (hx := hx) (hm := hm) (k := k) (f := f) (S := a.view.set) (Memref.setOn_access_subset _ _ _)).trans
    (wand_left (owns_intro (c : Thread nD τ) a fullShare _))

end Steps

end Cert.Proof.Flash
-- ==== Proof.Tick.lean ====
/-
  One tick of the attention kernel on the contents of its buffers: the query rows, the key and value tiles and the rows
  of the running maximum and accumulator are named by their numbers, and each stage's result is a function of them.
-/
module

public import proofs.«01_k».proof.Proof.Stage

@[expose] public section

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Offsets -/

abbrev offQ (ρ : Fin 8) : Fin 3 → ℕ := ![0, 512 * ρ.val, 0]
abbrev offK (j : Fin 16) : Fin 3 → ℕ := ![0, 1024 * j.val, 0]
abbrev offP (j : Fin 16) : Fin 2 → ℕ := ![1024 * j.val, 0]
abbrev offR (ρ : Fin 8) : Fin 3 → ℕ := ![ρ.val, 0, 0]

theorem inbQ (ρ : Fin 8) : ∀ a, offQ ρ a + S1x512x256.size a ≤ S1x4096x256.size a := by
  have := ρ.isLt; intro a; fin_cases a
  · show 0 + 1 ≤ 1; omega
  · show 512 * ρ.val + 512 ≤ 4096; omega
  · show 0 + 256 ≤ 256; omega
theorem inbK (j : Fin 16) : ∀ a, offK j a + S1x1024x128.size a ≤ S1x16384x128.size a := by
  have := j.isLt; intro a; fin_cases a
  · show 0 + 1 ≤ 1; omega
  · show 1024 * j.val + 1024 ≤ 16384; omega
  · show 0 + 128 ≤ 128; omega
theorem inbP (j : Fin 16) : ∀ a, offP j a + S1024x128.size a ≤ S16384x128.size a := by
  have := j.isLt; intro a; fin_cases a
  · show 1024 * j.val + 1024 ≤ 16384; omega
  · show 0 + 128 ≤ 128; omega
theorem inbKh (j : Fin 16) : ∀ a, offK j a + S1x512x128.size a ≤ S1x16384x128.size a := by
  have := j.isLt; intro a; fin_cases a
  · show 0 + 1 ≤ 1; omega
  · show 1024 * j.val + 512 ≤ 16384; omega
  · show 0 + 128 ≤ 128; omega
theorem inbPh (j : Fin 16) : ∀ a, offP j a + S512x128.size a ≤ S16384x128.size a := by
  have := j.isLt; intro a; fin_cases a
  · show 1024 * j.val + 512 ≤ 16384; omega
  · show 0 + 128 ≤ 128; omega
theorem inbM (ρ : Fin 8) : ∀ a, offR ρ a + S1x512x1.size a ≤ S8x512x1.size a := by
  have := ρ.isLt; intro a; fin_cases a
  · show ρ.val + 1 ≤ 8; omega
  · show 0 + 512 ≤ 512; omega
  · show 0 + 1 ≤ 1; omega
theorem inbC (ρ : Fin 8) : ∀ a, offR ρ a + S1x512x256.size a ≤ S8x512x256.size a := by
  have := ρ.isLt; intro a; fin_cases a
  · show ρ.val + 1 ≤ 8; omega
  · show 0 + 512 ≤ 512; omega
  · show 0 + 256 ≤ 256; omega

/-! ## The windows of the operands and of the two row arrays -/

/-- Query tile `ρ` of the band. -/
def winQ (X : S1x4096x256.Idx → Elt F .bf16) (ρ : Fin 8) : Vec F S1x512x256 .bf16 :=
  VecWindow.window X (offQ ρ) S1x512x256.size (inbQ ρ)
/-- Tile `j` of the keys or of the values. -/
def winK (X : S1x16384x128.Idx → Elt F .bf16) (j : Fin 16) : Vec F S1x1024x128 .bf16 :=
  VecWindow.window X (offK j) S1x1024x128.size (inbK j)
/-- Tile `j` of the rotary keys. -/
def winP (X : S16384x128.Idx → Elt F .bf16) (j : Fin 16) : Vec F S1024x128 .bf16 :=
  VecWindow.window X (offP j) S1024x128.size (inbP j)
/-- The first halves of these tiles. -/
def winKh (X : S1x16384x128.Idx → Elt F .bf16) (j : Fin 16) : Vec F S1x512x128 .bf16 :=
  VecWindow.window X (offK j) S1x512x128.size (inbKh j)
def winPh (X : S16384x128.Idx → Elt F .bf16) (j : Fin 16) : Vec F S512x128 .bf16 :=
  VecWindow.window X (offP j) S512x128.size (inbPh j)
/-- Row `ρ` of the running maxima. -/
def rowM (X : S8x512x1.Idx → Elt F .f32) (ρ : Fin 8) : Vec F S1x512x1 .f32 :=
  VecWindow.window X (offR ρ) S1x512x1.size (inbM ρ)
/-- Row `ρ` of the accumulators. -/
def rowC (X : S8x512x256.Idx → Elt F .f32) (ρ : Fin 8) : Vec F S1x512x256 .f32 :=
  VecWindow.window X (offR ρ) S1x512x256.size (inbC ρ)
def putM (X : S8x512x1.Idx → Elt F .f32) (ρ : Fin 8) (w : Vec F S1x512x1 .f32) : S8x512x1.Idx → Elt F .f32 :=
  VecWindow.put X (offR ρ) S1x512x1.size w
def putC (X : S8x512x256.Idx → Elt F .f32) (ρ : Fin 8) (w : Vec F S1x512x256 .f32) : S8x512x256.Idx → Elt F .f32 :=
  VecWindow.put X (offR ρ) S1x512x256.size w

/-! ## What the stages compute of a whole tile -/

/-- The scores. -/
def fS (q : Vec F S1x512x256 .bf16) (k : Vec F S1x1024x128 .bf16) (p : Vec F S1024x128 .bf16) : Vec F S512x1024 .f32 := k0_pay9 q k p
/-- The new maxima, the factor and the weights. -/
def fM (s : Vec F S512x1024 .f32) (m : Vec F S1x512x1 .f32) : Vec F S1x512x1 .f32 := k0_pay15 (k0_pay11 s m)
def fA (s : Vec F S512x1024 .f32) (m : Vec F S1x512x1 .f32) : Vec F S512x1 .f32 := k0_pay12 s m
def fP (s : Vec F S512x1024 .f32) (m : Vec F S1x512x1 .f32) : Vec F S512x1024 .bf16 := k0_pay14 (k0_pay13 s m)
/-- The new accumulator. -/
def fC (v : Vec F S1x1024x128 .bf16) (a : Vec F S512x1 .f32) (o : Vec F S1x512x256 .f32) (p : Vec F S512x1024 .bf16) : Vec F S1x512x256 .f32 :=
  k0_pay16 v a o p

/-! ## Halves, and the output's tiles -/

theorem inbH : ∀ a, (![0, 0] : Fin 2 → ℕ) a + S512x512.size a ≤ S512x1024.size a := by
  intro a; fin_cases a
  · show 0 + 512 ≤ 512; omega
  · show 0 + 512 ≤ 1024; omega
/-- The first half of a score or weight buffer. -/
def halfS {e : EltTy} (X : S512x1024.Idx → Elt F e) : Vec F S512x512 e := VecWindow.window X ![0, 0] S512x512.size inbH
def putS {e : EltTy} (X : S512x1024.Idx → Elt F e) (w : Vec F S512x512 e) : S512x1024.Idx → Elt F e := VecWindow.put X ![0, 0] S512x512.size w

theorem halfS_putS {e : EltTy} (X : S512x1024.Idx → Elt F e) (w : Vec F S512x512 e) : halfS (putS X w) = w :=
  VecWindow.window_put_same _ _ _ _ _

abbrev offO (r : Fin 8) : Fin 2 → ℕ := ![512 * r.val, 0]
theorem inbO (r : Fin 8) : ∀ a, offO r a + S512x128.size a ≤ S4096x128.size a := by
  have := r.isLt; intro a; fin_cases a
  · show 512 * r.val + 512 ≤ 4096; omega
  · show 0 + 128 ≤ 128; omega
/-- Tile `r` of the output block. -/
def winO (X : S4096x128.Idx → Elt F .bf16) (r : Fin 8) : Vec F S512x128 .bf16 := VecWindow.window X (offO r) S512x128.size (inbO r)
def putO (X : S4096x128.Idx → Elt F .bf16) (r : Fin 8) (w : Vec F S512x128 .bf16) : S4096x128.Idx → Elt F .bf16 := VecWindow.put X (offO r) S512x128.size w

theorem rowM_putM (X : S8x512x1.Idx → Elt F .f32) (r r' : Fin 8) (w : Vec F S1x512x1 .f32) :
    rowM (putM X r w) r' = if r = r' then w else rowM X r' := by
  split
  · subst_vars; exact VecWindow.window_put_same _ _ _ _ _
  · rename_i hne
    have : r.val ≠ r'.val := fun h => hne (Fin.ext h)
    refine VecWindow.window_put_of_disjoint (s := S8x512x1) X (offR r) S1x512x1.size (offR r') S1x512x1.size (inbM r') w (0 : Fin 3) ?_
    show r'.val + 1 ≤ r.val ∨ r.val + 1 ≤ r'.val
    omega

theorem rowC_putC (X : S8x512x256.Idx → Elt F .f32) (r r' : Fin 8) (w : Vec F S1x512x256 .f32) :
    rowC (putC X r w) r' = if r = r' then w else rowC X r' := by
  split
  · subst_vars; exact VecWindow.window_put_same _ _ _ _ _
  · rename_i hne
    have : r.val ≠ r'.val := fun h => hne (Fin.ext h)
    refine VecWindow.window_put_of_disjoint (s := S8x512x256) X (offR r) S1x512x256.size (offR r') S1x512x256.size (inbC r') w (0 : Fin 3) ?_
    show r'.val + 1 ≤ r.val ∨ r.val + 1 ≤ r'.val
    omega

/-! ## The stages at whole tiles -/

theorem put_full {α : Type} {S : Shape} (X : S.Idx → α) {off : Fin S.rank → ℕ} (h : ∀ a, off a = 0) (w : S.Idx → α) :
    VecWindow.put X off S.size w = w := by
  funext y
  unfold VecWindow.put
  rw [dif_pos (fun a => by rw [h a]; exact ⟨Nat.zero_le _, by have := (y a).isLt; omega⟩)]
  exact congrArg w (funext fun a => Fin.ext (by show (y a).val - off a = (y a).val; rw [h a]; omega))

theorem window_full {α : Type} {S : Shape} (X : S.Idx → α) {off : Fin S.rank → ℕ} (inb) :
    VecWindow.window X off S.size inb = X := by
  funext y
  exact congrArg X (funext fun a => Fin.ext (by
    show off a + 1 * (y a).val = (y a).val
    have := inb a; omega))

theorem off2_zero : ∀ a : Fin 2, (![0, 0] : Fin 2 → ℕ) a = 0 := by decide
theorem off3_zero : ∀ a : Fin 3, (![0, 0, 0] : Fin 3 → ℕ) a = 0 := by decide

section Ticks

variable (c : Dev nD) {α : Type}

/-- A load of a whole buffer reads its contents. -/
theorem ldF {S : Shape} {e : EltTy} {a : Memref sig .tc .vmem S e} {Q : α → sProp 𝕄} {off : Fin S.rank → ℕ} {inb : ∀ x, off x + S.size x ≤ S.size x}
    {hl : a.view.LoadsAt (Rect.unit (s := S) off S.size inb).toLoadRect} {k : (S.Idx → Elt F e) → Pr F α} (X : S.Idx → Elt F e) :
    (own c a X) ⊢ iprop((own c a X -∗ WP c (k X) Q) -∗ WP c (.op (.load a (Rect.unit (s := S) off S.size inb).toLoadRect hl) k) Q) := by
  have h := wp_ld (Q := Q) (hl := hl) (k := k) c X
  rw [window_full X] at h
  exact h

/-- A store of a whole buffer leaves its payload. -/
theorem stF {S : Shape} {e : EltTy} {a : Memref sig .tc .vmem S e} {Q : α → sProp 𝕄} {off : Fin S.rank → ℕ} {inb : ∀ x, off x + S.size x ≤ S.size x}
    {w : (Rect.unit (s := S) off S.size inb).shape.Idx → Elt F e} {hx : (a.access (Rect.unit (s := S) off S.size inb)).Stores Finset.univ}
    {hm : Finset.univ = Finset.univ ∨ ∀ x, (Rect.unit (s := S) off S.size inb).stride x = 1}
    {k : PUnit → Pr F α} (X w' : S.Idx → Elt F e) (hw : w = w') :
    (own c a X) ⊢ iprop((own c a w' -∗ WP c (k ⟨⟩) Q)
      -∗ WP c (.op (.store a (Rect.unit (s := S) off S.size inb) w Finset.univ hx hm) k) Q) := by
  have e : VecWindow.put X off S.size w = w' := (put_full X (fun x => by have := inb x; omega) w).trans hw
  exact (wp_st (Q := Q) (hx := hx) (hm := hm) (k := k) (w := w) c X).trans (wand_left (by rw [e]))

/-- A load of a query tile. -/
theorem ldQ {a : Memref sig .tc .vmem S1x4096x256 .bf16} {Q : α → sProp 𝕄} {off inb hl} {k : Vec F S1x512x256 .bf16 → Pr F α} (X : S1x4096x256.Idx → Elt F .bf16)
    (r : Fin 8) (h : off = offQ r) :
    (own c a X) ⊢ iprop((own c a X -∗ WP c (k (winQ X r)) Q)
      -∗ WP c (.op (.load a (Rect.unit (s := S1x4096x256) off S1x512x256.size inb).toLoadRect hl) k) Q) := by
  subst h
  exact wp_ld (Q := Q) (hl := hl) (k := k) c X

/-- A load of a key or value tile. -/
theorem ldK {a : Memref sig .tc .vmem S1x16384x128 .bf16} {Q : α → sProp 𝕄} {off inb hl} {k : Vec F S1x1024x128 .bf16 → Pr F α} (X : S1x16384x128.Idx → Elt F .bf16)
    (r : Fin 16) (h : off = offK r) :
    (own c a X) ⊢ iprop((own c a X -∗ WP c (k (winK X r)) Q)
      -∗ WP c (.op (.load a (Rect.unit (s := S1x16384x128) off S1x1024x128.size inb).toLoadRect hl) k) Q) := by
  subst h
  exact wp_ld (Q := Q) (hl := hl) (k := k) c X

/-- A load of a tile of the rotary keys. -/
theorem ldP {a : Memref sig .tc .vmem S16384x128 .bf16} {Q : α → sProp 𝕄} {off inb hl} {k : Vec F S1024x128 .bf16 → Pr F α} (X : S16384x128.Idx → Elt F .bf16)
    (r : Fin 16) (h : off = offP r) :
    (own c a X) ⊢ iprop((own c a X -∗ WP c (k (winP X r)) Q)
      -∗ WP c (.op (.load a (Rect.unit (s := S16384x128) off S1024x128.size inb).toLoadRect hl) k) Q) := by
  subst h
  exact wp_ld (Q := Q) (hl := hl) (k := k) c X

/-- A load of the first half of a key or value tile. -/
theorem ldKh {a : Memref sig .tc .vmem S1x16384x128 .bf16} {Q : α → sProp 𝕄} {off inb hl} {k : Vec F S1x512x128 .bf16 → Pr F α} (X : S1x16384x128.Idx → Elt F .bf16)
    (r : Fin 16) (h : off = offK r) :
    (own c a X) ⊢ iprop((own c a X -∗ WP c (k (winKh X r)) Q)
      -∗ WP c (.op (.load a (Rect.unit (s := S1x16384x128) off S1x512x128.size inb).toLoadRect hl) k) Q) := by
  subst h
  exact wp_ld (Q := Q) (hl := hl) (k := k) c X

/-- A load of the first half of a tile of the rotary keys. -/
theorem ldPh {a : Memref sig .tc .vmem S16384x128 .bf16} {Q : α → sProp 𝕄} {off inb hl} {k : Vec F S512x128 .bf16 → Pr F α} (X : S16384x128.Idx → Elt F .bf16)
    (r : Fin 16) (h : off = offP r) :
    (own c a X) ⊢ iprop((own c a X -∗ WP c (k (winPh X r)) Q)
      -∗ WP c (.op (.load a (Rect.unit (s := S16384x128) off S512x128.size inb).toLoadRect hl) k) Q) := by
  subst h
  exact wp_ld (Q := Q) (hl := hl) (k := k) c X

/-- A load of a row of the maxima. -/
theorem ldM {a : Memref sig .tc .vmem S8x512x1 .f32} {Q : α → sProp 𝕄} {off inb hl} {k : Vec F S1x512x1 .f32 → Pr F α} (X : S8x512x1.Idx → Elt F .f32)
    (r : Fin 8) (h : off = offR r) :
    (own c a X) ⊢ iprop((own c a X -∗ WP c (k (rowM X r)) Q)
      -∗ WP c (.op (.load a (Rect.unit (s := S8x512x1) off S1x512x1.size inb).toLoadRect hl) k) Q) := by
  subst h
  exact wp_ld (Q := Q) (hl := hl) (k := k) c X

/-- A load of a row of the accumulators. -/
theorem ldC {a : Memref sig .tc .vmem S8x512x256 .f32} {Q : α → sProp 𝕄} {off inb hl} {k : Vec F S1x512x256 .f32 → Pr F α} (X : S8x512x256.Idx → Elt F .f32)
    (r : Fin 8) (h : off = offR r) :
    (own c a X) ⊢ iprop((own c a X -∗ WP c (k (rowC X r)) Q)
      -∗ WP c (.op (.load a (Rect.unit (s := S8x512x256) off S1x512x256.size inb).toLoadRect hl) k) Q) := by
  subst h
  exact wp_ld (Q := Q) (hl := hl) (k := k) c X

/-- A store of a row of the maxima. -/
theorem stM {a : Memref sig .tc .vmem S8x512x1 .f32} {Q : α → sProp 𝕄} {off inb} {w : Vec F S1x512x1 .f32} {hx hm} {k : PUnit → Pr F α} (X : S8x512x1.Idx → Elt F .f32)
    (r : Fin 8) (h : off = offR r) (w' : Vec F S1x512x1 .f32) (hw : w = w') :
    (own c a X) ⊢ iprop((own c a (putM X r w') -∗ WP c (k ⟨⟩) Q)
      -∗ WP c (.op (.store a (Rect.unit (s := S8x512x1) off S1x512x1.size inb) w Finset.univ hx hm) k) Q) := by
  subst h hw
  exact wp_st (Q := Q) (hx := hx) (hm := hm) (k := k) (w := w) c X

/-- A store of a row of the accumulators. -/
theorem stC {a : Memref sig .tc .vmem S8x512x256 .f32} {Q : α → sProp 𝕄} {off inb} {w : Vec F S1x512x256 .f32} {hx hm} {k : PUnit → Pr F α} (X : S8x512x256.Idx → Elt F .f32)
    (r : Fin 8) (h : off = offR r) (w' : Vec F S1x512x256 .f32) (hw : w = w') :
    (own c a X) ⊢ iprop((own c a (putC X r w') -∗ WP c (k ⟨⟩) Q)
      -∗ WP c (.op (.store a (Rect.unit (s := S8x512x256) off S1x512x256.size inb) w Finset.univ hx hm) k) Q) := by
  subst h hw
  exact wp_st (Q := Q) (hx := hx) (hm := hm) (k := k) (w := w) c X

/-- A load of the first half of a score or weight buffer. -/
theorem ldS {e : EltTy} {a : Memref sig .tc .vmem S512x1024 e} {Q : α → sProp 𝕄} {inb hl} {k : Vec F S512x512 e → Pr F α} (X : S512x1024.Idx → Elt F e)
    (x : Vec F S512x512 e) (hx : halfS X = x) :
    (own c a X) ⊢ iprop((own c a X -∗ WP c (k x) Q)
      -∗ WP c (.op (.load a (Rect.unit (s := S512x1024) ![0, 0] S512x512.size inb).toLoadRect hl) k) Q) := by
  subst hx
  exact wp_ld (Q := Q) (hl := hl) (k := k) c X

/-- A store of the first half of a score or weight buffer. -/
theorem stS {e : EltTy} {a : Memref sig .tc .vmem S512x1024 e} {Q : α → sProp 𝕄} {inb}
    {w : (Rect.unit (s := S512x1024) ![0, 0] S512x512.size inb).shape.Idx → Elt F e} {hx hm} {k : PUnit → Pr F α} (X : S512x1024.Idx → Elt F e)
    (w' : Vec F S512x512 e) (hw : w = w') :
    (own c a X) ⊢ iprop((own c a (putS X w') -∗ WP c (k ⟨⟩) Q)
      -∗ WP c (.op (.store a (Rect.unit (s := S512x1024) ![0, 0] S512x512.size inb) w Finset.univ hx hm) k) Q) := by
  subst hw
  exact wp_st (Q := Q) (hx := hx) (hm := hm) (k := k) (w := w) c X

/-- A load of a row of the maxima, read through earlier stores. -/
theorem ldM' {a : Memref sig .tc .vmem S8x512x1 .f32} {Q : α → sProp 𝕄} {off inb hl} {k : Vec F S1x512x1 .f32 → Pr F α} (X : S8x512x1.Idx → Elt F .f32)
    (r : Fin 8) (h : off = offR r) (x : Vec F S1x512x1 .f32) (hx : rowM X r = x) :
    (own c a X) ⊢ iprop((own c a X -∗ WP c (k x) Q)
      -∗ WP c (.op (.load a (Rect.unit (s := S8x512x1) off S1x512x1.size inb).toLoadRect hl) k) Q) := by
  subst hx
  exact ldM c X r h

/-- A load of a row of the accumulators, read through earlier stores. -/
theorem ldC' {a : Memref sig .tc .vmem S8x512x256 .f32} {Q : α → sProp 𝕄} {off inb hl} {k : Vec F S1x512x256 .f32 → Pr F α} (X : S8x512x256.Idx → Elt F .f32)
    (r : Fin 8) (h : off = offR r) (x : Vec F S1x512x256 .f32) (hx : rowC X r = x) :
    (own c a X) ⊢ iprop((own c a X -∗ WP c (k x) Q)
      -∗ WP c (.op (.load a (Rect.unit (s := S8x512x256) off S1x512x256.size inb).toLoadRect hl) k) Q) := by
  subst hx
  exact ldC c X r h

/-- A load of a tile of the output. -/
theorem ldO {a : Memref sig .tc .vmem S4096x128 .bf16} {Q : α → sProp 𝕄} {off inb hl} {k : Vec F S512x128 .bf16 → Pr F α} (X : S4096x128.Idx → Elt F .bf16)
    (r : Fin 8) (h : off = offO r) :
    (own c a X) ⊢ iprop((own c a X -∗ WP c (k (winO X r)) Q)
      -∗ WP c (.op (.load a (Rect.unit (s := S4096x128) off S512x128.size inb).toLoadRect hl) k) Q) := by
  subst h
  exact wp_ld (Q := Q) (hl := hl) (k := k) c X

/-- A store of a tile of the output. -/
theorem stO {a : Memref sig .tc .vmem S4096x128 .bf16} {Q : α → sProp 𝕄} {off inb} {w : Vec F S512x128 .bf16} {hx hm} {k : PUnit → Pr F α} (X : S4096x128.Idx → Elt F .bf16)
    (r : Fin 8) (h : off = offO r) (w' : Vec F S512x128 .bf16) (hw : w = w') :
    (own c a X) ⊢ iprop((own c a (putO X r w') -∗ WP c (k ⟨⟩) Q)
      -∗ WP c (.op (.store a (Rect.unit (s := S4096x128) off S512x128.size inb) w Finset.univ hx hm) k) Q) := by
  subst h hw
  exact wp_st (Q := Q) (hx := hx) (hm := hm) (k := k) (w := w) c X

end Ticks

end Cert.Proof.Flash
-- ==== Proof.Trip.lean ====
/-
  One trip of the attention kernel's loop: four ticks on the contents of the buffers, at the pairs that the words the loop
  carries stand for.
-/
module

public import proofs.«01_k».proof.Proof.Tick

@[expose] public section

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A row of the band and a key tile. -/
abbrev Pair : Type := Fin 8 × Fin 16

/-- The operands: the band's queries, the head's keys, the rotary keys and the head's values. -/
structure Ins (F : FTy → Type) where
  q : S1x4096x256.Idx → Elt F .bf16
  k : S1x16384x128.Idx → Elt F .bf16
  p : S16384x128.Idx → Elt F .bf16
  v : S1x16384x128.Idx → Elt F .bf16

/-- What the kernel's own buffers hold: two score tiles, two weight tiles, two factors, the maxima and the accumulators. -/
structure St (F : FTy → Type) where
  s0 : S512x1024.Idx → Elt F .f32
  s1 : S512x1024.Idx → Elt F .f32
  p0 : S512x1024.Idx → Elt F .bf16
  p1 : S512x1024.Idx → Elt F .bf16
  a0 : S512x1.Idx → Elt F .f32
  a1 : S512x1.Idx → Elt F .f32
  m : S8x512x1.Idx → Elt F .f32
  acc : S8x512x256.Idx → Elt F .f32

/-- The scores of a pair. -/
def scores (X : Ins F) (A : Pair) : S512x1024.Idx → Elt F .f32 := fS (winQ X.q A.1) (winK X.k A.2) (winP X.p A.2)

/-- An even tick: the scores of `A`, the maxima and weights of `B`, the accumulation of `C`. -/
def tickE (X : Ins F) (A B C : Pair) (σ : St F) : St F where
  s0 := σ.s0
  s1 := scores X A
  p0 := fP σ.s0 (rowM σ.m B.1)
  p1 := σ.p1
  a0 := fA σ.s0 (rowM σ.m B.1)
  a1 := σ.a1
  m := putM σ.m B.1 (fM σ.s0 (rowM σ.m B.1))
  acc := putC σ.acc C.1 (fC (winK X.v C.2) σ.a1 (rowC σ.acc C.1) σ.p1)

/-- An odd tick: the same with the two halves of every buffer exchanged. -/
def tickO (X : Ins F) (A B C : Pair) (σ : St F) : St F where
  s0 := scores X A
  s1 := σ.s1
  p0 := σ.p0
  p1 := fP σ.s1 (rowM σ.m B.1)
  a0 := σ.a0
  a1 := fA σ.s1 (rowM σ.m B.1)
  m := putM σ.m B.1 (fM σ.s1 (rowM σ.m B.1))
  acc := putC σ.acc C.1 (fC (winK X.v C.2) σ.a0 (rowC σ.acc C.1) σ.p0)

/-- The pair after a pair, as the kernel computes it in words. -/
def adv (v0 v1 : BitVec 32) (x : BitVec 32 × BitVec 32) : BitVec 32 × BitVec 32 :=
  (Scalar.select (Scalar.cmpi .eq x.2 (Scalar.divsi x.1 2#32)) (Scalar.addi x.1 1#32)
      (Scalar.select (Scalar.cmpi .slt (Scalar.addi x.2 1#32) (Scalar.divsi x.1 2#32)) x.1
        (Scalar.select (Scalar.cmpi .slt (Scalar.addi x.1 1#32) v1) (Scalar.addi x.1 1#32) v0)),
    Scalar.select (Scalar.cmpi .eq x.2 (Scalar.divsi x.1 2#32)) (Scalar.divsi (Scalar.addi x.1 1#32) 2#32)
      (Scalar.select (Scalar.cmpi .slt (Scalar.addi x.2 1#32) (Scalar.divsi x.1 2#32)) (Scalar.addi x.2 1#32)
        (Scalar.select (Scalar.cmpi .slt (Scalar.addi x.1 1#32) v1) 0#32 (Scalar.divsi v0 2#32))))

/-- The checks and offsets of a trip whose pairs are `x`, `y`, `A0` … `A3`: `x` and `y` are the two before `A0`. -/
structure TripOk (i : grid0.Coords) (a16 a17 a18 a19 a20 a21 : BitVec 32) (x y A0 A1 A2 A3 : Pair) : Prop where
  h6 : k0_chk6 a19
  h5 : k0_chk5 i a20
  h4 : k0_chk4 a21
  h3 : k0_chk3 i a18
  h2 : k0_chk2 i a16 a17
  h1 : k0_chk1 i a16
  e4 : k0_off4 i a16 = offQ A0.1
  e5 : k0_off5 a17 = offK A0.2
  e6 : k0_off6 a17 = offP A0.2
  e7 : k0_off7 i a18 = offR y.1
  e8 : k0_off8 a21 = offK x.2
  e9 : k0_off9 i a20 = offR x.1
  e10 : k0_off10 i a16 a17 = offQ A1.1
  e11 : k0_off11 i a16 a17 = offK A1.2
  e12 : k0_off12 i a16 a17 = offP A1.2
  e13 : k0_off13 i a16 = offR A0.1
  e14 : k0_off14 a19 = offK y.2
  e15 : k0_off15 i a18 = offR y.1
  e16 : k0_off16 i a16 a17 = offQ A2.1
  e17 : k0_off17 i a16 a17 = offK A2.2
  e18 : k0_off18 i a16 a17 = offP A2.2
  e19 : k0_off19 i a16 a17 = offR A1.1
  e20 : k0_off20 a17 = offK A0.2
  e21 : k0_off21 i a16 = offR A0.1
  e22 : k0_off22 i a16 a17 = offQ A3.1
  e23 : k0_off23 i a16 a17 = offK A3.2
  e24 : k0_off24 i a16 a17 = offP A3.2
  e25 : k0_off25 i a16 a17 = offR A2.1
  e26 : k0_off26 i a16 a17 = offK A1.2
  e27 : k0_off27 i a16 a17 = offR A1.1

/-- The four ticks of a trip. -/
def trip (X : Ins F) (x y A0 A1 A2 A3 : Pair) (σ : St F) : St F :=
  tickO X A3 A2 A1 (tickE X A2 A1 A0 (tickO X A1 A0 y (tickE X A0 y x σ)))

section
variable (c : Dev nD)
variable (arg2 : Memref sig .tc .vmem S1x4096x256 .bf16) (harg2 : arg2.IsWhole) (arg3 : Memref sig .tc .vmem S1x16384x128 .bf16) (harg3 : arg3.IsWhole) (arg4 : Memref sig .tc .vmem S16384x128 .bf16) (harg4 : arg4.IsWhole) (arg5 : Memref sig .tc .vmem S1x16384x128 .bf16) (harg5 : arg5.IsWhole) (arg6 : Memref sig .tc .vmem S4096x128 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S8x512x1 .f32) (harg13 : arg13.IsWhole) (arg14 : Memref sig .tc .vmem S8x512x256 .f32) (harg14 : arg14.IsWhole)

theorem wp_ret_of {α : Type} {x : α} {Q : α → sProp 𝕄} : Q x ⊢ WP c (.ret x : Pr F α) Q := by
  unfold WP
  rw [wp_ret]
  iintro H
  imodintro
  iexact H

/-- Core `c` holds the operands at `X` and the kernel's buffers at `σ`. -/
def Res (X : Ins F) (σ : St F) : sProp 𝕄 :=
  iprop((own c arg2 X.q ∗ own c arg3 X.k ∗ own c arg4 X.p ∗ own c arg5 X.v) ∗ own c arg7 σ.s0 ∗ own c arg8 σ.s1
    ∗ own c arg9 σ.p0 ∗ own c arg10 σ.p1 ∗ own c arg11 σ.a0 ∗ own c arg12 σ.a1 ∗ own c arg13 σ.m ∗ own c arg14 σ.acc)

set_option maxHeartbeats 400000 in
/-- A trip leaves the four ticks' results, and carries the next pairs' words. -/
theorem wp_trip (i : grid0.Coords) (v0 v1 : BitVec 32) (t : Fin (k0_t1_loop i).trips) (a16 a17 a18 a19 a20 a21 : BitVec 32)
    (x y A0 A1 A2 A3 : Pair) (ok : TripOk i a16 a17 a18 a19 a20 a21 x y A0 A1 A2 A3) (X : Ins F) (σ : St F) {Q : _ → sProp 𝕄} :
    iprop(Res c arg2 arg3 arg4 arg5 arg7 arg8 arg9 arg10 arg11 arg12 arg13 arg14 X σ)
      ⊢ iprop((Res c arg2 arg3 arg4 arg5 arg7 arg8 arg9 arg10 arg11 arg12 arg13 arg14 X (trip X x y A0 A1 A2 A3 σ)
          -∗ Q ((adv v0 v1 (adv v0 v1 (adv v0 v1 (adv v0 v1 (a16, a17))))).1, (adv v0 v1 (adv v0 v1 (adv v0 v1 (adv v0 v1 (a16, a17))))).2,
            (adv v0 v1 (adv v0 v1 (adv v0 v1 (a16, a17)))).1, (adv v0 v1 (adv v0 v1 (adv v0 v1 (a16, a17)))).2,
            (adv v0 v1 (adv v0 v1 (a16, a17))).1, (adv v0 v1 (adv v0 v1 (a16, a17))).2))
        -∗ WP c (k0_t1_body i arg2 harg2 arg3 harg3 arg4 harg4 arg5 harg5 arg6 harg6 arg7 harg7 arg8 harg8 arg9 harg9 arg10 harg10 arg11 harg11 arg12 harg12 arg13 harg13 arg14 harg14 v0 v1 t (a16, a17, a18, a19, a20, a21)) Q) := by
  dsimp only [k0_t1_body]
  simp only [k0_part1_eq_skeleton, k0_part2_eq_skeleton, k0_part3_eq_skeleton, k0_part4_eq_skeleton, k0_part5_eq_skeleton,
    k0_part6_eq_skeleton, k0_part7_eq_skeleton, k0_part8_eq_skeleton]
  dsimp only [k0_part1_skel, k0_part2_skel, k0_part3_skel, k0_part4_skel, k0_part5_skel, k0_part6_skel, k0_part7_skel, k0_part8_skel]
  simp only [Prog.bind_assoc, Prog.bind_lift, Prog.bind_op, Prog.pure_eq_ret, Prog.bind_ret]
  dsimp only [adv]
  unfold Res
  iintro ⟨⟨H2, H3, H4, H5⟩, H7, H8, H9, H10, H11, H12, H13, H14⟩ HQ
  iapply (wp_assume (defs := defs₀) 𝒱₀ (c : Thread nD τ) none Set.univ ok.h6)
  iapply (wp_assume (defs := defs₀) 𝒱₀ (c : Thread nD τ) none Set.univ ok.h5)
  iapply (wp_assume (defs := defs₀) 𝒱₀ (c : Thread nD τ) none Set.univ ok.h4)
  iapply (wp_assume (defs := defs₀) 𝒱₀ (c : Thread nD τ) none Set.univ ok.h3)
  iapply (wp_assume (defs := defs₀) 𝒱₀ (c : Thread nD τ) none Set.univ ok.h2)
  iapply (wp_assume (defs := defs₀) 𝒱₀ (c : Thread nD τ) none Set.univ ok.h1)
  iapply (ldQ c _ A0.1 ok.e4) $$ H2; iintro H2
  iapply (ldK c _ A0.2 ok.e5) $$ H3; iintro H3
  iapply (ldP c _ A0.2 ok.e6) $$ H4; iintro H4
  iapply (ldF c _) $$ H8; iintro H8
  iapply (stF c _ (scores X A0) rfl) $$ H8; iintro H8
  iapply (ldF c _) $$ H7; iintro H7
  iapply (ldM c _ y.1 ok.e7) $$ H13; iintro H13
  iapply (ldF c _) $$ H11; iintro H11
  iapply (stF c _ (fA _ _) rfl) $$ H11; iintro H11
  iapply (ldF c _) $$ H9; iintro H9
  iapply (stF c _ (fP _ _) rfl) $$ H9; iintro H9
  iapply (ldM c _ y.1 ok.e7) $$ H13; iintro H13
  iapply (stM c _ y.1 ok.e7 (fM _ _) rfl) $$ H13; iintro H13
  iapply (ldK c _ x.2 ok.e8) $$ H5; iintro H5
  iapply (ldF c _) $$ H12; iintro H12
  iapply (ldC c _ x.1 ok.e9) $$ H14; iintro H14
  iapply (ldF c _) $$ H10; iintro H10
  iapply (ldC c _ x.1 ok.e9) $$ H14; iintro H14
  iapply (stC c _ x.1 ok.e9 (fC _ _ _ _) rfl) $$ H14; iintro H14
  iapply (ldQ c _ A1.1 ok.e10) $$ H2; iintro H2
  iapply (ldK c _ A1.2 ok.e11) $$ H3; iintro H3
  iapply (ldP c _ A1.2 ok.e12) $$ H4; iintro H4
  iapply (ldF c _) $$ H7; iintro H7
  iapply (stF c _ (scores X A1) rfl) $$ H7; iintro H7
  iapply (ldF c _) $$ H8; iintro H8
  iapply (ldM c _ A0.1 ok.e13) $$ H13; iintro H13
  iapply (ldF c _) $$ H12; iintro H12
  iapply (stF c _ (fA _ _) rfl) $$ H12; iintro H12
  iapply (ldF c _) $$ H10; iintro H10
  iapply (stF c _ (fP _ _) rfl) $$ H10; iintro H10
  iapply (ldM c _ A0.1 ok.e13) $$ H13; iintro H13
  iapply (stM c _ A0.1 ok.e13 (fM _ _) rfl) $$ H13; iintro H13
  iapply (ldK c _ y.2 ok.e14) $$ H5; iintro H5
  iapply (ldF c _) $$ H11; iintro H11
  iapply (ldC c _ y.1 ok.e15) $$ H14; iintro H14
  iapply (ldF c _) $$ H9; iintro H9
  iapply (ldC c _ y.1 ok.e15) $$ H14; iintro H14
  iapply (stC c _ y.1 ok.e15 (fC _ _ _ _) rfl) $$ H14; iintro H14
  iapply (ldQ c _ A2.1 ok.e16) $$ H2; iintro H2
  iapply (ldK c _ A2.2 ok.e17) $$ H3; iintro H3
  iapply (ldP c _ A2.2 ok.e18) $$ H4; iintro H4
  iapply (ldF c _) $$ H8; iintro H8
  iapply (stF c _ (scores X A2) rfl) $$ H8; iintro H8
  iapply (ldF c _) $$ H7; iintro H7
  iapply (ldM c _ A1.1 ok.e19) $$ H13; iintro H13
  iapply (ldF c _) $$ H11; iintro H11
  iapply (stF c _ (fA _ _) rfl) $$ H11; iintro H11
  iapply (ldF c _) $$ H9; iintro H9
  iapply (stF c _ (fP _ _) rfl) $$ H9; iintro H9
  iapply (ldM c _ A1.1 ok.e19) $$ H13; iintro H13
  iapply (stM c _ A1.1 ok.e19 (fM _ _) rfl) $$ H13; iintro H13
  iapply (ldK c _ A0.2 ok.e20) $$ H5; iintro H5
  iapply (ldF c _) $$ H12; iintro H12
  iapply (ldC c _ A0.1 ok.e21) $$ H14; iintro H14
  iapply (ldF c _) $$ H10; iintro H10
  iapply (ldC c _ A0.1 ok.e21) $$ H14; iintro H14
  iapply (stC c _ A0.1 ok.e21 (fC _ _ _ _) rfl) $$ H14; iintro H14
  iapply (ldQ c _ A3.1 ok.e22) $$ H2; iintro H2
  iapply (ldK c _ A3.2 ok.e23) $$ H3; iintro H3
  iapply (ldP c _ A3.2 ok.e24) $$ H4; iintro H4
  iapply (ldF c _) $$ H7; iintro H7
  iapply (stF c _ (scores X A3) rfl) $$ H7; iintro H7
  iapply (ldF c _) $$ H8; iintro H8
  iapply (ldM c _ A2.1 ok.e25) $$ H13; iintro H13
  iapply (ldF c _) $$ H12; iintro H12
  iapply (stF c _ (fA _ _) rfl) $$ H12; iintro H12
  iapply (ldF c _) $$ H10; iintro H10
  iapply (stF c _ (fP _ _) rfl) $$ H10; iintro H10
  iapply (ldM c _ A2.1 ok.e25) $$ H13; iintro H13
  iapply (stM c _ A2.1 ok.e25 (fM _ _) rfl) $$ H13; iintro H13
  iapply (ldK c _ A1.2 ok.e26) $$ H5; iintro H5
  iapply (ldF c _) $$ H11; iintro H11
  iapply (ldC c _ A1.1 ok.e27) $$ H14; iintro H14
  iapply (ldF c _) $$ H9; iintro H9
  iapply (ldC c _ A1.1 ok.e27) $$ H14; iintro H14
  iapply (stC c _ A1.1 ok.e27 (fC _ _ _ _) rfl) $$ H14; iintro H14
  iapply (wp_ret_of c)
  iapply HQ
  dsimp only [trip, tickE, tickO]
  iframe

end

end Cert.Proof.Flash
-- ==== Proof.Words.lean ====
/-
  The words of the attention kernel's loop: the pairs of a query row and a key tile that the loop visits, and what the
  checks and the offsets are at the words that stand for them.
-/
module

public import proofs.«01_k».proof.Proof.Trip

@[expose] public section

noncomputable section

namespace Cert.Proof.Flash

open Cert.KernelIdeal Cert.KernelIdeal.Gen
open Idealize.ShloMosaic Idealize.ShloMosaic.TcCoe

/-- The pair after a pair in band `b`: the next key tile of the row; after a row's last plain tile the next row; after the
    last row the first tile on the edge. -/
def next (b : Fin 4) (x : Pair) : Pair :=
  if x.2.val = 4 * b.val + x.1.val / 2 then (x.1 + 1, Fin.ofNat 16 (4 * b.val + (x.1.val + 1) / 2))
  else if x.2.val + 1 < 4 * b.val + x.1.val / 2 then (x.1, x.2 + 1)
  else if x.1.val < 7 then (x.1 + 1, 0) else (0, Fin.ofNat 16 (4 * b.val))

/-- The first pair: the first row that has a plain tile. -/
def first (b : Fin 4) : Pair := (if b = 0 then 2 else 0, 0)

/-- The `n`-th pair of band `b`. -/
def pair (b : Fin 4) : ℕ → Pair
  | 0 => first b
  | n + 1 => next b (pair b n)

/-- The words of a pair. -/
def word (b : Fin 4) (x : Pair) : BitVec 32 × BitVec 32 := (BitVec.ofNat 32 (8 * b.val + x.1.val), BitVec.ofNat 32 x.2.val)

/-- The grid point of head `h` and band `b`. -/
def pt (h : Fin 16) (b : Fin 4) : grid0.Coords := fun a => match a with
  | ⟨0, _⟩ => h
  | ⟨1, _⟩ => b

theorem exists_pt (i : grid0.Coords) : ∃ h b, i = pt h b :=
  ⟨i 0, i 1, funext fun a => by match a with | ⟨0, _⟩ => rfl | ⟨1, _⟩ => rfl⟩

/-- The kernel's word of the band's first row, and the one after its last. -/
def v0 (b : Fin 4) : BitVec 32 := Scalar.muli (BitVec.ofNat 32 b.val) 8#32
def v1 (b : Fin 4) : BitVec 32 := Scalar.addi (v0 b) 8#32

/-- `TripOk` as a conjunction. -/
def TripOkC (i : grid0.Coords) (a16 a17 a18 a19 a20 a21 : BitVec 32) (x y A0 A1 A2 A3 : Pair) : Prop :=
  k0_chk6 a19 ∧ k0_chk5 i a20 ∧ k0_chk4 a21 ∧ k0_chk3 i a18 ∧ k0_chk2 i a16 a17 ∧ k0_chk1 i a16 ∧
  k0_off4 i a16 = offQ A0.1 ∧ k0_off5 a17 = offK A0.2 ∧ k0_off6 a17 = offP A0.2 ∧ k0_off7 i a18 = offR y.1 ∧
  k0_off8 a21 = offK x.2 ∧ k0_off9 i a20 = offR x.1 ∧
  k0_off10 i a16 a17 = offQ A1.1 ∧ k0_off11 i a16 a17 = offK A1.2 ∧ k0_off12 i a16 a17 = offP A1.2 ∧ k0_off13 i a16 = offR A0.1 ∧
  k0_off14 a19 = offK y.2 ∧ k0_off15 i a18 = offR y.1 ∧
  k0_off16 i a16 a17 = offQ A2.1 ∧ k0_off17 i a16 a17 = offK A2.2 ∧ k0_off18 i a16 a17 = offP A2.2 ∧ k0_off19 i a16 a17 = offR A1.1 ∧
  k0_off20 a17 = offK A0.2 ∧ k0_off21 i a16 = offR A0.1 ∧
  k0_off22 i a16 a17 = offQ A3.1 ∧ k0_off23 i a16 a17 = offK A3.2 ∧ k0_off24 i a16 a17 = offP A3.2 ∧ k0_off25 i a16 a17 = offR A2.1 ∧
  k0_off26 i a16 a17 = offK A1.2 ∧ k0_off27 i a16 a17 = offR A1.1

instance (i a16 a17 a18 a19 a20 a21 x y A0 A1 A2 A3) : Decidable (TripOkC i a16 a17 a18 a19 a20 a21 x y A0 A1 A2 A3) := by
  unfold TripOkC; infer_instance

/-- A trip from words that stand for pairs: `A0` the next to be scored, `y` the last scored and `x` the one before. -/
def Good (b : Fin 4) (x y A0 : Pair) : Prop :=
  TripOkC (pt 0 b) (word b A0).1 (word b A0).2 (word b y).1 (word b y).2 (word b x).1 (word b x).2 x y A0 (next b A0)
    (next b (next b A0)) (next b (next b (next b A0)))
  ∧ adv (v0 b) (v1 b) (word b A0) = word b (next b A0)
  ∧ adv (v0 b) (v1 b) (word b (next b A0)) = word b (next b (next b A0))
  ∧ adv (v0 b) (v1 b) (word b (next b (next b A0))) = word b (next b (next b (next b A0)))
  ∧ adv (v0 b) (v1 b) (word b (next b (next b (next b A0)))) = word b (next b (next b (next b (next b A0))))

instance (b x y A0) : Decidable (Good b x y A0) := by unfold Good; infer_instance

/-- Whether `n` trips from here on are good. -/
def goods (b : Fin 4) : ℕ → Pair → Pair → Pair → Bool
  | 0, _, _, _ => true
  | n + 1, x, y, A0 =>
    decide (Good b x y A0) && goods b n (next b (next b A0)) (next b (next b (next b A0))) (next b (next b (next b (next b A0))))

theorem goods_all : ∀ b : Fin 4, goods b (8 * b.val + 3) (first b) (first b) (next b (first b)) = true := by
  decide +kernel

/-- The pair before the `n`-th; before the first, the first again. -/
def pairB (b : Fin 4) : ℕ → Pair
  | 0 => first b
  | n + 1 => pair b n

theorem pair_add (b : Fin 4) (n : ℕ) : pair b (n + 1) = next b (pair b n) := rfl

theorem goods_at (b : Fin 4) : ∀ (n k : ℕ) (h : goods b n (pairB b (4 * k)) (pair b (4 * k)) (pair b (4 * k + 1)) = true) (j : ℕ),
    j < n → Good b (pairB b (4 * (k + j))) (pair b (4 * (k + j))) (pair b (4 * (k + j) + 1)) := by
  intro n
  induction n with
  | zero => intro k h j hj; omega
  | succ n ih =>
    intro k h j hj
    rw [goods, Bool.and_eq_true, decide_eq_true_eq] at h
    rcases j with _ | j
    · exact h.1
    · have := ih (k + 1) h.2 j (by omega)
      have e : k + 1 + j = k + (j + 1) := by omega
      rw [e] at this
      exact this

/-- Every trip of the loop is good. -/
theorem good (b : Fin 4) (k : ℕ) (hk : k < 8 * b.val + 3) : Good b (pairB b (4 * k)) (pair b (4 * k)) (pair b (4 * k + 1)) := by
  have := goods_at b (8 * b.val + 3) 0 (goods_all b) k hk
  rw [Nat.zero_add] at this
  exact this

/-- The checks and offsets of a trip, at any head. -/
theorem tripOk (h : Fin 16) (b : Fin 4) {x y A0 : Pair} (g : Good b x y A0) :
    TripOk (pt h b) (word b A0).1 (word b A0).2 (word b y).1 (word b y).2 (word b x).1 (word b x).2 x y A0 (next b A0)
      (next b (next b A0)) (next b (next b (next b A0))) := by
  obtain ⟨h6, h5, h4, h3, h2, h1, e4, e5, e6, e7, e8, e9, e10, e11, e12, e13, e14, e15, e16, e17, e18, e19, e20, e21, e22, e23, e24, e25, e26, e27⟩ := g.1
  exact ⟨h6, h5, h4, h3, h2, h1, e4, e5, e6, e7, e8, e9, e10, e11, e12, e13, e14, e15, e16, e17, e18, e19, e20, e21, e22, e23, e24, e25, e26, e27⟩

/-- The loop runs `8 b + 3` trips, the remainder loop none. -/
theorem trips1 (h : Fin 16) (b : Fin 4) : (k0_t1_loop (pt h b)).trips = 8 * b.val + 3 := by
  show (k0_t1_loop (pt 0 b)).trips = 8 * b.val + 3
  exact (show ∀ b : Fin 4, (k0_t1_loop (pt 0 b)).trips = 8 * b.val + 3 by decide +kernel) b
theorem trips2 (h : Fin 16) (b : Fin 4) : (k0_t2_loop (pt h b)).trips = 0 := by
  show (k0_t2_loop (pt 0 b)).trips = 0
  exact (show ∀ b : Fin 4, (k0_t2_loop (pt 0 b)).trips = 0 by decide +kernel) b

/-- The key tile `n` tiles past the band's first on the edge. -/
def tileE (b n : Fin 4) : Fin 16 := ⟨4 * b.val + n.val, by omega⟩

/-- The last plain pair. -/
abbrev lastP (b : Fin 4) : Pair := pairB b (4 * (8 * b.val + 3))

/-- The checks and offsets outside the loop. -/
def EdgeOkC (i : grid0.Coords) (b : Fin 4) (z : Pair) (w : BitVec 32 × BitVec 32) : Prop :=
  k0_off1 i = offQ (first b).1 ∧ k0_chk14 i w.1 ∧ k0_chk13 i w.2 ∧ k0_cond1 i = 1#1 ∧ k0_cond2 i = 1#1 ∧ k0_cond3 i = 1#1 ∧
  k0_off52 i = offK (tileE b 0) ∧ k0_off53 i = offP (tileE b 0) ∧ k0_off54 w.2 = offK z.2 ∧ k0_off55 i w.1 = offR z.1 ∧
  k0_off56 i 0#32 = offK (tileE b 0) ∧ k0_off56 i 1#32 = offK (tileE b 1) ∧ k0_off57 i = offP (tileE b 1) ∧
  k0_off58 i 0#32 = offK (tileE b 0) ∧ k0_off58 i 1#32 = offK (tileE b 1) ∧ k0_off59 i = offP (tileE b 1) ∧
  k0_off60 i 1#32 = offK (tileE b 1) ∧ k0_off60 i 2#32 = offK (tileE b 2) ∧ k0_off60 i 3#32 = offK (tileE b 3) ∧
  k0_off61 i 2#32 = offP (tileE b 2) ∧ k0_off61 i 3#32 = offP (tileE b 3) ∧
  k0_off62 i 1#32 = offK (tileE b 1) ∧ k0_off62 i 2#32 = offK (tileE b 2) ∧ k0_off63 i = offP (tileE b 2) ∧
  k0_off64 i 2#32 = offK (tileE b 2) ∧ k0_off64 i 3#32 = offK (tileE b 3) ∧ k0_off65 i = offP (tileE b 3) ∧ k0_off66 i = offK (tileE b 3)

instance (i b z w) : Decidable (EdgeOkC i b z w) := by unfold EdgeOkC; infer_instance

theorem edgeOk_all : ∀ b : Fin 4, EdgeOkC (pt 0 b) b (lastP b) (word b (lastP b)) := by decide +kernel

/-- `EdgeOkC` by name. -/
structure EdgeOk (i : grid0.Coords) (b : Fin 4) (z : Pair) (w1 w2 : BitVec 32) : Prop where
  e1 : k0_off1 i = offQ (first b).1
  h14 : k0_chk14 i w1
  h13 : k0_chk13 i w2
  c1 : k0_cond1 i = 1#1
  c2 : k0_cond2 i = 1#1
  c3 : k0_cond3 i = 1#1
  e52 : k0_off52 i = offK (tileE b 0)
  e53 : k0_off53 i = offP (tileE b 0)
  e54 : k0_off54 w2 = offK z.2
  e55 : k0_off55 i w1 = offR z.1
  e56_0 : k0_off56 i 0#32 = offK (tileE b 0)
  e56_1 : k0_off56 i 1#32 = offK (tileE b 1)
  e57 : k0_off57 i = offP (tileE b 1)
  e58_0 : k0_off58 i 0#32 = offK (tileE b 0)
  e58_1 : k0_off58 i 1#32 = offK (tileE b 1)
  e59 : k0_off59 i = offP (tileE b 1)
  e60_1 : k0_off60 i 1#32 = offK (tileE b 1)
  e60_2 : k0_off60 i 2#32 = offK (tileE b 2)
  e60_3 : k0_off60 i 3#32 = offK (tileE b 3)
  e61_2 : k0_off61 i 2#32 = offP (tileE b 2)
  e61_3 : k0_off61 i 3#32 = offP (tileE b 3)
  e62_1 : k0_off62 i 1#32 = offK (tileE b 1)
  e62_2 : k0_off62 i 2#32 = offK (tileE b 2)
  e63 : k0_off63 i = offP (tileE b 2)
  e64_2 : k0_off64 i 2#32 = offK (tileE b 2)
  e64_3 : k0_off64 i 3#32 = offK (tileE b 3)
  e65 : k0_off65 i = offP (tileE b 3)
  e66 : k0_off66 i = offK (tileE b 3)

theorem edgeOk (h : Fin 16) (b : Fin 4) : EdgeOk (pt h b) b (lastP b) (word b (lastP b)).1 (word b (lastP b)).2 := by
  obtain ⟨h1, h2, h3, h4, h5, h6, h7, h8, h9, h10, h11, h12, h13, h14, h15, h16, h17, h18, h19, h20, h21, h22, h23, h24, h25, h26, h27, h28⟩ := edgeOk_all b
  exact ⟨h1, h2, h3, h4, h5, h6, h7, h8, h9, h10, h11, h12, h13, h14, h15, h16, h17, h18, h19, h20, h21, h22, h23, h24, h25, h26, h27, h28⟩

/-- The words that the loop starts with, as the kernel computes them. -/
theorem start_words (b : Fin 4) : Scalar.maxsi (v0 b) 2#32 = (word b (first b)).1 ∧ 0#32 = (word b (first b)).2
    ∧ adv (v0 b) (v1 b) (word b (first b)) = word b (next b (first b)) :=
  (show ∀ b : Fin 4, Scalar.maxsi (v0 b) 2#32 = (word b (first b)).1 ∧ 0#32 = (word b (first b)).2
    ∧ adv (v0 b) (v1 b) (word b (first b)) = word b (next b (first b)) by decide +kernel) b

end Cert.Proof.Flash
-- ==== Proof.Edge.lean ====
/-
  The diagonal of the attention kernel: the last key tile of each of a band's eight rows, whose scores are masked, and the
  division that gives the row's output.
-/
module

public import proofs.«01_k».proof.Proof.Words

@[expose] public section

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the diagonal's stages compute -/

/-- The scores of half a tile. -/
def fSh (q : Vec F S1x512x256 .bf16) (k : Vec F S1x512x128 .bf16) (p : Vec F S512x128 .bf16) : Vec F S512x512 .f32 := k0_pay104 q k p
/-- An even row's factor, weights and output: its last key tile is half a tile. -/
def hA (s : Vec F S512x512 .f32) (m : Vec F S1x512x1 .f32) : Vec F S512x1 .f32 := k0_pay81 s m
def hP (s : Vec F S512x512 .f32) (m : Vec F S1x512x1 .f32) : Vec F S512x512 .bf16 := k0_pay83 (k0_pay78 s) (k0_pay82 s m)
def hO (v : Vec F S1x512x128 .bf16) (a : Vec F S512x1 .f32) (o : Vec F S1x512x256 .f32) (p : Vec F S512x512 .bf16) : Vec F S512x128 .bf16 := k0_pay96 v a o p
/-- An odd row's factor, weights and output: its last key tile is a whole tile. -/
def gA (s : Vec F S512x1024 .f32) (m : Vec F S1x512x1 .f32) : Vec F S512x1 .f32 := k0_pay91 s m
def gP (s : Vec F S512x1024 .f32) (m : Vec F S1x512x1 .f32) : Vec F S512x1024 .bf16 := k0_pay92 s m
def gO (v : Vec F S1x1024x128 .bf16) (a : Vec F S512x1 .f32) (o : Vec F S1x512x256 .f32) (p : Vec F S512x1024 .bf16) : Vec F S512x128 .bf16 := k0_pay6 v a o p

/-- The accumulators once the last plain pair `z` has been added. -/
abbrev accZ (X : Ins F) (z : Pair) (σ : St F) : S8x512x256.Idx → Elt F .f32 :=
  putC σ.acc z.1 (fC (winK X.v z.2) σ.a1 (rowC σ.acc z.1) σ.p1)

/-- The output of an even row `r` whose last key tile is the first half of tile `j`, from that tile's scores. -/
abbrev outH (X : Ins F) (z : Pair) (σ : St F) (r : Fin 8) (j : Fin 16) (s : Vec F S512x512 .f32) : Vec F S512x128 .bf16 :=
  hO (winKh X.v j) (hA s (rowM σ.m r)) (rowC (accZ X z σ) r) (hP s (rowM σ.m r))
/-- The output of an odd row `r` whose last key tile is tile `j`, from that tile's scores. -/
abbrev outG (X : Ins F) (z : Pair) (σ : St F) (r : Fin 8) (j : Fin 16) (s : Vec F S512x1024 .f32) : Vec F S512x128 .bf16 :=
  gO (winK X.v j) (gA s (rowM σ.m r)) (rowC (accZ X z σ) r) (gP s (rowM σ.m r))

/-- The scores of half tile `j` at row `r`. -/
abbrev scoresH (X : Ins F) (r : Fin 8) (j : Fin 16) : Vec F S512x512 .f32 := fSh (winQ X.q r) (winKh X.k j) (winPh X.p j)

/-- The band's output over what the output buffer held. -/
def outs (X : Ins F) (b : Fin 4) (z : Pair) (σ : St F) (O : S4096x128.Idx → Elt F .bf16) : S4096x128.Idx → Elt F .bf16 :=
  (putO (putO (putO (putO (putO (putO (putO (putO O 0
    (outH X z σ 0 (tileE b 0) (halfS σ.s0))) 1
    (outG X z σ 1 (tileE b 0) (scores X (1, tileE b 0)))) 2
    (outH X z σ 2 (tileE b 1) (scoresH X 2 (tileE b 1)))) 3
    (outG X z σ 3 (tileE b 1) (scores X (3, tileE b 1)))) 4
    (outH X z σ 4 (tileE b 2) (scoresH X 4 (tileE b 2)))) 5
    (outG X z σ 5 (tileE b 2) (scores X (5, tileE b 2)))) 6
    (outH X z σ 6 (tileE b 3) (scoresH X 6 (tileE b 3)))) 7
    (outG X z σ 7 (tileE b 3) (scores X (7, tileE b 3))))

section
variable (c : Dev nD)
variable (arg2 : Memref sig .tc .vmem S1x4096x256 .bf16) (harg2 : arg2.IsWhole) (arg3 : Memref sig .tc .vmem S1x16384x128 .bf16) (harg3 : arg3.IsWhole) (arg4 : Memref sig .tc .vmem S16384x128 .bf16) (harg4 : arg4.IsWhole) (arg5 : Memref sig .tc .vmem S1x16384x128 .bf16) (harg5 : arg5.IsWhole) (arg6 : Memref sig .tc .vmem S4096x128 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S8x512x1 .f32) (harg13 : arg13.IsWhole) (arg14 : Memref sig .tc .vmem S8x512x256 .f32) (harg14 : arg14.IsWhole)

/-- The kernel after its loops. -/
noncomputable def edges (i : grid0.Coords) (u0 w1 w2 : BitVec 32) : Pr F PUnit := do
  have k0_hw14 : k0_chk14 i w1 := (← Prog.lift (TpuEff.assume (k0_chk14 i w1) (k0_chk14.dec i w1))).down
  have k0_hw13 : k0_chk13 i w2 := (← Prog.lift (TpuEff.assume (k0_chk13 i w2) (k0_chk13.dec i w2))).down
  let v82 : BitVec 32 := Scalar.divsi u0 2#32
  if k0_h1 : k0_cond1 i = 1#1 then do
    let ⟨v117, v122, v128⟩ : Σ' (v117 : Vec F S512x512 .f32) (v122 : FVec F S512x1 .f32), FVec F S512x512 .f32 ← k0_part17_skel i arg2 harg2 arg3 harg3 arg4 harg4 arg5 harg5 arg6 harg6 arg7 harg7 arg8 harg8 arg9 harg9 arg10 harg10 arg11 harg11 arg12 harg12 arg13 harg13 arg14 harg14 v82 k0_h1
    let ⟨v159, v163⟩ : Σ' (v159 : BitVec 32), FVec F S512x256 .bf16 ← k0_part18_skel i arg2 harg2 arg3 harg3 arg4 harg4 arg5 harg5 arg6 harg6 arg7 harg7 arg8 harg8 arg9 harg9 arg10 harg10 arg11 harg11 arg12 harg12 arg13 harg13 arg14 harg14 u0 w1 w2 k0_hw14 k0_hw13 v82 k0_h1 v117 v122 v128
    let v189 : FVec F S512x1 .f32 ← k0_part19_skel i arg2 harg2 arg3 harg3 arg4 harg4 arg5 harg5 arg6 harg6 arg7 harg7 arg8 harg8 arg9 harg9 arg10 harg10 arg11 harg11 arg12 harg12 arg13 harg13 arg14 harg14 k0_h1 v159 v163
    let ⟨v229, v233⟩ : Σ' (v229 : BitVec 32), FVec F S512x256 .bf16 ← k0_part20_skel i arg2 harg2 arg3 harg3 arg4 harg4 arg5 harg5 arg6 harg6 arg7 harg7 arg8 harg8 arg9 harg9 arg10 harg10 arg11 harg11 arg12 harg12 arg13 harg13 arg14 harg14 v82 k0_h1 v189
    let v259 : FVec F S512x1 .f32 ← k0_part21_skel i arg2 harg2 arg3 harg3 arg4 harg4 arg5 harg5 arg6 harg6 arg7 harg7 arg8 harg8 arg9 harg9 arg10 harg10 arg11 harg11 arg12 harg12 arg13 harg13 arg14 harg14 k0_h1 v229 v233
    let v272 : Vec F S1x512x1 .f32 ← Prog.lift (.load arg13 (Rect.unit (s := S8x512x1) ![2, 0, 0] S1x512x1.size inb_S8x512x1_S1x512x1_2_0_0).toLoadRect (View.loadsAt_vmem h_S1x512x1))
    Prog.lift (.store arg13 (Rect.unit (s := S8x512x1) ![2, 0, 0] S1x512x1.size inb_S8x512x1_S1x512x1_2_0_0) (k0_pay3 v259) Finset.univ (View.stores_vmem_bits_univ h_S1x512x1 rfl) (.inl rfl))
    let v279 : Vec F S1x1024x128 .bf16 ← Prog.lift (.load arg5 (Rect.unit (s := S1x16384x128) (k0_off58 i 0#32) S1x1024x128.size (k0_off58_inb i k0_h1 0)).toLoadRect (View.loadsAt_vmem h_S1x1024x128))
    let v283 : Vec F S512x1 .f32 ← Prog.lift (.load arg12 (Rect.unit (s := S512x1) ![0, 0] S512x1.size inb_S512x1_S512x1_0_0).toLoadRect (View.loadsAt_vmem h_S512x1))
    let v284 : Vec F S1x512x256 .f32 ← Prog.lift (.load arg14 (Rect.unit (s := S8x512x256) ![1, 0, 0] S1x512x256.size inb_S8x512x256_S1x512x256_1_0_0).toLoadRect (View.loadsAt_vmem h_S1x512x256))
    let v288 : Vec F S512x1024 .bf16 ← Prog.lift (.load arg10 (Rect.unit (s := S512x1024) ![0, 0] S512x1024.size inb_S512x1024_S512x1024_0_0).toLoadRect (View.loadsAt_vmem h_S512x1024))
    let v291 : Vec F S1x512x256 .f32 ← Prog.lift (.load arg14 (Rect.unit (s := S8x512x256) ![1, 0, 0] S1x512x256.size inb_S8x512x256_S1x512x256_1_0_0).toLoadRect (View.loadsAt_vmem h_S1x512x256))
    Prog.lift (.store arg14 (Rect.unit (s := S8x512x256) ![1, 0, 0] S1x512x256.size inb_S8x512x256_S1x512x256_1_0_0) (k0_pay5 v279 v283 v284 v288) Finset.univ (View.stores_vmem_bits_univ h_S1x512x256 rfl) (.inl rfl))
    let v298 : Vec F S512x128 .bf16 ← Prog.lift (.load arg6 (Rect.unit (s := S4096x128) ![512, 0] S512x128.size inb_S4096x128_S512x128_512_0).toLoadRect (View.loadsAt_vmem h_S512x128))
    Prog.lift (.store arg6 (Rect.unit (s := S4096x128) ![512, 0] S512x128.size inb_S4096x128_S512x128_512_0) (k0_pay6 v279 v283 v284 v288) Finset.univ (View.stores_vmem h_S512x128 (harg6.storeExact_slice rfl _ packedbf16_S4096x128_S512x128_512_0) (fun _ => rfl)) (.inl rfl))
    pure ⟨⟩
  else do
    pure ⟨⟩
  if k0_h2 : k0_cond2 i = 1#1 then do
    let ⟨v117, v122, v128⟩ : Σ' (v117 : Vec F S512x1024 .f32) (v122 : FVec F S512x1 .f32), FVec F S512x1024 .f32 ← k0_part22_skel i arg2 harg2 arg3 harg3 arg4 harg4 arg5 harg5 arg6 harg6 arg7 harg7 arg8 harg8 arg9 harg9 arg10 harg10 arg11 harg11 arg12 harg12 arg13 harg13 arg14 harg14 v82 k0_h2
    k0_part23_skel i arg2 harg2 arg3 harg3 arg4 harg4 arg5 harg5 arg6 harg6 arg7 harg7 arg8 harg8 arg9 harg9 arg10 harg10 arg11 harg11 arg12 harg12 arg13 harg13 arg14 harg14 v82 k0_h2 v117 v122 v128
    let ⟨v187, v192, v198⟩ : Σ' (v187 : Vec F S512x512 .f32) (v192 : FVec F S512x1 .f32), FVec F S512x512 .f32 ← k0_part24_skel i arg2 harg2 arg3 harg3 arg4 harg4 arg5 harg5 arg6 harg6 arg7 harg7 arg8 harg8 arg9 harg9 arg10 harg10 arg11 harg11 arg12 harg12 arg13 harg13 arg14 harg14 v82 k0_h2
    k0_part25_skel i arg2 harg2 arg3 harg3 arg4 harg4 arg5 harg5 arg6 harg6 arg7 harg7 arg8 harg8 arg9 harg9 arg10 harg10 arg11 harg11 arg12 harg12 arg13 harg13 arg14 harg14 v82 k0_h2 v187 v192 v198
    let ⟨v257, v262, v268⟩ : Σ' (v257 : Vec F S512x1024 .f32) (v262 : FVec F S512x1 .f32), FVec F S512x1024 .f32 ← k0_part26_skel i arg2 harg2 arg3 harg3 arg4 harg4 arg5 harg5 arg6 harg6 arg7 harg7 arg8 harg8 arg9 harg9 arg10 harg10 arg11 harg11 arg12 harg12 arg13 harg13 arg14 harg14 v82 k0_h2
    k0_part27_skel i arg2 harg2 arg3 harg3 arg4 harg4 arg5 harg5 arg6 harg6 arg7 harg7 arg8 harg8 arg9 harg9 arg10 harg10 arg11 harg11 arg12 harg12 arg13 harg13 arg14 harg14 v82 k0_h2 v257 v262 v268
    pure ⟨⟩
  else do
    pure ⟨⟩
  if k0_h3 : k0_cond3 i = 1#1 then do
    let ⟨v117, v122, v128⟩ : Σ' (v117 : Vec F S512x512 .f32) (v122 : FVec F S512x1 .f32), FVec F S512x512 .f32 ← k0_part28_skel i arg2 harg2 arg3 harg3 arg4 harg4 arg5 harg5 arg6 harg6 arg7 harg7 arg8 harg8 arg9 harg9 arg10 harg10 arg11 harg11 arg12 harg12 arg13 harg13 arg14 harg14 v82 k0_h3
    k0_part29_skel i arg2 harg2 arg3 harg3 arg4 harg4 arg5 harg5 arg6 harg6 arg7 harg7 arg8 harg8 arg9 harg9 arg10 harg10 arg11 harg11 arg12 harg12 arg13 harg13 arg14 harg14 v82 k0_h3 v117 v122 v128
    let v197 : FVec F S512x256 .bf16 ← k0_part30_skel i arg2 harg2 arg3 harg3 arg4 harg4 arg5 harg5 arg6 harg6 arg7 harg7 arg8 harg8 arg9 harg9 arg10 harg10 arg11 harg11 arg12 harg12 arg13 harg13 arg14 harg14 v82 k0_h3
    let v229 : FVec F S512x256 .f32 ← k0_part31_skel i arg2 harg2 arg3 harg3 arg4 harg4 arg5 harg5 arg6 harg6 arg7 harg7 arg8 harg8 arg9 harg9 arg10 harg10 arg11 harg11 arg12 harg12 arg13 harg13 arg14 harg14 v82 k0_h3 v197
    let v230 : Vec F S1x512x256 .f32 ← Prog.lift (.load arg14 (Rect.unit (s := S8x512x256) ![7, 0, 0] S1x512x256.size inb_S8x512x256_S1x512x256_7_0_0).toLoadRect (View.loadsAt_vmem h_S1x512x256))
    Prog.lift (.store arg14 (Rect.unit (s := S8x512x256) ![7, 0, 0] S1x512x256.size inb_S8x512x256_S1x512x256_7_0_0) (k0_pay7 v229) Finset.univ (View.stores_vmem_bits_univ h_S1x512x256 rfl) (.inl rfl))
    let v237 : Vec F S512x128 .bf16 ← Prog.lift (.load arg6 (Rect.unit (s := S4096x128) ![3584, 0] S512x128.size inb_S4096x128_S512x128_3584_0).toLoadRect (View.loadsAt_vmem h_S512x128))
    Prog.lift (.store arg6 (Rect.unit (s := S4096x128) ![3584, 0] S512x128.size inb_S4096x128_S512x128_3584_0) (k0_pay8 v229) Finset.univ (View.stores_vmem h_S512x128 (harg6.storeExact_slice rfl _ packedbf16_S4096x128_S512x128_3584_0) (fun _ => rfl)) (.inl rfl))
    pure ⟨⟩
  else do
    pure ⟨⟩
  pure ⟨⟩

set_option maxHeartbeats 1000000 in
/-- The diagonal leaves the band's output. -/
theorem wp_edges (i : grid0.Coords) (u0 w1 w2 : BitVec 32) (b : Fin 4) (z : Pair) (ok : EdgeOk i b z w1 w2) (X : Ins F) (σ : St F)
    (O : S4096x128.Idx → Elt F .bf16) {Q : PUnit → sProp 𝕄} :
    iprop(Res c arg2 arg3 arg4 arg5 arg7 arg8 arg9 arg10 arg11 arg12 arg13 arg14 X σ ∗ own c arg6 O)
      ⊢ iprop((iprop((∃ σ' : St F, Res c arg2 arg3 arg4 arg5 arg7 arg8 arg9 arg10 arg11 arg12 arg13 arg14 X σ') ∗ own c arg6 (outs X b z σ O))
          -∗ Q ⟨⟩)
        -∗ WP c (edges arg2 harg2 arg3 harg3 arg4 harg4 arg5 harg5 arg6 harg6 arg7 harg7 arg8 harg8 arg9 harg9 arg10 harg10 arg11 harg11 arg12 harg12 arg13 harg13 arg14 harg14 i u0 w1 w2) Q) := by
  unfold edges
  simp only [dif_pos ok.c1, dif_pos ok.c2, dif_pos ok.c3]
  dsimp only [k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel]
  simp only [Prog.bind_assoc, Prog.bind_lift, Prog.bind_op, Prog.pure_eq_ret, Prog.bind_ret]
  unfold Res
  iintro ⟨⟨⟨H2, H3, H4, H5⟩, H7, H8, H9, H10, H11, H12, H13, H14⟩, H6⟩ HQ
  iapply (wp_assume (defs := defs₀) 𝒱₀ (c : Thread nD τ) none Set.univ ok.h14)
  iapply (wp_assume (defs := defs₀) 𝒱₀ (c : Thread nD τ) none Set.univ ok.h13)
  iapply (ldQ c _ 1 rfl) $$ H2; iintro H2
  iapply (ldK c _ (tileE b 0) ok.e52) $$ H3; iintro H3
  iapply (ldP c _ (tileE b 0) ok.e53) $$ H4; iintro H4
  iapply (ldF c _) $$ H8; iintro H8
  iapply (stF c _ (scores X (1, tileE b 0)) rfl) $$ H8; iintro H8
  iapply (ldS c _ (halfS σ.s0) rfl) $$ H7; iintro H7
  iapply (ldM' c _ 0 rfl (rowM σ.m 0) rfl) $$ H13; iintro H13
  iapply (ldF c _) $$ H11; iintro H11
  iapply (stF c _ (hA (halfS σ.s0) (rowM σ.m 0)) rfl) $$ H11; iintro H11
  iapply (ldS c _ _ rfl) $$ H9; iintro H9
  iapply (stS c _ (hP (halfS σ.s0) (rowM σ.m 0)) rfl) $$ H9; iintro H9
  iapply (ldM c _ 0 rfl) $$ H13; iintro H13
  iapply (stM c _ 0 rfl _ rfl) $$ H13; iintro H13
  iapply (ldK c _ z.2 ok.e54) $$ H5; iintro H5
  iapply (ldF c _) $$ H12; iintro H12
  iapply (ldC c _ z.1 ok.e55) $$ H14; iintro H14
  iapply (ldF c _) $$ H10; iintro H10
  iapply (ldC c _ z.1 ok.e55) $$ H14; iintro H14
  iapply (stC c _ z.1 ok.e55 (fC _ _ _ _) rfl) $$ H14; iintro H14
  iapply (ldQ c _ 2 rfl) $$ H2; iintro H2
  iapply (ldKh c _ (tileE b 1) ok.e56_1) $$ H3; iintro H3
  iapply (ldPh c _ (tileE b 1) ok.e57) $$ H4; iintro H4
  iapply (ldS c _ _ rfl) $$ H7; iintro H7
  iapply (stS c _ (scoresH X 2 (tileE b 1)) rfl) $$ H7; iintro H7
  iapply (ldF c _) $$ H8; iintro H8
  iapply (ldM' c _ 1 rfl (rowM σ.m 1) (by rw [rowM_putM, if_neg (show ¬((0 : Fin 8) = 1) by decide)]; try rfl)) $$ H13; iintro H13
  iapply (ldF c _) $$ H12; iintro H12
  iapply (stF c _ (gA (scores X (1, tileE b 0)) (rowM σ.m 1)) rfl) $$ H12; iintro H12
  iapply (ldF c _) $$ H10; iintro H10
  iapply (stF c _ (gP (scores X (1, tileE b 0)) (rowM σ.m 1)) rfl) $$ H10; iintro H10
  iapply (ldM c _ 1 rfl) $$ H13; iintro H13
  iapply (stM c _ 1 rfl _ rfl) $$ H13; iintro H13
  iapply (ldKh c _ (tileE b 0) ok.e56_0) $$ H5; iintro H5
  iapply (ldF c _) $$ H11; iintro H11
  iapply (ldC' c _ 0 rfl (rowC (accZ X z σ) 0) rfl) $$ H14; iintro H14
  iapply (ldS c _ _ (halfS_putS _ _)) $$ H9; iintro H9
  iapply (ldC c _ 0 rfl) $$ H14; iintro H14
  iapply (stC c _ 0 rfl _ rfl) $$ H14; iintro H14
  iapply (ldO c _ 0 rfl) $$ H6; iintro H6
  iapply (stO c _ 0 rfl (outH X z σ 0 (tileE b 0) (halfS σ.s0)) rfl) $$ H6; iintro H6
  iapply (ldQ c _ 3 rfl) $$ H2; iintro H2
  iapply (ldK c _ (tileE b 1) ok.e58_1) $$ H3; iintro H3
  iapply (ldP c _ (tileE b 1) ok.e59) $$ H4; iintro H4
  iapply (ldF c _) $$ H8; iintro H8
  iapply (stF c _ (scores X (3, tileE b 1)) rfl) $$ H8; iintro H8
  iapply (ldS c _ (scoresH X 2 (tileE b 1)) (halfS_putS _ _)) $$ H7; iintro H7
  iapply (ldM' c _ 2 rfl (rowM σ.m 2) (by rw [rowM_putM, if_neg (show ¬((1 : Fin 8) = 2) by decide), rowM_putM, if_neg (show ¬((0 : Fin 8) = 2) by decide)]; try rfl)) $$ H13; iintro H13
  iapply (ldF c _) $$ H11; iintro H11
  iapply (stF c _ (hA (scoresH X 2 (tileE b 1)) (rowM σ.m 2)) rfl) $$ H11; iintro H11
  iapply (ldS c _ _ rfl) $$ H9; iintro H9
  iapply (stS c _ (hP (scoresH X 2 (tileE b 1)) (rowM σ.m 2)) rfl) $$ H9; iintro H9
  iapply (ldM c _ 2 rfl) $$ H13; iintro H13
  iapply (stM c _ 2 rfl _ rfl) $$ H13; iintro H13
  iapply (ldK c _ (tileE b 0) ok.e58_0) $$ H5; iintro H5
  iapply (ldF c _) $$ H12; iintro H12
  iapply (ldC' c _ 1 rfl (rowC (accZ X z σ) 1) (by rw [rowC_putC, if_neg (show ¬((0 : Fin 8) = 1) by decide)]; try rfl)) $$ H14; iintro H14
  iapply (ldF c _) $$ H10; iintro H10
  iapply (ldC c _ 1 rfl) $$ H14; iintro H14
  iapply (stC c _ 1 rfl _ rfl) $$ H14; iintro H14
  iapply (ldO c _ 1 rfl) $$ H6; iintro H6
  iapply (stO c _ 1 rfl (outG X z σ 1 (tileE b 0) (scores X (1, tileE b 0))) rfl) $$ H6; iintro H6
  iapply (ldQ c _ 4 rfl) $$ H2; iintro H2
  iapply (ldKh c _ (tileE b 2) ok.e60_2) $$ H3; iintro H3
  iapply (ldPh c _ (tileE b 2) ok.e61_2) $$ H4; iintro H4
  iapply (ldS c _ _ rfl) $$ H7; iintro H7
  iapply (stS c _ (scoresH X 4 (tileE b 2)) rfl) $$ H7; iintro H7
  iapply (ldF c _) $$ H8; iintro H8
  iapply (ldM' c _ 3 rfl (rowM σ.m 3) (by rw [rowM_putM, if_neg (show ¬((2 : Fin 8) = 3) by decide), rowM_putM, if_neg (show ¬((1 : Fin 8) = 3) by decide), rowM_putM, if_neg (show ¬((0 : Fin 8) = 3) by decide)]; try rfl)) $$ H13; iintro H13
  iapply (ldF c _) $$ H12; iintro H12
  iapply (stF c _ (gA (scores X (3, tileE b 1)) (rowM σ.m 3)) rfl) $$ H12; iintro H12
  iapply (ldF c _) $$ H10; iintro H10
  iapply (stF c _ (gP (scores X (3, tileE b 1)) (rowM σ.m 3)) rfl) $$ H10; iintro H10
  iapply (ldM c _ 3 rfl) $$ H13; iintro H13
  iapply (stM c _ 3 rfl _ rfl) $$ H13; iintro H13
  iapply (ldKh c _ (tileE b 1) ok.e60_1) $$ H5; iintro H5
  iapply (ldF c _) $$ H11; iintro H11
  iapply (ldC' c _ 2 rfl (rowC (accZ X z σ) 2) (by rw [rowC_putC, if_neg (show ¬((1 : Fin 8) = 2) by decide), rowC_putC, if_neg (show ¬((0 : Fin 8) = 2) by decide)]; try rfl)) $$ H14; iintro H14
  iapply (ldS c _ _ (halfS_putS _ _)) $$ H9; iintro H9
  iapply (ldC c _ 2 rfl) $$ H14; iintro H14
  iapply (stC c _ 2 rfl _ rfl) $$ H14; iintro H14
  iapply (ldO c _ 2 rfl) $$ H6; iintro H6
  iapply (stO c _ 2 rfl (outH X z σ 2 (tileE b 1) (scoresH X 2 (tileE b 1))) rfl) $$ H6; iintro H6
  iapply (ldQ c _ 5 rfl) $$ H2; iintro H2
  iapply (ldK c _ (tileE b 2) ok.e62_2) $$ H3; iintro H3
  iapply (ldP c _ (tileE b 2) ok.e63) $$ H4; iintro H4
  iapply (ldF c _) $$ H8; iintro H8
  iapply (stF c _ (scores X (5, tileE b 2)) rfl) $$ H8; iintro H8
  iapply (ldS c _ (scoresH X 4 (tileE b 2)) (halfS_putS _ _)) $$ H7; iintro H7
  iapply (ldM' c _ 4 rfl (rowM σ.m 4) (by rw [rowM_putM, if_neg (show ¬((3 : Fin 8) = 4) by decide), rowM_putM, if_neg (show ¬((2 : Fin 8) = 4) by decide), rowM_putM, if_neg (show ¬((1 : Fin 8) = 4) by decide), rowM_putM, if_neg (show ¬((0 : Fin 8) = 4) by decide)]; try rfl)) $$ H13; iintro H13
  iapply (ldF c _) $$ H11; iintro H11
  iapply (stF c _ (hA (scoresH X 4 (tileE b 2)) (rowM σ.m 4)) rfl) $$ H11; iintro H11
  iapply (ldS c _ _ rfl) $$ H9; iintro H9
  iapply (stS c _ (hP (scoresH X 4 (tileE b 2)) (rowM σ.m 4)) rfl) $$ H9; iintro H9
  iapply (ldM c _ 4 rfl) $$ H13; iintro H13
  iapply (stM c _ 4 rfl _ rfl) $$ H13; iintro H13
  iapply (ldK c _ (tileE b 1) ok.e62_1) $$ H5; iintro H5
  iapply (ldF c _) $$ H12; iintro H12
  iapply (ldC' c _ 3 rfl (rowC (accZ X z σ) 3) (by rw [rowC_putC, if_neg (show ¬((2 : Fin 8) = 3) by decide), rowC_putC, if_neg (show ¬((1 : Fin 8) = 3) by decide), rowC_putC, if_neg (show ¬((0 : Fin 8) = 3) by decide)]; try rfl)) $$ H14; iintro H14
  iapply (ldF c _) $$ H10; iintro H10
  iapply (ldC c _ 3 rfl) $$ H14; iintro H14
  iapply (stC c _ 3 rfl _ rfl) $$ H14; iintro H14
  iapply (ldO c _ 3 rfl) $$ H6; iintro H6
  iapply (stO c _ 3 rfl (outG X z σ 3 (tileE b 1) (scores X (3, tileE b 1))) rfl) $$ H6; iintro H6
  iapply (ldQ c _ 6 rfl) $$ H2; iintro H2
  iapply (ldKh c _ (tileE b 3) ok.e60_3) $$ H3; iintro H3
  iapply (ldPh c _ (tileE b 3) ok.e61_3) $$ H4; iintro H4
  iapply (ldS c _ _ rfl) $$ H7; iintro H7
  iapply (stS c _ (scoresH X 6 (tileE b 3)) rfl) $$ H7; iintro H7
  iapply (ldF c _) $$ H8; iintro H8
  iapply (ldM' c _ 5 rfl (rowM σ.m 5) (by rw [rowM_putM, if_neg (show ¬((4 : Fin 8) = 5) by decide), rowM_putM, if_neg (show ¬((3 : Fin 8) = 5) by decide), rowM_putM, if_neg (show ¬((2 : Fin 8) = 5) by decide), rowM_putM, if_neg (show ¬((1 : Fin 8) = 5) by decide), rowM_putM, if_neg (show ¬((0 : Fin 8) = 5) by decide)]; try rfl)) $$ H13; iintro H13
  iapply (ldF c _) $$ H12; iintro H12
  iapply (stF c _ (gA (scores X (5, tileE b 2)) (rowM σ.m 5)) rfl) $$ H12; iintro H12
  iapply (ldF c _) $$ H10; iintro H10
  iapply (stF c _ (gP (scores X (5, tileE b 2)) (rowM σ.m 5)) rfl) $$ H10; iintro H10
  iapply (ldM c _ 5 rfl) $$ H13; iintro H13
  iapply (stM c _ 5 rfl _ rfl) $$ H13; iintro H13
  iapply (ldKh c _ (tileE b 2) ok.e60_2) $$ H5; iintro H5
  iapply (ldF c _) $$ H11; iintro H11
  iapply (ldC' c _ 4 rfl (rowC (accZ X z σ) 4) (by rw [rowC_putC, if_neg (show ¬((3 : Fin 8) = 4) by decide), rowC_putC, if_neg (show ¬((2 : Fin 8) = 4) by decide), rowC_putC, if_neg (show ¬((1 : Fin 8) = 4) by decide), rowC_putC, if_neg (show ¬((0 : Fin 8) = 4) by decide)]; try rfl)) $$ H14; iintro H14
  iapply (ldS c _ _ (halfS_putS _ _)) $$ H9; iintro H9
  iapply (ldC c _ 4 rfl) $$ H14; iintro H14
  iapply (stC c _ 4 rfl _ rfl) $$ H14; iintro H14
  iapply (ldO c _ 4 rfl) $$ H6; iintro H6
  iapply (stO c _ 4 rfl (outH X z σ 4 (tileE b 2) (scoresH X 4 (tileE b 2))) rfl) $$ H6; iintro H6
  iapply (ldQ c _ 7 rfl) $$ H2; iintro H2
  iapply (ldK c _ (tileE b 3) ok.e64_3) $$ H3; iintro H3
  iapply (ldP c _ (tileE b 3) ok.e65) $$ H4; iintro H4
  iapply (ldF c _) $$ H8; iintro H8
  iapply (stF c _ (scores X (7, tileE b 3)) rfl) $$ H8; iintro H8
  iapply (ldS c _ (scoresH X 6 (tileE b 3)) (halfS_putS _ _)) $$ H7; iintro H7
  iapply (ldM' c _ 6 rfl (rowM σ.m 6) (by rw [rowM_putM, if_neg (show ¬((5 : Fin 8) = 6) by decide), rowM_putM, if_neg (show ¬((4 : Fin 8) = 6) by decide), rowM_putM, if_neg (show ¬((3 : Fin 8) = 6) by decide), rowM_putM, if_neg (show ¬((2 : Fin 8) = 6) by decide), rowM_putM, if_neg (show ¬((1 : Fin 8) = 6) by decide), rowM_putM, if_neg (show ¬((0 : Fin 8) = 6) by decide)]; try rfl)) $$ H13; iintro H13
  iapply (ldF c _) $$ H11; iintro H11
  iapply (stF c _ (hA (scoresH X 6 (tileE b 3)) (rowM σ.m 6)) rfl) $$ H11; iintro H11
  iapply (ldS c _ _ rfl) $$ H9; iintro H9
  iapply (stS c _ (hP (scoresH X 6 (tileE b 3)) (rowM σ.m 6)) rfl) $$ H9; iintro H9
  iapply (ldM c _ 6 rfl) $$ H13; iintro H13
  iapply (stM c _ 6 rfl _ rfl) $$ H13; iintro H13
  iapply (ldK c _ (tileE b 2) ok.e64_2) $$ H5; iintro H5
  iapply (ldF c _) $$ H12; iintro H12
  iapply (ldC' c _ 5 rfl (rowC (accZ X z σ) 5) (by rw [rowC_putC, if_neg (show ¬((4 : Fin 8) = 5) by decide), rowC_putC, if_neg (show ¬((3 : Fin 8) = 5) by decide), rowC_putC, if_neg (show ¬((2 : Fin 8) = 5) by decide), rowC_putC, if_neg (show ¬((1 : Fin 8) = 5) by decide), rowC_putC, if_neg (show ¬((0 : Fin 8) = 5) by decide)]; try rfl)) $$ H14; iintro H14
  iapply (ldF c _) $$ H10; iintro H10
  iapply (ldC c _ 5 rfl) $$ H14; iintro H14
  iapply (stC c _ 5 rfl _ rfl) $$ H14; iintro H14
  iapply (ldO c _ 5 rfl) $$ H6; iintro H6
  iapply (stO c _ 5 rfl (outG X z σ 5 (tileE b 2) (scores X (5, tileE b 2))) rfl) $$ H6; iintro H6
  iapply (ldF c _) $$ H8; iintro H8
  iapply (ldM' c _ 7 rfl (rowM σ.m 7) (by rw [rowM_putM, if_neg (show ¬((6 : Fin 8) = 7) by decide), rowM_putM, if_neg (show ¬((5 : Fin 8) = 7) by decide), rowM_putM, if_neg (show ¬((4 : Fin 8) = 7) by decide), rowM_putM, if_neg (show ¬((3 : Fin 8) = 7) by decide), rowM_putM, if_neg (show ¬((2 : Fin 8) = 7) by decide), rowM_putM, if_neg (show ¬((1 : Fin 8) = 7) by decide), rowM_putM, if_neg (show ¬((0 : Fin 8) = 7) by decide)]; try rfl)) $$ H13; iintro H13
  iapply (ldF c _) $$ H12; iintro H12
  iapply (stF c _ (gA (scores X (7, tileE b 3)) (rowM σ.m 7)) rfl) $$ H12; iintro H12
  iapply (ldF c _) $$ H10; iintro H10
  iapply (stF c _ (gP (scores X (7, tileE b 3)) (rowM σ.m 7)) rfl) $$ H10; iintro H10
  iapply (ldM c _ 7 rfl) $$ H13; iintro H13
  iapply (stM c _ 7 rfl _ rfl) $$ H13; iintro H13
  iapply (ldKh c _ (tileE b 3) ok.e66) $$ H5; iintro H5
  iapply (ldF c _) $$ H11; iintro H11
  iapply (ldC' c _ 6 rfl (rowC (accZ X z σ) 6) (by rw [rowC_putC, if_neg (show ¬((5 : Fin 8) = 6) by decide), rowC_putC, if_neg (show ¬((4 : Fin 8) = 6) by decide), rowC_putC, if_neg (show ¬((3 : Fin 8) = 6) by decide), rowC_putC, if_neg (show ¬((2 : Fin 8) = 6) by decide), rowC_putC, if_neg (show ¬((1 : Fin 8) = 6) by decide), rowC_putC, if_neg (show ¬((0 : Fin 8) = 6) by decide)]; try rfl)) $$ H14; iintro H14
  iapply (ldS c _ _ (halfS_putS _ _)) $$ H9; iintro H9
  iapply (ldC c _ 6 rfl) $$ H14; iintro H14
  iapply (stC c _ 6 rfl _ rfl) $$ H14; iintro H14
  iapply (ldO c _ 6 rfl) $$ H6; iintro H6
  iapply (stO c _ 6 rfl (outH X z σ 6 (tileE b 3) (scoresH X 6 (tileE b 3))) rfl) $$ H6; iintro H6
  iapply (ldK c _ (tileE b 3) ok.e64_3) $$ H5; iintro H5
  iapply (ldF c _) $$ H12; iintro H12
  iapply (ldC' c _ 7 rfl (rowC (accZ X z σ) 7) (by rw [rowC_putC, if_neg (show ¬((6 : Fin 8) = 7) by decide), rowC_putC, if_neg (show ¬((5 : Fin 8) = 7) by decide), rowC_putC, if_neg (show ¬((4 : Fin 8) = 7) by decide), rowC_putC, if_neg (show ¬((3 : Fin 8) = 7) by decide), rowC_putC, if_neg (show ¬((2 : Fin 8) = 7) by decide), rowC_putC, if_neg (show ¬((1 : Fin 8) = 7) by decide), rowC_putC, if_neg (show ¬((0 : Fin 8) = 7) by decide)]; try rfl)) $$ H14; iintro H14
  iapply (ldF c _) $$ H10; iintro H10
  iapply (ldC c _ 7 rfl) $$ H14; iintro H14
  iapply (stC c _ 7 rfl _ rfl) $$ H14; iintro H14
  iapply (ldO c _ 7 rfl) $$ H6; iintro H6
  iapply (stO c _ 7 rfl (outG X z σ 7 (tileE b 3) (scores X (7, tileE b 3))) rfl) $$ H6; iintro H6
  iapply (wp_ret_of c)
  iapply HQ
  isplitr [H6]
  · iexists (St.mk _ _ _ _ _ _ _ _)
    iframe
  · iexact H6

end

end Cert.Proof.Flash
-- ==== Proof.Body.lean ====
/-
  The whole body of the attention kernel on the contents of its buffers: it leaves, in the output block, the band's output as
  a function of the operands.
-/
module

public import proofs.«01_k».proof.Proof.Edge

@[expose] public section

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Two states agree on what a trip reads of them. -/
def Live (σ σ' : St F) : Prop := σ.s0 = σ'.s0 ∧ σ.p1 = σ'.p1 ∧ σ.a1 = σ'.a1 ∧ σ.m = σ'.m ∧ σ.acc = σ'.acc

theorem trip_live (X : Ins F) (x y A0 A1 A2 A3 : Pair) {σ σ' : St F} (h : Live σ σ') : trip X x y A0 A1 A2 A3 σ = trip X x y A0 A1 A2 A3 σ' := by
  obtain ⟨s0, s1, p0, p1, a0, a1, m, acc⟩ := σ
  obtain ⟨s0', s1', p0', p1', a0', a1', m', acc'⟩ := σ'
  obtain ⟨h1, h2, h3, h4, h5⟩ := h
  subst h1 h2 h3 h4 h5
  rfl

theorem outs_live (X : Ins F) (b : Fin 4) (z : Pair) {σ σ' : St F} (h : Live σ σ') (O) : outs X b z σ O = outs X b z σ' O := by
  obtain ⟨s0, s1, p0, p1, a0, a1, m, acc⟩ := σ
  obtain ⟨s0', s1', p0', p1', a0', a1', m', acc'⟩ := σ'
  obtain ⟨h1, h2, h3, h4, h5⟩ := h
  subst h1 h2 h3 h4 h5
  rfl

/-- What the buffers hold when the loop begins; what the first trip overwrites unread is set to what is at hand. -/
def st0 (X : Ins F) (b : Fin 4) : St F where
  s0 := scores X (first b)
  s1 := scores X (first b)
  p0 := k0_pay159
  p1 := k0_pay159
  a0 := k0_pay160
  a1 := k0_pay160
  m := k0_pay162
  acc := k0_pay161

/-- What they hold after `k` trips. -/
def stN (X : Ins F) (b : Fin 4) : ℕ → St F
  | 0 => st0 X b
  | k + 1 => trip X (pairB b (4 * k)) (pair b (4 * k)) (pair b (4 * k + 1)) (pair b (4 * k + 2)) (pair b (4 * k + 3)) (pair b (4 * k + 4)) (stN X b k)

/-- The words that the loop carries into trip `k`. -/
def words (b : Fin 4) (k : ℕ) : BitVec 32 × BitVec 32 × BitVec 32 × BitVec 32 × BitVec 32 × BitVec 32 :=
  ((word b (pair b (4 * k + 1))).1, (word b (pair b (4 * k + 1))).2, (word b (pair b (4 * k))).1, (word b (pair b (4 * k))).2,
    (word b (pairB b (4 * k))).1, (word b (pairB b (4 * k))).2)

section
variable (c : Dev nD)
variable (arg2 : Memref sig .tc .vmem S1x4096x256 .bf16) (harg2 : arg2.IsWhole) (arg3 : Memref sig .tc .vmem S1x16384x128 .bf16) (harg3 : arg3.IsWhole) (arg4 : Memref sig .tc .vmem S16384x128 .bf16) (harg4 : arg4.IsWhole) (arg5 : Memref sig .tc .vmem S1x16384x128 .bf16) (harg5 : arg5.IsWhole) (arg6 : Memref sig .tc .vmem S4096x128 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S8x512x1 .f32) (harg13 : arg13.IsWhole) (arg14 : Memref sig .tc .vmem S8x512x256 .f32) (harg14 : arg14.IsWhole)

/-- The kernel, its diagonal under one name. -/
noncomputable def flash (i : grid0.Coords) : Pr F PUnit := do
  let ⟨arg1, v0, v1, v3, v20, v21, v23, v25, v28, c0_i32_16⟩ : Σ' (arg1 : BitVec 32) (v0 : BitVec 32) (v1 : BitVec 32) (v3 : BitVec 32) (v20 : BitVec 32) (v21 : BitVec 32) (v23 : BitVec 1) (v25 : BitVec 1) (v28 : BitVec 32), BitVec 32 ← k0_part32_skel i arg2 harg2 arg3 harg3 arg4 harg4 arg5 harg5 arg6 harg6 arg7 harg7 arg8 harg8 arg9 harg9 arg10 harg10 arg11 harg11 arg12 harg12 arg13 harg13 arg14 harg14
  let ⟨v35, v38, c4_i32, v58, v63, v65⟩ : Σ' (v35 : BitVec 32) (v38 : BitVec 32) (c4_i32 : BitVec 32) (v58 : BitVec 32) (v63 : BitVec 32), BitVec 32 ← k0_part33_skel i arg2 harg2 arg3 harg3 arg4 harg4 arg5 harg5 arg6 harg6 arg7 harg7 arg8 harg8 arg9 harg9 arg10 harg10 arg11 harg11 arg12 harg12 arg13 harg13 arg14 harg14 v0 v3 v20 v21 v23 v25 v28 c0_i32_16
  let v66 : BitVec 1 := Scalar.cmpi .slt c4_i32 0#32
  let v67 : BitVec 32 := Scalar.extui v66
  let v68 : BitVec 32 := Scalar.subi v65 v67
  let v69 : BitVec 1 := Scalar.cmpi .ne v63 v68
  let v70 : BitVec 32 := Scalar.remsi v3 c4_i32
  let v71 : BitVec 1 := Scalar.cmpi .ne v70 0#32
  let v72 : BitVec 1 := Scalar.andi v69 v71
  let v73 : BitVec 32 := Scalar.subi v58 1#32
  let v74 : BitVec 32 := Scalar.select v72 v73 v58
  let v75 : BitVec 32 := Scalar.subi v74 0#32
  let v77 : BitVec 32 := Scalar.divsi v75 1#32
  let v78 : BitVec 32 := Scalar.muli v77 1#32
  let v79 : BitVec 32 := Scalar.addi 0#32 v78
  let (v80_0, v80_1, v80_2, v80_3, v80_4, v80_5) ← Scf.Loop.for (k0_t1_loop i) (k0_t1_ok i) (v35, v38, v20, 0#32, v20, 0#32) (k0_t1_body i arg2 harg2 arg3 harg3 arg4 harg4 arg5 harg5 arg6 harg6 arg7 harg7 arg8 harg8 arg9 harg9 arg10 harg10 arg11 harg11 arg12 harg12 arg13 harg13 arg14 harg14 v0 v1)
  let (v81_0, v81_1, v81_2, v81_3, v81_4, v81_5) ← Scf.Loop.for (k0_t2_loop i) (k0_t2_ok i) (v80_0, v80_1, v80_2, v80_3, v80_4, v80_5) (k0_t2_body i arg2 harg2 arg3 harg3 arg4 harg4 arg5 harg5 arg6 harg6 arg7 harg7 arg8 harg8 arg9 harg9 arg10 harg10 arg11 harg11 arg12 harg12 arg13 harg13 arg14 harg14 v0 v1 v79)
  edges arg2 harg2 arg3 harg3 arg4 harg4 arg5 harg5 arg6 harg6 arg7 harg7 arg8 harg8 arg9 harg9 arg10 harg10 arg11 harg11 arg12 harg12 arg13 harg13 arg14 harg14 i v0 v81_4 v81_5

theorem flash_eq (i : grid0.Coords) : cc0_flash_skel i arg2 harg2 arg3 harg3 arg4 harg4 arg5 harg5 arg6 harg6 arg7 harg7 arg8 harg8 arg9 harg9 arg10 harg10 arg11 harg11 arg12 harg12 arg13 harg13 arg14 harg14 = (flash arg2 harg2 arg3 harg3 arg4 harg4 arg5 harg5 arg6 harg6 arg7 harg7 arg8 harg8 arg9 harg9 arg10 harg10 arg11 harg11 arg12 harg12 arg13 harg13 arg14 harg14 i : Pr F PUnit) := rfl

/-- The loop's invariant. -/
def Inv (X : Ins F) (b : Fin 4) (k : ℕ) (acc : BitVec 32 × BitVec 32 × BitVec 32 × BitVec 32 × BitVec 32 × BitVec 32) : sProp 𝕄 :=
  iprop(∃ σ : St F, Res c arg2 arg3 arg4 arg5 arg7 arg8 arg9 arg10 arg11 arg12 arg13 arg14 X σ ∗ ⌜Live σ (stN X b k) ∧ acc = words b k⌝)

/-- A trip takes the invariant to the next. -/
theorem inv_step (h : Fin 16) (b : Fin 4) (X : Ins F) (k : Fin (k0_t1_loop (pt h b)).trips) (acc) :
    Inv c arg2 arg3 arg4 arg5 arg7 arg8 arg9 arg10 arg11 arg12 arg13 arg14 X b k.val acc
      ⊢ WP c (k0_t1_body (pt h b) arg2 harg2 arg3 harg3 arg4 harg4 arg5 harg5 arg6 harg6 arg7 harg7 arg8 harg8 arg9 harg9 arg10 harg10 arg11 harg11 arg12 harg12 arg13 harg13 arg14 harg14 (v0 b) (v1 b) k acc)
        (Inv c arg2 arg3 arg4 arg5 arg7 arg8 arg9 arg10 arg11 arg12 arg13 arg14 X b (k.val + 1)) := by
  have hk : k.val < 8 * b.val + 3 := lt_of_lt_of_eq k.isLt (trips1 h b)
  have g := good b k.val hk
  unfold Inv
  iintro ⟨%σ, H, %hs⟩
  obtain ⟨hl, rfl⟩ := hs
  unfold words
  iapply (wp_trip c arg2 harg2 arg3 harg3 arg4 harg4 arg5 harg5 arg6 harg6 arg7 harg7 arg8 harg8 arg9 harg9 arg10 harg10 arg11 harg11 arg12 harg12 arg13 harg13 arg14 harg14 (pt h b) (v0 b) (v1 b) k _ _ _ _ _ _ _ _ _ _ _ _ (tripOk h b g) X σ) $$ H
  iintro H
  iexists _
  isplitl [H]
  · iexact H
  · ipureintro
    refine ⟨?_, ?_⟩
    · rw [trip_live X _ _ _ _ _ _ hl]
      exact ⟨rfl, rfl, rfl, rfl, rfl⟩
    · rw [g.2.1, g.2.2.1, g.2.2.2.1, g.2.2.2.2]
      rfl

set_option maxHeartbeats 2000000 in
/-- The kernel at head `h` and band `b` leaves the band's output in the output block. -/
theorem wp_body (h : Fin 16) (b : Fin 4) (X : Ins F) (σ : St F) (O : S4096x128.Idx → Elt F .bf16) {Q : PUnit → sProp 𝕄} :
    iprop(Res c arg2 arg3 arg4 arg5 arg7 arg8 arg9 arg10 arg11 arg12 arg13 arg14 X σ ∗ own c arg6 O)
      ⊢ iprop((iprop((∃ σ' : St F, Res c arg2 arg3 arg4 arg5 arg7 arg8 arg9 arg10 arg11 arg12 arg13 arg14 X σ') ∗ own c arg6 (outs X b (lastP b) (stN X b (8 * b.val + 3)) O))
          -∗ Q ⟨⟩)
        -∗ WP c (cc0_flash (pt h b) arg2 harg2 arg3 harg3 arg4 harg4 arg5 harg5 arg6 harg6 arg7 harg7 arg8 harg8 arg9 harg9 arg10 harg10 arg11 harg11 arg12 harg12 arg13 harg13 arg14 harg14) Q) := by
  have ok := edgeOk h b
  have hw := start_words b
  rw [cc0_flash_eq_skeleton, flash_eq]
  unfold flash
  dsimp only [k0_part32_skel, k0_part33_skel]
  simp only [Prog.bind_assoc, Prog.bind_lift, Prog.bind_op, Prog.pure_eq_ret, Prog.bind_ret]
  rw [show Res c arg2 arg3 arg4 arg5 arg7 arg8 arg9 arg10 arg11 arg12 arg13 arg14 X σ = iprop((own c arg2 X.q ∗ own c arg3 X.k ∗ own c arg4 X.p ∗ own c arg5 X.v) ∗ own c arg7 σ.s0 ∗ own c arg8 σ.s1
      ∗ own c arg9 σ.p0 ∗ own c arg10 σ.p1 ∗ own c arg11 σ.a0 ∗ own c arg12 σ.a1 ∗ own c arg13 σ.m ∗ own c arg14 σ.acc) from rfl]
  iintro ⟨⟨⟨H2, H3, H4, H5⟩, H7, H8, H9, H10, H11, H12, H13, H14⟩, H6⟩ HQ
  iapply (ldF c _) $$ H10; iintro H10
  iapply (stF c _ k0_pay159 rfl) $$ H10; iintro H10
  iapply (ldF c _) $$ H12; iintro H12
  iapply (stF c _ k0_pay160 rfl) $$ H12; iintro H12
  iapply (ldF c _) $$ H14; iintro H14
  iapply (stF c _ k0_pay161 rfl) $$ H14; iintro H14
  iapply (ldF c _) $$ H13; iintro H13
  iapply (stF c _ k0_pay162 rfl) $$ H13; iintro H13
  iapply (ldQ c _ (first b).1 ok.e1) $$ H2; iintro H2
  iapply (ldK c _ (first b).2 rfl) $$ H3; iintro H3
  iapply (ldP c _ (first b).2 rfl) $$ H4; iintro H4
  iapply (ldF c _) $$ H7; iintro H7
  iapply (stF c _ (scores X (first b)) rfl) $$ H7; iintro H7
  iapply (Scf.wp_for_bind frame (wpE (defs₀ (F := F)) 𝒱₀ (c : Thread nD τ) none) Set.univ _ _ _ _ _ _
    (Inv c arg2 arg3 arg4 arg5 arg7 arg8 arg9 arg10 arg11 arg12 arg13 arg14 X b)
    (inv_step c arg2 harg2 arg3 harg3 arg4 harg4 arg5 harg5 arg6 harg6 arg7 harg7 arg8 harg8 arg9 harg9 arg10 harg10 arg11 harg11 arg12 harg12 arg13 harg13 arg14 harg14 h b X)) $$ [H2 H3 H4 H5 H7 H8 H9 H10 H11 H12 H13 H14]
  · unfold Inv
    iexists (St.mk (scores X (first b)) σ.s1 σ.p0 k0_pay159 σ.a0 k0_pay160 k0_pay162 k0_pay161 : St F)
    isplitl
    · unfold Res
      iframe
    · ipureintro
      refine ⟨⟨rfl, rfl, rfl, rfl, rfl⟩, ?_⟩
      have e : word b (first b) = (Scalar.maxsi (v0 b) 2#32, 0#32) := Prod.ext hw.1.symm hw.2.1.symm
      have e2 := hw.2.2
      rw [e] at e2
      show _ = ((word b (next b (first b))).1, (word b (next b (first b))).2, (word b (first b)).1, (word b (first b)).2,
        (word b (first b)).1, (word b (first b)).2)
      rw [← e2, e]
      rfl
  iintro %acc H
  iapply (Scf.wp_for_bind frame (wpE (defs₀ (F := F)) 𝒱₀ (c : Thread nD τ) none) Set.univ _ _ _ _ _ _
    (fun _ => Inv c arg2 arg3 arg4 arg5 arg7 arg8 arg9 arg10 arg11 arg12 arg13 arg14 X b (8 * b.val + 3))
    (fun k _ => absurd k.isLt (by
      have := trips2 h b
      show ¬ k.val < (k0_t2_loop (pt h b)).trips
      omega))) $$ [H]
  · rw [← trips1 h b]
    iexact H
  iintro %acc H
  unfold Inv
  icases H with ⟨%σ', H, %hs⟩
  obtain ⟨hl, rfl⟩ := hs
  rw [← outs_live X b (lastP b) hl O]
  unfold words
  dsimp only
  iapply (wp_edges c arg2 harg2 arg3 harg3 arg4 harg4 arg5 harg5 arg6 harg6 arg7 harg7 arg8 harg8 arg9 harg9 arg10 harg10 arg11 harg11 arg12 harg12 arg13 harg13 arg14 harg14 (pt h b) (v0 b) (word b (lastP b)).1 (word b (lastP b)).2 b (lastP b) ok X σ' O) $$ [H H6]
  · isplitl [H]
    · iexact H
    · iexact H6
  iexact HQ

end

end Cert.Proof.Flash
-- ==== Proof.Run.lean ====
/-
  The launch: every fair execution of the attention call ends with the output array the bands' outputs make, the operands as they were
  and every semaphore at zero.
-/
module

public import proofs.«01_k».proof.Proof.Body
public import proofs.«01_k».proof.Proof.Gen.KernelIdeal.Frame

@[expose] public section

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## The output block, tile by tile -/

theorem winO_putO (X : S4096x128.Idx → Elt F .bf16) (r r' : Fin 8) (w : Vec F S512x128 .bf16) :
    winO (putO X r w) r' = if r = r' then w else winO X r' := by
  split
  · subst_vars; exact VecWindow.window_put_same _ _ _ _ _
  · rename_i hne
    have : r.val ≠ r'.val := fun h => hne (Fin.ext h)
    refine VecWindow.window_put_of_disjoint (s := S4096x128) X (offO r) S512x128.size (offO r') S512x128.size (inbO r') w (0 : Fin 2) ?_
    show 512 * r'.val + 512 ≤ 512 * r.val ∨ 512 * r.val + 512 ≤ 512 * r'.val
    omega

/-- A block read at an entry is a tile of it read at the entry's place. -/
theorem eq_winO (X : S4096x128.Idx → Elt F .bf16) (y : S4096x128.Idx) :
    X y = winO X ⟨(y 0).val / 512, Nat.div_lt_of_lt_mul (y 0).isLt⟩
      (fun a => match a with | ⟨0, _⟩ => ⟨(y 0).val % 512, Nat.mod_lt _ (by decide)⟩ | ⟨1, _⟩ => y 1) := by
  refine congrArg X (funext fun a => Fin.ext ?_)
  match a with
  | ⟨0, _⟩ => show (y 0).val = 512 * ((y 0).val / 512) + 1 * ((y 0).val % 512); omega
  | ⟨1, _⟩ => show (y 1).val = 0 + 1 * (y 1).val; omega

theorem ext_winO {X Y : S4096x128.Idx → Elt F .bf16} (h : ∀ r, winO X r = winO Y r) : X = Y := by
  funext y; rw [eq_winO X, eq_winO Y, h]

/-- Tile `r` of a band's output. -/
def tileOut (X : Ins F) (b : Fin 4) (z : Pair) (σ : St F) : Fin 8 → Vec F S512x128 .bf16
  | ⟨0, _⟩ => outH X z σ 0 (tileE b 0) (halfS σ.s0)
  | ⟨1, _⟩ => outG X z σ 1 (tileE b 0) (scores X (1, tileE b 0))
  | ⟨2, _⟩ => outH X z σ 2 (tileE b 1) (scoresH X 2 (tileE b 1))
  | ⟨3, _⟩ => outG X z σ 3 (tileE b 1) (scores X (3, tileE b 1))
  | ⟨4, _⟩ => outH X z σ 4 (tileE b 2) (scoresH X 4 (tileE b 2))
  | ⟨5, _⟩ => outG X z σ 5 (tileE b 2) (scores X (5, tileE b 2))
  | ⟨6, _⟩ => outH X z σ 6 (tileE b 3) (scoresH X 6 (tileE b 3))
  | ⟨7, _⟩ => outG X z σ 7 (tileE b 3) (scores X (7, tileE b 3))

theorem winO_outs (X : Ins F) (b : Fin 4) (z : Pair) (σ : St F) (O) (r : Fin 8) : winO (outs X b z σ O) r = tileOut X b z σ r := by
  unfold outs
  simp only [winO_putO]
  fin_cases r <;> rfl

/-- The output block of band `b`. -/
def bandOut (X : Ins F) (b : Fin 4) : S4096x128.Idx → Elt F .bf16 :=
  outs X b (lastP b) (stN X b (8 * b.val + 3)) (constant S4096x128 .bf16 0#16)

theorem outs_eq (X : Ins F) (b : Fin 4) (O) : outs X b (lastP b) (stN X b (8 * b.val + 3)) O = bandOut X b :=
  ext_winO fun r => by unfold bandOut; rw [winO_outs, winO_outs]

variable (m : (ℓ : Loc nD τ sig) → Buf (Elt F) ℓ) (ρ : Dev nD → PrngReg)

/-! ## The pipeline's proof data -/

/-- The operands' blocks at a point. -/
def insAt (c : Dev nD) (t : Fin cfg0.N) : Ins F := ⟨iblk m c 0 t, iblk m c 1 t, iblk m c 2 t, iblk m c 3 t⟩

/-- The output's block at a point. -/
def outAt (c : Dev nD) (t : Fin cfg0.N) : S4096x128.Idx → Elt F .bf16 := bandOut (insAt m c t) (grid0.coords t 1)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

/-! ## The body at a point -/

/-- The kernel's working buffers, with any contents. -/
def Bufs (c : Dev nD) : sProp 𝕄 :=
  iprop((∃ f, own c (Memref.whole cc0_scratch0) f) ∗ (∃ f, own c (Memref.whole cc0_scratch1) f) ∗ (∃ f, own c (Memref.whole cc0_scratch2) f)
    ∗ (∃ f, own c (Memref.whole cc0_scratch3) f) ∗ (∃ f, own c (Memref.whole cc0_scratch4) f) ∗ (∃ f, own c (Memref.whole cc0_scratch5) f)
    ∗ (∃ f, own c (Memref.whole cc0_scratch6) f) ∗ (∃ f, own c (Memref.whole cc0_scratch7) f))

theorem phi_eq (c : Dev nD) : (Pipeline.ΦA spec0 c : sProp 𝕄) = iprop(Bufs (F := F) c ∗ ∃ r, prngReg c r) := by
  unfold Pipeline.ΦA Bufs own
  rw [scopedRest0_eq]
  simp only [owns_whole]

section
variable (c : Dev nD)
variable (arg2 : Memref sig .tc .vmem S1x4096x256 .bf16) (harg2 : arg2.IsWhole) (arg3 : Memref sig .tc .vmem S1x16384x128 .bf16) (harg3 : arg3.IsWhole) (arg4 : Memref sig .tc .vmem S16384x128 .bf16) (harg4 : arg4.IsWhole) (arg5 : Memref sig .tc .vmem S1x16384x128 .bf16) (harg5 : arg5.IsWhole) (arg6 : Memref sig .tc .vmem S4096x128 .bf16) (harg6 : arg6.IsWhole)

theorem wp_point (i : grid0.Coords) (X : Ins F) (O : S4096x128.Idx → Elt F .bf16) {Q : PUnit → sProp 𝕄} :
    iprop((own c arg2 X.q ∗ own c arg3 X.k ∗ own c arg4 X.p ∗ own c arg5 X.v) ∗ own c arg6 O ∗ Bufs (F := F) c)
      ⊢ iprop((iprop((own c arg2 X.q ∗ own c arg3 X.k ∗ own c arg4 X.p ∗ own c arg5 X.v) ∗ own c arg6 (bandOut X (i 1)) ∗ Bufs (F := F) c) -∗ Q ⟨⟩)
        -∗ WP c (cc0_flash i arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)) Q) := by
  obtain ⟨h, b, rfl⟩ := exists_pt i
  unfold Bufs
  iintro ⟨Hin, Hout, ⟨%f0, G0⟩, ⟨%f1, G1⟩, ⟨%f2, G2⟩, ⟨%f3, G3⟩, ⟨%f4, G4⟩, ⟨%f5, G5⟩, ⟨%f6, G6⟩, ⟨%f7, G7⟩⟩ HQ
  iapply (wp_body c arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h b X (St.mk f0 f1 f2 f3 f4 f5 f6 f7) O) $$ [Hin Hout G0 G1 G2 G3 G4 G5 G6 G7]
  · isplitr [Hout]
    · unfold Res
      isplitl [Hin]; · iexact Hin
      isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    · iexact Hout
  rw [outs_eq]
  unfold Res
  iintro ⟨⟨%σ', Hin, G0, G1, G2, G3, G4, G5, G6, G7⟩, Hout⟩
  iapply HQ
  isplitl [Hin]; · iexact Hin
  isplitl [Hout]; · iexact Hout
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  iexists _; iexact G7

end

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4]
  rw [show (win0 4).flush t = true from flush0_4 t]
  generalize idle0 4 (grid0.coords t) = idle
  rw [show (dats m 0 c).Φ t.castSucc = iprop(Bufs (F := F) c ∗ ∃ r, prngReg c r) from phi_eq c]
  iintro ⟨⟨HΦ, Hr⟩, Ho, ⟨%d0, H0⟩, ⟨%d1, H1⟩, ⟨%d2, H2⟩, ⟨%d3, H3⟩, ⟨%d4, H4⟩⟩
  iapply (wp_point c _ _ _ _ _ _ _ _ _ _ (grid0.coords t) (insAt m c t) _) $$ [HΦ H0 H1 H2 H3 H4]
  · isplitl [H0 H1 H2 H3]
    · isplitl [H0]; · iexact H0
      isplitl [H1]; · iexact H1
      isplitl [H2]; · iexact H2
      iexact H3
    isplitl [H4]; · iexact H4
    iexact HΦ
  iintro ⟨⟨H0, H1, H2, H3⟩, H4, HΦ⟩
  isplitl [HΦ Hr]
  · isplitl [HΦ]; · iexact HΦ
    iexact Hr
  isplitl [Ho]; · iexact Ho
  isplitl [H0]; · iexact H0
  isplitl [H1]; · iexact H1
  isplitl [H2]; · iexact H2
  isplitl [H3]; · iexact H3
  cases idle <;> iexact H4

/-! ## The run -/

set_option backward.isDefEq.respectTransparency.types false in
/-- Every fair execution ends with each array of the call at what the proof data make of it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof.Flash
-- ==== Proof.Frames.lean ====
/-
  The frames: the kernel, as printed and over the extended reals, and the reference end with their arguments as they were and every
  semaphore at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts

/-- The attention call's frame, over any values. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  θ_run_with_sems (Cert.KernelIdeal.Gen.frame_of m ρ (Flash.dats m) fun _ _ => rfl) (Flash.run_main m ρ)

theorem frame_KernelIdeal : Cert.quiescent_KernelIdeal := fun m ρ _ => frame_any (F := Ideal) m ρ

/-- The two programs' tables of bodies are one. -/
theorem defs0_eq {F : FTy → Type} [FloatOps F] : Cert.Kernel.defs₀ (F := F) = Cert.KernelIdeal.defs₀ (F := F) := by
  unfold Cert.Kernel.defs₀ Cert.KernelIdeal.defs₀
  refine congrArg Defs.onTc ?_
  funext l x
  match l, x with
  | ⟨0, _⟩, (t, s) => rfl

theorem defs_eq {F : FTy → Type} [FloatOps F] : Cert.Kernel.defs (F := F) = Cert.KernelIdeal.defs (F := F) := by
  unfold Cert.Kernel.defs Cert.KernelIdeal.defs
  rw [defs0_eq]; rfl

theorem frame_Kernel : Cert.quiescent_Kernel := fun m ρ _ => by
  rw [defs_eq]
  exact frame_any (F := Bits) m ρ

theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Math.lean ====
/-
  Sums over the extended reals with real nonnegative weights, and the softmax of a row of real scores.
-/
module

public import Idealize.ShloMosaic.PureOps.Ideal
public import Mathlib.Data.EReal.Operations
public import Mathlib.Algebra.BigOperators.Fin
public import Mathlib.Data.Finset.Fold
public import Mathlib.Analysis.SpecialFunctions.Pow.Real

@[expose] public section

noncomputable section

namespace Cert.Proof.Soft

open Idealize.ShloMosaic Finset

theorem coe_mul_sum {ι : Type} (c : ℝ) (hc : 0 ≤ c) (s : Finset ι) (f : ι → EReal) : (c : EReal) * ∑ i ∈ s, f i = ∑ i ∈ s, (c : EReal) * f i := by
  classical
  induction s using Finset.induction_on with
  | empty => rw [sum_empty, sum_empty, mul_zero]
  | insert a s ha ih =>
    rw [sum_insert ha, sum_insert ha, EReal.left_distrib_of_nonneg_of_ne_top (EReal.coe_nonneg.mpr hc) (EReal.coe_ne_top c), ih]

theorem coe_sum {ι : Type} (s : Finset ι) (f : ι → ℝ) : ∑ i ∈ s, ((f i : ℝ) : EReal) = ((∑ i ∈ s, f i : ℝ) : EReal) := by
  classical
  induction s using Finset.induction_on with
  | empty => rw [sum_empty, sum_empty, EReal.coe_zero]
  | insert a s ha ih => rw [sum_insert ha, sum_insert ha, EReal.coe_add, ih]

/-- The weight of a score under a maximum. -/
abbrev e2 (x : ℝ) : ℝ := Real.rpow 2 x

theorem e2_pos (x : ℝ) : 0 < e2 x := Real.rpow_pos_of_pos (by norm_num) x
theorem e2_mul (x y : ℝ) : e2 x * e2 y = e2 (x + y) := (Real.rpow_add (by norm_num) x y).symm

/-- A partial sum under the maximum `M`, rescaled to `M'`, and a further tile. -/
theorem sum_step (σ c : ℕ → ℝ) (w : ℕ → EReal) (M M' : ℝ) (n k : ℕ) (hc : ∀ j, j < n → c j = e2 (σ j - M')) :
    (e2 (M - M') : EReal) * (∑ j ∈ range n, (e2 (σ j - M) : EReal) * w j) + ∑ x : Fin k, (c (n + x.val) : EReal) * w (n + x.val)
      = ∑ j ∈ range (n + k), (c j : EReal) * w j := by
  rw [coe_mul_sum _ (e2_pos _).le, sum_range_add, Finset.sum_range (fun x => (c (n + x) : EReal) * w (n + x))]
  refine congrArg (· + _) (sum_congr rfl fun j hj => ?_)
  rw [← mul_assoc, ← EReal.coe_mul, e2_mul, hc j (mem_range.mp hj), show M - M' + (σ j - M) = σ j - M' by ring]

/-- A maximum of a real and of terms none of which is `⊤` is real. -/
theorem max_fold_real {ι : Type} (M : ℝ) (s : Finset ι) (f : ι → EReal) (h : ∀ i ∈ s, f i ≠ ⊤) : ∃ M' : ℝ, max (M : EReal) (s.fold max ⊥ f) = M' := by
  have h1 : s.fold max ⊥ f < ⊤ := (Finset.fold_max_lt ⊤).mpr ⟨bot_lt_top, fun i hi => lt_top_iff_ne_top.mpr (h i hi)⟩
  have h2 : max (M : EReal) (s.fold max ⊥ f) ≠ ⊤ := (max_lt (EReal.coe_lt_top M) h1).ne
  have h3 : max (M : EReal) (s.fold max ⊥ f) ≠ ⊥ := (lt_of_lt_of_le (EReal.bot_lt_coe M) (le_max_left _ _)).ne'
  exact ⟨_, (EReal.coe_toReal h2 h3).symm⟩

/-- The softmax over the keys up to `q`. -/
def soft (x : ℕ → ℝ) (q k : ℕ) : ℝ := if k ≤ q then Real.exp (x k) / ∑ j ∈ range (q + 1), Real.exp (x j) else 0

/-- Weights in the ratio of the exponentials up to `q`, and zero after it: their quotient by their sum is the softmax. -/
theorem soft_of (x c : ℕ → ℝ) (q N : ℕ) (hq : q < N) (g : ℝ) (hg : 0 < g) (hc : ∀ k, k < N → c k = if k ≤ q then Real.exp (x k) * g else 0) :
    0 < ∑ k ∈ range N, c k ∧ ∀ k, k < N → c k * (1 / ∑ k ∈ range N, c k) = soft x q k := by
  have hs : ∑ k ∈ range N, c k = (∑ j ∈ range (q + 1), Real.exp (x j)) * g := by
    obtain ⟨d, rfl⟩ : ∃ d, N = (q + 1) + d := ⟨N - (q + 1), by omega⟩
    rw [sum_range_add, Finset.sum_mul]
    have : ∑ j ∈ range d, c (q + 1 + j) = 0 := sum_eq_zero fun j hj => by
      rw [hc _ (by have := mem_range.mp hj; omega), if_neg (by omega)]
    rw [this, add_zero]
    refine sum_congr rfl fun j hj => ?_
    have := mem_range.mp hj
    rw [hc _ (by omega), if_pos (by omega)]
  have hZ : 0 < ∑ j ∈ range (q + 1), Real.exp (x j) := sum_pos (fun j _ => Real.exp_pos _) ⟨0, mem_range.mpr (by omega)⟩
  rw [hs]
  refine ⟨mul_pos hZ hg, fun k hk => ?_⟩
  rw [hc k hk, soft]
  split
  · field_simp
  · rw [zero_mul]

/-- The quotient of a weighted sum by the sum of the weights. -/
theorem quotient (c : ℕ → ℝ) (v : ℕ → EReal) (N : ℕ) (x : ℕ → ℝ) (q : ℕ) (hpos : 0 < ∑ k ∈ range N, c k)
    (h : ∀ k, k < N → c k * (1 / ∑ k ∈ range N, c k) = soft x q k) :
    Ideal.div (∑ k ∈ range N, (c k : EReal) * v k) (∑ k ∈ range N, (c k : EReal)) = ∑ k ∈ range N, (soft x q k : EReal) * v k := by
  rw [coe_sum, Ideal.div_coe hpos.ne', mul_comm, coe_mul_sum _ (by positivity)]
  refine sum_congr rfl fun k hk => ?_
  rw [← mul_assoc, ← EReal.coe_mul, mul_comm _ (c k), h k (mem_range.mp hk)]

/-- Keys past the query add nothing. -/
theorem soft_extend (x : ℕ → ℝ) (v : ℕ → EReal) (q N N' : ℕ) (hq : q < N) (hN : N ≤ N') :
    ∑ k ∈ range N, (soft x q k : EReal) * v k = ∑ k ∈ range N', (soft x q k : EReal) * v k := by
  obtain ⟨d, rfl⟩ : ∃ d, N' = N + d := ⟨N' - N, by omega⟩
  rw [sum_range_add]
  have : ∑ j ∈ range d, (soft x q (N + j) : EReal) * v (N + j) = 0 := sum_eq_zero fun j _ => by
    rw [soft, if_neg (by omega), EReal.coe_zero, zero_mul]
  rw [this, add_zero]

/-- Powers of two of scores in units of `log 2`. -/
theorem e2_eq (s M x : ℝ) (h : Real.log 2 * s = x) : e2 (s - M) = Real.exp x * Real.exp (-(Real.log 2 * M)) := by
  show (2 : ℝ) ^ (s - M) = _
  rw [Real.rpow_def_of_pos (by norm_num), ← Real.exp_add, ← h]
  congr 1
  ring

/-- A row of scores, `⊥` past the query: the exponentials of their differences to a real number, divided by their sum, are the
    softmax. -/
theorem soft_row (x : ℕ → ℝ) {N : ℕ} (y : Fin N) (v s : Fin N → EReal) (hs : ∀ k, s k = if k.val ≤ y.val then (x k.val : EReal) else ⊥) (M : ℝ) :
    ∑ k, v k * Ideal.div (Ideal.exp (s k - (M : EReal))) (∑ j, Ideal.exp (s j - (M : EReal)))
      = ∑ k : Fin N, (soft x y.val k.val : EReal) * v k := by
  let c : ℕ → ℝ := fun k => if k ≤ y.val then Real.exp (x k) * Real.exp (-M) else 0
  have hc : ∀ k : Fin N, Ideal.exp (s k - (M : EReal)) = (c k.val : EReal) := fun k => by
    rw [hs]
    show _ = ((if k.val ≤ y.val then Real.exp (x k.val) * Real.exp (-M) else 0 : ℝ) : EReal)
    split
    · rw [← EReal.coe_sub, Ideal.exp_coe, ← Real.exp_add, sub_eq_add_neg]
    · rw [EReal.bot_sub, Ideal.exp_bot, EReal.coe_zero]
  simp only [hc]
  have h := soft_of x c y.val N y.isLt (Real.exp (-M)) (Real.exp_pos _) fun k _ => rfl
  rw [coe_sum, ← Finset.sum_range (fun k => c k)]
  refine sum_congr rfl fun k _ => ?_
  rw [Ideal.div_coe h.1.ne', ← EReal.coe_mul, h.2 k.val k.isLt, mul_comm]

/-- A list's maximum, from a value on. -/
theorem foldl_max_ne_top {ι : Type} (x : ι → EReal) (hx : ∀ i, x i ≠ ⊤) : ∀ (l : List ι) (a : EReal), a ≠ ⊤ → l.foldl (fun r i => max r (x i)) a ≠ ⊤
  | [], _, h => h
  | i :: l, a, h => foldl_max_ne_top x hx l _ (by
      show max a (x i) ≠ ⊤
      rcases max_choice a (x i) with e | e
      · rw [e]; exact h
      · rw [e]; exact hx i)

theorem le_foldl_max {ι : Type} (x : ι → EReal) : ∀ (l : List ι) (a : EReal), a ≤ l.foldl (fun r i => max r (x i)) a ∧ ∀ i ∈ l, x i ≤ l.foldl (fun r i => max r (x i)) a
  | [], a => ⟨le_rfl, fun _ hi => absurd hi List.not_mem_nil⟩
  | j :: l, a => by
    have ih := le_foldl_max x l (max a (x j))
    refine ⟨(le_max_left _ _).trans ih.1, fun i hi => ?_⟩
    rcases List.mem_cons.mp hi with rfl | hi
    · exact (le_max_right _ _).trans ih.1
    · exact ih.2 i hi

/-! ## The attention of a head -/

/-- Real queries and keys, by position, head and feature. -/
structure Rows where
  qn : Fin 16384 → Fin 16 → Fin 128 → ℝ
  qp : Fin 16384 → Fin 16 → Fin 64 → ℝ
  kn : Fin 16384 → Fin 16 → Fin 128 → ℝ
  kp : Fin 16384 → Fin 64 → ℝ

/-- The score of query `y` at key `k`, in head `h`. -/
def Rows.score (A : Rows) (h : Fin 16) (y k : Fin 16384) : ℝ :=
  ((∑ d, A.qn y h d * A.kn k h d) + ∑ d, A.qp y h d * A.kp k d) * (1 / Real.sqrt 192)

/-- The scores of query `y`, at natural numbers. -/
def Rows.scores (A : Rows) (h : Fin 16) (y : Fin 16384) (k : ℕ) : ℝ := if hk : k < 16384 then A.score h y ⟨k, hk⟩ else 0

theorem Rows.scores_val (A : Rows) (h : Fin 16) (y k : Fin 16384) : A.scores h y k.val = A.score h y k := dif_pos k.isLt

/-- The attention of query `y` to the values `v`. -/
def Rows.attend (A : Rows) (h : Fin 16) (y : Fin 16384) (v : Fin 16384 → EReal) : EReal :=
  ∑ k : Fin 16384, (soft (A.scores h y) y.val k.val : EReal) * v k

end Cert.Proof.Soft
-- ==== Proof.Finite.lean ====
/-
  What the precondition says: every query and every key is a real number.
-/
module

public import proofs.«01_k».proof.Defs
public import proofs.«01_k».proof.Proof.Gen.Pre_finite
public import proofs.«01_k».proof.Proof.Math
public import Idealize.ShloMosaic.Lib.ReduceAll
public import Idealize.ShloMosaic.Lib.Pointwise

@[expose] public section

noncomputable section

namespace Cert.Proof.Finite

open Cert.Pre_finite Cert.Proof.Soft
open Idealize.ShloMosaic Idealize.ShloMosaic.Pointwise

attribute [local instance] Cert.Pre_finite.Gen.facts

theorem inf : Ideal.ofBits .f32 2139095040#32 = ⊤ := by simp [Ideal.ofBits, Ideal.ieee]

/-- A number of magnitude below `⊤` is real. -/
theorem real_of_abs_lt (x : EReal) (h : max x (-x) < ⊤) : x = (x.toReal : EReal) := by
  refine (EReal.coe_toReal ?_ ?_).symm
  · rintro rfl
    exact absurd h (by simp)
  · rintro rfl
    exact absurd h (by simp)

/-- Where the comparison of an array's magnitudes with infinity holds throughout, its entries are real. -/
theorem real_of_all {s : Shape} {axes : List (Fin s.rank)} (x b : FVec Ideal s .f32) (n : IVec S_ 1) (hb : ∀ i, b i = ⊤) (h : s.ReducesTo axes S_)
    (hu : 0 < S_.numel) (j : S_.Idx) (e : Host.reduce IntOp.andi (cmpf .olt (Host.absf x) b) n h hu j = 1#1) (i : s.Idx) :
    x i = ((x i).toReal : EReal) := by
  haveI : Subsingleton S_.Idx := ⟨fun a b => funext fun k => k.elim0⟩
  have h1 := Host.reduce_andi_all _ _ _ _ j e i
  have h2 : Ideal.cmp .olt (max (x i) (-(x i))) (b i) = 1#1 := h1
  rw [hb] at h2
  refine real_of_abs_lt _ ?_
  by_contra hc
  simp [Ideal.cmp, hc] at h2

theorem real (q0 : FVec Ideal S1x16384x16x128 .f32) (q1 : FVec Ideal S1x16384x16x64 .f32) (k0 : FVec Ideal S1x16384x16x128 .f32)
    (k1 : FVec Ideal S1x16384x64 .f32) (v0 : FVec Ideal S1x16384x16x128 .f32) (h : Cert.Pre_finite.fn (F := Ideal) q0 q1 k0 k1 v0 = fun _ => 1#1) :
    (∀ i, q0 i = ((q0 i).toReal : EReal)) ∧ (∀ i, q1 i = ((q1 i).toReal : EReal)) ∧ (∀ i, k0 i = ((k0 i).toReal : EReal)) ∧ ∀ i, k1 i = ((k1 i).toReal : EReal) := by
  have e := congrFun h (fun k => k.elim0)
  unfold Cert.Pre_finite.fn Cert.Pre_finite.fn_part1 at e
  obtain ⟨e, e3⟩ := IntOp.andi_eq_one.1 e
  obtain ⟨e, e2⟩ := IntOp.andi_eq_one.1 e
  obtain ⟨e0, e1⟩ := IntOp.andi_eq_one.1 e
  exact ⟨real_of_all _ _ _ (fun _ => inf) _ _ _ e0, real_of_all _ _ _ (fun _ => inf) _ _ _ e1,
    real_of_all _ _ _ (fun _ => inf) _ _ _ e2, real_of_all _ _ _ (fun _ => inf) _ _ _ e3⟩

/-- The real queries and keys. -/
def rows (q0 : FVec Ideal S1x16384x16x128 .f32) (q1 : FVec Ideal S1x16384x16x64 .f32) (k0 : FVec Ideal S1x16384x16x128 .f32)
    (k1 : FVec Ideal S1x16384x64 .f32) : Rows where
  qn y h d := EReal.toReal (q0 (ix4 0 y h d))
  qp y h d := EReal.toReal (q1 (ix4 0 y h d))
  kn y h d := EReal.toReal (k0 (ix4 0 y h d))
  kp y d := EReal.toReal (k1 (ix3 0 y d))

end Cert.Proof.Finite
-- ==== Proof.Pipe.lean ====
/-
  What the software pipeline has computed when its loop ends: every row of the band has had its plain key tiles, each in turn, taken
  into its maximum and its accumulator.
-/
module

public import proofs.«01_k».proof.Proof.Body

@[expose] public section

noncomputable section

namespace Cert.Proof.Flash

open Cert.KernelIdeal Cert.KernelIdeal.Gen
open Idealize.ShloMosaic Idealize.ShloMosaic.TcCoe

variable {F : FTy → Type} [FloatOps F]

/-! ## A row's plain tiles, one after the other -/

/-- The maxima of row `r` after `t` plain tiles. -/
def mR (X : Ins F) (r : Fin 8) : ℕ → Vec F S1x512x1 .f32
  | 0 => rowM k0_pay162 r
  | t + 1 => fM (scores X (r, Fin.ofNat 16 t)) (mR X r t)

/-- The accumulator of row `r` after `t` plain tiles. -/
def cR (X : Ins F) (r : Fin 8) : ℕ → Vec F S1x512x256 .f32
  | 0 => rowC k0_pay161 r
  | t + 1 => fC (winK X.v (Fin.ofNat 16 t)) (fA (scores X (r, Fin.ofNat 16 t)) (mR X r t)) (cR X r t) (fP (scores X (r, Fin.ofNat 16 t)) (mR X r t))

/-! ## The order of the pairs -/

/-- How many of the first `n` pairs are of row `r`. -/
def cnt (b : Fin 4) : ℕ → Fin 8 → ℕ
  | 0 => fun _ => 0
  | n + 1 => fun r => cnt b n r + if (pair b n).1 = r then 1 else 0

/-- From pair `x` on, with `f` tiles of each row met, the next `n` pairs take each row's tiles in order; then every row has had its
    plain tiles and row 0's diagonal tile is next. -/
def ordered (b : Fin 4) : ℕ → Pair → (Fin 8 → ℕ) → Bool
  | 0, x, f => decide ((∀ r : Fin 8, f r = 4 * b.val + r.val / 2) ∧ x = (0, tileE b 0))
  | n + 1, x, f => decide (x.2.val = f x.1) && ordered b n (next b x) (fun r => f r + if x.1 = r then 1 else 0)

theorem ordered_all : ∀ b : Fin 4, ordered b (4 * (8 * b.val + 3)) (first b) (fun _ => 0) = true := by decide +kernel

theorem ordered_at (b : Fin 4) : ∀ (j n : ℕ), ordered b j (pair b n) (cnt b n) = true →
    (∀ i, i < j → (pair b (n + i)).2.val = cnt b (n + i) (pair b (n + i)).1)
      ∧ (∀ r : Fin 8, cnt b (n + j) r = 4 * b.val + r.val / 2) ∧ pair b (n + j) = (0, tileE b 0) := by
  intro j
  induction j with
  | zero =>
    intro n h
    rw [ordered, decide_eq_true_eq] at h
    exact ⟨fun i hi => absurd hi (Nat.not_lt_zero i), h.1, h.2⟩
  | succ j ih =>
    intro n h
    rw [ordered, Bool.and_eq_true, decide_eq_true_eq] at h
    have := ih (n + 1) h.2
    rw [show n + 1 + j = n + (j + 1) by omega] at this
    refine ⟨fun i hi => ?_, this.2⟩
    rcases i with _ | i
    · exact h.1
    · have h' := this.1 i (by omega)
      rw [show n + 1 + i = n + (i + 1) by omega] at h'
      exact h'

theorem order (b : Fin 4) (n : ℕ) (hn : n < 4 * (8 * b.val + 3)) : (pair b n).2 = Fin.ofNat 16 (cnt b n (pair b n).1) := by
  have h := (ordered_at b _ 0 (ordered_all b)).1 n hn
  rw [Nat.zero_add] at h
  rw [← h]
  exact (Fin.ofNat_val_eq_self _).symm

theorem cnt_end (b : Fin 4) (r : Fin 8) : cnt b (4 * (8 * b.val + 3)) r = 4 * b.val + r.val / 2 := by
  have h := (ordered_at b _ 0 (ordered_all b)).2.1 r
  rwa [Nat.zero_add] at h

theorem pair_end (b : Fin 4) : pair b (4 * (8 * b.val + 3)) = (0, tileE b 0) := by
  have h := (ordered_at b _ 0 (ordered_all b)).2.2
  rwa [Nat.zero_add] at h

/-! ## The pipeline's state before tick `n` -/

/-- The weights and the factor of the pair before the `n`-th. -/
def pN (X : Ins F) (b : Fin 4) : ℕ → S512x1024.Idx → Elt F .bf16
  | 0 => k0_pay159
  | n + 1 => fP (scores X (pair b n)) (mR X (pair b n).1 (cnt b n (pair b n).1))
def aN (X : Ins F) (b : Fin 4) : ℕ → S512x1.Idx → Elt F .f32
  | 0 => k0_pay160
  | n + 1 => fA (scores X (pair b n)) (mR X (pair b n).1 (cnt b n (pair b n).1))

/-- Before tick `n`: the scores are of the `n`-th pair, the weights and factor of the one before, the maxima have the pairs before it
    and the accumulators the pairs before that. -/
structure At (X : Ins F) (b : Fin 4) (n : ℕ) (s : S512x1024.Idx → Elt F .f32) (p : S512x1024.Idx → Elt F .bf16) (a : S512x1.Idx → Elt F .f32)
    (m : S8x512x1.Idx → Elt F .f32) (acc : S8x512x256.Idx → Elt F .f32) : Prop where
  s : s = scores X (pair b n)
  p : p = pN X b n
  a : a = aN X b n
  m : ∀ r, rowM m r = mR X r (cnt b n r)
  acc : ∀ r, rowC acc r = cR X r (cnt b (n - 1) r)

/-- Zero weights and the factor one leave a zero accumulator as it is. -/
def Idle (X : Ins F) (b : Fin 4) : Prop :=
  fC (winK X.v (first b).2) k0_pay160 (rowC k0_pay161 (first b).1) k0_pay159 = rowC k0_pay161 (first b).1

/-- The accumulation of the pair before the `n`-th. -/
theorem acc_step (X : Ins F) (b : Fin 4) (h0 : Idle X b) {n : ℕ} (hn : n ≤ 4 * (8 * b.val + 3)) {s p a m acc} (h : At X b n s p a m acc) (r : Fin 8) :
    rowC (putC acc (pairB b n).1 (fC (winK X.v (pairB b n).2) a (rowC acc (pairB b n).1) p)) r = cR X r (cnt b n r) := by
  rw [rowC_putC]
  rcases n with _ | n
  · split
    · rename_i hr
      subst hr
      rw [h.acc, h.p, h.a]
      exact h0
    · exact h.acc r
  · show (if (pair b n).1 = r then fC (winK X.v (pair b n).2) a (rowC acc (pair b n).1) p else _) = cR X r (cnt b n r + if (pair b n).1 = r then 1 else 0)
    split
    · rename_i hr
      subst hr
      rw [h.acc, h.p, h.a]
      show fC (winK X.v (pair b n).2) (fA (scores X (pair b n)) _) (cR X (pair b n).1 (cnt b n (pair b n).1)) (fP (scores X (pair b n)) _) = _
      have e : pair b n = ((pair b n).1, Fin.ofNat 16 (cnt b n (pair b n).1)) := Prod.ext rfl (order b n (by omega))
      generalize cnt b n (pair b n).1 = t at e ⊢
      show _ = fC _ _ _ _
      rw [← e, show Fin.ofNat 16 t = (pair b n).2 from (congrArg Prod.snd e).symm]
    · exact h.acc r

theorem tick (X : Ins F) (b : Fin 4) (h0 : Idle X b) {n : ℕ} (hn : n < 4 * (8 * b.val + 3)) {s p a m acc} (h : At X b n s p a m acc) :
    At X b (n + 1) (scores X (pair b (n + 1))) (fP s (rowM m (pair b n).1)) (fA s (rowM m (pair b n).1))
      (putM m (pair b n).1 (fM s (rowM m (pair b n).1)))
      (putC acc (pairB b n).1 (fC (winK X.v (pairB b n).2) a (rowC acc (pairB b n).1) p)) where
  s := rfl
  p := by rw [h.s, h.m]; rfl
  a := by rw [h.s, h.m]; rfl
  m r := by
    rw [rowM_putM]
    show _ = mR X r (cnt b n r + if (pair b n).1 = r then 1 else 0)
    split
    · rename_i hr
      subst hr
      rw [h.s, h.m]
      have e : pair b n = ((pair b n).1, Fin.ofNat 16 (cnt b n (pair b n).1)) := Prod.ext rfl (order b n hn)
      generalize cnt b n (pair b n).1 = t at e ⊢
      show _ = fM _ _
      rw [← e]
    · exact h.m r
  acc r := acc_step X b h0 hn.le h r

/-- The state before trip `k`. -/
theorem at_stN (X : Ins F) (b : Fin 4) (h0 : Idle X b) : ∀ k, k ≤ 8 * b.val + 3 →
    At X b (4 * k) (stN X b k).s0 (stN X b k).p1 (stN X b k).a1 (stN X b k).m (stN X b k).acc
  | 0, _ => ⟨rfl, rfl, rfl, fun _ => rfl, fun _ => rfl⟩
  | k + 1, hk =>
    tick X b h0 (n := 4 * k + 3) (by omega) (tick X b h0 (n := 4 * k + 2) (by omega) (tick X b h0 (n := 4 * k + 1) (by omega)
      (tick X b h0 (n := 4 * k) (by omega) (at_stN X b h0 k (by omega)))))

variable (X : Ins F) (b : Fin 4) (h0 : Idle X b)
include h0

/-- When the loop ends: row 0's diagonal tile is scored, and each row has its plain tiles' maximum and accumulator. -/
theorem end_s0 : (stN X b (8 * b.val + 3)).s0 = scores X (0, tileE b 0) := by
  rw [(at_stN X b h0 _ le_rfl).s, pair_end]
theorem end_m (r : Fin 8) : rowM (stN X b (8 * b.val + 3)).m r = mR X r (4 * b.val + r.val / 2) := by
  rw [(at_stN X b h0 _ le_rfl).m, cnt_end]
theorem end_acc (r : Fin 8) : rowC (accZ X (lastP b) (stN X b (8 * b.val + 3))) r = cR X r (4 * b.val + r.val / 2) := by
  rw [← cnt_end]
  exact acc_step X b h0 le_rfl (at_stN X b h0 _ le_rfl) r

end Cert.Proof.Flash
-- ==== Proof.Vals.lean ====
/-
  The stages' values over the reals, entry by entry.
-/
module

public import proofs.«01_k».proof.Proof.Pipe
public import proofs.«01_k».proof.Proof.Math
public import Idealize.ShloMosaic.Lib.Pointwise

@[expose] public section

set_option maxRecDepth 16384

noncomputable section

namespace Cert.Proof.Flash

open Cert.KernelIdeal Cert.KernelIdeal.Gen
open Idealize.ShloMosaic Idealize.ShloMosaic.TcCoe Idealize.ShloMosaic.Pointwise

/-! ## The literals -/

theorem negInf : Ideal.ofBits .f32 4286578688#32 = ⊥ := by simp [Ideal.ofBits, Ideal.ieee]

/-- The maximum a row starts from. -/
theorem mInit : ∃ M : ℝ, Ideal.ofBits .f32 4286578687#32 = (M : EReal) := by
  simp [Ideal.ofBits, Ideal.ieee, -EReal.coe_mul]
  exact ⟨_, rfl⟩

/-! ## Plain tiles -/

theorem fS_at (q : Vec Ideal S1x512x256 .bf16) (k : Vec Ideal S1x1024x128 .bf16) (p : Vec Ideal S1024x128 .bf16) (i : Fin 512) (j : Fin 1024) :
    fS q k p (ix2 i j) = (∑ x : Fin 128, q (ix3 0 i ⟨x.val, by omega⟩) * k (ix3 0 j x)) + ∑ x : Fin 128, q (ix3 0 i ⟨128 + x.val, by omega⟩) * p (ix2 j x) := by
  pointwise [fS, k0_pay9]

theorem fSh_at (q : Vec Ideal S1x512x256 .bf16) (k : Vec Ideal S1x512x128 .bf16) (p : Vec Ideal S512x128 .bf16) (i : Fin 512) (j : Fin 512) :
    fSh q k p (ix2 i j) = (∑ x : Fin 128, q (ix3 0 i ⟨x.val, by omega⟩) * k (ix3 0 j x)) + ∑ x : Fin 128, q (ix3 0 i ⟨128 + x.val, by omega⟩) * p (ix2 j x) := by
  pointwise [fSh, k0_pay104]

theorem fM_at (s : Vec Ideal S512x1024 .f32) (m : Vec Ideal S1x512x1 .f32) (i : Fin 512) :
    fM s m (ix3 0 i 0) = max (m (ix3 0 i 0)) (Finset.fold max ⊥ (fun x : Fin 1024 => s (ix2 i x)) Finset.univ) := by
  rw [← negInf]
  pointwise [fM, k0_pay15, k0_pay11, k0_pay10]

theorem fA_at (s : Vec Ideal S512x1024 .f32) (m : Vec Ideal S1x512x1 .f32) (i : Fin 512) :
    fA s m (ix2 i 0) = Ideal.exp2 (m (ix3 0 i 0) - fM s m (ix3 0 i 0)) := by
  rw [fM_at, ← negInf]
  pointwise [fA, k0_pay12, k0_pay11, k0_pay10]
  rfl

theorem fP_at (s : Vec Ideal S512x1024 .f32) (m : Vec Ideal S1x512x1 .f32) (i : Fin 512) (j : Fin 1024) :
    fP s m (ix2 i j) = Ideal.exp2 (s (ix2 i j) - fM s m (ix3 0 i 0)) := by
  rw [fM_at, ← negInf]
  pointwise [fP, k0_pay14, k0_pay13, k0_pay11, k0_pay10]
  rfl

theorem fC_at (v : Vec Ideal S1x1024x128 .bf16) (a : Vec Ideal S512x1 .f32) (o : Vec Ideal S1x512x256 .f32) (p : Vec Ideal S512x1024 .bf16)
    (i : Fin 512) (e : Fin 256) :
    fC v a o p (ix3 0 i e) = a (ix2 i 0) * o (ix3 0 i e) + ∑ x : Fin 1024, p (ix2 i x) * if h : e.val < 128 then v (ix3 0 x ⟨e.val, h⟩) else 1 := by
  pointwise [fC, k0_pay16]

/-! ## The diagonal's tiles -/

/-- A score of the diagonal's tile, gone where the key is past the query. -/
def cut (d : BitVec 32) (s : EReal) (i j : ℕ) : EReal := Scalar.select (IntOp.cmpi .sle (IntOp.subi (BitVec.ofNat 32 j) (BitVec.ofNat 32 i)) d) s ⊥

theorem toInt_small (n : ℕ) (hn : n < 1024) : (BitVec.ofNat 32 n).toInt = n := by
  rw [BitVec.toInt_eq_toNat_cond, BitVec.toNat_ofNat]
  omega

theorem cut_eq (d : ℕ) (hd : d < 1024) (s : EReal) (i j : ℕ) (hi : i < 1024) (hj : j < 1024) :
    cut (BitVec.ofNat 32 d) s i j = if j ≤ i + d then s else ⊥ := by
  have h : (IntOp.cmpi .sle (IntOp.subi (BitVec.ofNat 32 j) (BitVec.ofNat 32 i)) (BitVec.ofNat 32 d) = 1#1) ↔ j ≤ i + d := by
    rw [IntOp.cmpi_sle]
    show (BitVec.ofNat 32 j - BitVec.ofNat 32 i).toInt ≤ (BitVec.ofNat 32 d).toInt ↔ _
    rw [BitVec.toInt_sub, toInt_small _ (by omega), toInt_small _ (by omega), toInt_small _ (by omega), Int.bmod_def]
    norm_num
    omega
  unfold cut Scalar.select
  by_cases hj : j ≤ i + d
  · rw [if_pos hj]
    exact if_pos (h.mpr hj)
  · rw [if_neg hj]
    exact if_neg fun hh => hj (h.mp hh)

/-- The new maximum of a row, over the scores that are left. -/
def topH (s : Vec Ideal S512x512 .f32) (m : Vec Ideal S1x512x1 .f32) (i : Fin 512) : EReal :=
  max (m (ix3 0 i 0)) (Finset.fold max ⊥ (fun x : Fin 512 => cut 0#32 (s (ix2 i x)) i.val x.val) Finset.univ)
def topG (s : Vec Ideal S512x1024 .f32) (m : Vec Ideal S1x512x1 .f32) (i : Fin 512) : EReal :=
  max (m (ix3 0 i 0)) (Finset.fold max ⊥ (fun x : Fin 1024 => cut 512#32 (s (ix2 i x)) i.val x.val) Finset.univ)

theorem hA_at (s : Vec Ideal S512x512 .f32) (m : Vec Ideal S1x512x1 .f32) (i : Fin 512) :
    hA s m (ix2 i 0) = Ideal.exp2 (m (ix3 0 i 0) - topH s m i) := by
  unfold topH cut
  rw [← negInf]
  pointwise [hA, k0_pay81, k0_pay80, k0_pay79, k0_pay78]
  rfl

theorem hP_at (s : Vec Ideal S512x512 .f32) (m : Vec Ideal S1x512x1 .f32) (i : Fin 512) (j : Fin 512) :
    hP s m (ix2 i j) = Ideal.exp2 (cut 0#32 (s (ix2 i j)) i.val j.val - topH s m i) := by
  unfold topH cut
  rw [← negInf]
  pointwise [hP, k0_pay83, k0_pay82, k0_pay80, k0_pay79, k0_pay78]
  rfl

theorem hO_at (v : Vec Ideal S1x512x128 .bf16) (a : Vec Ideal S512x1 .f32) (o : Vec Ideal S1x512x256 .f32) (p : Vec Ideal S512x512 .bf16)
    (i : Fin 512) (e : Fin 128) :
    hO v a o p (ix2 i e) = Ideal.div (a (ix2 i 0) * o (ix3 0 i ⟨e.val, by omega⟩) + ∑ x : Fin 512, p (ix2 i x) * v (ix3 0 x e))
      (a (ix2 i 0) * o (ix3 0 i ⟨128 + e.val, by omega⟩) + ∑ x : Fin 512, p (ix2 i x)) := by
  pointwise [hO, k0_pay96, k0_pay94]

theorem gA_at (s : Vec Ideal S512x1024 .f32) (m : Vec Ideal S1x512x1 .f32) (i : Fin 512) :
    gA s m (ix2 i 0) = Ideal.exp2 (m (ix3 0 i 0) - topG s m i) := by
  unfold topG cut
  rw [← negInf]
  pointwise [gA, k0_pay91, k0_pay90, k0_pay89, k0_pay88]
  rfl

theorem gP_at (s : Vec Ideal S512x1024 .f32) (m : Vec Ideal S1x512x1 .f32) (i : Fin 512) (j : Fin 1024) :
    gP s m (ix2 i j) = Ideal.exp2 (cut 512#32 (s (ix2 i j)) i.val j.val - topG s m i) := by
  unfold topG cut
  rw [← negInf]
  pointwise [gP, k0_pay92, k0_pay90, k0_pay89, k0_pay88]
  rfl

theorem gO_at (v : Vec Ideal S1x1024x128 .bf16) (a : Vec Ideal S512x1 .f32) (o : Vec Ideal S1x512x256 .f32) (p : Vec Ideal S512x1024 .bf16)
    (i : Fin 512) (e : Fin 128) :
    gO v a o p (ix2 i e) = Ideal.div (a (ix2 i 0) * o (ix3 0 i ⟨e.val, by omega⟩) + ∑ x : Fin 1024, p (ix2 i x) * v (ix3 0 x e))
      (a (ix2 i 0) * o (ix3 0 i ⟨128 + e.val, by omega⟩) + ∑ x : Fin 1024, p (ix2 i x)) := by
  pointwise [gO, k0_pay6, k0_pay4]

/-! ## Windows -/

theorem winQ_at (X : S1x4096x256.Idx → EReal) (r : Fin 8) (i : Fin 512) (d : Fin 256) :
    winQ (F := Ideal) X r (ix3 0 i d) = X (ix3 0 ⟨512 * r.val + i.val, by omega⟩ d) := by
  refine congrArg X (funext fun a => Fin.ext ?_)
  fin_cases a <;> simp [offQ, ix3]

theorem winK_at (X : S1x16384x128.Idx → EReal) (j : Fin 16) (x : Fin 1024) (d : Fin 128) :
    winK (F := Ideal) X j (ix3 0 x d) = X (ix3 0 ⟨1024 * j.val + x.val, by omega⟩ d) := by
  refine congrArg X (funext fun a => Fin.ext ?_)
  fin_cases a <;> simp [offK, ix3]

theorem winP_at (X : S16384x128.Idx → EReal) (j : Fin 16) (x : Fin 1024) (d : Fin 128) :
    winP (F := Ideal) X j (ix2 x d) = X (ix2 ⟨1024 * j.val + x.val, by omega⟩ d) := by
  refine congrArg X (funext fun a => Fin.ext ?_)
  fin_cases a <;> simp [offP, ix2]

theorem winKh_at (X : S1x16384x128.Idx → EReal) (j : Fin 16) (x : Fin 512) (d : Fin 128) :
    winKh (F := Ideal) X j (ix3 0 x d) = X (ix3 0 ⟨1024 * j.val + x.val, by omega⟩ d) := by
  refine congrArg X (funext fun a => Fin.ext ?_)
  fin_cases a <;> simp [offK, ix3]

theorem winPh_at (X : S16384x128.Idx → EReal) (j : Fin 16) (x : Fin 512) (d : Fin 128) :
    winPh (F := Ideal) X j (ix2 x d) = X (ix2 ⟨1024 * j.val + x.val, by omega⟩ d) := by
  refine congrArg X (funext fun a => Fin.ext ?_)
  fin_cases a <;> simp [offP, ix2]

theorem halfS_at (s : S512x1024.Idx → EReal) (i : Fin 512) (x : Fin 512) :
    halfS (F := Ideal) (e := .f32) s (ix2 i x) = s (ix2 i ⟨x.val, by omega⟩) := by
  refine congrArg s (funext fun a => Fin.ext ?_)
  fin_cases a <;> simp [ix2]

theorem rowM_init (r : Fin 8) (y : S1x512x1.Idx) : ∃ M : ℝ, rowM (F := Ideal) (k0_pay162 (F := Ideal)) r y = (M : EReal) := mInit

theorem rowC_init (r : Fin 8) (y : S1x512x256.Idx) : rowC (F := Ideal) (k0_pay161 (F := Ideal)) r y = 0 := by
  show Ideal.ofBits .f32 0x00000000#32 = 0
  simp [Ideal.ofBits, Ideal.ieee]

end Cert.Proof.Flash
-- ==== Proof.Rows.lean ====
/-
  A row of the band over the reals: after its plain tiles its accumulator is the sum, over the keys so far, of the weights times the
  values, and of the weights; the diagonal tile ends both sums, and their quotient is the softmax's average of the values.
-/
module

public import proofs.«01_k».proof.Proof.Vals
public import proofs.«01_k».proof.Proof.Run

@[expose] public section

set_option maxRecDepth 16384

noncomputable section

namespace Cert.Proof.Flash

open Cert.KernelIdeal Cert.KernelIdeal.Gen Cert.Proof.Soft
open Idealize.ShloMosaic Idealize.ShloMosaic.TcCoe Idealize.ShloMosaic.Pointwise

/-- The score of query `y` of the band at key `k`. -/
def sc (X : Ins Ideal) (y : Fin 4096) (k : Fin 16384) : EReal :=
  (∑ x : Fin 128, X.q (ix3 0 y ⟨x.val, by omega⟩) * X.k (ix3 0 k x)) + ∑ x : Fin 128, X.q (ix3 0 y ⟨128 + x.val, by omega⟩) * X.p (ix2 k x)

/-- What the weights are multiplied with: the values, and then ones. -/
def wv (X : Ins Ideal) (e : ℕ) (k : ℕ) : EReal := if h : e < 128 ∧ k < 16384 then X.v (ix3 0 ⟨k, h.2⟩ ⟨e, h.1⟩) else 1

theorem idle (X : Ins Ideal) (b : Fin 4) : Idle X b := by
  funext y
  obtain ⟨a, i, e, rfl⟩ : ∃ (a : Fin 1) (i : Fin 512) (e : Fin 256), y = ix3 a i e := ⟨y 0, y 1, y 2, eq_ix3 y⟩
  obtain rfl : a = 0 := Subsingleton.elim _ _
  rw [fC_at, rowC_init, mul_zero, zero_add]
  refine Finset.sum_eq_zero fun x _ => ?_
  rw [show k0_pay159 (F := Ideal) (ix2 i x) = 0 from by
    show Ideal.ofBits .bf16 0x0000#16 = 0
    simp [Ideal.ofBits, Ideal.ieee], zero_mul]

/-- The query of the band that is entry `i` of its row `r`. -/
abbrev qi (r : Fin 8) (i : Fin 512) : Fin 4096 := ⟨512 * r.val + i.val, by omega⟩

theorem scores_at (X : Ins Ideal) (r : Fin 8) (j : Fin 16) (i : Fin 512) (x : Fin 1024) :
    scores X (r, j) (ix2 i x) = sc X (qi r i) ⟨1024 * j.val + x.val, by omega⟩ := by
  unfold scores
  rw [fS_at]
  simp only [winQ_at, winK_at, winP_at]
  rfl

theorem scoresH_at (X : Ins Ideal) (r : Fin 8) (j : Fin 16) (i : Fin 512) (x : Fin 512) :
    scoresH X r j (ix2 i x) = sc X (qi r i) ⟨1024 * j.val + x.val, by omega⟩ := by
  unfold scoresH
  rw [fSh_at]
  simp only [winQ_at, winKh_at, winPh_at]
  rfl

theorem exp2_sub (x M : ℝ) : Ideal.exp2 ((x : EReal) - (M : EReal)) = (e2 (x - M) : EReal) := by
  rw [← EReal.coe_sub, Ideal.exp2_coe]

variable (X : Ins Ideal) (r : Fin 8) (i : Fin 512) (σ : ℕ → ℝ) (hσ : ∀ k : Fin 16384, sc X (qi r i) k = (σ k.val : EReal))
include hσ

/-- After `t` plain tiles. -/
theorem row_at : ∀ t, t ≤ 16 → ∃ M : ℝ, mR X r t (ix3 0 i 0) = (M : EReal)
    ∧ ∀ e : Fin 256, cR X r t (ix3 0 i e) = ∑ k ∈ Finset.range (1024 * t), (e2 (σ k - M) : EReal) * wv X e.val k
  | 0, _ => by
    obtain ⟨M, hM⟩ := rowM_init r (ix3 0 i 0)
    exact ⟨M, hM, fun e => by rw [cR, rowC_init, Nat.mul_zero, Finset.sum_range_zero]⟩
  | t + 1, ht => by
    obtain ⟨M, hM, hC⟩ := row_at t (by omega)
    have hj : (Fin.ofNat 16 t).val = t := Nat.mod_eq_of_lt (by omega)
    have hs : ∀ x : Fin 1024, scores X (r, Fin.ofNat 16 t) (ix2 i x) = (σ (1024 * t + x.val) : EReal) := fun x => by
      rw [scores_at, hσ]
      simp only [hj]
    obtain ⟨M', hM'⟩ := max_fold_real M Finset.univ (fun x : Fin 1024 => scores X (r, Fin.ofNat 16 t) (ix2 i x))
      fun x _ => by rw [hs]; exact EReal.coe_ne_top _
    have hm : fM (scores X (r, Fin.ofNat 16 t)) (mR X r t) (ix3 0 i 0) = (M' : EReal) := by rw [fM_at, hM, hM']
    refine ⟨M', hm, fun e => ?_⟩
    rw [cR, fC_at, fA_at, hm, hM, exp2_sub, hC]
    rw [show 1024 * (t + 1) = 1024 * t + 1024 by ring, ← sum_step σ (fun j => e2 (σ j - M')) (wv X e.val) M M' (1024 * t) 1024 fun _ _ => rfl]
    refine congrArg (HAdd.hAdd _) (Finset.sum_congr rfl fun x _ => ?_)
    rw [fP_at, hm, hs, exp2_sub]
    refine congrArg (HMul.hMul _) ?_
    unfold wv
    by_cases h : e.val < 128
    · rw [dif_pos h, dif_pos ⟨h, by omega⟩, winK_at]
      simp only [hj]
    · rw [dif_neg h, dif_neg fun hh => h hh.1]

omit hσ in
/-- The quotient at the end of a row whose weights are `c`. -/
theorem quot (c : ℕ → ℝ) (M : ℝ) (q N : ℕ) (hq : q < N) (hN : N ≤ 16384) (e : Fin 128)
    (hc : ∀ k, k < N → c k = if k ≤ q then e2 (σ k - M) else 0) :
    Ideal.div (∑ k ∈ Finset.range N, (c k : EReal) * wv X e.val k) (∑ k ∈ Finset.range N, (c k : EReal) * wv X (128 + e.val) k)
      = ∑ k ∈ Finset.range 16384, (soft (fun k => Real.log 2 * σ k) q k : EReal) * wv X e.val k := by
  have h1 : ∀ k, wv X (128 + e.val) k = 1 := fun k => dif_neg fun h => by omega
  simp only [h1, mul_one]
  have hs := soft_of (fun k => Real.log 2 * σ k) c q N hq (Real.exp (-(Real.log 2 * M))) (Real.exp_pos _) fun k hk => by
    rw [hc k hk, e2_eq _ _ _ rfl]
  rw [quotient c _ N _ q hs.1 hs.2, soft_extend _ _ q N 16384 hq hN]

omit hσ in
/-- The weight of a key of the diagonal's tile. -/
theorem exp2_cut (s M : ℝ) (d n j : ℕ) (hd : d < 1024) (hn : n < 1024) (hj : j < 1024) :
    Ideal.exp2 (cut (BitVec.ofNat 32 d) s n j - (M : EReal)) = ((if j ≤ n + d then e2 (s - M) else 0 : ℝ) : EReal) := by
  rw [cut_eq d hd _ n j hn hj]
  split
  · exact exp2_sub _ _
  · rw [EReal.bot_sub, Ideal.exp2_bot, EReal.coe_zero]

/-- The output of an even row: its diagonal tile `j` is half a tile. -/
theorem even_at (t : ℕ) (j : Fin 16) (hj : j.val = t) (s : Vec Ideal S512x512 .f32)
    (hs : ∀ x : Fin 512, s (ix2 i x) = (σ (1024 * t + x.val) : EReal)) (e : Fin 128) :
    hO (winKh X.v j) (hA s (mR X r t)) (cR X r t) (hP s (mR X r t)) (ix2 i e)
      = ∑ k ∈ Finset.range 16384, (soft (fun k => Real.log 2 * σ k) (1024 * t + i.val) k : EReal) * wv X e.val k := by
  have ht : t < 16 := hj ▸ j.isLt
  obtain ⟨M, hM, hC⟩ := row_at X r i σ hσ t (by omega)
  obtain ⟨M', hM'⟩ := max_fold_real M Finset.univ (fun x : Fin 512 => cut 0#32 (s (ix2 i x)) i.val x.val) fun x _ => by
    rw [hs, cut_eq 0 (by omega) _ _ _ (by omega) (by omega)]
    split
    · exact EReal.coe_ne_top _
    · exact bot_ne_top
  have hm : topH s (mR X r t) i = (M' : EReal) := by rw [topH, hM, hM']
  let c : ℕ → ℝ := fun k => if k ≤ 1024 * t + i.val then e2 (σ k - M') else 0
  have hc : ∀ k, k < 1024 * t → c k = e2 (σ k - M') := fun k hk => if_pos (by omega)
  have hp : ∀ x : Fin 512, hP s (mR X r t) (ix2 i x) = (c (1024 * t + x.val) : EReal) := fun x => by
    rw [hP_at, hm, hs]
    refine (exp2_cut _ _ 0 _ _ (by omega) (by omega) (by omega)).trans ?_
    refine congrArg _ (if_congr (by omega) rfl rfl)
  rw [hO_at, hA_at, hm, hM, exp2_sub, hC, hC]
  simp only [hp]
  rw [← quot X σ c M' (1024 * t + i.val) (1024 * t + 512) (by omega) (by omega) e fun k _ => rfl]
  rw [← sum_step σ c (wv X e.val) M M' (1024 * t) 512 hc, ← sum_step σ c (wv X (128 + e.val)) M M' (1024 * t) 512 hc]
  congr 2
  · refine Finset.sum_congr rfl fun x _ => congrArg (HMul.hMul _) ?_
    unfold wv
    rw [dif_pos ⟨e.isLt, by omega⟩, winKh_at]
    simp only [hj]
  · refine Finset.sum_congr rfl fun x _ => ?_
    rw [wv, dif_neg (by omega), mul_one]

/-- The output of an odd row: its diagonal tile `j` is a whole tile. -/
theorem odd_at (t : ℕ) (j : Fin 16) (hj : j.val = t) (s : Vec Ideal S512x1024 .f32)
    (hs : ∀ x : Fin 1024, s (ix2 i x) = (σ (1024 * t + x.val) : EReal)) (e : Fin 128) :
    gO (winK X.v j) (gA s (mR X r t)) (cR X r t) (gP s (mR X r t)) (ix2 i e)
      = ∑ k ∈ Finset.range 16384, (soft (fun k => Real.log 2 * σ k) (1024 * t + 512 + i.val) k : EReal) * wv X e.val k := by
  have ht : t < 16 := hj ▸ j.isLt
  obtain ⟨M, hM, hC⟩ := row_at X r i σ hσ t (by omega)
  obtain ⟨M', hM'⟩ := max_fold_real M Finset.univ (fun x : Fin 1024 => cut 512#32 (s (ix2 i x)) i.val x.val) fun x _ => by
    rw [hs, cut_eq 512 (by omega) _ _ _ (by omega) (by omega)]
    split
    · exact EReal.coe_ne_top _
    · exact bot_ne_top
  have hm : topG s (mR X r t) i = (M' : EReal) := by rw [topG, hM, hM']
  let c : ℕ → ℝ := fun k => if k ≤ 1024 * t + 512 + i.val then e2 (σ k - M') else 0
  have hc : ∀ k, k < 1024 * t → c k = e2 (σ k - M') := fun k hk => if_pos (by omega)
  have hp : ∀ x : Fin 1024, gP s (mR X r t) (ix2 i x) = (c (1024 * t + x.val) : EReal) := fun x => by
    rw [gP_at, hm, hs]
    refine (exp2_cut _ _ 512 _ _ (by omega) (by omega) (by omega)).trans ?_
    refine congrArg _ (if_congr (by omega) rfl rfl)
  rw [gO_at, gA_at, hm, hM, exp2_sub, hC, hC]
  simp only [hp]
  rw [← quot X σ c M' (1024 * t + 512 + i.val) (1024 * t + 1024) (by omega) (by omega) e fun k _ => rfl]
  rw [← sum_step σ c (wv X e.val) M M' (1024 * t) 1024 hc, ← sum_step σ c (wv X (128 + e.val)) M M' (1024 * t) 1024 hc]
  congr 2
  · refine Finset.sum_congr rfl fun x _ => congrArg (HMul.hMul _) ?_
    unfold wv
    rw [dif_pos ⟨e.isLt, by omega⟩, winK_at]
    simp only [hj]
  · refine Finset.sum_congr rfl fun x _ => ?_
    rw [wv, dif_neg (by omega), mul_one]

/-- Entry `i`, `e` of tile `r` of a band's output. -/
theorem tile_at (b : Fin 4) (e : Fin 128) :
    tileOut X b (lastP b) (stN X b (8 * b.val + 3)) r (ix2 i e)
      = ∑ k ∈ Finset.range 16384, (soft (fun k => Real.log 2 * σ k) (4096 * b.val + 512 * r.val + i.val) k : EReal) * wv X e.val k := by
  have hH : ∀ (n : Fin 4), 2 * n.val = r.val → ∀ s : Vec Ideal S512x512 .f32,
      (∀ x : Fin 512, s (ix2 i x) = sc X (qi r i) ⟨1024 * (tileE b n).val + x.val, by omega⟩) →
      outH X (lastP b) (stN X b (8 * b.val + 3)) r (tileE b n) s (ix2 i e)
        = ∑ k ∈ Finset.range 16384, (soft (fun k => Real.log 2 * σ k) (4096 * b.val + 512 * r.val + i.val) k : EReal) * wv X e.val k := by
    intro n hn s hs
    have ht : (tileE b n).val = 4 * b.val + r.val / 2 := by show 4 * b.val + n.val = _; omega
    unfold outH
    rw [end_m X b (idle X b), end_acc X b (idle X b), even_at X r i σ hσ _ _ ht s (fun x => by rw [hs, hσ]; simp only [ht]) e]
    rw [show 1024 * (4 * b.val + r.val / 2) + i.val = 4096 * b.val + 512 * r.val + i.val by omega]
  have hG : ∀ (n : Fin 4), 2 * n.val + 1 = r.val →
      outG X (lastP b) (stN X b (8 * b.val + 3)) r (tileE b n) (scores X (r, tileE b n)) (ix2 i e)
        = ∑ k ∈ Finset.range 16384, (soft (fun k => Real.log 2 * σ k) (4096 * b.val + 512 * r.val + i.val) k : EReal) * wv X e.val k := by
    intro n hn
    have ht : (tileE b n).val = 4 * b.val + r.val / 2 := by show 4 * b.val + n.val = _; omega
    unfold outG
    rw [end_m X b (idle X b), end_acc X b (idle X b), odd_at X r i σ hσ _ _ ht _ (fun x => by rw [scores_at, hσ]; simp only [ht]) e]
    rw [show 1024 * (4 * b.val + r.val / 2) + 512 + i.val = 4096 * b.val + 512 * r.val + i.val by omega]
  fin_cases r
  · exact hH 0 rfl _ fun x => by
      rw [halfS_at, end_s0 X b (idle X b), scores_at]
      rfl
  · exact hG 0 rfl
  · exact hH 1 rfl _ fun x => scoresH_at X _ _ i x
  · exact hG 1 rfl
  · exact hH 2 rfl _ fun x => scoresH_at X _ _ i x
  · exact hG 2 rfl
  · exact hH 3 rfl _ fun x => scoresH_at X _ _ i x
  · exact hG 3 rfl

end Cert.Proof.Flash
-- ==== Proof.Blocks.lean ====
/-
  The blocks of the call's operands, entry by entry, over the arguments.
-/
module

public import proofs.«01_k».proof.Proof.Rows
public import Idealize.ShloMosaic.Lib.Pipeline.ValueKit

@[expose] public section

set_option maxRecDepth 16384

noncomputable section

namespace Cert.Proof.Flash

open Cert.KernelIdeal Cert.KernelIdeal.Gen
open Idealize.ShloMosaic Idealize.ShloMosaic.TcCoe Idealize.ShloMosaic.Pointwise Idealize.SL.Sem

variable (m : (ℓ : Loc nD τ sig) → Buf (Elt Ideal) ℓ)

theorem index_eq : ∀ t : Fin cfg0.N, win0_0.index t = ![(grid0.coords t 0).val, (grid0.coords t 1).val, 0]
    ∧ win0_1.index t = ![(grid0.coords t 0).val, 0, 0] ∧ win0_2.index t = ![0, 0] ∧ win0_3.index t = ![(grid0.coords t 0).val, 0, 0]
    ∧ win0_4.index t = ![(grid0.coords t 1).val, (grid0.coords t 0).val] :=
  (by decide +kernel : ∀ t : Fin grid0.N, _)

theorem q_blk (c : Dev nD) (t : Fin cfg0.N) (h : Fin 16) (b : Fin 4) (hh : (grid0.coords t 0).val = h.val) (hb : (grid0.coords t 1).val = b.val)
    (y : Fin 4096) (d : Fin 256) : (insAt m c t).q (ix3 0 y d) = V m c main_v13 (ix3 h ⟨4096 * b.val + y.val, by omega⟩ d) := by
  show V m c main_v13 (((cfg0.win 0).blk t).view.emb (ix3 0 y d)) = _
  generalize V m c main_v13 = A
  have := index_eq t
  blk_ext [this]

theorem k_blk (c : Dev nD) (t : Fin cfg0.N) (h : Fin 16) (hh : (grid0.coords t 0).val = h.val)
    (y : Fin 16384) (d : Fin 128) : (insAt m c t).k (ix3 0 y d) = V m c main_v16 (ix3 h y d) := by
  show V m c main_v16 (((cfg0.win 1).blk t).view.emb (ix3 0 y d)) = _
  generalize V m c main_v16 = A
  have := index_eq t
  blk_ext [this]

theorem p_blk (c : Dev nD) (t : Fin cfg0.N) (y : Fin 16384) (d : Fin 128) : (insAt m c t).p (ix2 y d) = V m c main_v17 (ix2 y d) := by
  show V m c main_v17 (((cfg0.win 2).blk t).view.emb (ix2 y d)) = _
  generalize V m c main_v17 = A
  have := index_eq t
  blk_ext [this]

theorem v_blk (c : Dev nD) (t : Fin cfg0.N) (h : Fin 16) (hh : (grid0.coords t 0).val = h.val)
    (y : Fin 16384) (d : Fin 128) : (insAt m c t).v (ix3 0 y d) = V m c main_v20 (ix3 h y d) := by
  show V m c main_v20 (((cfg0.win 3).blk t).view.emb (ix3 0 y d)) = _
  generalize V m c main_v20 = A
  have := index_eq t
  blk_ext [this]

/-! ## The arrays the call reads -/

/-- The queries, scaled and padded, by head. -/
def qH (q0 : FVec Ideal S1x16384x16x128 .f32) (q1 : FVec Ideal S1x16384x16x64 .f32) : FVec Ideal S16x16384x256 .bf16 :=
  truncf .bf16 (transpose S16x16384x256 [1, 0, 2] (shapeCast S16384x16x256 (mulf
    (concatenate S1x16384x16x256 3 [⟨S1x16384x16x128, q0⟩, ⟨S1x16384x16x64, q1⟩,
      ⟨S1x16384x16x64, broadcastInDim S1x16384x16x64 ![] bcast_S_S1x16384x16x64 (constant S_ .f32 0x00000000#32)⟩]
      concatenates_S1x16384x16x128_S1x16384x16x64_S1x16384x16x64_S1x16384x16x256_d3)
    (broadcastInDim S1x16384x16x256 ![] bcast_S_S1x16384x16x256
      (Host.divf (constant S_ .f32 0x3F800000#32) (mulf (Host.sqrt (constant S_ .f32 0x43400000#32)) (Host.log (constant S_ .f32 0x40000000#32))))))
    shapeCasts_S1x16384x16x256_S16384x16x256) transposes_S16384x16x256_S16x16384x256_1_0_2) bitsLt_bf16_f32

/-- The keys or the values, by head. -/
def kH (k0 : FVec Ideal S1x16384x16x128 .f32) : FVec Ideal S16x16384x128 .bf16 :=
  truncf .bf16 (transpose S16x16384x128 [1, 0, 2] (shapeCast S16384x16x128 k0 shapeCasts_S1x16384x16x128_S16384x16x128)
    transposes_S16384x16x128_S16x16384x128_1_0_2) bitsLt_bf16_f32

/-- The rotary keys, padded. -/
def pH (k1 : FVec Ideal S1x16384x64 .f32) : FVec Ideal S16384x128 .bf16 :=
  truncf .bf16 (concatenate S16384x128 1 [⟨S16384x64, shapeCast S16384x64 k1 shapeCasts_S1x16384x64_S16384x64⟩,
    ⟨S16384x64, broadcastInDim S16384x64 ![] bcast_S_S16384x64 (constant S_ .f32 0x00000000#32)⟩]
    concatenates_S16384x64_S16384x64_S16384x128_d1) bitsLt_bf16_f32

theorem v13_eq (c : Dev nD) : V m c main_v13 = qH (m ((c : Thread nD τ).loc main_arg0)) (m ((c : Thread nD τ).loc main_arg1)) := by
  unfold V qH
  simp only [hostOps0]
  after_results_simp <;> rfl
theorem v16_eq (c : Dev nD) : V m c main_v16 = kH (m ((c : Thread nD τ).loc main_arg2)) := by
  unfold V kH
  simp only [hostOps0]
  after_results_simp <;> rfl
theorem v17_eq (c : Dev nD) : V m c main_v17 = pH (m ((c : Thread nD τ).loc main_arg3)) := by
  unfold V pH
  simp only [hostOps0]
  after_results_simp <;> rfl
theorem v20_eq (c : Dev nD) : V m c main_v20 = kH (m ((c : Thread nD τ).loc main_arg4)) := by
  unfold V kH
  simp only [hostOps0]
  after_results_simp <;> rfl

theorem qH_at (q0 : FVec Ideal S1x16384x16x128 .f32) (q1 : FVec Ideal S1x16384x16x64 .f32) (h : Fin 16) (y : Fin 16384) (d : Fin 256) :
    qH q0 q1 (ix3 h y d) = (if h1 : d.val < 128 then q0 (ix4 0 y h ⟨d.val, by omega⟩)
        else if h2 : d.val - 128 < 64 then q1 (ix4 0 y h ⟨d.val - 128, by omega⟩) else 0)
      * Ideal.div 1 (Ideal.sqrt (Ideal.ofBits .f32 1128267776#32) * Ideal.log (Ideal.ofBits .f32 1073741824#32)) := by
  pointwise [qH]
theorem kH_at (k0 : FVec Ideal S1x16384x16x128 .f32) (h : Fin 16) (y : Fin 16384) (d : Fin 128) :
    kH k0 (ix3 h y d) = k0 (ix4 0 y h d) := by
  pointwise [kH]
theorem pH_at (k1 : FVec Ideal S1x16384x64 .f32) (y : Fin 16384) (d : Fin 128) :
    pH k1 (ix2 y d) = if h : d.val < 64 then k1 (ix3 0 y ⟨d.val, by omega⟩) else 0 := by
  pointwise [pH]

end Cert.Proof.Flash
-- ==== Proof.Out.lean ====
/-
  The call's result over the reals: the attention of real queries and keys to any values.
-/
module

public import proofs.«01_k».proof.Proof.Blocks

@[expose] public section

set_option maxRecDepth 16384

noncomputable section

namespace Cert.Proof.Flash

open Cert.KernelIdeal Cert.KernelIdeal.Gen Cert.Proof.Soft
open Idealize.ShloMosaic Idealize.ShloMosaic.TcCoe Idealize.ShloMosaic.Pointwise Idealize.SL.Sem

theorem lit192 : Ideal.ofBits .f32 1128267776#32 = ((192 : ℝ) : EReal) := by simp [Ideal.ofBits, Ideal.ieee, -EReal.coe_mul]; norm_num
theorem lit2 : Ideal.ofBits .f32 1073741824#32 = ((2 : ℝ) : EReal) := by simp [Ideal.ofBits, Ideal.ieee, -EReal.coe_mul]; norm_num

/-- The queries' factor. -/
theorem factor : Ideal.div 1 (Ideal.sqrt (Ideal.ofBits .f32 1128267776#32) * Ideal.log (Ideal.ofBits .f32 1073741824#32))
    = ((1 / (Real.sqrt 192 * Real.log 2) : ℝ) : EReal) := by
  rw [lit192, lit2, Ideal.sqrt_coe, if_neg (by norm_num), Ideal.log_coe, if_neg (by norm_num), ← EReal.coe_mul]
  rw [Ideal.div_coe (mul_pos (Real.sqrt_pos.mpr (by norm_num)) (Real.log_pos (by norm_num))).ne', one_mul]

section
variable (A : Rows) (q0 k0 v0 : FVec Ideal S1x16384x16x128 .f32) (q1 : FVec Ideal S1x16384x16x64 .f32) (k1 : FVec Ideal S1x16384x64 .f32)
  (h0 : ∀ (y : Fin 16384) (h : Fin 16) (d : Fin 128), q0 (ix4 0 y h d) = (A.qn y h d : EReal))
  (h1 : ∀ (y : Fin 16384) (h : Fin 16) (d : Fin 64), q1 (ix4 0 y h d) = (A.qp y h d : EReal))
  (h2 : ∀ (y : Fin 16384) (h : Fin 16) (d : Fin 128), k0 (ix4 0 y h d) = (A.kn y h d : EReal))
  (h3 : ∀ (y : Fin 16384) (d : Fin 64), k1 (ix3 0 y d) = (A.kp y d : EReal))
include h0 h1 h2 h3

/-- The products of the scaled, padded rows. -/
theorem products (h : Fin 16) (y k : Fin 16384) :
    (∑ x : Fin 128, qH q0 q1 (ix3 h y ⟨x.val, by omega⟩) * kH k0 (ix3 h k x)) + ∑ x : Fin 128, qH q0 q1 (ix3 h y ⟨128 + x.val, by omega⟩) * pH k1 (ix2 k x)
      = ((A.score h y k / Real.log 2 : ℝ) : EReal) := by
  have e1 : ∀ x : Fin 128, qH q0 q1 (ix3 h y ⟨x.val, by omega⟩) * kH k0 (ix3 h k x)
      = ((A.qn y h x * (1 / (Real.sqrt 192 * Real.log 2)) * A.kn k h x : ℝ) : EReal) := fun x => by
    rw [qH_at, kH_at, dif_pos x.isLt, factor, h0, h2, ← EReal.coe_mul, ← EReal.coe_mul]
  have e2 : ∀ x : Fin 64, qH q0 q1 (ix3 h y ⟨128 + (Fin.castAdd 64 x).val, by omega⟩) * pH k1 (ix2 k (Fin.castAdd 64 x))
      = ((A.qp y h x * (1 / (Real.sqrt 192 * Real.log 2)) * A.kp k x : ℝ) : EReal) := fun x => by
    have hx : 128 + (Fin.castAdd 64 x).val - 128 = x.val := by rw [Fin.val_castAdd]; omega
    rw [qH_at, pH_at, dif_neg (by show ¬ 128 + (Fin.castAdd 64 x).val < 128; omega), dif_pos (by show 128 + (Fin.castAdd 64 x).val - 128 < 64; omega),
      dif_pos (by show (Fin.castAdd 64 x).val < 64; exact x.isLt), factor]
    rw [EReal.coe_mul, EReal.coe_mul, ← h1, ← h3]
    congr 4
    exact Fin.ext hx
  have e3 : ∀ x : Fin 64, qH q0 q1 (ix3 h y ⟨128 + (Fin.natAdd 64 x).val, by omega⟩) * pH k1 (ix2 k (Fin.natAdd 64 x)) = 0 := fun x => by
    have hx : (Fin.natAdd 64 x).val = 64 + x.val := Fin.val_natAdd ..
    rw [pH_at, dif_neg (by show ¬ (Fin.natAdd 64 x).val < 64; omega), mul_zero]
  simp only [e1]
  have e4 := Fin.sum_univ_add (a := 64) (b := 64) fun x : Fin (64 + 64) => qH q0 q1 (ix3 h y ⟨128 + x.val, by omega⟩) * pH k1 (ix2 k x)
  simp only [e2, e3, Finset.sum_const_zero, add_zero] at e4
  refine (congrArg (_ + ·) e4).trans ?_
  simp only [coe_sum, ← EReal.coe_add]
  refine congrArg _ ?_
  unfold Rows.score
  have hl : Real.log 2 ≠ 0 := (Real.log_pos (by norm_num)).ne'
  have hs : Real.sqrt 192 ≠ 0 := (Real.sqrt_pos.mpr (by norm_num)).ne'
  rw [add_mul, add_div, Finset.sum_mul, Finset.sum_mul, Finset.sum_div, Finset.sum_div]
  refine congrArg₂ _ (Finset.sum_congr rfl fun x _ => ?_) (Finset.sum_congr rfl fun x _ => ?_) <;> field_simp

variable (m : (ℓ : Loc nD τ sig) → Buf (Elt Ideal) ℓ) (c : Dev nD)
  (e0 : m (c.tc.loc main_arg0) = q0) (e1 : m (c.tc.loc main_arg1) = q1) (e2 : m (c.tc.loc main_arg2) = k0)
  (e3 : m (c.tc.loc main_arg3) = k1) (e4 : m (c.tc.loc main_arg4) = v0)
include e0 e1 e2 e3

/-- The scores at a point. -/
theorem sc_point (t : Fin cfg0.N) (h : Fin 16) (b : Fin 4) (hh : (grid0.coords t 0).val = h.val) (hb : (grid0.coords t 1).val = b.val)
    (y : Fin 4096) (k : Fin 16384) :
    sc (insAt m c t) y k = ((A.scores h ⟨4096 * b.val + y.val, by omega⟩ k.val / Real.log 2 : ℝ) : EReal) := by
  unfold sc
  have hq : ∀ d, (insAt m c t).q (ix3 0 y d) = qH q0 q1 (ix3 h ⟨4096 * b.val + y.val, by omega⟩ d) := fun d => by
    rw [q_blk m c t h b hh hb, v13_eq, e0, e1]
  have hk : ∀ d, (insAt m c t).k (ix3 0 k d) = kH k0 (ix3 h k d) := fun d => by rw [k_blk m c t h hh, v16_eq, e2]
  have hp : ∀ d, (insAt m c t).p (ix2 k d) = pH k1 (ix2 k d) := fun d => by rw [p_blk, v17_eq, e3]
  rw [A.scores_val, ← products A q0 k0 q1 k1 h0 h1 h2 h3 h _ k]
  exact congrArg₂ _ (Finset.sum_congr rfl fun x _ => congrArg₂ _ (hq _) (hk _)) (Finset.sum_congr rfl fun x _ => congrArg₂ _ (hq _) (hp _))

include e4

/-- The output block at a point, entry by entry. -/
theorem out_point (t : Fin cfg0.N) (h : Fin 16) (b : Fin 4) (hh : (grid0.coords t 0).val = h.val) (hb : (grid0.coords t 1).val = b.val)
    (y : Fin 4096) (e : Fin 128) :
    outAt m c t (ix2 y e) = A.attend h ⟨4096 * b.val + y.val, by omega⟩ (fun k => v0 (ix4 0 k h e)) := by
  have hb' : outAt m c t = bandOut (insAt m c t) b := congrArg (bandOut (insAt m c t)) (Fin.ext hb : (grid0.coords t 1 : Fin 4) = b)
  rw [hb']
  refine (eq_winO _ _).trans ?_
  unfold bandOut
  rw [winO_outs]
  have hy : qi ⟨y.val / 512, by omega⟩ ⟨y.val % 512, by omega⟩ = y := Fin.ext (by show 512 * (y.val / 512) + y.val % 512 = y.val; omega)
  have hl : Real.log 2 ≠ 0 := (Real.log_pos (by norm_num)).ne'
  have hv : ∀ k : Fin 16384, wv (insAt m c t) e.val k.val = v0 (ix4 0 k h e) := fun k => by
    unfold wv
    rw [dif_pos ⟨e.isLt, k.isLt⟩, v_blk m c t h hh, v20_eq, e4, kH_at]
  have := tile_at (insAt m c t) ⟨y.val / 512, by omega⟩ ⟨y.val % 512, by omega⟩
    (fun k => A.scores h ⟨4096 * b.val + y.val, by omega⟩ k / Real.log 2)
    (fun k => by rw [hy]; exact sc_point A q0 k0 q1 k1 h0 h1 h2 h3 m c e0 e1 e2 e3 t h b hh hb y k) b e
  have hi : (fun a => match a with | ⟨0, _⟩ => ⟨((ix2 y e : S4096x128.Idx) 0).val % 512, Nat.mod_lt _ (by decide)⟩ | ⟨1, _⟩ => (ix2 y e : S4096x128.Idx) 1 : S512x128.Idx)
      = ix2 (⟨y.val % 512, by omega⟩ : Fin 512) e := by
    funext a
    match a with
    | ⟨0, _⟩ => rfl
    | ⟨1, _⟩ => rfl
  refine (congrArg (tileOut (insAt m c t) b (lastP b) (stN (insAt m c t) b (8 * b.val + 3)) ⟨y.val / 512, by omega⟩) hi).trans (this.trans ?_)
  have hf : (fun k => Real.log 2 * (A.scores h ⟨4096 * b.val + y.val, by omega⟩ k / Real.log 2)) = A.scores h ⟨4096 * b.val + y.val, by omega⟩ :=
    funext fun k => mul_div_cancel₀ _ hl
  have hn : 4096 * b.val + 512 * (y.val / 512) + y.val % 512 = 4096 * b.val + y.val := by omega
  rw [Finset.sum_range]
  simp only [hv]
  rw [hf, hn]
  rfl

/-- The attention, as an array of a row per query and a block of columns per head. -/
def G (i : S16384x2048.Idx) : EReal :=
  A.attend ⟨(i 1).val / 128, Nat.div_lt_of_lt_mul (i 1).isLt⟩ (i 0)
    (fun k => v0 (ix4 0 k ⟨(i 1).val / 128, Nat.div_lt_of_lt_mul (i 1).isLt⟩ ⟨(i 1).val % 128, Nat.mod_lt _ (by decide)⟩))

omit h0 h1 h2 h3 e0 e1 e2 e3 e4 in
theorem G_at (r : Fin 16384) (h : Fin 16) (e : Fin 128) (x : Fin 2048) (hx : x.val = 128 * h.val + e.val) :
    G A v0 (ix2 r x) = A.attend h r (fun k => v0 (ix4 0 k h e)) := by
  have hh : (⟨x.val / 128, by omega⟩ : Fin 16) = h := Fin.ext (by show x.val / 128 = h.val; omega)
  have he : (⟨x.val % 128, by omega⟩ : Fin 128) = e := Fin.ext (by show x.val % 128 = e.val; omega)
  show A.attend ⟨x.val / 128, _⟩ r (fun k => v0 (ix4 0 k ⟨x.val / 128, _⟩ ⟨x.val % 128, _⟩)) = _
  rw [hh, he]

omit h0 h1 h2 h3 e0 e1 e2 e3 e4 in
theorem out_index (B : S16384x2048.Idx → EReal) (t : Fin cfg0.N) (h : Fin 16) (b : Fin 4) (hh : (grid0.coords t 0).val = h.val) (hb : (grid0.coords t 1).val = b.val)
    (y : Fin 4096) (e : Fin 128) :
    B ((win0_4.blk t).view.emb (ix2 y e)) = B (ix2 ⟨4096 * b.val + y.val, by omega⟩ ⟨128 * h.val + e.val, by omega⟩) := by
  have := index_eq t
  blk_ext [this]

/-- The call's array is the attention. -/
theorem arr_eq : (dats m 0 c).arrAt 4 (cfgs 0).N = G A v0 := by
  refine (dats m 0 c).arrAt_eq_of_covers 4 _ (by decide +kernel) fun t _ y => ?_
  blk_simp
  rw [after0_4]
  obtain ⟨i, e, rfl⟩ : ∃ (i : Fin 4096) (e : Fin 128), y = ix2 i e := ⟨y 0, y 1, eq_ix2 y⟩
  refine (out_point A q0 k0 v0 q1 k1 h0 h1 h2 h3 m c e0 e1 e2 e3 e4 t (grid0.coords t 0) (grid0.coords t 1) rfl rfl i e).trans ?_
  exact ((out_index (G A v0) t (grid0.coords t 0) (grid0.coords t 1) rfl rfl i e).trans (G_at A v0 _ _ _ _ rfl)).symm

end

end Cert.Proof.Flash
-- ==== Proof.RefVal.lean ====
/-
  The reference over the reals, entry by entry: the attention of real queries and keys to any values.
-/
module

public import proofs.«01_k».proof.Proof.Gen.ReferenceIdeal.Run
public import proofs.«01_k».proof.Proof.Math
public import Idealize.ShloMosaic.Lib.Pointwise

@[expose] public section

set_option maxRecDepth 16384

noncomputable section

namespace Cert.Proof.Ref

open Cert.ReferenceIdeal Cert.ReferenceIdeal.Gen Cert.ReferenceIdeal.Value Cert.Proof.Soft
open Idealize.ShloMosaic Idealize.ShloMosaic.TcCoe Idealize.ShloMosaic.Pointwise

theorem negInf : Ideal.ofBits .f32 4286578688#32 = ⊥ := by simp [Ideal.ofBits, Ideal.ieee]
theorem lit192 : Ideal.ofBits .f32 1128267776#32 = ((192 : ℝ) : EReal) := by simp [Ideal.ofBits, Ideal.ieee, -EReal.coe_mul]; norm_num

/-- The reference's score factor. -/
theorem factor : Ideal.div 1 (Ideal.sqrt (Ideal.ofBits .f32 1128267776#32)) = ((1 / Real.sqrt 192 : ℝ) : EReal) := by
  rw [lit192, Ideal.sqrt_coe, if_neg (by norm_num)]
  rw [Ideal.div_coe (Real.sqrt_pos.mpr (by norm_num)).ne', one_mul]

theorem mask (x y : ℕ) (hx : x < 16384) (hy : y < 16384) (a b : EReal) :
    Scalar.select (IntOp.cmpi .sle (BitVec.ofNat 32 x) (BitVec.ofNat 32 y)) a b = if x ≤ y then a else b := by
  have h : (IntOp.cmpi .sle (BitVec.ofNat 32 x) (BitVec.ofNat 32 y) = 1#1) ↔ x ≤ y := by
    rw [IntOp.cmpi_sle, BitVec.toInt_eq_toNat_cond, BitVec.toInt_eq_toNat_cond, BitVec.toNat_ofNat, BitVec.toNat_ofNat]
    omega
  unfold Scalar.select
  exact if_congr h rfl rfl

/-! ## The reference's stages -/

/-- Where a key is no later than the query. -/
def seen : IVec S1x16x16384x16384 1 :=
  broadcastInDim S1x16x16384x16384 ![2, 3] bcast_S16384x16384_S1x16x16384x16384_2_3
    (cmpi .sle (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

/-- The scores. -/
def raw (q0 k0 : FVec Ideal S1x16384x16x128 .f32) (q1 : FVec Ideal S1x16384x16x64 .f32) (k1 : FVec Ideal S1x16384x64 .f32) : FVec Ideal S1x16x16384x16384 .f32 :=
  mulf (addf (Host.dotGeneral dot_S1x16384x16x128_S1x16384x16x128_S1x16x16384x16384_3_3_1_1_02_02 none q0 k0)
      (transpose S1x16x16384x16384 [0, 3, 2, 1] (Host.dotGeneral dot_S1x16384x64_S1x16384x16x64_S1x16384x16384x16_2_3_1_12_0_0 none k1 q1) transposes_S1x16384x16384x16_S1x16x16384x16384_0_3_2_1))
    (broadcastInDim S1x16x16384x16384 ![] bcast_S_S1x16x16384x16384 (Host.divf (constant S_ .f32 0x3F800000#32) (Host.sqrt (constant S_ .f32 0x43400000#32))))

/-- The scores, `⊥` past the query. -/
def cutR (s : FVec Ideal S1x16x16384x16384 .f32) : FVec Ideal S1x16x16384x16384 .f32 :=
  select seen s (broadcastInDim S1x16x16384x16384 ![] bcast_S_S1x16x16384x16384 (id (constant S_ .f32 0xFF800000#32)))

/-- The rows' maxima. -/
def top (s : FVec Ideal S1x16x16384x16384 .f32) : FVec Ideal S1x16x16384 .f32 :=
  maximumf (broadcastInDim S1x16x16384 ![] bcast_S_S1x16x16384 (constant S_ .f32 0xFF800000#32))
    (Host.reduce FloatOps.maximumf s (constant S_ .f32 0xFF800000#32) reducesTo_S1x16x16384x16384_S1x16x16384_d3 h_S_)

/-- A number per row, at every key. -/
def spread (t : FVec Ideal S1x16x16384 .f32) : FVec Ideal S1x16x16384x16384 .f32 :=
  broadcastInDim S1x16x16384x16384 ![0, 1, 2, 3] bcast_S1x16x16384x1_S1x16x16384x16384_0_1_2_3 (broadcastInDim S1x16x16384x1 ![0, 1, 2] bcast_S1x16x16384_S1x16x16384x1_0_1_2 t)

/-- The rows' sums. -/
def total (p : FVec Ideal S1x16x16384x16384 .f32) : FVec Ideal S1x16x16384 .f32 :=
  Host.reduceAdd p (constant S_ .f32 0x00000000#32) reducesTo_S1x16x16384x16384_S1x16x16384_d3 h_S_

/-- The average of the values. -/
def avg (v0 : FVec Ideal S1x16384x16x128 .f32) (p : FVec Ideal S1x16x16384x16384 .f32) : FVec Ideal S16384x2048 .bf16 :=
  truncf .bf16 (shapeCast S16384x2048 (transpose S1x16384x16x128 [0, 3, 1, 2] (Host.dotGeneral dot_S1x16384x16x128_S1x16x16384x16384_S1x16x128x16384_1_3_3_2_02_01 none v0 p)
    transposes_S1x16x128x16384_S1x16384x16x128_0_3_1_2) shapeCasts_S1x16384x16x128_S16384x2048) bitsLt_bf16_f32

/-! ## Their entries -/

theorem seen_at (h : Fin 16) (y k : Fin 16384) : seen (ix4 0 h y k) = IntOp.cmpi .sle (BitVec.ofNat 32 k.val) (BitVec.ofNat 32 y.val) := by
  pointwise [seen]

theorem raw_at (q0 k0 : FVec Ideal S1x16384x16x128 .f32) (q1 : FVec Ideal S1x16384x16x64 .f32) (k1 : FVec Ideal S1x16384x64 .f32) (h : Fin 16) (y k : Fin 16384) :
    raw q0 k0 q1 k1 (ix4 0 h y k) = ((∑ x : Fin 128, q0 (ix4 0 y h x) * k0 (ix4 0 k h x)) + ∑ x : Fin 64, k1 (ix3 0 k x) * q1 (ix4 0 y h x))
      * Ideal.div 1 (Ideal.sqrt (Ideal.ofBits FTy.f32 1128267776#32)) := by
  pointwise [raw]

theorem cut_at (s : FVec Ideal S1x16x16384x16384 .f32) (h : Fin 16) (y k : Fin 16384) :
    cutR s (ix4 0 h y k) = Scalar.select (seen (ix4 0 h y k)) (s (ix4 0 h y k)) (Ideal.ofBits .f32 4286578688#32) := rfl

theorem spread_at (t : FVec Ideal S1x16x16384 .f32) (h : Fin 16) (y k : Fin 16384) : spread t (ix4 0 h y k) = t (ix3 0 h y) := by
  pointwise [spread]

theorem total_at (p : FVec Ideal S1x16x16384x16384 .f32) (h : Fin 16) (y : Fin 16384) : total p (ix3 0 h y) = ∑ k : Fin 16384, p (ix4 0 h y k) := by
  pointwise [total]

theorem avg_at (v0 : FVec Ideal S1x16384x16x128 .f32) (p : FVec Ideal S1x16x16384x16384 .f32) (y : Fin 16384) (e : Fin 2048) :
    avg v0 p (ix2 y e) = ∑ k : Fin 16384, v0 (ix4 0 k ⟨e.val / 128, by omega⟩ ⟨e.val % 128, by omega⟩) * p (ix4 0 ⟨e.val / 128, by omega⟩ y k) := by
  pointwise [avg]

theorem drop_at (h : Fin 16) (y k : Fin 16384) :
    reducesTo_S1x16x16384x16384_S1x16x16384_d3.drop (ix4 0 h y k) = ix3 0 h y := by
  funext a
  fin_cases a <;> rfl

/-- A maximum along axes is real, when no entry is `⊤` and one it is over is not `⊥`. -/
theorem reduce_max_real {s t u : Shape} {axes : List (Fin s.rank)} (x : FVec Ideal s .f32) (n : FVec Ideal u .f32) (hn : ∀ i, n i = ⊥) (h : s.ReducesTo axes t)
    (hu : 0 < u.numel) (hx : ∀ i, x i ≠ ⊤) (i : s.Idx) (hi : x i ≠ ⊥) :
    ∃ M : ℝ, Host.reduce (FloatOps.maximumf (F := Ideal) (φ := .f32)) x n h hu (h.drop i) = (M : EReal) := by
  rw [Host.reduce_eq_foldl, hn]
  have h1 := foldl_max_ne_top x hx (((List.finRange s.numel).map s.rowMajor.symm).filter fun j => h.drop j = h.drop i) ⊥ bot_ne_top
  have h2 := (le_foldl_max x (((List.finRange s.numel).map s.rowMajor.symm).filter fun j => h.drop j = h.drop i) ⊥).2 i (by
      rw [List.mem_filter]
      exact ⟨List.mem_map.2 ⟨s.rowMajor i, List.mem_finRange _, Equiv.symm_apply_apply _ _⟩, by simp⟩)
  exact ⟨_, (EReal.coe_toReal h1 (lt_of_lt_of_le (bot_lt_iff_ne_bot.mpr hi) h2).ne').symm⟩

theorem exp_sub_at {s : Shape} (x y : FVec Ideal s .f32) (i : s.Idx) : Host.exp (subf x y) i = Ideal.exp (x i - y i) := rfl
theorem div_at {s : Shape} (x y : FVec Ideal s .f32) (i : s.Idx) : Host.divf x y i = Ideal.div (x i) (y i) := rfl

theorem max_at {s : Shape} (x y : FVec Ideal s .f32) (i : s.Idx) (a : EReal) (hx : x i = ⊥) (hy : y i = a) : maximumf x y i = a := by
  show max (x i) (y i) = a
  rw [hx, hy]
  exact max_eq_right bot_le

/-- A row's maximum is real, when no score is `⊤` and one is real. -/
theorem top_real (s : FVec Ideal S1x16x16384x16384 .f32) (hs : ∀ i, s i ≠ ⊤) (h : Fin 16) (y k : Fin 16384) (hk : s (ix4 0 h y k) ≠ ⊥) :
    ∃ M : ℝ, top s (ix3 0 h y) = (M : EReal) := by
  obtain ⟨M, hM⟩ := reduce_max_real s (constant S_ .f32 0xFF800000#32) (fun _ => negInf) reducesTo_S1x16x16384x16384_S1x16x16384_d3 h_S_ hs _ hk
  rw [drop_at] at hM
  exact ⟨M, max_at _ _ _ _ negInf hM⟩

/-! ## The result -/

variable (m : (ℓ : Loc nD τ sig) → Buf (Elt Ideal) ℓ)

theorem res_eq (c : Dev nD) (q0 k0 v0 : FVec Ideal S1x16384x16x128 .f32) (q1 : FVec Ideal S1x16384x16x64 .f32) (k1 : FVec Ideal S1x16384x64 .f32)
    (e0 : m (c.tc.loc main_arg0) = q0) (e1 : m (c.tc.loc main_arg1) = q1) (e2 : m (c.tc.loc main_arg2) = k0)
    (e3 : m (c.tc.loc main_arg3) = k1) (e4 : m (c.tc.loc main_arg4) = v0) (s p : FVec Ideal S1x16x16384x16384 .f32)
    (hs : s = cutR (raw q0 k0 q1 k1)) (hp : p = Host.exp (subf s (spread (top s)))) :
    res_main_v29 m c = avg v0 (Host.divf p (spread (total p))) := by
  unfold res_main_v29
  rw [e0, e1, e2, e3, e4]
  subst hp hs
  rfl

theorem ref_at (c : Dev nD) (A : Rows) (q0 k0 v0 : FVec Ideal S1x16384x16x128 .f32) (q1 : FVec Ideal S1x16384x16x64 .f32) (k1 : FVec Ideal S1x16384x64 .f32)
    (e0 : m (c.tc.loc main_arg0) = q0) (e1 : m (c.tc.loc main_arg1) = q1) (e2 : m (c.tc.loc main_arg2) = k0)
    (e3 : m (c.tc.loc main_arg3) = k1) (e4 : m (c.tc.loc main_arg4) = v0)
    (h0 : ∀ (y : Fin 16384) (h : Fin 16) (d : Fin 128), q0 (ix4 0 y h d) = (A.qn y h d : EReal))
    (h1 : ∀ (y : Fin 16384) (h : Fin 16) (d : Fin 64), q1 (ix4 0 y h d) = (A.qp y h d : EReal))
    (h2 : ∀ (y : Fin 16384) (h : Fin 16) (d : Fin 128), k0 (ix4 0 y h d) = (A.kn y h d : EReal))
    (h3 : ∀ (y : Fin 16384) (d : Fin 64), k1 (ix3 0 y d) = (A.kp y d : EReal)) (y : Fin 16384) (e : Fin 2048) :
    res_main_v29 m c (ix2 y e) = A.attend ⟨e.val / 128, by omega⟩ y (fun k => v0 (ix4 0 k ⟨e.val / 128, by omega⟩ ⟨e.val % 128, by omega⟩)) := by
  rw [res_eq m c q0 k0 v0 q1 k1 e0 e1 e2 e3 e4 _ _ rfl rfl, avg_at]
  generalize hs : cutR (raw q0 k0 q1 k1) = s
  have hsa : ∀ (h : Fin 16) (y k : Fin 16384), s (ix4 0 h y k) = if k.val ≤ y.val then (A.scores h y k.val : EReal) else ⊥ := fun h y k => by
    rw [← hs, cut_at, seen_at, mask _ _ k.isLt y.isLt, raw_at, factor, negInf, A.scores_val]
    simp only [h0, h1, h2, h3, ← EReal.coe_mul, coe_sum, ← EReal.coe_add, Rows.score, mul_comm (A.kp _ _)]
  obtain ⟨M, hM⟩ := top_real s (fun i => by
    obtain ⟨a, h, y, k, rfl⟩ : ∃ (a : Fin 1) (h : Fin 16) (y k : Fin 16384), i = ix4 a h y k := ⟨i 0, i 1, i 2, i 3, eq_ix4 i⟩
    obtain rfl : a = 0 := Subsingleton.elim _ _
    rw [hsa]
    split
    · exact EReal.coe_ne_top _
    · exact bot_ne_top) ⟨e.val / 128, by omega⟩ y y (by rw [hsa, if_pos le_rfl]; exact EReal.coe_ne_bot _)
  have hp : ∀ k : Fin 16384, Host.exp (subf s (spread (top s))) (ix4 0 ⟨e.val / 128, by omega⟩ y k)
      = Ideal.exp (s (ix4 0 ⟨e.val / 128, by omega⟩ y k) - (M : EReal)) := fun k => by
    rw [exp_sub_at, spread_at, hM]
  have hq : ∀ k : Fin 16384, Host.divf (Host.exp (subf s (spread (top s)))) (spread (total (Host.exp (subf s (spread (top s)))))) (ix4 0 ⟨e.val / 128, by omega⟩ y k)
      = Ideal.div (Ideal.exp (s (ix4 0 ⟨e.val / 128, by omega⟩ y k) - (M : EReal))) (∑ j : Fin 16384, Ideal.exp (s (ix4 0 ⟨e.val / 128, by omega⟩ y j) - (M : EReal))) := fun k => by
    rw [div_at, spread_at, total_at]
    simp only [hp]
  simp only [hq]
  exact soft_row (A.scores ⟨e.val / 128, by omega⟩ y) y _ (fun k => s (ix4 0 ⟨e.val / 128, by omega⟩ y k)) (hsa _ y) M

end Cert.Proof.Ref
-- ==== Proof.Algebraic.lean ====
/-
  Over the reals the attention call computes the reference, for finite queries and keys and any values.
-/
module

public import proofs.«01_k».proof.Proof.Finite
public import proofs.«01_k».proof.Proof.Frames
public import proofs.«01_k».proof.Proof.Out
public import proofs.«01_k».proof.Proof.RefVal

@[expose] public section

set_option maxRecDepth 16384

noncomputable section

namespace Cert.Proof

open Idealize.ShloMosaic Idealize.ShloMosaic.TcCoe Idealize.ShloMosaic.Pointwise Idealize.SL.Sem

attribute [local instance] Cert.KernelIdeal.Gen.facts Cert.ReferenceIdeal.Gen.facts Cert.Pre_finite.Gen.facts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' arrays are one. -/
theorem values_eq (q0 k0 v0 : FVec Ideal Cert.KernelIdeal.S1x16384x16x128 .f32) (q1 : FVec Ideal Cert.KernelIdeal.S1x16384x16x64 .f32)
    (k1 : FVec Ideal Cert.KernelIdeal.S1x16384x64 .f32)
    (hpre : Cert.Pre_finite.fn (F := Ideal) q0 q1 k0 k1 v0 = fun _ => 1#1)
    (e0 : m ((c.tc : Thread Cert.KernelIdeal.nD Cert.KernelIdeal.τ).loc Cert.KernelIdeal.main_arg0) = q0)
    (e1 : m ((c.tc : Thread Cert.KernelIdeal.nD Cert.KernelIdeal.τ).loc Cert.KernelIdeal.main_arg1) = q1)
    (e2 : m ((c.tc : Thread Cert.KernelIdeal.nD Cert.KernelIdeal.τ).loc Cert.KernelIdeal.main_arg2) = k0)
    (e3 : m ((c.tc : Thread Cert.KernelIdeal.nD Cert.KernelIdeal.τ).loc Cert.KernelIdeal.main_arg3) = k1)
    (e4 : m ((c.tc : Thread Cert.KernelIdeal.nD Cert.KernelIdeal.τ).loc Cert.KernelIdeal.main_arg4) = v0)
    (e0' : m' ((c.tc : Thread Cert.ReferenceIdeal.nD Cert.ReferenceIdeal.τ).loc Cert.ReferenceIdeal.main_arg0) = q0)
    (e1' : m' ((c.tc : Thread Cert.ReferenceIdeal.nD Cert.ReferenceIdeal.τ).loc Cert.ReferenceIdeal.main_arg1) = q1)
    (e2' : m' ((c.tc : Thread Cert.ReferenceIdeal.nD Cert.ReferenceIdeal.τ).loc Cert.ReferenceIdeal.main_arg2) = k0)
    (e3' : m' ((c.tc : Thread Cert.ReferenceIdeal.nD Cert.ReferenceIdeal.τ).loc Cert.ReferenceIdeal.main_arg3) = k1)
    (e4' : m' ((c.tc : Thread Cert.ReferenceIdeal.nD Cert.ReferenceIdeal.τ).loc Cert.ReferenceIdeal.main_arg4) = v0) :
    Cert.ReferenceIdeal.Value.res_main_v29 m' c = (Flash.dats m 0 c).arrAt 4 (Cert.KernelIdeal.cfgs 0).N := by
  obtain ⟨r0, r1, r2, r3⟩ := Finite.real q0 q1 k0 k1 v0 hpre
  rw [Flash.arr_eq (Finite.rows q0 q1 k0 k1) q0 k0 v0 q1 k1 (fun _ _ _ => r0 _) (fun _ _ _ => r1 _) (fun _ _ _ => r2 _) (fun _ _ => r3 _)
    m c e0 e1 e2 e3 e4]
  funext i
  obtain ⟨y, e, rfl⟩ : ∃ (y : Fin 16384) (e : Fin 2048), i = ix2 y e := ⟨i 0, i 1, eq_ix2 i⟩
  exact Ref.ref_at m' c (Finite.rows q0 q1 k0 k1) q0 k0 v0 q1 k1 e0' e1' e2' e3' e4' (fun _ _ _ => r0 _) (fun _ _ _ => r1 _) (fun _ _ _ => r2 _)
    (fun _ _ => r3 _) y e

theorem algebraic : Cert.algebraic_KernelIdeal_ReferenceIdeal_pre_finite := by
  intro m g m' g' hpre hargs
  refine ⟨fun c => (Flash.dats m 0 c).arrAt 4 (Cert.KernelIdeal.cfgs 0).N, ?_, ?_⟩
  · refine (θ_run Cert.KernelIdeal.defs _ _).mono (fun r h c => ⟨(h.1 c).1 4, ?_⟩) (Flash.run_main (F := Ideal) m g)
    exact ⟨((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).2 Cert.KernelIdeal.main_arg3 (Pipeline.mem_restRefs_of Cert.KernelIdeal.main_arg3 (by decide) (by decide))).trans (Cert.KernelIdeal.Gen.V_main_arg3 m c),
      ((h.1 c).2 Cert.KernelIdeal.main_arg4 (Pipeline.mem_restRefs_of Cert.KernelIdeal.main_arg4 (by decide) (by decide))).trans (Cert.KernelIdeal.Gen.V_main_arg4 m c)⟩
  · refine (θ_run Cert.ReferenceIdeal.defs _ _).mono (fun r h c => ⟨(h c).1.trans ?_, (h c).2⟩) (Cert.ReferenceIdeal.Value.run (F := Ideal) m' g')
    exact values_eq m m' c _ _ _ _ _ (hpre c) rfl rfl rfl rfl rfl (hargs c).1 (hargs c).2.1 (hargs c).2.2.1 (hargs c).2.2.2.1 (hargs c).2.2.2.2

end Cert.Proof
-- ==== Proof.FBody.lean ====
/-
  The body of the feed-forward kernel on the contents of its buffers. At a row block's first point it fills the normed rows and zeroes the
  output; at every point it adds one or two tiles' products to the output; at the last it norms the sum and adds the input.
-/
module

public import proofs.«01_k».proof.Proof.Gen.Kernel2Ideal.Skeleton
public import proofs.«01_k».proof.Proof.Gen.Kernel2Ideal.Loops
public import Idealize.ShloMosaic.Lib.VecWindow
public import Idealize.ShloMosaic.Lib.Tactic

@[expose] public section

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- The kernel's programs. -/
abbrev Pr (F : FTy → Type) (α : Type) : Type 1 := Prog (TpuEff nD τ sig (Elt F) Λ₀ .tc) α

/-- The weakest precondition of the body's programs on core `c`. -/
abbrev WP (c : Dev nD) {α : Type} (p : Pr F α) (Q : α → sProp 𝕄) : sProp 𝕄 :=
  wp frame (wpE defs₀ 𝒱₀ (c : Thread nD τ) none) Set.univ p Q

/-- Core `c` holds the buffer at the contents `X`. -/
abbrev own (c : Dev nD) {S : Shape} {e : EltTy} (a : Memref sig .tc .vmem S e) (X : S.Idx → Elt F e) : sProp 𝕄 :=
  owns (c : Thread nD τ) a fullShare X

theorem put_all {α : Type} {S : Shape} (X : S.Idx → α) {off : Fin S.rank → ℕ} (h : ∀ a, off a = 0) (w : S.Idx → α) :
    VecWindow.put X off S.size w = w := by
  funext y
  unfold VecWindow.put
  rw [dif_pos (fun a => by rw [h a]; exact ⟨Nat.zero_le _, by have := (y a).isLt; omega⟩)]
  exact congrArg w (funext fun a => Fin.ext (by show (y a).val - off a = (y a).val; rw [h a]; omega))

theorem window_all {α : Type} {S : Shape} (X : S.Idx → α) {off : Fin S.rank → ℕ} (inb) :
    VecWindow.window X off S.size inb = X := by
  funext y
  exact congrArg X (funext fun a => Fin.ext (by
    show off a + 1 * (y a).val = (y a).val
    have := inb a; omega))

section Steps

variable (c : Dev nD) {α : Type} {S : Shape} {e : EltTy} {a : Memref sig .tc .vmem S e}

/-- What a buffer holds is what its memref reads of some contents. -/
theorem own_elim {X : S.Idx → Elt F e} {R : sProp 𝕄}
    (h : ∀ f : a.view.ty.Contents (Elt F), a.view.read (Elt F) f = X → (a.view.loc (c : Thread nD τ) ↦[a.view.set]{fullShare} f : sProp 𝕄) ⊢ R) :
    own c a X ⊢ R := by
  iintro H
  ihave H' := (show (own c a X) ⊢ iprop(∃ f : a.view.ty.Contents (Elt F), ⌜a.view.read (Elt F) f = X⌝ ∗ (a.view.loc (c : Thread nD τ) ↦[a.view.set]{fullShare} f)) from .rfl) $$ H
  icases H' with ⟨%f, %hf, H⟩
  iapply (h f hf) $$ H

theorem wand_left {A B R Y : sProp 𝕄} (h : A ⊢ B) : iprop((A -∗ R) -∗ Y) ⊢ iprop((B -∗ R) -∗ Y) := by
  iintro H K
  iapply H
  iintro HA
  iapply K
  iapply h $$ HA

/-- A load reads a window of the contents. -/
theorem wp_ld {Q : α → sProp 𝕄} {off size : Fin S.rank → ℕ} {inb : ∀ x, off x + size x ≤ S.size x}
    {hl : a.view.LoadsAt (Rect.unit (s := S) off size inb).toLoadRect}
    {k : ((Rect.unit (s := S) off size inb).toLoadRect.shape.Idx → Elt F e) → Pr F α} (X : S.Idx → Elt F e) :
    (own c a X) ⊢ iprop((own c a X -∗ WP c (k (VecWindow.window X off size inb)) Q)
      -∗ WP c (.op (.load a (Rect.unit (s := S) off size inb).toLoadRect hl) k) Q) := by
  refine own_elim c fun f hf => ?_
  subst hf
  exact (wp_load (defs := defs₀) 𝒱₀ (c : Thread nD τ) none Set.univ (m := a) (hl := hl) (k := k) (f := f) (q := fullShare) (View.setOn_subset_set _ _)).trans
    (wand_left (owns_intro (c : Thread nD τ) a fullShare f))

/-- A store puts its payload over a window of the contents. -/
theorem wp_st {Q : α → sProp 𝕄} {off size : Fin S.rank → ℕ} {inb : ∀ x, off x + size x ≤ S.size x}
    {w : (Rect.unit (s := S) off size inb).shape.Idx → Elt F e}
    {hx : (a.access (Rect.unit (s := S) off size inb)).Stores Finset.univ} {hm : Finset.univ = Finset.univ ∨ ∀ x, (Rect.unit (s := S) off size inb).stride x = 1}
    {k : PUnit → Pr F α} (X : S.Idx → Elt F e) :
    (own c a X) ⊢ iprop((own c a (VecWindow.put X off size w) -∗ WP c (k ⟨⟩) Q)
      -∗ WP c (.op (.store a (Rect.unit (s := S) off size inb) w Finset.univ hx hm) k) Q) := by
  refine own_elim c fun f hf => ?_
  subst hf
  have e : a.view.read (Elt F) ((a.access (Rect.unit (s := S) off size inb)).write (Elt F) f w Finset.univ)
      = VecWindow.put (a.view.read (Elt F) f) off size w :=
    View.read_writes_cons_put (Val := Elt F) a.view f inb w [] rfl
  rw [← e]
  exact (wp_store (defs := defs₀) 𝒱₀ (c : Thread nD τ) none Set.univ (m := a) (hx := hx) (hm := hm) (k := k) (f := f) (S := a.view.set) (Memref.setOn_access_subset _ _ _)).trans
    (wand_left (owns_intro (c : Thread nD τ) a fullShare _))

/-- A load of a whole buffer reads its contents. -/
theorem ldF {Q : α → sProp 𝕄} {off : Fin S.rank → ℕ} {inb : ∀ x, off x + S.size x ≤ S.size x}
    {hl : a.view.LoadsAt (Rect.unit (s := S) off S.size inb).toLoadRect} {k : (S.Idx → Elt F e) → Pr F α} (X : S.Idx → Elt F e) :
    (own c a X) ⊢ iprop((own c a X -∗ WP c (k X) Q) -∗ WP c (.op (.load a (Rect.unit (s := S) off S.size inb).toLoadRect hl) k) Q) := by
  have h := wp_ld (Q := Q) (hl := hl) (k := k) c X
  rw [window_all X] at h
  exact h

/-- A store of a whole buffer leaves its payload. -/
theorem stF {Q : α → sProp 𝕄} {off : Fin S.rank → ℕ} {inb : ∀ x, off x + S.size x ≤ S.size x}
    {w : (Rect.unit (s := S) off S.size inb).shape.Idx → Elt F e} {hx : (a.access (Rect.unit (s := S) off S.size inb)).Stores Finset.univ}
    {hm : Finset.univ = Finset.univ ∨ ∀ x, (Rect.unit (s := S) off S.size inb).stride x = 1}
    {k : PUnit → Pr F α} (X w' : S.Idx → Elt F e) (hw : w = w') :
    (own c a X) ⊢ iprop((own c a w' -∗ WP c (k ⟨⟩) Q)
      -∗ WP c (.op (.store a (Rect.unit (s := S) off S.size inb) w Finset.univ hx hm) k) Q) := by
  have e : VecWindow.put X off S.size w = w' := (put_all X (fun x => by have := inb x; omega) w).trans hw
  exact (wp_st (Q := Q) (hx := hx) (hm := hm) (k := k) (w := w) c X).trans (wand_left (by rw [e]))

theorem wp_ret_of {x : α} {Q : α → sProp 𝕄} : Q x ⊢ WP c (.ret x : Pr F α) Q := by
  unfold WP
  rw [wp_ret]
  iintro H
  imodintro
  iexact H

end Steps

/-! ## What the buffers hold -/

/-- A tile's operands: its columns of the two up-projections, of the filters and of the biases, and its rows of the down-projection. -/
structure Tile (F : FTy → Type) [FloatOps F] where
  wg : S2048x512.Idx → Elt F .bf16
  wu : S2048x512.Idx → Elt F .bf16
  cwg : S3x512.Idx → Elt F .f32
  cwu : S3x512.Idx → Elt F .f32
  cbg : S1x512.Idx → Elt F .f32
  cbu : S1x512.Idx → Elt F .f32
  wo : S512x2048.Idx → Elt F .bf16

/-- A point's operands. -/
structure Ins (F : FTy → Type) [FloatOps F] where
  x : S512x2048.Idx → Elt F .f32
  xh : S16x2048.Idx → Elt F .f32
  gp : S1x2048.Idx → Elt F .f32
  t0 : Tile F
  t1 : Tile F
  gq : S1x2048.Idx → Elt F .f32

/-- The rows of a projection, from two before the block's first row, from one before, from it. -/
abbrev r0 (a : S528x512.Idx → Elt F .f32) : Vec F S512x512 .f32 := VecWindow.window a ![14, 0] S512x512.size inb_S528x512_S512x512_14_0
abbrev r1 (a : S528x512.Idx → Elt F .f32) : Vec F S512x512 .f32 := VecWindow.window a ![15, 0] S512x512.size inb_S528x512_S512x512_15_0
abbrev r2 (a : S528x512.Idx → Elt F .f32) : Vec F S512x512 .f32 := VecWindow.window a ![16, 0] S512x512.size inb_S528x512_S512x512_16_0
/-- The filter's three rows. -/
abbrev c0 (w : S3x512.Idx → Elt F .f32) : Vec F S1x512 .f32 := VecWindow.window w ![0, 0] S1x512.size inb_S3x512_S1x512_0_0
abbrev c1 (w : S3x512.Idx → Elt F .f32) : Vec F S1x512 .f32 := VecWindow.window w ![1, 0] S1x512.size inb_S3x512_S1x512_1_0
abbrev c2 (w : S3x512.Idx → Elt F .f32) : Vec F S1x512 .f32 := VecWindow.window w ![2, 0] S1x512.size inb_S3x512_S1x512_2_0

/-- The gated activations of a tile. -/
def act (h : S528x2048.Idx → Elt F .bf16) (T : Tile F) : Vec F S512x512 .bf16 :=
  k0_pay13 (k0_pay9 T.cbg (r0 (k0_pay7 h T.wg)) (c0 T.cwg) (r1 (k0_pay7 h T.wg)) (c1 T.cwg) (r2 (k0_pay7 h T.wg)) (c2 T.cwg))
    (k0_pay10 T.cbg (r0 (k0_pay7 h T.wg)) (c0 T.cwg) (r1 (k0_pay7 h T.wg)) (c1 T.cwg) (r2 (k0_pay7 h T.wg)) (c2 T.cwg)) k0_pay11
    T.cbu (r0 (k0_pay7 h T.wu)) (c0 T.cwu) (r1 (k0_pay7 h T.wu)) (c1 T.cwu) (r2 (k0_pay7 h T.wu)) (c2 T.cwu)

/-- The output after two tiles. -/
def two (h : S528x2048.Idx → Elt F .bf16) (X : Ins F) (O : S512x2048.Idx → Elt F .f32) : S512x2048.Idx → Elt F .f32 :=
  k0_pay4 (k0_pay14 (act h X.t0) X.t0.wo) (act h X.t1) X.t1.wo O

/-- The output after one. -/
def one (h : S528x2048.Idx → Elt F .bf16) (X : Ins F) (O : S512x2048.Idx → Elt F .f32) : S512x2048.Idx → Elt F .f32 :=
  k0_pay5 (act h X.t0) X.t0.wo O

/-- The output after the last point. -/
def fin (h : S528x2048.Idx → Elt F .bf16) (X : Ins F) (O : S512x2048.Idx → Elt F .f32) : S512x2048.Idx → Elt F .f32 :=
  k0_pay6 X.x (one h X O) X.gq

theorem inbX (r : Fin 4) : ∀ a : Fin 2, (![128 * r.val, 0] : Fin 2 → ℕ) a + S128x2048.size a ≤ S512x2048.size a := fun a => match a with
  | ⟨0, _⟩ => by show 128 * r.val + 128 ≤ 512; omega
  | ⟨1, _⟩ => by show 0 + 2048 ≤ 2048; omega

/-- Rows `128 r …` of a block. -/
abbrev winX (x : S512x2048.Idx → Elt F .f32) (r : Fin 4) : Vec F S128x2048 .f32 := VecWindow.window x ![128 * r.val, 0] S128x2048.size (inbX r)

/-- The normed rows: sixteen before the block, then its own. -/
def rows (i : grid0.Coords) (X : Ins F) : S528x2048.Idx → Elt F .bf16 := fun y =>
  if h : (y 0).val < 16 then k0_pay1 i X.xh X.gp (fun a => match a with | ⟨0, _⟩ => ⟨(y 0).val, h⟩ | ⟨1, _⟩ => y 1)
  else k0_pay2 X.gp (winX X.x ⟨((y 0).val - 16) / 128, by have : (y 0).val < 528 := (y 0).isLt; omega⟩)
    (fun a => match a with | ⟨0, _⟩ => ⟨((y 0).val - 16) % 128, Nat.mod_lt _ (by decide)⟩ | ⟨1, _⟩ => y 1)

/-- Row block `i`, point `j` of the grid. -/
def pt (i : Fin 32) (j : Fin 6) : grid0.Coords := fun a => match a with
  | ⟨0, _⟩ => i
  | ⟨1, _⟩ => j

theorem exists_pt (i : grid0.Coords) : ∃ h b, i = pt h b :=
  ⟨i 0, i 1, funext fun a => match a with | ⟨0, _⟩ => rfl | ⟨1, _⟩ => rfl⟩

theorem conds : ∀ j : Fin 6, (k0_cond1 (pt 0 j) = 1#1 ↔ j = 0) ∧ (k0_cond2 (pt 0 j) = 1#1 ↔ j ≠ 5) ∧ (k0_cond3 (pt 0 j) = 1#1 ↔ j = 5) ∧ (k0_cond4 (pt 0 j) = 1#1 ↔ j = 5) := by decide
theorem cond1 (i : Fin 32) (j : Fin 6) : k0_cond1 (pt i j) = 1#1 ↔ j = 0 := (conds j).1
theorem cond2 (i : Fin 32) (j : Fin 6) : k0_cond2 (pt i j) = 1#1 ↔ j ≠ 5 := (conds j).2.1
theorem cond3 (i : Fin 32) (j : Fin 6) : k0_cond3 (pt i j) = 1#1 ↔ j = 5 := (conds j).2.2.1
theorem cond4 (i : Fin 32) (j : Fin 6) : k0_cond4 (pt i j) = 1#1 ↔ j = 5 := (conds j).2.2.2

theorem off1 : ∀ k : Fin k0_t1_loop.trips, k0_off1 k = ![128 * k.val, 0] := by decide
theorem off2 : ∀ k : Fin k0_t1_loop.trips, k0_off2 k = ![16 + 128 * k.val, 0] := by decide

section
variable (c : Dev nD)
variable (arg2 : Memref sig .tc .vmem S512x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S3x512 .f32) (harg14 : arg14.IsWhole) (arg15 : Memref sig .tc .vmem S3x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x2048 .bf16) (harg18 : arg18.IsWhole) (arg19 : Memref sig .tc .vmem S1x2048 .f32) (harg19 : arg19.IsWhole) (arg20 : Memref sig .tc .vmem S512x2048 .f32) (harg20 : arg20.IsWhole) (arg21 : Memref sig .tc .vmem S528x2048 .bf16) (harg21 : arg21.IsWhole) (arg22 : Memref sig .tc .vmem S528x512 .f32) (harg22 : arg22.IsWhole) (arg23 : Memref sig .tc .vmem S528x512 .f32) (harg23 : arg23.IsWhole)

/-- The operands held. -/
def InsR (X : Ins F) : sProp 𝕄 :=
  iprop(own c arg2 X.x ∗ own c arg3 X.xh ∗ own c arg4 X.gp ∗ own c arg5 X.t0.wg ∗ own c arg6 X.t0.wu ∗ own c arg7 X.t0.cwg ∗ own c arg8 X.t0.cwu ∗ own c arg9 X.t0.cbg ∗ own c arg10 X.t0.cbu ∗ own c arg11 X.t0.wo ∗ own c arg12 X.t1.wg ∗ own c arg13 X.t1.wu ∗ own c arg14 X.t1.cwg ∗ own c arg15 X.t1.cwu ∗ own c arg16 X.t1.cbg ∗ own c arg17 X.t1.cbu ∗ own c arg18 X.t1.wo ∗ own c arg19 X.gq)

/-- The loop's invariant: the rows before trip `k`'s are the normed rows. -/
def Inv (i : grid0.Coords) (X : Ins F) (k : ℕ) (_ : Unit) : sProp 𝕄 :=
  iprop(own c arg2 X.x ∗ ∃ f, own c arg21 f ∗ ⌜∀ y : S528x2048.Idx, (y 0).val < 16 + 128 * k → f y = rows i X y⌝)

theorem inv_step (i : grid0.Coords) (h1 : k0_cond1 i = 1#1) (X : Ins F) (k : Fin k0_t1_loop.trips) (acc) :
    Inv c arg2 arg21 i X k.val acc
      ⊢ WP c (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h1 X.gp k acc) (Inv c arg2 arg21 i X (k.val + 1)) := by
  unfold Inv k0_t1_body
  simp only [Prog.bind_assoc, Prog.bind_lift, Prog.bind_op, Prog.pure_eq_ret, Prog.bind_ret]
  iintro ⟨H2, ⟨%f, H21, %hf⟩⟩
  iapply (wp_ld c _) $$ H2; iintro H2
  iapply (wp_ld c _) $$ H21; iintro H21
  iapply (wp_st c _) $$ H21; iintro H21
  iapply (wp_ret_of c)
  isplitl [H2]; · iexact H2
  iexists _
  isplitl [H21]; · iexact H21
  ipureintro
  intro y hy
  have hk : k.val < 4 := k.isLt
  have e1 := off1 k
  have e2 := off2 k
  have l1 : (y 1).val < 2048 := (y 1).isLt
  revert e1 e2
  generalize k0_off1_inb i k h1 = q1
  revert q1
  generalize k0_off1 k = o1
  generalize k0_off2 k = o2
  intro q1 e1 e2
  subst e1 e2
  unfold VecWindow.put
  split
  · rename_i h
    have h0 : 16 + 128 * k.val ≤ (y 0).val := (h 0).1
    have h0' : (y 0).val < 16 + 128 * k.val + 128 := (h 0).2
    unfold rows
    rw [dif_neg (by omega)]
    have ek : (⟨((y 0).val - 16) / 128, by have : (y 0).val < 528 := (y 0).isLt; omega⟩ : Fin 4) = ⟨k.val, hk⟩ := Fin.ext (by show ((y 0).val - 16) / 128 = k.val; omega)
    rw [ek]
    refine congrArg (k0_pay2 X.gp _) (funext fun a => Fin.ext ?_)
    match a with
    | ⟨0, _⟩ => show (y 0).val - (16 + 128 * k.val) = ((y 0).val - 16) % 128; omega
    | ⟨1, _⟩ => show (y 1).val - 0 = (y 1).val; omega
  · rename_i h
    refine hf y ?_
    by_contra hc
    refine h fun a => ?_
    match a with
    | ⟨0, _⟩ => show 16 + 128 * k.val ≤ (y 0).val ∧ (y 0).val < 16 + 128 * k.val + 128; omega
    | ⟨1, _⟩ => show 0 ≤ (y 1).val ∧ (y 1).val < 0 + 2048; omega

/-- Two tiles' part of the body. -/
noncomputable def twoP (i : grid0.Coords) : Pr F PUnit := do
    let ⟨v40, v45, v46⟩ : Σ' (v40 : FVec F S512x512 .f32) (v45 : FVec F S512x512 .f32), FVec F S512x512 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
    let ⟨v80, v81⟩ : Σ' (v80 : FVec F S512x512 .bf16), Vec F S512x2048 .bf16 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v40 v45 v46
    let ⟨v83, v110, v112, v116⟩ : Σ' (v83 : FVec F S512x2048 .f32) (v110 : FVec F S512x512 .f32) (v112 : FVec F S512x512 .f32), FVec F S512x512 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v80 v81
    let v152 : FVec F S512x512 .bf16 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v110 v112 v116
    let v153 : Vec F S512x2048 .bf16 ← Prog.lift (.load arg18 (Rect.unit (s := S512x2048) ![0, 0] S512x2048.size inb_S512x2048_S512x2048_0_0).toLoadRect (View.loadsAt_vmem h_S512x2048))
    let v157 : Vec F S512x2048 .f32 ← Prog.lift (.load arg20 (Rect.unit (s := S512x2048) ![0, 0] S512x2048.size inb_S512x2048_S512x2048_0_0).toLoadRect (View.loadsAt_vmem h_S512x2048))
    let v160 : Vec F S512x2048 .f32 ← Prog.lift (.load arg20 (Rect.unit (s := S512x2048) ![0, 0] S512x2048.size inb_S512x2048_S512x2048_0_0).toLoadRect (View.loadsAt_vmem h_S512x2048))
    Prog.lift (.store arg20 (Rect.unit (s := S512x2048) ![0, 0] S512x2048.size inb_S512x2048_S512x2048_0_0) (k0_pay4 v83 v152 v153 v157) Finset.univ (View.stores_vmem_bits_univ h_S512x2048 rfl) (.inl rfl))

/-- The working buffers with the normed rows held at `h`. -/
def Work (h : S528x2048.Idx → Elt F .bf16) : sProp 𝕄 :=
  iprop(own c arg21 h ∗ (∃ f, own c arg22 f) ∗ ∃ f, own c arg23 f)

set_option maxHeartbeats 2000000 in
theorem wp_two (i : grid0.Coords) (X : Ins F) (h : S528x2048.Idx → Elt F .bf16) (O : S512x2048.Idx → Elt F .f32) {Q : PUnit → sProp 𝕄} :
    iprop(InsR c arg2 arg3 arg4 arg5 arg6 arg7 arg8 arg9 arg10 arg11 arg12 arg13 arg14 arg15 arg16 arg17 arg18 arg19 X ∗ own c arg20 O ∗ Work c arg21 arg22 arg23 h)
      ⊢ iprop((iprop(InsR c arg2 arg3 arg4 arg5 arg6 arg7 arg8 arg9 arg10 arg11 arg12 arg13 arg14 arg15 arg16 arg17 arg18 arg19 X ∗ own c arg20 (two h X O) ∗ Work c arg21 arg22 arg23 h) -∗ Q ⟨⟩) -∗ WP c (twoP arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 i) Q) := by
  unfold InsR Work twoP
  rw [k0_part1_eq_skeleton, k0_part2_eq_skeleton, k0_part3_eq_skeleton, k0_part4_eq_skeleton]
  dsimp only [k0_part1_skel, k0_part2_skel, k0_part3_skel, k0_part4_skel]
  simp only [Prog.bind_assoc, Prog.bind_lift, Prog.bind_op, Prog.pure_eq_ret, Prog.bind_ret]
  iintro ⟨⟨H2, H3, H4, H5, H6, H7, H8, H9, H10, H11, H12, H13, H14, H15, H16, H17, H18, H19⟩, H20, H21, ⟨%f22, H22⟩, ⟨%f23, H23⟩⟩ HQ
  iapply (ldF c _) $$ H21; iintro H21
  iapply (ldF c _) $$ H5; iintro H5
  iapply (ldF c _) $$ H22; iintro H22
  iapply (stF c _ (k0_pay7 h X.t0.wg) rfl) $$ H22; iintro H22
  iapply (ldF c _) $$ H9; iintro H9
  iapply (wp_ld c _) $$ H22; iintro H22
  iapply (wp_ld c _) $$ H7; iintro H7
  iapply (wp_ld c _) $$ H22; iintro H22
  iapply (wp_ld c _) $$ H7; iintro H7
  iapply (wp_ld c _) $$ H22; iintro H22
  iapply (wp_ld c _) $$ H7; iintro H7
  iapply (ldF c _) $$ H21; iintro H21
  iapply (ldF c _) $$ H6; iintro H6
  iapply (ldF c _) $$ H22; iintro H22
  iapply (stF c _ (k0_pay7 h X.t0.wu) rfl) $$ H22; iintro H22
  iapply (ldF c _) $$ H10; iintro H10
  iapply (wp_ld c _) $$ H22; iintro H22
  iapply (wp_ld c _) $$ H8; iintro H8
  iapply (wp_ld c _) $$ H22; iintro H22
  iapply (wp_ld c _) $$ H8; iintro H8
  iapply (wp_ld c _) $$ H22; iintro H22
  iapply (wp_ld c _) $$ H8; iintro H8
  iapply (ldF c _) $$ H11; iintro H11
  iapply (ldF c _) $$ H21; iintro H21
  iapply (ldF c _) $$ H12; iintro H12
  iapply (ldF c _) $$ H23; iintro H23
  iapply (stF c _ (k0_pay7 h X.t1.wg) rfl) $$ H23; iintro H23
  iapply (ldF c _) $$ H16; iintro H16
  iapply (wp_ld c _) $$ H23; iintro H23
  iapply (wp_ld c _) $$ H14; iintro H14
  iapply (wp_ld c _) $$ H23; iintro H23
  iapply (wp_ld c _) $$ H14; iintro H14
  iapply (wp_ld c _) $$ H23; iintro H23
  iapply (wp_ld c _) $$ H14; iintro H14
  iapply (ldF c _) $$ H21; iintro H21
  iapply (ldF c _) $$ H13; iintro H13
  iapply (ldF c _) $$ H23; iintro H23
  iapply (stF c _ (k0_pay7 h X.t1.wu) rfl) $$ H23; iintro H23
  iapply (ldF c _) $$ H17; iintro H17
  iapply (wp_ld c _) $$ H23; iintro H23
  iapply (wp_ld c _) $$ H15; iintro H15
  iapply (wp_ld c _) $$ H23; iintro H23
  iapply (wp_ld c _) $$ H15; iintro H15
  iapply (wp_ld c _) $$ H23; iintro H23
  iapply (wp_ld c _) $$ H15; iintro H15
  iapply (ldF c _) $$ H18; iintro H18
  iapply (ldF c _) $$ H20; iintro H20
  iapply (ldF c _) $$ H20; iintro H20
  iapply (stF c _ (two h X O) rfl) $$ H20; iintro H20
  iapply (wp_ret_of c)
  iapply HQ
  isplitl [H2 H3 H4 H5 H6 H7 H8 H9 H10 H11 H12 H13 H14 H15 H16 H17 H18 H19]; · iframe
  isplitl [H20]; · iexact H20
  isplitl [H21]; · iexact H21
  isplitl [H22]; · iexists _; iexact H22
  iexists _; iexact H23

/-- The first point's part of the body. -/
noncomputable def initP (i : grid0.Coords) (h1 : k0_cond1 i = 1#1) : Pr F PUnit := do
    let v12 : Vec F S16x2048 .f32 ← Prog.lift (.load arg3 (Rect.unit (s := S16x2048) ![0, 0] S16x2048.size inb_S16x2048_S16x2048_0_0).toLoadRect (View.loadsAt_vmem h_S16x2048))
    let v14 : Vec F S1x2048 .f32 ← Prog.lift (.load arg4 (Rect.unit (s := S1x2048) ![0, 0] S1x2048.size inb_S1x2048_S1x2048_0_0).toLoadRect (View.loadsAt_vmem h_S1x2048))
    let v31 : Vec F S16x2048 .bf16 ← Prog.lift (.load arg21 (Rect.unit (s := S528x2048) ![0, 0] S16x2048.size inb_S528x2048_S16x2048_0_0).toLoadRect (View.loadsAt_vmem h_S16x2048))
    Prog.lift (.store arg21 (Rect.unit (s := S528x2048) ![0, 0] S16x2048.size inb_S528x2048_S16x2048_0_0) (k0_pay1 i v12 v14) Finset.univ (View.stores_vmem h_S16x2048 (harg21.storeExact_slice rfl _ packedbf16_S528x2048_S16x2048_0_0) (fun _ => rfl)) (.inl rfl))
    let v34 : Vec F S1x2048 .f32 ← Prog.lift (.load arg4 (Rect.unit (s := S1x2048) ![0, 0] S1x2048.size inb_S1x2048_S1x2048_0_0).toLoadRect (View.loadsAt_vmem h_S1x2048))
    Scf.Loop.for k0_t1_loop (k0_t1_ok i h1) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 h1 v34)
    let v37 : Vec F S512x2048 .f32 ← Prog.lift (.load arg20 (Rect.unit (s := S512x2048) ![0, 0] S512x2048.size inb_S512x2048_S512x2048_0_0).toLoadRect (View.loadsAt_vmem h_S512x2048))
    Prog.lift (.store arg20 (Rect.unit (s := S512x2048) ![0, 0] S512x2048.size inb_S512x2048_S512x2048_0_0) (k0_pay3 (F := F)) Finset.univ (View.stores_vmem_bits_univ h_S512x2048 rfl) (.inl rfl))

/-- The last point's. -/
noncomputable def lastP (i : grid0.Coords) : Pr F PUnit := do
    let ⟨v40, v45, v46⟩ : Σ' (v40 : FVec F S512x512 .f32) (v45 : FVec F S512x512 .f32), FVec F S512x512 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
    let ⟨v80, v81⟩ : Σ' (v80 : FVec F S512x512 .bf16), Vec F S512x2048 .bf16 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v40 v45 v46
    let v84 : Vec F S512x2048 .f32 ← Prog.lift (.load arg20 (Rect.unit (s := S512x2048) ![0, 0] S512x2048.size inb_S512x2048_S512x2048_0_0).toLoadRect (View.loadsAt_vmem h_S512x2048))
    let v87 : Vec F S512x2048 .f32 ← Prog.lift (.load arg20 (Rect.unit (s := S512x2048) ![0, 0] S512x2048.size inb_S512x2048_S512x2048_0_0).toLoadRect (View.loadsAt_vmem h_S512x2048))
    Prog.lift (.store arg20 (Rect.unit (s := S512x2048) ![0, 0] S512x2048.size inb_S512x2048_S512x2048_0_0) (k0_pay5 v80 v81 v84) Finset.univ (View.stores_vmem_bits_univ h_S512x2048 rfl) (.inl rfl))
    let v12 : Vec F S512x2048 .f32 ← Prog.lift (.load arg2 (Rect.unit (s := S512x2048) ![0, 0] S512x2048.size inb_S512x2048_S512x2048_0_0).toLoadRect (View.loadsAt_vmem h_S512x2048))
    let v14 : Vec F S512x2048 .f32 ← Prog.lift (.load arg20 (Rect.unit (s := S512x2048) ![0, 0] S512x2048.size inb_S512x2048_S512x2048_0_0).toLoadRect (View.loadsAt_vmem h_S512x2048))
    let v16 : Vec F S1x2048 .f32 ← Prog.lift (.load arg19 (Rect.unit (s := S1x2048) ![0, 0] S1x2048.size inb_S1x2048_S1x2048_0_0).toLoadRect (View.loadsAt_vmem h_S1x2048))
    let v30 : Vec F S512x2048 .f32 ← Prog.lift (.load arg20 (Rect.unit (s := S512x2048) ![0, 0] S512x2048.size inb_S512x2048_S512x2048_0_0).toLoadRect (View.loadsAt_vmem h_S512x2048))
    Prog.lift (.store arg20 (Rect.unit (s := S512x2048) ![0, 0] S512x2048.size inb_S512x2048_S512x2048_0_0) (k0_pay6 v12 v14 v16) Finset.univ (View.stores_vmem_bits_univ h_S512x2048 rfl) (.inl rfl))

theorem first_eq (i : grid0.Coords) (h1 : k0_cond1 i = 1#1) (h2 : k0_cond2 i = 1#1) (h3 : ¬ k0_cond3 i = 1#1) (h4 : ¬ k0_cond4 i = 1#1) :
    cc0_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = initP arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 i h1 >>= fun _ => twoP arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 i := by
  rw [cc0_ffn_eq_skeleton]
  unfold cc0_ffn_skel initP twoP
  simp only [dif_pos h1, dif_pos h2, dif_neg h3, dif_neg h4, Prog.bind_assoc, Prog.bind_lift, Prog.bind_op, Prog.pure_eq_ret, Prog.bind_ret]
  rfl

theorem mid_eq (i : grid0.Coords) (h1 : ¬ k0_cond1 i = 1#1) (h2 : k0_cond2 i = 1#1) (h3 : ¬ k0_cond3 i = 1#1) (h4 : ¬ k0_cond4 i = 1#1) :
    cc0_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = twoP arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 i := by
  rw [cc0_ffn_eq_skeleton]
  unfold cc0_ffn_skel twoP
  simp only [dif_neg h1, dif_pos h2, dif_neg h3, dif_neg h4, Prog.bind_assoc, Prog.bind_lift, Prog.bind_op, Prog.pure_eq_ret, Prog.bind_ret]
  rfl

theorem last_eq (i : grid0.Coords) (h1 : ¬ k0_cond1 i = 1#1) (h2 : ¬ k0_cond2 i = 1#1) (h3 : k0_cond3 i = 1#1) (h4 : k0_cond4 i = 1#1) :
    cc0_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = lastP arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 i := by
  rw [cc0_ffn_eq_skeleton]
  unfold cc0_ffn_skel lastP
  simp only [dif_neg h1, dif_neg h2, dif_pos h3, dif_pos h4, Prog.bind_assoc, Prog.bind_lift, Prog.bind_op, Prog.pure_eq_ret, Prog.bind_ret]
  rfl

set_option maxHeartbeats 2000000 in
theorem wp_init (i : grid0.Coords) (h1 : k0_cond1 i = 1#1) (X : Ins F) (h : S528x2048.Idx → Elt F .bf16) (O : S512x2048.Idx → Elt F .f32) {Q : PUnit → sProp 𝕄} :
    iprop(InsR c arg2 arg3 arg4 arg5 arg6 arg7 arg8 arg9 arg10 arg11 arg12 arg13 arg14 arg15 arg16 arg17 arg18 arg19 X ∗ own c arg20 O ∗ Work c arg21 arg22 arg23 h)
      ⊢ iprop((iprop(InsR c arg2 arg3 arg4 arg5 arg6 arg7 arg8 arg9 arg10 arg11 arg12 arg13 arg14 arg15 arg16 arg17 arg18 arg19 X ∗ own c arg20 (k0_pay3 (F := F)) ∗ Work c arg21 arg22 arg23 (rows i X)) -∗ Q ⟨⟩) -∗ WP c (initP arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 i h1) Q) := by
  unfold InsR Work initP
  simp only [Prog.bind_assoc, Prog.bind_lift, Prog.bind_op, Prog.pure_eq_ret, Prog.bind_ret]
  iintro ⟨⟨H2, H3, H4, H5, H6, H7, H8, H9, H10, H11, H12, H13, H14, H15, H16, H17, H18, H19⟩, H20, H21, HW⟩ HQ
  iapply (ldF c _) $$ H3; iintro H3
  iapply (ldF c _) $$ H4; iintro H4
  iapply (wp_ld c _) $$ H21; iintro H21
  iapply (wp_st c _) $$ H21; iintro H21
  iapply (ldF c _) $$ H4; iintro H4
  iapply (Scf.wp_for_bind frame (wpE (defs₀ (F := F)) 𝒱₀ (c : Thread nD τ) none) Set.univ _ _ _ _ _ _
    (Inv c arg2 arg21 i X) (inv_step c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 i h1 X)) $$ [H2 H21]
  · unfold Inv
    isplitl [H2]; · iexact H2
    iexists _
    isplitl [H21]; · iexact H21
    ipureintro
    intro y hy
    have l0 : (y 0).val < 16 := by omega
    have l1 : (y 1).val < 2048 := (y 1).isLt
    unfold VecWindow.put
    rw [dif_pos (fun a => match a with
      | ⟨0, _⟩ => by show 0 ≤ (y 0).val ∧ (y 0).val < 0 + 16; omega
      | ⟨1, _⟩ => by show 0 ≤ (y 1).val ∧ (y 1).val < 0 + 2048; omega)]
    unfold rows
    rw [dif_pos l0]
    refine congrArg (k0_pay1 i X.xh X.gp) (funext fun a => Fin.ext ?_)
    match a with
    | ⟨0, _⟩ => rfl
    | ⟨1, _⟩ => rfl
  iintro %acc HI
  unfold Inv
  icases HI with ⟨H2, %f, H21, %hf⟩
  have e : f = rows i X := funext fun y => hf y (by
    have : (y 0).val < 528 := (y 0).isLt
    show (y 0).val < 16 + 128 * 4
    omega)
  subst e
  iapply (ldF c _) $$ H20; iintro H20
  unfold Prog.lift
  iapply (stF c _ (k0_pay3 (F := F)) rfl) $$ H20; iintro H20
  iapply (wp_ret_of c)
  iapply HQ
  isplitl [H2 H3 H4 H5 H6 H7 H8 H9 H10 H11 H12 H13 H14 H15 H16 H17 H18 H19]; · iframe
  isplitl [H20]; · iexact H20
  isplitl [H21]; · iexact H21
  iexact HW

set_option maxHeartbeats 2000000 in
theorem wp_last (i : grid0.Coords) (X : Ins F) (h : S528x2048.Idx → Elt F .bf16) (O : S512x2048.Idx → Elt F .f32) {Q : PUnit → sProp 𝕄} :
    iprop(InsR c arg2 arg3 arg4 arg5 arg6 arg7 arg8 arg9 arg10 arg11 arg12 arg13 arg14 arg15 arg16 arg17 arg18 arg19 X ∗ own c arg20 O ∗ Work c arg21 arg22 arg23 h)
      ⊢ iprop((iprop(InsR c arg2 arg3 arg4 arg5 arg6 arg7 arg8 arg9 arg10 arg11 arg12 arg13 arg14 arg15 arg16 arg17 arg18 arg19 X ∗ own c arg20 (fin h X O) ∗ Work c arg21 arg22 arg23 h) -∗ Q ⟨⟩) -∗ WP c (lastP arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 i) Q) := by
  unfold InsR Work lastP
  rw [k0_part5_eq_skeleton, k0_part6_eq_skeleton]
  dsimp only [k0_part5_skel, k0_part6_skel]
  simp only [Prog.bind_assoc, Prog.bind_lift, Prog.bind_op, Prog.pure_eq_ret, Prog.bind_ret]
  iintro ⟨⟨H2, H3, H4, H5, H6, H7, H8, H9, H10, H11, H12, H13, H14, H15, H16, H17, H18, H19⟩, H20, H21, ⟨%f22, H22⟩, HW⟩ HQ
  iapply (ldF c _) $$ H21; iintro H21
  iapply (ldF c _) $$ H5; iintro H5
  iapply (ldF c _) $$ H22; iintro H22
  iapply (stF c _ (k0_pay7 h X.t0.wg) rfl) $$ H22; iintro H22
  iapply (ldF c _) $$ H9; iintro H9
  iapply (wp_ld c _) $$ H22; iintro H22
  iapply (wp_ld c _) $$ H7; iintro H7
  iapply (wp_ld c _) $$ H22; iintro H22
  iapply (wp_ld c _) $$ H7; iintro H7
  iapply (wp_ld c _) $$ H22; iintro H22
  iapply (wp_ld c _) $$ H7; iintro H7
  iapply (ldF c _) $$ H21; iintro H21
  iapply (ldF c _) $$ H6; iintro H6
  iapply (ldF c _) $$ H22; iintro H22
  iapply (stF c _ (k0_pay7 h X.t0.wu) rfl) $$ H22; iintro H22
  iapply (ldF c _) $$ H10; iintro H10
  iapply (wp_ld c _) $$ H22; iintro H22
  iapply (wp_ld c _) $$ H8; iintro H8
  iapply (wp_ld c _) $$ H22; iintro H22
  iapply (wp_ld c _) $$ H8; iintro H8
  iapply (wp_ld c _) $$ H22; iintro H22
  iapply (wp_ld c _) $$ H8; iintro H8
  iapply (ldF c _) $$ H11; iintro H11
  iapply (ldF c _) $$ H20; iintro H20
  iapply (ldF c _) $$ H20; iintro H20
  iapply (stF c _ (one h X O) rfl) $$ H20; iintro H20
  iapply (ldF c _) $$ H2; iintro H2
  iapply (ldF c _) $$ H20; iintro H20
  iapply (ldF c _) $$ H19; iintro H19
  iapply (ldF c _) $$ H20; iintro H20
  iapply (stF c _ (fin h X O) rfl) $$ H20; iintro H20
  iapply (wp_ret_of c)
  iapply HQ
  isplitl [H2 H3 H4 H5 H6 H7 H8 H9 H10 H11 H12 H13 H14 H15 H16 H17 H18 H19]; · iframe
  isplitl [H20]; · iexact H20
  isplitl [H21]; · iexact H21
  isplitl [H22]; · iexists _; iexact H22
  iexact HW

/-- The output after point `j`, from what it was before. -/
def after (i : Fin 32) (j : Fin 6) (h : S528x2048.Idx → Elt F .bf16) (X : Ins F) (O : S512x2048.Idx → Elt F .f32) : S512x2048.Idx → Elt F .f32 :=
  if j = 0 then two (rows (pt i 0) X) X k0_pay3 else if j = 5 then fin h X O else two h X O

/-- The normed rows after point `j`. -/
def rowsAt (i : Fin 32) (j : Fin 6) (h : S528x2048.Idx → Elt F .bf16) (X : Ins F) : S528x2048.Idx → Elt F .bf16 :=
  if j = 0 then rows (pt i 0) X else h

theorem wp_body (i : Fin 32) (j : Fin 6) (X : Ins F) (h : S528x2048.Idx → Elt F .bf16) (O : S512x2048.Idx → Elt F .f32) {Q : PUnit → sProp 𝕄} :
    iprop(InsR c arg2 arg3 arg4 arg5 arg6 arg7 arg8 arg9 arg10 arg11 arg12 arg13 arg14 arg15 arg16 arg17 arg18 arg19 X ∗ own c arg20 O ∗ Work c arg21 arg22 arg23 h)
      ⊢ iprop((iprop(InsR c arg2 arg3 arg4 arg5 arg6 arg7 arg8 arg9 arg10 arg11 arg12 arg13 arg14 arg15 arg16 arg17 arg18 arg19 X ∗ own c arg20 (after i j h X O) ∗ Work c arg21 arg22 arg23 (rowsAt i j h X)) -∗ Q ⟨⟩)
        -∗ WP c (cc0_ffn (pt i j) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) Q) := by
  unfold after rowsAt
  by_cases h0 : j = 0
  · subst h0
    rw [if_pos rfl, if_pos rfl, first_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (pt i 0) ((cond1 i 0).2 rfl) ((cond2 i 0).2 (by decide)) (fun e => absurd ((cond3 i 0).1 e) (by decide)) (fun e => absurd ((cond4 i 0).1 e) (by decide))]
    show _ ⊢ iprop(_ -∗ wp frame (wpE (defs₀ (F := F)) 𝒱₀ (c : Thread nD τ) none) Set.univ (initP arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (pt i 0) ((cond1 i 0).2 rfl) >>= fun _ => twoP arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (pt i 0)) Q)
    rw [wp_bind]
    iintro H HQ
    iapply (wp_init c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (pt i 0) ((cond1 i 0).2 rfl) X h O) $$ H
    iintro H
    iapply (wp_two c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (pt i 0) X _ _) $$ H
    iexact HQ
  · rw [if_neg h0, if_neg h0]
    by_cases h5 : j = 5
    · rw [if_pos h5, last_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (pt i j) (fun e => h0 ((cond1 i j).1 e)) (fun e => (cond2 i j).1 e h5) ((cond3 i j).2 h5) ((cond4 i j).2 h5)]
      exact wp_last c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (pt i j) X h O
    · rw [if_neg h5, mid_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (pt i j) (fun e => h0 ((cond1 i j).1 e)) ((cond2 i j).2 h5) (fun e => h5 ((cond3 i j).1 e)) (fun e => h5 ((cond4 i j).1 e))]
      exact wp_two c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (pt i j) X h O

end

end Cert.Proof.Ffn
-- ==== Proof.FRun.lean ====
/-
  The launch of the feed-forward call: every fair execution ends with the output array that the row blocks' sums make, the operands as
  they were and every semaphore at zero.
-/
module

public import proofs.«01_k».proof.Proof.FBody
public import proofs.«01_k».proof.Proof.Gen.Kernel2Ideal.Frame

@[expose] public section

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coords_val : ∀ t : Fin cfg0.N, (grid0.coords t 0).val = t.val / 6 ∧ (grid0.coords t 1).val = t.val % 6 :=
  (by decide +kernel : ∀ t : Fin grid0.N, (grid0.coords t 0).val = t.val / 6 ∧ (grid0.coords t 1).val = t.val % 6)

/-- The row block and the point of it, of the `n`-th point of the grid. -/
def rowN (n : ℕ) : Fin 32 := ⟨n / 6 % 32, Nat.mod_lt _ (by decide)⟩
def colN (n : ℕ) : Fin 6 := ⟨n % 6, Nat.mod_lt _ (by decide)⟩
/-- The `n`-th point of the grid. -/
def ptN (n : ℕ) : Fin cfg0.N := ⟨n % 192, by rw [show cfg0.N = 192 from N_0]; exact Nat.mod_lt _ (by decide)⟩

theorem lt_N (t : Fin cfg0.N) : t.val < 192 := lt_of_lt_of_eq t.isLt N_0

theorem ptN_val (t : Fin cfg0.N) : ptN t.val = t := Fin.ext (Nat.mod_eq_of_lt (lt_N t))

theorem coords_eq (t : Fin cfg0.N) : grid0.coords t = pt (rowN t.val) (colN t.val) := funext fun a => match a with
  | ⟨0, _⟩ => Fin.ext ((coords_val t).1.trans (by have := lt_N t; show _ = t.val / 6 % 32; omega))
  | ⟨1, _⟩ => Fin.ext (coords_val t).2

/-! ## The pipeline's proof data -/

/-- The operands' blocks at a point. -/
def insAt (c : Dev nD) (t : Fin cfg0.N) : Ins F :=
  ⟨iblk m c 0 t, iblk m c 1 t, iblk m c 2 t, ⟨iblk m c 3 t, iblk m c 4 t, iblk m c 5 t, iblk m c 6 t, iblk m c 7 t, iblk m c 8 t, iblk m c 9 t⟩,
    ⟨iblk m c 10 t, iblk m c 11 t, iblk m c 12 t, iblk m c 13 t, iblk m c 14 t, iblk m c 15 t, iblk m c 16 t⟩, iblk m c 17 t⟩

/-- The normed rows of row block `r`. -/
def hRow (c : Dev nD) (r : ℕ) : S528x2048.Idx → Elt F .bf16 := rows (pt (rowN (6 * r)) 0) (insAt m c (ptN (6 * r)))

/-- The output's buffer after the `n`-th point. -/
def outN (c : Dev nD) : ℕ → S512x2048.Idx → Elt F .f32
  | 0 => two (hRow m c 0) (insAt m c (ptN 0)) k0_pay3
  | n + 1 => after (rowN (n + 1)) (colN (n + 1)) (hRow m c ((n + 1) / 6)) (insAt m c (ptN (n + 1))) (outN c n)

theorem hRow_first (c : Dev nD) (n : ℕ) (h : n % 6 = 0) : rows (pt (rowN n) 0) (insAt m c (ptN n)) = hRow m c (n / 6) := by
  unfold hRow
  rw [show 6 * (n / 6) = n by omega]

theorem outN_first (c : Dev nD) (n : ℕ) (h : n % 6 = 0) : outN m c n = two (hRow m c (n / 6)) (insAt m c (ptN n)) k0_pay3 := by
  rcases n with _ | n
  · rfl
  · rw [outN, after, if_pos (Fin.ext h : colN (n + 1) = 0), hRow_first m c _ h]

/-- The point's sum, whatever the rows' buffer held at a row block's first point and whatever the output's did. -/
theorem after_eq (c : Dev nD) (n : ℕ) (h : S528x2048.Idx → Elt F .bf16) (O : S512x2048.Idx → Elt F .f32) (hh : n % 6 ≠ 0 → h = hRow m c (n / 6))
    (hO : n % 6 ≠ 0 → O = outN m c (n - 1)) : after (rowN n) (colN n) h (insAt m c (ptN n)) O = outN m c n := by
  by_cases h0 : n % 6 = 0
  · rw [outN_first m c n h0, after, if_pos (Fin.ext h0 : colN n = 0), hRow_first m c _ h0]
  · rcases n with _ | n
    · exact absurd rfl h0
    · rw [hh h0, hO h0]; rfl

theorem rowsAt_eq (c : Dev nD) (n : ℕ) (h : S528x2048.Idx → Elt F .bf16) (hh : n % 6 ≠ 0 → h = hRow m c (n / 6)) :
    rowsAt (rowN n) (colN n) h (insAt m c (ptN n)) = hRow m c (n / 6) := by
  unfold rowsAt
  by_cases h0 : n % 6 = 0
  · rw [if_pos (Fin.ext h0 : colN n = 0), hRow_first m c _ h0]
  · rw [if_neg (fun e => h0 (congrArg Fin.val e)), hh h0]

/-- Before the `n`-th point the rows' buffer holds its row block's rows, but at a row block's first point. -/
def Bufs (c : Dev nD) (n : ℕ) : sProp 𝕄 :=
  iprop(∃ h : {h : S528x2048.Idx → Elt F .bf16 // n % 6 ≠ 0 → h = hRow m c (n / 6)},
    Work c (Memref.whole cc0_scratch0) (Memref.whole cc0_scratch1) (Memref.whole cc0_scratch2) h.1)

/-- The rows' buffer as it is before a row block's first point. -/
theorem bufs_any (c : Dev nD) (n : ℕ) (hn : n % 6 = 0) :
    (Pipeline.ΦA spec0 c : sProp 𝕄) ⊢ iprop(Bufs m c n ∗ ∃ r, prngReg c r) := by
  unfold Pipeline.ΦA Bufs Work own
  rw [scopedRest0_eq]
  simp only [owns_whole]
  iintro ⟨⟨⟨%f0, H0⟩, H1, H2⟩, Hr⟩
  isplitr [Hr]
  · iexists ⟨f0, fun h => absurd hn h⟩
    isplitl [H0]; · iexact H0
    isplitl [H1]; · iexact H1
    iexact H2
  iexact Hr

theorem any_bufs (c : Dev nD) (n : ℕ) : iprop(Bufs m c n ∗ ∃ r, prngReg c r) ⊢ (Pipeline.ΦA spec0 c : sProp 𝕄) := by
  unfold Pipeline.ΦA Bufs Work own
  rw [scopedRest0_eq]
  simp only [owns_whole]
  iintro ⟨⟨%h, H0, H1, H2⟩, Hr⟩
  isplitr [Hr]
  · isplitl [H0]; · iexists h.1; iexact H0
    isplitl [H1]; · iexact H1
    iexact H2
  iexact Hr

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => outN m c t.val
    | ⟨n + 19, h⟩ => absurd h (by show ¬ n + 19 < 19; omega)
  Φ t := iprop(Bufs m c t.val ∗ ∃ r, prngReg c r)
  q := Pipeline.shareOf spec0
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = outN m c t.val := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d
theorem before0_14 (c : Dev nD) (t : Fin cfg0.N) (d) : (dats m 0 c).before 14 t d = iblk m c 14 t := before0_14_of m (dats m 0 c) (A_eq m c 14) (after0_14 m c) t d
theorem before0_15 (c : Dev nD) (t : Fin cfg0.N) (d) : (dats m 0 c).before 15 t d = iblk m c 15 t := before0_15_of m (dats m 0 c) (A_eq m c 15) (after0_15 m c) t d
theorem before0_16 (c : Dev nD) (t : Fin cfg0.N) (d) : (dats m 0 c).before 16 t d = iblk m c 16 t := before0_16_of m (dats m 0 c) (A_eq m c 16) (after0_16 m c) t d
theorem before0_17 (c : Dev nD) (t : Fin cfg0.N) (d) : (dats m 0 c).before 17 t d = iblk m c 17 t := before0_17_of m (dats m 0 c) (A_eq m c 17) (after0_17 m c) t d

/-- Every point stores to the output. -/
theorem busy (i : grid0.Coords) : idle0 18 i = false := by
  obtain ⟨r, j, rfl⟩ := exists_pt i
  show (!(k0_cond1 (pt r j) == 1#1) && !(k0_cond2 (pt r j) == 1#1) && !(k0_cond3 (pt r j) == 1#1) && !(k0_cond4 (pt r j) == 1#1)) = false
  by_cases h : j = 5
  · rw [(cond3 r j).2 h]; simp
  · rw [(cond2 r j).2 h]; simp

/-- The output's buffer before a point that is not a row block's first: what the point before left. -/
theorem before0_18 (c : Dev nD) (t : Fin cfg0.N) (d) (h : t.val % 6 ≠ 0) : (dats m 0 c).before 18 t d = outN m c (t.val - 1) := by
  refine ((dats m 0 c).before_out_kept 18 rfl t (fun e => h (by rw [e])) ?_ busy (fun _ _ => rfl) d).trans (after0_18 m c _)
  rw [Bool.eq_false_iff]
  intro e
  have := (flush0_18 _).1 e
  have e' : (t.val - 1) % 6 = 5 := this
  omega

/-! ## The body at a point -/

theorem wp_point (c : Dev nD) (t : Fin cfg0.N) {Q : PUnit → sProp 𝕄}
    (arg2 : Memref sig .tc .vmem S512x2048 .f32) (harg2 : arg2.IsWhole)
    (arg3 : Memref sig .tc .vmem S16x2048 .f32) (harg3 : arg3.IsWhole)
    (arg4 : Memref sig .tc .vmem S1x2048 .f32) (harg4 : arg4.IsWhole)
    (arg5 : Memref sig .tc .vmem S2048x512 .bf16) (harg5 : arg5.IsWhole)
    (arg6 : Memref sig .tc .vmem S2048x512 .bf16) (harg6 : arg6.IsWhole)
    (arg7 : Memref sig .tc .vmem S3x512 .f32) (harg7 : arg7.IsWhole)
    (arg8 : Memref sig .tc .vmem S3x512 .f32) (harg8 : arg8.IsWhole)
    (arg9 : Memref sig .tc .vmem S1x512 .f32) (harg9 : arg9.IsWhole)
    (arg10 : Memref sig .tc .vmem S1x512 .f32) (harg10 : arg10.IsWhole)
    (arg11 : Memref sig .tc .vmem S512x2048 .bf16) (harg11 : arg11.IsWhole)
    (arg12 : Memref sig .tc .vmem S2048x512 .bf16) (harg12 : arg12.IsWhole)
    (arg13 : Memref sig .tc .vmem S2048x512 .bf16) (harg13 : arg13.IsWhole)
    (arg14 : Memref sig .tc .vmem S3x512 .f32) (harg14 : arg14.IsWhole)
    (arg15 : Memref sig .tc .vmem S3x512 .f32) (harg15 : arg15.IsWhole)
    (arg16 : Memref sig .tc .vmem S1x512 .f32) (harg16 : arg16.IsWhole)
    (arg17 : Memref sig .tc .vmem S1x512 .f32) (harg17 : arg17.IsWhole)
    (arg18 : Memref sig .tc .vmem S512x2048 .bf16) (harg18 : arg18.IsWhole)
    (arg19 : Memref sig .tc .vmem S1x2048 .f32) (harg19 : arg19.IsWhole)
    (arg20 : Memref sig .tc .vmem S512x2048 .f32) (harg20 : arg20.IsWhole)
    (O : S512x2048.Idx → Elt F .f32) (hO : t.val % 6 ≠ 0 → O = outN m c (t.val - 1)) :
    iprop((own c arg2 (iblk m c 0 t) ∗ own c arg3 (iblk m c 1 t) ∗ own c arg4 (iblk m c 2 t) ∗ own c arg5 (iblk m c 3 t) ∗ own c arg6 (iblk m c 4 t) ∗ own c arg7 (iblk m c 5 t) ∗ own c arg8 (iblk m c 6 t) ∗ own c arg9 (iblk m c 7 t) ∗ own c arg10 (iblk m c 8 t) ∗ own c arg11 (iblk m c 9 t) ∗ own c arg12 (iblk m c 10 t) ∗ own c arg13 (iblk m c 11 t) ∗ own c arg14 (iblk m c 12 t) ∗ own c arg15 (iblk m c 13 t) ∗ own c arg16 (iblk m c 14 t) ∗ own c arg17 (iblk m c 15 t) ∗ own c arg18 (iblk m c 16 t) ∗ own c arg19 (iblk m c 17 t)) ∗ own c arg20 O ∗ Bufs m c t.val)
      ⊢ iprop((iprop((own c arg2 (iblk m c 0 t) ∗ own c arg3 (iblk m c 1 t) ∗ own c arg4 (iblk m c 2 t) ∗ own c arg5 (iblk m c 3 t) ∗ own c arg6 (iblk m c 4 t) ∗ own c arg7 (iblk m c 5 t) ∗ own c arg8 (iblk m c 6 t) ∗ own c arg9 (iblk m c 7 t) ∗ own c arg10 (iblk m c 8 t) ∗ own c arg11 (iblk m c 9 t) ∗ own c arg12 (iblk m c 10 t) ∗ own c arg13 (iblk m c 11 t) ∗ own c arg14 (iblk m c 12 t) ∗ own c arg15 (iblk m c 13 t) ∗ own c arg16 (iblk m c 14 t) ∗ own c arg17 (iblk m c 15 t) ∗ own c arg18 (iblk m c 16 t) ∗ own c arg19 (iblk m c 17 t)) ∗ own c arg20 (outN m c t.val) ∗ Bufs m c (t.val + 1)) -∗ Q ⟨⟩)
        -∗ WP c (cc0_ffn (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Memref.whole cc0_scratch0) (Memref.isWhole_whole _) (Memref.whole cc0_scratch1) (Memref.isWhole_whole _) (Memref.whole cc0_scratch2) (Memref.isWhole_whole _)) Q) := by
  rw [coords_eq t]
  unfold Bufs
  iintro ⟨Hin, Hout, ⟨%h, HW⟩⟩ HQ
  iapply (wp_body c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Memref.whole cc0_scratch0) (Memref.isWhole_whole _) (Memref.whole cc0_scratch1) (Memref.isWhole_whole _) (Memref.whole cc0_scratch2) (Memref.isWhole_whole _) (rowN t.val) (colN t.val) (insAt m c t) h.1 O) $$ [Hin Hout HW]
  · isplitl [Hin]; · unfold InsR; iexact Hin
    isplitl [Hout]; · iexact Hout
    iexact HW
  have e1 := after_eq m c t.val h.1 O h.2 hO
  have e2 := rowsAt_eq m c t.val h.1 h.2
  rw [ptN_val] at e1 e2
  rw [e1, e2]
  iintro ⟨Hin, Hout, HW⟩
  iapply HQ
  isplitl [Hin]; · unfold InsR; iexact Hin
  isplitl [Hout]; · iexact Hout
  iexists ⟨hRow m c (t.val / 6), fun e => by rw [show (t.val + 1) / 6 = t.val / 6 by omega]⟩
  iexact HW

set_option maxHeartbeats 4000000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9, before0_10, before0_11, before0_12, before0_13, before0_14, before0_15, before0_16, before0_17]
  rw [busy (grid0.coords t), show (dats m 0 c).owesAt () t.succ = (dats m 0 c).owesAt () t.castSucc from rfl, after0_0, after0_1, after0_2, after0_3, after0_4, after0_5, after0_6, after0_7, after0_8, after0_9, after0_10, after0_11, after0_12, after0_13, after0_14, after0_15, after0_16, after0_17, after0_18]
  rw [show (dats m 0 c).Φ t.castSucc = iprop(Bufs m c t.val ∗ ∃ r, prngReg c r) from rfl,
    show (dats m 0 c).Φ t.succ = iprop(Bufs m c (t.val + 1) ∗ ∃ r, prngReg c r) from rfl]
  iintro ⟨⟨HΦ, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (wp_point m c t _ _ _ _ _ _ _ _ _ _ _ _ _ _ _ _ _ _ _ _ _ _ _ _ _ _ _ _ _ _ _ _ _ _ _ _ _ _  _ (before0_18 m c t d18)) $$ [HΦ H0 H1 H2 H3 H4 H5 H6 H7 H8 H9 H10 H11 H12 H13 H14 H15 H16 H17 H18]
  · isplitl [H0 H1 H2 H3 H4 H5 H6 H7 H8 H9 H10 H11 H12 H13 H14 H15 H16 H17]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    isplitl [H18]; · iexact H18
    iexact HΦ
  iintro ⟨⟨H0, H1, H2, H3, H4, H5, H6, H7, H8, H9, H10, H11, H12, H13, H14, H15, H16, H17⟩, H18, HΦ⟩
  isplitl [HΦ Hr]
  · isplitl [HΦ]; · iexact HΦ
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-! ## The run -/

set_option backward.isDefEq.respectTransparency.types false in
/-- Every fair execution ends with each array of the call at what the proof data make of it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl)
    (hin := fun c => bufs_any m c 0 rfl) (hout := fun c => any_bufs m c _)

end Cert.Proof.Ffn
-- ==== Proof.FFrames.lean ====
/-
  The feed-forward's frames: the kernel, as printed and over the extended reals, and the reference end with their arguments
  as they were and every semaphore at zero.
-/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.FRun

@[expose] public section

noncomputable section

namespace Cert.Proof

open Idealize.ShloMosaic Idealize.ShloMosaic.TcCoe Idealize.SL.Sem

attribute [local instance] Cert.Kernel2.Gen.facts Cert.Kernel2Ideal.Gen.facts Cert.Reference2Ideal.Gen.facts

/-- The feed-forward call's frame, over any values. -/
theorem frame_ffn {F : FTy → Type} [FloatOps F] (m : (ℓ : Loc Cert.Kernel2Ideal.nD Cert.Kernel2Ideal.τ Cert.Kernel2Ideal.sig) → Buf (Elt F) ℓ) (ρ : Dev Cert.Kernel2Ideal.nD → PrngReg) :
    θ_run (Cert.Kernel2Ideal.defs (F := F)) (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0) :=
  θ_run_with_sems (Cert.Kernel2Ideal.Gen.frame_of m ρ (Ffn.dats m) (Ffn.A_eq m)) (Ffn.run_main m ρ)

theorem frame_Kernel2Ideal : Cert.quiescent_Kernel2Ideal := fun m ρ _ => frame_ffn (F := Ideal) m ρ

set_option maxHeartbeats 4000000 in
/-- The two programs' tables of bodies are one. -/
theorem ffn_defs0_eq {F : FTy → Type} [FloatOps F] : Cert.Kernel2.defs₀ (F := F) = Cert.Kernel2Ideal.defs₀ (F := F) := by
  unfold Cert.Kernel2.defs₀ Cert.Kernel2Ideal.defs₀
  refine congrArg Defs.onTc ?_
  funext l x
  match l, x with
  | ⟨0, _⟩, (t, s) => rfl

theorem ffn_defs_eq {F : FTy → Type} [FloatOps F] : Cert.Kernel2.defs (F := F) = Cert.Kernel2Ideal.defs (F := F) := by
  unfold Cert.Kernel2.defs Cert.Kernel2Ideal.defs
  rw [ffn_defs0_eq]; rfl

theorem frame_Kernel2 : Cert.quiescent_Kernel2 := fun m ρ _ => by
  rw [ffn_defs_eq]
  exact frame_ffn (F := Bits) m ρ

theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof

end
-- ==== Proof.FBlocks.lean ====
/-
  The blocks of the feed-forward call's operands, entry by entry, over the arguments.
-/
module

public import proofs.«01_k».proof.Proof.FRun
public import Idealize.ShloMosaic.Lib.Pointwise
public import Idealize.ShloMosaic.Lib.Pipeline.ValueKit

@[expose] public section

set_option maxRecDepth 16384

noncomputable section

namespace Cert.Proof.Ffn

open Cert.Kernel2Ideal Cert.Kernel2Ideal.Gen
open Idealize.ShloMosaic Idealize.ShloMosaic.TcCoe Idealize.ShloMosaic.Pointwise Idealize.SL.Sem

variable (m : (ℓ : Loc nD τ sig) → Buf (Elt Ideal) ℓ)

/-! ## The arrays the call reads -/

theorem v0_eq (c : Dev nD) : V m c main_v0 = shapeCast S16384x2048 (m ((c : Thread nD τ).loc main_arg0)) shapeCasts_S1x16384x2048_S16384x2048 := by
  unfold V
  simp only [hostOps0]
  after_results_simp <;> rfl
theorem v2_eq (c : Dev nD) : V m c main_v2 = truncf .bf16 (shapeCast S2048x11264 (m ((c : Thread nD τ).loc main_arg2)) shapeCasts_S1x2048x11264_S2048x11264 : FVec Ideal S2048x11264 .f32) bitsLt_bf16_f32 := by
  unfold V
  simp only [hostOps0]
  after_results_simp <;> rfl
theorem v3_eq (c : Dev nD) : V m c main_v3 = shapeCast S3x11264 (m ((c : Thread nD τ).loc main_arg3)) shapeCasts_S1x3x11264_S3x11264 := by
  unfold V
  simp only [hostOps0]
  after_results_simp <;> rfl
theorem v5_eq (c : Dev nD) : V m c main_v5 = truncf .bf16 (shapeCast S5632x2048 (m ((c : Thread nD τ).loc main_arg5)) shapeCasts_S1x5632x2048_S5632x2048 : FVec Ideal S5632x2048 .f32) bitsLt_bf16_f32 := by
  unfold V
  simp only [hostOps0]
  after_results_simp <;> rfl

theorem flatX (x : FVec Ideal S1x16384x2048 .f32) (r : Fin 16384) (d : Fin 2048) :
    shapeCast S16384x2048 x shapeCasts_S1x16384x2048_S16384x2048 (ix2 r d) = x (ix3 0 r d) := by
  pointwise
theorem flatI (w : FVec Ideal S1x2048x11264 .f32) (d : Fin 2048) (n : Fin 11264) :
    truncf .bf16 (shapeCast S2048x11264 w shapeCasts_S1x2048x11264_S2048x11264) bitsLt_bf16_f32 (ix2 d n) = w (ix3 0 d n) := by
  pointwise
theorem flatC (w : FVec Ideal S1x3x11264 .f32) (k : Fin 3) (n : Fin 11264) :
    shapeCast S3x11264 w shapeCasts_S1x3x11264_S3x11264 (ix2 k n) = w (ix3 0 k n) := by
  pointwise
theorem flatO (w : FVec Ideal S1x5632x2048 .f32) (f : Fin 5632) (e : Fin 2048) :
    truncf .bf16 (shapeCast S5632x2048 w shapeCasts_S1x5632x2048_S5632x2048) bitsLt_bf16_f32 (ix2 f e) = w (ix3 0 f e) := by
  pointwise

/-! ## The blocks -/

theorem index_eq : ∀ t : Fin cfg0.N, win0_0.index t = ![t.val / 6, 0]
    ∧ win0_1.index t = ![32 * (t.val / 6) - 1, 0]
    ∧ win0_2.index t = ![0, 0]
    ∧ win0_3.index t = ![0, 2 * (t.val % 6)]
    ∧ win0_4.index t = ![0, 11 + 2 * (t.val % 6)]
    ∧ win0_5.index t = ![0, 2 * (t.val % 6)]
    ∧ win0_6.index t = ![0, 11 + 2 * (t.val % 6)]
    ∧ win0_7.index t = ![0, 2 * (t.val % 6)]
    ∧ win0_8.index t = ![0, 11 + 2 * (t.val % 6)]
    ∧ win0_9.index t = ![2 * (t.val % 6), 0]
    ∧ win0_10.index t = ![0, min (2 * (t.val % 6) + 1) 10]
    ∧ win0_11.index t = ![0, 11 + min (2 * (t.val % 6) + 1) 10]
    ∧ win0_12.index t = ![0, min (2 * (t.val % 6) + 1) 10]
    ∧ win0_13.index t = ![0, 11 + min (2 * (t.val % 6) + 1) 10]
    ∧ win0_14.index t = ![0, min (2 * (t.val % 6) + 1) 10]
    ∧ win0_15.index t = ![0, 11 + min (2 * (t.val % 6) + 1) 10]
    ∧ win0_16.index t = ![min (2 * (t.val % 6) + 1) 10, 0]
    ∧ win0_17.index t = ![0, 0]
    ∧ win0_18.index t = ![t.val / 6, 0] :=
  (by decide +kernel : ∀ t : Fin grid0.N, _)

theorem x_blk (c : Dev nD) (t : Fin cfg0.N) (y : Fin 512) (d : Fin 2048) :
    (insAt m c t).x (ix2 y d) = m ((c : Thread nD τ).loc main_arg0) (ix3 0 ⟨512 * (t.val / 6) + y.val, by have := lt_N t; omega⟩ d) := by
  have e : (insAt m c t).x (ix2 y d) = V m c main_v0 (ix2 ⟨512 * (t.val / 6) + y.val, by have := lt_N t; omega⟩ d) := by
    show V m c main_v0 (((cfg0.win 0).blk t).view.emb (ix2 y d)) = _
    generalize V m c main_v0 = A
    have := index_eq t
    have ht := lt_N t
    blk_ext [this]
  rw [e, v0_eq]; exact flatX _ _ _

theorem xh_blk (c : Dev nD) (t : Fin cfg0.N) (y : Fin 16) (d : Fin 2048) :
    (insAt m c t).xh (ix2 y d) = m ((c : Thread nD τ).loc main_arg0) (ix3 0 ⟨512 * (t.val / 6) - 16 + y.val, by have := lt_N t; omega⟩ d) := by
  have e : (insAt m c t).xh (ix2 y d) = V m c main_v0 (ix2 ⟨512 * (t.val / 6) - 16 + y.val, by have := lt_N t; omega⟩ d) := by
    show V m c main_v0 (((cfg0.win 1).blk t).view.emb (ix2 y d)) = _
    generalize V m c main_v0 = A
    have := index_eq t
    have ht := lt_N t
    blk_ext [this]
  rw [e, v0_eq]; exact flatX _ _ _

theorem gp_blk (c : Dev nD) (t : Fin cfg0.N) (d : Fin 2048) :
    (insAt m c t).gp (ix2 0 d) = m ((c : Thread nD τ).loc main_arg1) (ix2 0 d) := by
  have e : (insAt m c t).gp (ix2 0 d) = V m c main_arg1 (ix2 0 d) := by
    show V m c main_arg1 (((cfg0.win 2).blk t).view.emb (ix2 0 d)) = _
    generalize V m c main_arg1 = A
    have := index_eq t
    have ht := lt_N t
    blk_ext [this]
  rw [e, V_main_arg1]

theorem gq_blk (c : Dev nD) (t : Fin cfg0.N) (d : Fin 2048) :
    (insAt m c t).gq (ix2 0 d) = m ((c : Thread nD τ).loc main_arg6) (ix2 0 d) := by
  have e : (insAt m c t).gq (ix2 0 d) = V m c main_arg6 (ix2 0 d) := by
    show V m c main_arg6 (((cfg0.win 17).blk t).view.emb (ix2 0 d)) = _
    generalize V m c main_arg6 = A
    have := index_eq t
    have ht := lt_N t
    blk_ext [this]
  rw [e, V_main_arg6]

theorem wg0_blk (c : Dev nD) (t : Fin cfg0.N) (d : Fin 2048) (n : Fin 512) :
    (insAt m c t).t0.wg (ix2 d n) = m ((c : Thread nD τ).loc main_arg2) (ix3 0 d ⟨512 * 2 * (t.val % 6) + n.val, by omega⟩) := by
  have e : (insAt m c t).t0.wg (ix2 d n) = V m c main_v2 (ix2 d ⟨512 * 2 * (t.val % 6) + n.val, by omega⟩) := by
    show V m c main_v2 (((cfg0.win 3).blk t).view.emb (ix2 d n)) = _
    generalize V m c main_v2 = A
    have := index_eq t
    have ht := lt_N t
    blk_ext [this]
  rw [e, v2_eq]; exact flatI _ _ _

theorem wu0_blk (c : Dev nD) (t : Fin cfg0.N) (d : Fin 2048) (n : Fin 512) :
    (insAt m c t).t0.wu (ix2 d n) = m ((c : Thread nD τ).loc main_arg2) (ix3 0 d ⟨5632 + (512 * 2 * (t.val % 6) + n.val), by omega⟩) := by
  have e : (insAt m c t).t0.wu (ix2 d n) = V m c main_v2 (ix2 d ⟨5632 + (512 * 2 * (t.val % 6) + n.val), by omega⟩) := by
    show V m c main_v2 (((cfg0.win 4).blk t).view.emb (ix2 d n)) = _
    generalize V m c main_v2 = A
    have := index_eq t
    have ht := lt_N t
    blk_ext [this]
  rw [e, v2_eq]; exact flatI _ _ _

theorem cwg0_blk (c : Dev nD) (t : Fin cfg0.N) (k : Fin 3) (n : Fin 512) :
    (insAt m c t).t0.cwg (ix2 k n) = m ((c : Thread nD τ).loc main_arg3) (ix3 0 k ⟨512 * 2 * (t.val % 6) + n.val, by omega⟩) := by
  have e : (insAt m c t).t0.cwg (ix2 k n) = V m c main_v3 (ix2 k ⟨512 * 2 * (t.val % 6) + n.val, by omega⟩) := by
    show V m c main_v3 (((cfg0.win 5).blk t).view.emb (ix2 k n)) = _
    generalize V m c main_v3 = A
    have := index_eq t
    have ht := lt_N t
    blk_ext [this]
  rw [e, v3_eq]; exact flatC _ _ _

theorem cwu0_blk (c : Dev nD) (t : Fin cfg0.N) (k : Fin 3) (n : Fin 512) :
    (insAt m c t).t0.cwu (ix2 k n) = m ((c : Thread nD τ).loc main_arg3) (ix3 0 k ⟨5632 + (512 * 2 * (t.val % 6) + n.val), by omega⟩) := by
  have e : (insAt m c t).t0.cwu (ix2 k n) = V m c main_v3 (ix2 k ⟨5632 + (512 * 2 * (t.val % 6) + n.val), by omega⟩) := by
    show V m c main_v3 (((cfg0.win 6).blk t).view.emb (ix2 k n)) = _
    generalize V m c main_v3 = A
    have := index_eq t
    have ht := lt_N t
    blk_ext [this]
  rw [e, v3_eq]; exact flatC _ _ _

theorem cbg0_blk (c : Dev nD) (t : Fin cfg0.N) (n : Fin 512) :
    (insAt m c t).t0.cbg (ix2 0 n) = m ((c : Thread nD τ).loc main_arg4) (ix2 0 ⟨512 * 2 * (t.val % 6) + n.val, by omega⟩) := by
  have e : (insAt m c t).t0.cbg (ix2 0 n) = V m c main_arg4 (ix2 0 ⟨512 * 2 * (t.val % 6) + n.val, by omega⟩) := by
    show V m c main_arg4 (((cfg0.win 7).blk t).view.emb (ix2 0 n)) = _
    generalize V m c main_arg4 = A
    have := index_eq t
    have ht := lt_N t
    blk_ext [this]
  rw [e, V_main_arg4]

theorem cbu0_blk (c : Dev nD) (t : Fin cfg0.N) (n : Fin 512) :
    (insAt m c t).t0.cbu (ix2 0 n) = m ((c : Thread nD τ).loc main_arg4) (ix2 0 ⟨5632 + (512 * 2 * (t.val % 6) + n.val), by omega⟩) := by
  have e : (insAt m c t).t0.cbu (ix2 0 n) = V m c main_arg4 (ix2 0 ⟨5632 + (512 * 2 * (t.val % 6) + n.val), by omega⟩) := by
    show V m c main_arg4 (((cfg0.win 8).blk t).view.emb (ix2 0 n)) = _
    generalize V m c main_arg4 = A
    have := index_eq t
    have ht := lt_N t
    blk_ext [this]
  rw [e, V_main_arg4]

theorem wo0_blk (c : Dev nD) (t : Fin cfg0.N) (n : Fin 512) (e' : Fin 2048) :
    (insAt m c t).t0.wo (ix2 n e') = m ((c : Thread nD τ).loc main_arg5) (ix3 0 ⟨512 * 2 * (t.val % 6) + n.val, by omega⟩ e') := by
  have e : (insAt m c t).t0.wo (ix2 n e') = V m c main_v5 (ix2 ⟨512 * 2 * (t.val % 6) + n.val, by omega⟩ e') := by
    show V m c main_v5 (((cfg0.win 9).blk t).view.emb (ix2 n e')) = _
    generalize V m c main_v5 = A
    have := index_eq t
    have ht := lt_N t
    blk_ext [this]
  rw [e, v5_eq]; exact flatO _ _ _

theorem wg1_blk (c : Dev nD) (t : Fin cfg0.N) (h5 : t.val % 6 < 5) (d : Fin 2048) (n : Fin 512) :
    (insAt m c t).t1.wg (ix2 d n) = m ((c : Thread nD τ).loc main_arg2) (ix3 0 d ⟨512 * (2 * (t.val % 6) + 1) + n.val, by omega⟩) := by
  have e : (insAt m c t).t1.wg (ix2 d n) = V m c main_v2 (ix2 d ⟨512 * (2 * (t.val % 6) + 1) + n.val, by omega⟩) := by
    show V m c main_v2 (((cfg0.win 10).blk t).view.emb (ix2 d n)) = _
    generalize V m c main_v2 = A
    have := index_eq t
    have ht := lt_N t
    blk_ext [this]
  rw [e, v2_eq]; exact flatI _ _ _

theorem wu1_blk (c : Dev nD) (t : Fin cfg0.N) (h5 : t.val % 6 < 5) (d : Fin 2048) (n : Fin 512) :
    (insAt m c t).t1.wu (ix2 d n) = m ((c : Thread nD τ).loc main_arg2) (ix3 0 d ⟨5632 + (512 * (2 * (t.val % 6) + 1) + n.val), by omega⟩) := by
  have e : (insAt m c t).t1.wu (ix2 d n) = V m c main_v2 (ix2 d ⟨5632 + (512 * (2 * (t.val % 6) + 1) + n.val), by omega⟩) := by
    show V m c main_v2 (((cfg0.win 11).blk t).view.emb (ix2 d n)) = _
    generalize V m c main_v2 = A
    have := index_eq t
    have ht := lt_N t
    blk_ext [this]
  rw [e, v2_eq]; exact flatI _ _ _

theorem cwg1_blk (c : Dev nD) (t : Fin cfg0.N) (h5 : t.val % 6 < 5) (k : Fin 3) (n : Fin 512) :
    (insAt m c t).t1.cwg (ix2 k n) = m ((c : Thread nD τ).loc main_arg3) (ix3 0 k ⟨512 * (2 * (t.val % 6) + 1) + n.val, by omega⟩) := by
  have e : (insAt m c t).t1.cwg (ix2 k n) = V m c main_v3 (ix2 k ⟨512 * (2 * (t.val % 6) + 1) + n.val, by omega⟩) := by
    show V m c main_v3 (((cfg0.win 12).blk t).view.emb (ix2 k n)) = _
    generalize V m c main_v3 = A
    have := index_eq t
    have ht := lt_N t
    blk_ext [this]
  rw [e, v3_eq]; exact flatC _ _ _

theorem cwu1_blk (c : Dev nD) (t : Fin cfg0.N) (h5 : t.val % 6 < 5) (k : Fin 3) (n : Fin 512) :
    (insAt m c t).t1.cwu (ix2 k n) = m ((c : Thread nD τ).loc main_arg3) (ix3 0 k ⟨5632 + (512 * (2 * (t.val % 6) + 1) + n.val), by omega⟩) := by
  have e : (insAt m c t).t1.cwu (ix2 k n) = V m c main_v3 (ix2 k ⟨5632 + (512 * (2 * (t.val % 6) + 1) + n.val), by omega⟩) := by
    show V m c main_v3 (((cfg0.win 13).blk t).view.emb (ix2 k n)) = _
    generalize V m c main_v3 = A
    have := index_eq t
    have ht := lt_N t
    blk_ext [this]
  rw [e, v3_eq]; exact flatC _ _ _

theorem cbg1_blk (c : Dev nD) (t : Fin cfg0.N) (h5 : t.val % 6 < 5) (n : Fin 512) :
    (insAt m c t).t1.cbg (ix2 0 n) = m ((c : Thread nD τ).loc main_arg4) (ix2 0 ⟨512 * (2 * (t.val % 6) + 1) + n.val, by omega⟩) := by
  have e : (insAt m c t).t1.cbg (ix2 0 n) = V m c main_arg4 (ix2 0 ⟨512 * (2 * (t.val % 6) + 1) + n.val, by omega⟩) := by
    show V m c main_arg4 (((cfg0.win 14).blk t).view.emb (ix2 0 n)) = _
    generalize V m c main_arg4 = A
    have := index_eq t
    have ht := lt_N t
    blk_ext [this]
  rw [e, V_main_arg4]

theorem cbu1_blk (c : Dev nD) (t : Fin cfg0.N) (h5 : t.val % 6 < 5) (n : Fin 512) :
    (insAt m c t).t1.cbu (ix2 0 n) = m ((c : Thread nD τ).loc main_arg4) (ix2 0 ⟨5632 + (512 * (2 * (t.val % 6) + 1) + n.val), by omega⟩) := by
  have e : (insAt m c t).t1.cbu (ix2 0 n) = V m c main_arg4 (ix2 0 ⟨5632 + (512 * (2 * (t.val % 6) + 1) + n.val), by omega⟩) := by
    show V m c main_arg4 (((cfg0.win 15).blk t).view.emb (ix2 0 n)) = _
    generalize V m c main_arg4 = A
    have := index_eq t
    have ht := lt_N t
    blk_ext [this]
  rw [e, V_main_arg4]

theorem wo1_blk (c : Dev nD) (t : Fin cfg0.N) (h5 : t.val % 6 < 5) (n : Fin 512) (e' : Fin 2048) :
    (insAt m c t).t1.wo (ix2 n e') = m ((c : Thread nD τ).loc main_arg5) (ix3 0 ⟨512 * (2 * (t.val % 6) + 1) + n.val, by omega⟩ e') := by
  have e : (insAt m c t).t1.wo (ix2 n e') = V m c main_v5 (ix2 ⟨512 * (2 * (t.val % 6) + 1) + n.val, by omega⟩ e') := by
    show V m c main_v5 (((cfg0.win 16).blk t).view.emb (ix2 n e')) = _
    generalize V m c main_v5 = A
    have := index_eq t
    have ht := lt_N t
    blk_ext [this]
  rw [e, v5_eq]; exact flatO _ _ _

theorem out_index (B : S16384x2048.Idx → EReal) (t : Fin cfg0.N) (y : Fin 512) (e : Fin 2048) :
    B ((win0_18.blk t).view.emb (ix2 y e)) = B (ix2 ⟨512 * (t.val / 6) + y.val, by have := lt_N t; omega⟩ e) := by
  have := index_eq t
  have ht := lt_N t
  blk_ext [this]

end Cert.Proof.Ffn
-- ==== Proof.FSpec.lean ====
/-
  The feed-forward over the extended reals, entry by entry: what the kernel and the reference both compute.
-/
module

public import Idealize.ShloMosaic.Lib.Pointwise

@[expose] public section

noncomputable section

namespace Cert.Proof.Ffn

open Idealize.ShloMosaic

/-- The literals: a row's width, the norm's shift, and those of the gate. -/
abbrev litN : EReal := Ideal.ofBits .f32 0x45000000#32
abbrev litE : EReal := Ideal.ofBits .f32 0x358637BD#32
abbrev litA : EReal := Ideal.ofBits .f32 0x3D372713#32
abbrev litB : EReal := Ideal.ofBits .f32 0x3F4C422A#32
abbrev lit1 : EReal := Ideal.ofBits .f32 0x3F800000#32
abbrev litH : EReal := Ideal.ofBits .f32 0x3F000000#32

/-- A row scaled by the root of its mean square, times the weights. -/
def nrm (row g : Fin 2048 → EReal) (d : Fin 2048) : EReal :=
  row d * Ideal.rsqrt (Ideal.div (∑ k, row k * row k) litN + litE) * g d

/-- The gate's curve. -/
def gel (x : EReal) : EReal := litH * x * (lit1 + Ideal.tanh (litB * (x + litA * (x * x * x))))

/-- The gate's curve, its half taken last. -/
theorem gel_eq (x : EReal) : x * (litH * (lit1 + Ideal.tanh (litB * (x + litA * (x * x * x))))) = gel x := by
  unfold gel
  rw [← mul_assoc, mul_comm x litH]

/-- The feed-forward's operands. -/
structure Wts where
  x : Fin 16384 → Fin 2048 → EReal
  gp : Fin 2048 → EReal
  wi : Fin 2048 → Fin 11264 → EReal
  cw : Fin 3 → Fin 11264 → EReal
  cb : Fin 11264 → EReal
  wo : Fin 5632 → Fin 2048 → EReal
  gq : Fin 2048 → EReal

namespace Wts

variable (W : Wts)

/-- Row `r`'s column `n` of the up-projection, two rows of zeros put before the first. -/
def proj (r : ℕ) (n : Fin 11264) : EReal :=
  if h : 2 ≤ r ∧ r < 16386 then ∑ d : Fin 2048, nrm (W.x ⟨r - 2, by omega⟩) W.gp d * W.wi d n else 0

/-- Its sum with the two rows before, weighted by the filter. -/
def conv (r : ℕ) (n : Fin 11264) : EReal :=
  W.cb n + W.proj r n * W.cw 0 n + W.proj (r + 1) n * W.cw 1 n + W.proj (r + 2) n * W.cw 2 n

/-- The gated activation. -/
def actv (r : ℕ) (f : Fin 5632) : EReal := gel (W.conv r ⟨f.val, by omega⟩) * W.conv r ⟨5632 + f.val, by omega⟩

/-- The down-projection. -/
def down (r : ℕ) (e : Fin 2048) : EReal := ∑ f : Fin 5632, W.actv r f * W.wo f e

/-- The result. -/
def res (r : Fin 16384) (e : Fin 2048) : EReal := W.x r e + nrm (W.down r.val) W.gq e

/-- A column's term of the down-projection. -/
def term (r : ℕ) (e : Fin 2048) (k : ℕ) : EReal := if h : k < 5632 then W.actv r ⟨k, h⟩ * W.wo ⟨k, h⟩ e else 0

/-- A tile's sum of them. -/
def tileSum (r : ℕ) (e : Fin 2048) (t : ℕ) : EReal := ∑ f : Fin 512, W.term r e (512 * t + f.val)

theorem tileSum_eq (r : ℕ) (e : Fin 2048) (t : Fin 11) :
    W.tileSum r e t.val = ∑ f : Fin 512, W.actv r ⟨512 * t.val + f.val, by omega⟩ * W.wo ⟨512 * t.val + f.val, by omega⟩ e :=
  Finset.sum_congr rfl fun f _ => dif_pos (by omega)

theorem sum_tiles (r : ℕ) (e : Fin 2048) (n : ℕ) :
    ∑ t ∈ Finset.range n, W.tileSum r e t = ∑ k ∈ Finset.range (512 * n), W.term r e k := by
  induction n with
  | zero => simp
  | succ n ih =>
    rw [Finset.sum_range_succ, ih, Nat.mul_succ, Finset.sum_range_add]
    refine congrArg (_ + ·) ?_
    unfold tileSum
    exact (Finset.sum_range fun f => W.term r e (512 * n + f)).symm

/-- The down-projection is its eleven tiles' sums. -/
theorem down_eq (r : ℕ) (e : Fin 2048) : ∑ t ∈ Finset.range 11, W.tileSum r e t = W.down r e := by
  rw [sum_tiles, Finset.sum_range]
  exact Finset.sum_congr rfl fun k _ => dif_pos k.isLt

end Wts

end Cert.Proof.Ffn
-- ==== Proof.FVals.lean ====
/-
  The feed-forward kernel's stages over the extended reals, entry by entry.
-/
module

public import proofs.«01_k».proof.Proof.FBody
public import proofs.«01_k».proof.Proof.FSpec

@[expose] public section

set_option maxRecDepth 16384

noncomputable section

namespace Cert.Proof.Ffn

open Cert.Kernel2Ideal Cert.Kernel2Ideal.Gen
open Idealize.ShloMosaic Idealize.ShloMosaic.TcCoe Idealize.ShloMosaic.Pointwise

theorem pay2_at (g : Vec Ideal S1x2048 .f32) (v : Vec Ideal S128x2048 .f32) (y : Fin 128) (d : Fin 2048) :
    k0_pay2 g v (ix2 y d) = nrm (fun k => v (ix2 y k)) (fun k => g (ix2 0 k)) d := by
  pointwise [k0_pay2, nrm]

theorem pay6_at (x o : Vec Ideal S512x2048 .f32) (g : Vec Ideal S1x2048 .f32) (y : Fin 512) (e : Fin 2048) :
    k0_pay6 x o g (ix2 y e) = x (ix2 y e) + nrm (fun k => o (ix2 y k)) (fun k => g (ix2 0 k)) e := by
  pointwise [k0_pay6, nrm]

theorem isFirst : ∀ i : Fin 32, IntOp.cmpi .eq (BitVec.ofNat 32 i.val) 0#32 = if i = 0 then 1#1 else 0#1 := by decide

theorem pay1_at (i : Fin 32) (j : Fin 6) (v : Vec Ideal S16x2048 .f32) (g : Vec Ideal S1x2048 .f32) (y : Fin 16) (d : Fin 2048) :
    k0_pay1 (pt i j) v g (ix2 y d) = if i = 0 then 0 else nrm (fun k => v (ix2 y k)) (fun k => g (ix2 0 k)) d := by
  have e : k0_pay1 (pt i j) v g (ix2 y d) = Scalar.select (IntOp.cmpi .eq (BitVec.ofNat 32 i.val) 0#32) 0 (nrm (fun k => v (ix2 y k)) (fun k => g (ix2 0 k)) d) := by
    pointwise [k0_pay1, nrm]
    rfl
  rw [e, isFirst]
  split <;> rfl

theorem pay3_at (y : Fin 512) (e : Fin 2048) : (k0_pay3 : FVec Ideal S512x2048 .f32) (ix2 y e) = 0 := by
  pointwise [k0_pay3]

theorem pay7_at (h : Vec Ideal S528x2048 .bf16) (w : Vec Ideal S2048x512 .bf16) (y : Fin 528) (n : Fin 512) :
    k0_pay7 h w (ix2 y n) = ∑ d : Fin 2048, h (ix2 y d) * w (ix2 d n) := by
  pointwise [k0_pay7]

theorem pay8_at (b : Vec Ideal S1x512 .f32) (a0 : Vec Ideal S512x512 .f32) (f0 : Vec Ideal S1x512 .f32) (a1 : Vec Ideal S512x512 .f32) (f1 : Vec Ideal S1x512 .f32)
    (a2 : Vec Ideal S512x512 .f32) (f2 : Vec Ideal S1x512 .f32) (y n : Fin 512) :
    k0_pay8 b a0 f0 a1 f1 a2 f2 (ix2 y n)
      = b (ix2 0 n) + a0 (ix2 y n) * f0 (ix2 0 n) + a1 (ix2 y n) * f1 (ix2 0 n) + a2 (ix2 y n) * f2 (ix2 0 n) := by
  pointwise [k0_pay8]

theorem pay9_at (b : Vec Ideal S1x512 .f32) (a0 : Vec Ideal S512x512 .f32) (f0 : Vec Ideal S1x512 .f32) (a1 : Vec Ideal S512x512 .f32) (f1 : Vec Ideal S1x512 .f32)
    (a2 : Vec Ideal S512x512 .f32) (f2 : Vec Ideal S1x512 .f32) (i : S512x512.Idx) :
    k0_pay9 b a0 f0 a1 f1 a2 f2 i = litH * k0_pay8 b a0 f0 a1 f1 a2 f2 i := rfl

theorem pay10_at (b : Vec Ideal S1x512 .f32) (a0 : Vec Ideal S512x512 .f32) (f0 : Vec Ideal S1x512 .f32) (a1 : Vec Ideal S512x512 .f32) (f1 : Vec Ideal S1x512 .f32)
    (a2 : Vec Ideal S512x512 .f32) (f2 : Vec Ideal S1x512 .f32) (i : S512x512.Idx) :
    k0_pay10 b a0 f0 a1 f1 a2 f2 i = k0_pay8 b a0 f0 a1 f1 a2 f2 i
      + litA * (k0_pay8 b a0 f0 a1 f1 a2 f2 i * k0_pay8 b a0 f0 a1 f1 a2 f2 i * k0_pay8 b a0 f0 a1 f1 a2 f2 i) := rfl

theorem pay13_at (u v w : FVec Ideal S512x512 .f32) (b : Vec Ideal S1x512 .f32) (a0 : Vec Ideal S512x512 .f32) (f0 : Vec Ideal S1x512 .f32) (a1 : Vec Ideal S512x512 .f32)
    (f1 : Vec Ideal S1x512 .f32) (a2 : Vec Ideal S512x512 .f32) (f2 : Vec Ideal S1x512 .f32) (y n : Fin 512) :
    k0_pay13 u v w b a0 f0 a1 f1 a2 f2 (ix2 y n) = u (ix2 y n) * (lit1 + Ideal.tanh (w (ix2 y n) * v (ix2 y n)))
      * (b (ix2 0 n) + a0 (ix2 y n) * f0 (ix2 0 n) + a1 (ix2 y n) * f1 (ix2 0 n) + a2 (ix2 y n) * f2 (ix2 0 n)) := by
  pointwise [k0_pay13]

theorem pay14_at (a : FVec Ideal S512x512 .bf16) (w : Vec Ideal S512x2048 .bf16) (y : Fin 512) (e : Fin 2048) :
    k0_pay14 a w (ix2 y e) = ∑ f : Fin 512, a (ix2 y f) * w (ix2 f e) := by
  pointwise [k0_pay14]

theorem pay4_at (u : FVec Ideal S512x2048 .f32) (a : FVec Ideal S512x512 .bf16) (w : Vec Ideal S512x2048 .bf16) (o : Vec Ideal S512x2048 .f32) (y : Fin 512) (e : Fin 2048) :
    k0_pay4 u a w o (ix2 y e) = o (ix2 y e) + (u (ix2 y e) + ∑ f : Fin 512, a (ix2 y f) * w (ix2 f e)) := by
  pointwise [k0_pay4]

theorem pay5_at (a : FVec Ideal S512x512 .bf16) (w : Vec Ideal S512x2048 .bf16) (o : Vec Ideal S512x2048 .f32) (y : Fin 512) (e : Fin 2048) :
    k0_pay5 a w o (ix2 y e) = o (ix2 y e) + ∑ f : Fin 512, a (ix2 y f) * w (ix2 f e) := by
  pointwise [k0_pay5]

/-! ## The windows of the projections and of the filters -/

theorem r0_at (a : S528x512.Idx → EReal) (y n : Fin 512) : r0 (F := Ideal) a (ix2 y n) = a (ix2 ⟨14 + y.val, by omega⟩ n) :=
  congrArg a (funext fun k => Fin.ext (match k with
    | ⟨0, _⟩ => by show 14 + 1 * y.val = 14 + y.val; omega
    | ⟨1, _⟩ => by show 0 + 1 * n.val = n.val; omega))
theorem r1_at (a : S528x512.Idx → EReal) (y n : Fin 512) : r1 (F := Ideal) a (ix2 y n) = a (ix2 ⟨15 + y.val, by omega⟩ n) :=
  congrArg a (funext fun k => Fin.ext (match k with
    | ⟨0, _⟩ => by show 15 + 1 * y.val = 15 + y.val; omega
    | ⟨1, _⟩ => by show 0 + 1 * n.val = n.val; omega))
theorem r2_at (a : S528x512.Idx → EReal) (y n : Fin 512) : r2 (F := Ideal) a (ix2 y n) = a (ix2 ⟨16 + y.val, by omega⟩ n) :=
  congrArg a (funext fun k => Fin.ext (match k with
    | ⟨0, _⟩ => by show 16 + 1 * y.val = 16 + y.val; omega
    | ⟨1, _⟩ => by show 0 + 1 * n.val = n.val; omega))
theorem c0_at (w : S3x512.Idx → EReal) (n : Fin 512) : c0 (F := Ideal) w (ix2 0 n) = w (ix2 0 n) :=
  congrArg w (funext fun k => Fin.ext (match k with
    | ⟨0, _⟩ => rfl
    | ⟨1, _⟩ => by show 0 + 1 * n.val = n.val; omega))
theorem c1_at (w : S3x512.Idx → EReal) (n : Fin 512) : c1 (F := Ideal) w (ix2 0 n) = w (ix2 1 n) :=
  congrArg w (funext fun k => Fin.ext (match k with
    | ⟨0, _⟩ => rfl
    | ⟨1, _⟩ => by show 0 + 1 * n.val = n.val; omega))
theorem c2_at (w : S3x512.Idx → EReal) (n : Fin 512) : c2 (F := Ideal) w (ix2 0 n) = w (ix2 2 n) :=
  congrArg w (funext fun k => Fin.ext (match k with
    | ⟨0, _⟩ => rfl
    | ⟨1, _⟩ => by show 0 + 1 * n.val = n.val; omega))
theorem winX_at (x : S512x2048.Idx → EReal) (r : Fin 4) (y : Fin 128) (d : Fin 2048) :
    winX (F := Ideal) x r (ix2 y d) = x (ix2 ⟨128 * r.val + y.val, by omega⟩ d) :=
  congrArg x (funext fun k => Fin.ext (match k with
    | ⟨0, _⟩ => by show 128 * r.val + 1 * y.val = 128 * r.val + y.val; omega
    | ⟨1, _⟩ => by show 0 + 1 * d.val = d.val; omega))

/-! ## The tiles -/

/-- A tile's projection, filtered. -/
def cv (h : S528x2048.Idx → EReal) (w : S2048x512.Idx → EReal) (f : S3x512.Idx → EReal) (b : S1x512.Idx → EReal) (y n : Fin 512) : EReal :=
  b (ix2 0 n) + (∑ d : Fin 2048, h (ix2 ⟨14 + y.val, by omega⟩ d) * w (ix2 d n)) * f (ix2 0 n)
    + (∑ d : Fin 2048, h (ix2 ⟨15 + y.val, by omega⟩ d) * w (ix2 d n)) * f (ix2 1 n)
    + (∑ d : Fin 2048, h (ix2 ⟨16 + y.val, by omega⟩ d) * w (ix2 d n)) * f (ix2 2 n)

theorem act_at (h : S528x2048.Idx → EReal) (T : Tile Ideal) (y n : Fin 512) :
    act (F := Ideal) h T (ix2 y n) = gel (cv h T.wg T.cwg T.cbg y n) * cv h T.wu T.cwu T.cbu y n := by
  unfold act
  rw [pay13_at, pay9_at, pay10_at, pay8_at, r0_at, r1_at, r2_at, c0_at, c1_at, c2_at, r0_at, r1_at, r2_at, c0_at, c1_at, c2_at,
    pay7_at, pay7_at, pay7_at, pay7_at, pay7_at, pay7_at]
  rfl

theorem two_at (h : S528x2048.Idx → EReal) (X : Ins Ideal) (O : S512x2048.Idx → EReal) (y : Fin 512) (e : Fin 2048) :
    two (F := Ideal) h X O (ix2 y e) = O (ix2 y e) + ((∑ f : Fin 512, act (F := Ideal) h X.t0 (ix2 y f) * X.t0.wo (ix2 f e))
      + ∑ f : Fin 512, act (F := Ideal) h X.t1 (ix2 y f) * X.t1.wo (ix2 f e)) := by
  unfold two
  rw [pay4_at, pay14_at]

theorem fin_at (h : S528x2048.Idx → EReal) (X : Ins Ideal) (O : S512x2048.Idx → EReal) (y : Fin 512) (e : Fin 2048) :
    fin (F := Ideal) h X O (ix2 y e) = X.x (ix2 y e)
      + nrm (fun k => O (ix2 y k) + ∑ f : Fin 512, act (F := Ideal) h X.t0 (ix2 y f) * X.t0.wo (ix2 f k)) (fun k => X.gq (ix2 0 k)) e := by
  unfold fin one
  rw [pay6_at]
  simp only [pay5_at]

theorem rows_lo (i : grid0.Coords) (X : Ins Ideal) (y : Fin 528) (d : Fin 2048) (h : y.val < 16) :
    rows (F := Ideal) i X (ix2 y d) = k0_pay1 i X.xh X.gp (ix2 ⟨y.val, h⟩ d) := by
  unfold rows
  refine (dif_pos h).trans (congrArg (k0_pay1 i X.xh X.gp) ?_)
  funext a
  match a with
  | ⟨0, _⟩ => rfl
  | ⟨1, _⟩ => rfl

theorem rows_hi (i : grid0.Coords) (X : Ins Ideal) (y : Fin 528) (d : Fin 2048) (h : ¬ y.val < 16) :
    rows (F := Ideal) i X (ix2 y d) = k0_pay2 X.gp (winX X.x ⟨(y.val - 16) / 128, by omega⟩) (ix2 ⟨(y.val - 16) % 128, Nat.mod_lt _ (by decide)⟩ d) := by
  unfold rows
  refine (dif_neg h).trans (congrArg (k0_pay2 X.gp (winX X.x ⟨(y.val - 16) / 128, by omega⟩)) ?_)
  funext a
  match a with
  | ⟨0, _⟩ => rfl
  | ⟨1, _⟩ => rfl

/-- The normed rows. -/
theorem rows_at (i : Fin 32) (j : Fin 6) (X : Ins Ideal) (y : Fin 528) (d : Fin 2048) :
    rows (F := Ideal) (pt i j) X (ix2 y d) = if h : y.val < 16 then (if i = 0 then 0 else nrm (fun k => X.xh (ix2 ⟨y.val, h⟩ k)) (fun k => X.gp (ix2 0 k)) d)
      else nrm (fun k => X.x (ix2 ⟨y.val - 16, by omega⟩ k)) (fun k => X.gp (ix2 0 k)) d := by
  split
  · rename_i h
    rw [rows_lo _ _ _ _ h, pay1_at]
  · rename_i h
    rw [rows_hi _ _ _ _ h, pay2_at]
    have e : ∀ k : Fin 2048, winX (F := Ideal) X.x ⟨(y.val - 16) / 128, by omega⟩ (ix2 ⟨(y.val - 16) % 128, Nat.mod_lt _ (by decide)⟩ k)
        = X.x (ix2 ⟨y.val - 16, by omega⟩ k) := fun k => by
      rw [winX_at]
      exact congrArg X.x (congrArg (fun z : Fin 512 => (ix2 z k : S512x2048.Idx)) (Fin.ext (Nat.div_add_mod (y.val - 16) 128)))
    simp only [e]

end Cert.Proof.Ffn
-- ==== Proof.FOut.lean ====
/-
  The feed-forward call's result, entry by entry.
-/
module

public import proofs.«01_k».proof.Proof.FBlocks
public import proofs.«01_k».proof.Proof.FVals
public import proofs.«01_k».proof.Proof.FSpec

@[expose] public section

set_option maxRecDepth 16384

noncomputable section

namespace Cert.Proof.Ffn

open Cert.Kernel2Ideal Cert.Kernel2Ideal.Gen
open Idealize.ShloMosaic Idealize.ShloMosaic.TcCoe Idealize.ShloMosaic.Pointwise Idealize.SL.Sem

variable (m : (ℓ : Loc nD τ sig) → Buf (Elt Ideal) ℓ) (c : Dev nD) (W : Wts)
  (hx : ∀ r d, m ((c : Thread nD τ).loc main_arg0) (ix3 0 r d) = W.x r d) (hgp : ∀ d, m ((c : Thread nD τ).loc main_arg1) (ix2 0 d) = W.gp d)
  (hwi : ∀ d n, m ((c : Thread nD τ).loc main_arg2) (ix3 0 d n) = W.wi d n) (hcw : ∀ k n, m ((c : Thread nD τ).loc main_arg3) (ix3 0 k n) = W.cw k n)
  (hcb : ∀ n, m ((c : Thread nD τ).loc main_arg4) (ix2 0 n) = W.cb n) (hwo : ∀ f e, m ((c : Thread nD τ).loc main_arg5) (ix3 0 f e) = W.wo f e)
  (hgq : ∀ e, m ((c : Thread nD τ).loc main_arg6) (ix2 0 e) = W.gq e)

/-- The number of row block `i`'s point `j`. -/
abbrev at6 (i : Fin 32) (j : Fin 6) : ℕ := 6 * i.val + j.val

theorem ptN_at (i : Fin 32) (j : Fin 6) : (ptN (at6 i j)).val = 6 * i.val + j.val := Nat.mod_eq_of_lt (by show 6 * i.val + j.val < 192; omega)

include hx hgp in
/-- The normed rows of a row block: from two before its first, the rows before the array's first all zero. -/
theorem hRow_at (i : Fin 32) (y : Fin 528) (d : Fin 2048) (hy : 14 ≤ y.val) :
    hRow m c i.val (ix2 y d) = if h : 2 ≤ 512 * i.val + (y.val - 14) then nrm (W.x ⟨512 * i.val + (y.val - 14) - 2, by omega⟩) W.gp d else 0 := by
  have ht : (ptN (6 * i.val)).val = 6 * i.val := ptN_at i 0
  have hd : (ptN (6 * i.val)).val / 6 = i.val := by omega
  have hr : rowN (6 * i.val) = i := Fin.ext (by show 6 * i.val / 6 % 32 = i.val; omega)
  have hg : (fun k => (insAt m c (ptN (6 * i.val))).gp (ix2 0 k)) = W.gp := funext fun k => (gp_blk m c _ k).trans (hgp k)
  unfold hRow
  rw [rows_at, hg, hr]
  by_cases h : y.val < 16
  · rw [dif_pos h]
    by_cases h0 : i = 0
    · rw [if_pos h0, dif_neg (by rw [h0]; show ¬ 2 ≤ 512 * 0 + (y.val - 14); omega)]
    · have hi : 1 ≤ i.val := Nat.one_le_iff_ne_zero.mpr fun h => h0 (Fin.ext h)
      rw [if_neg h0, dif_pos (by omega)]
      refine congrArg (fun r => nrm r W.gp d) (funext fun k => ?_)
      rw [xh_blk m c _ ⟨y.val, h⟩ k, hx]
      refine congrArg (fun r => W.x r k) (Fin.ext ?_)
      show 512 * ((ptN (6 * i.val)).val / 6) - 16 + y.val = 512 * i.val + (y.val - 14) - 2
      omega
  · rw [dif_neg h, dif_pos (by omega)]
    refine congrArg (fun r => nrm r W.gp d) (funext fun k => ?_)
    rw [x_blk m c _ ⟨y.val - 16, by omega⟩ k, hx]
    refine congrArg (fun r => W.x r k) (Fin.ext ?_)
    show 512 * ((ptN (6 * i.val)).val / 6) + (y.val - 16) = 512 * i.val + (y.val - 14) - 2
    omega

include hx hgp in
/-- Their products with a column of the up-projection. -/
theorem proj_at (i : Fin 32) (y : Fin 528) (hy : 14 ≤ y.val) (n : Fin 11264) :
    ∑ d : Fin 2048, hRow m c i.val (ix2 y d) * W.wi d n = W.proj (512 * i.val + (y.val - 14)) n := by
  unfold Wts.proj
  by_cases h : 2 ≤ 512 * i.val + (y.val - 14)
  · rw [dif_pos ⟨h, by omega⟩]
    exact Finset.sum_congr rfl fun d _ => congrArg (· * _) ((hRow_at m c W hx hgp i y d hy).trans (dif_pos h))
  · rw [dif_neg fun hh => h hh.1]
    refine Finset.sum_eq_zero fun d _ => ?_
    rw [hRow_at m c W hx hgp i y d hy, dif_neg h, zero_mul]

include hx hgp in
/-- A tile's projection, filtered. -/
theorem cv_eq (i : Fin 32) (w : S2048x512.Idx → EReal) (f : S3x512.Idx → EReal) (b : S1x512.Idx → EReal) (y n : Fin 512) (n' : Fin 11264)
    (hw : ∀ d, w (ix2 d n) = W.wi d n') (hf : ∀ k, f (ix2 k n) = W.cw k n') (hb : b (ix2 0 n) = W.cb n') :
    cv (hRow m c i.val) w f b y n = W.conv (512 * i.val + y.val) n' := by
  have h0 := proj_at m c W hx hgp i ⟨14 + y.val, by omega⟩ (by show 14 ≤ 14 + y.val; omega) n'
  have h1 := proj_at m c W hx hgp i ⟨15 + y.val, by omega⟩ (by show 14 ≤ 15 + y.val; omega) n'
  have h2 := proj_at m c W hx hgp i ⟨16 + y.val, by omega⟩ (by show 14 ≤ 16 + y.val; omega) n'
  rw [show 512 * i.val + ((⟨14 + y.val, by omega⟩ : Fin 528).val - 14) = 512 * i.val + y.val by show 512 * i.val + (14 + y.val - 14) = _; omega] at h0
  rw [show 512 * i.val + ((⟨15 + y.val, by omega⟩ : Fin 528).val - 14) = 512 * i.val + y.val + 1 by show 512 * i.val + (15 + y.val - 14) = _; omega] at h1
  rw [show 512 * i.val + ((⟨16 + y.val, by omega⟩ : Fin 528).val - 14) = 512 * i.val + y.val + 2 by show 512 * i.val + (16 + y.val - 14) = _; omega] at h2
  unfold cv Wts.conv
  simp only [hw, hf, hb]
  rw [h0, h1, h2]

include hx hgp in
/-- A tile's part of the down-projection. -/
theorem tile_sum (i : Fin 32) (T : Tile Ideal) (k : Fin 11) (y : Fin 512) (e : Fin 2048)
    (h1 : ∀ d n, T.wg (ix2 d n) = W.wi d ⟨512 * k.val + n.val, by omega⟩) (h2 : ∀ d n, T.wu (ix2 d n) = W.wi d ⟨5632 + (512 * k.val + n.val), by omega⟩)
    (h3 : ∀ r n, T.cwg (ix2 r n) = W.cw r ⟨512 * k.val + n.val, by omega⟩) (h4 : ∀ r n, T.cwu (ix2 r n) = W.cw r ⟨5632 + (512 * k.val + n.val), by omega⟩)
    (h5 : ∀ n, T.cbg (ix2 0 n) = W.cb ⟨512 * k.val + n.val, by omega⟩) (h6 : ∀ n, T.cbu (ix2 0 n) = W.cb ⟨5632 + (512 * k.val + n.val), by omega⟩)
    (h7 : ∀ f e, T.wo (ix2 f e) = W.wo ⟨512 * k.val + f.val, by omega⟩ e) :
    ∑ f : Fin 512, act (F := Ideal) (hRow m c i.val) T (ix2 y f) * T.wo (ix2 f e) = W.tileSum (512 * i.val + y.val) e k.val := by
  rw [W.tileSum_eq]
  refine Finset.sum_congr rfl fun f _ => ?_
  rw [act_at, h7, cv_eq m c W hx hgp i _ _ _ y f ⟨512 * k.val + f.val, by omega⟩ (fun d => h1 d f) (fun r => h3 r f) (h5 f),
    cv_eq m c W hx hgp i _ _ _ y f ⟨5632 + (512 * k.val + f.val), by omega⟩ (fun d => h2 d f) (fun r => h4 r f) (h6 f)]
  rfl

section
include hx hgp hwi hcw hcb hwo

theorem sum0 (i : Fin 32) (j : Fin 6) (y : Fin 512) (e : Fin 2048) :
    ∑ f : Fin 512, act (F := Ideal) (hRow m c i.val) (insAt m c (ptN (at6 i j))).t0 (ix2 y f) * (insAt m c (ptN (at6 i j))).t0.wo (ix2 f e)
      = W.tileSum (512 * i.val + y.val) e (2 * j.val) := by
  have ht := ptN_at i j
  have hj : (ptN (at6 i j)).val % 6 = j.val := by omega
  refine tile_sum m c W hx hgp i _ ⟨2 * j.val, by omega⟩ y e ?_ ?_ ?_ ?_ ?_ ?_ ?_
  · intro d n; rw [wg0_blk m c _ d n, hwi]; exact congrArg (fun z => W.wi d z) (Fin.ext (by dsimp only; omega))
  · intro d n; rw [wu0_blk m c _ d n, hwi]; exact congrArg (fun z => W.wi d z) (Fin.ext (by dsimp only; omega))
  · intro r n; rw [cwg0_blk m c _ r n, hcw]; exact congrArg (fun z => W.cw r z) (Fin.ext (by dsimp only; omega))
  · intro r n; rw [cwu0_blk m c _ r n, hcw]; exact congrArg (fun z => W.cw r z) (Fin.ext (by dsimp only; omega))
  · intro n; rw [cbg0_blk m c _ n, hcb]; exact congrArg (fun z => W.cb z) (Fin.ext (by dsimp only; omega))
  · intro n; rw [cbu0_blk m c _ n, hcb]; exact congrArg (fun z => W.cb z) (Fin.ext (by dsimp only; omega))
  · intro n e; rw [wo0_blk m c _ n e, hwo]; exact congrArg (fun z => W.wo z e) (Fin.ext (by dsimp only; omega))

theorem sum1 (i : Fin 32) (j : Fin 6) (h5 : j.val < 5) (y : Fin 512) (e : Fin 2048) :
    ∑ f : Fin 512, act (F := Ideal) (hRow m c i.val) (insAt m c (ptN (at6 i j))).t1 (ix2 y f) * (insAt m c (ptN (at6 i j))).t1.wo (ix2 f e)
      = W.tileSum (512 * i.val + y.val) e (2 * j.val + 1) := by
  have ht := ptN_at i j
  have hj : (ptN (at6 i j)).val % 6 = j.val := by omega
  refine tile_sum m c W hx hgp i _ ⟨2 * j.val + 1, by omega⟩ y e ?_ ?_ ?_ ?_ ?_ ?_ ?_
  · intro d n; rw [wg1_blk m c _ (by omega) d n, hwi]; exact congrArg (fun z => W.wi d z) (Fin.ext (by dsimp only; omega))
  · intro d n; rw [wu1_blk m c _ (by omega) d n, hwi]; exact congrArg (fun z => W.wi d z) (Fin.ext (by dsimp only; omega))
  · intro r n; rw [cwg1_blk m c _ (by omega) r n, hcw]; exact congrArg (fun z => W.cw r z) (Fin.ext (by dsimp only; omega))
  · intro r n; rw [cwu1_blk m c _ (by omega) r n, hcw]; exact congrArg (fun z => W.cw r z) (Fin.ext (by dsimp only; omega))
  · intro n; rw [cbg1_blk m c _ (by omega) n, hcb]; exact congrArg (fun z => W.cb z) (Fin.ext (by dsimp only; omega))
  · intro n; rw [cbu1_blk m c _ (by omega) n, hcb]; exact congrArg (fun z => W.cb z) (Fin.ext (by dsimp only; omega))
  · intro n e; rw [wo1_blk m c _ (by omega) n e, hwo]; exact congrArg (fun z => W.wo z e) (Fin.ext (by dsimp only; omega))

/-- The output's block after a point but the last of its row: its tiles' sums so far. -/
theorem out_part (i : Fin 32) (y : Fin 512) (e : Fin 2048) : ∀ j : ℕ, j < 5 →
    outN m c (6 * i.val + j) (ix2 y e) = ∑ t ∈ Finset.range (2 * (j + 1)), W.tileSum (512 * i.val + y.val) e t
  | 0, _ => by
    rw [outN_first m c _ (by omega), show (6 * i.val + 0) / 6 = i.val by omega, two_at, pay3_at, zero_add]
    have s0 := sum0 m c W hx hgp hwi hcw hcb hwo i 0 y e
    have s1 := sum1 m c W hx hgp hwi hcw hcb hwo i 0 (by decide) y e
    refine (congrArg₂ _ s0 s1).trans ?_
    rw [Finset.sum_range_succ, Finset.sum_range_succ, Finset.sum_range_zero, zero_add]
    rfl
  | j + 1, hj => by
    have ih := out_part i y e j (by omega)
    have s0 := sum0 m c W hx hgp hwi hcw hcb hwo i ⟨j + 1, by omega⟩ y e
    have s1 := sum1 m c W hx hgp hwi hcw hcb hwo i ⟨j + 1, by omega⟩ hj y e
    have hn : outN m c (6 * i.val + (j + 1)) = two (hRow m c i.val) (insAt m c (ptN (6 * i.val + (j + 1)))) (outN m c (6 * i.val + j)) := by
      show after _ _ (hRow m c ((6 * i.val + j + 1) / 6)) _ (outN m c (6 * i.val + j)) = _
      rw [show (6 * i.val + j + 1) / 6 = i.val by omega, after,
        if_neg (fun h => by have := congrArg Fin.val h; change (6 * i.val + j + 1) % 6 = 0 at this; omega),
        if_neg (fun h => by have := congrArg Fin.val h; change (6 * i.val + j + 1) % 6 = 5 at this; omega)]
      rfl
    rw [hn, two_at, ih]
    refine (congrArg (_ + ·) (congrArg₂ _ s0 s1)).trans ?_
    rw [show 2 * (j + 1 + 1) = 2 * (j + 1) + 1 + 1 by omega, Finset.sum_range_succ, Finset.sum_range_succ, add_assoc]

include hgq

/-- The output's block after its row's last point. -/
theorem out_last (i : Fin 32) (y : Fin 512) (e : Fin 2048) :
    outN m c (6 * i.val + 5) (ix2 y e) = W.res ⟨512 * i.val + y.val, by omega⟩ e := by
  have ht : (ptN (6 * i.val + 5)).val = 6 * i.val + 5 := ptN_at i 5
  have hd : (ptN (6 * i.val + 5)).val / 6 = i.val := by omega
  have hn : outN m c (6 * i.val + 5) = fin (hRow m c i.val) (insAt m c (ptN (6 * i.val + 5))) (outN m c (6 * i.val + 4)) := by
    show after _ _ (hRow m c ((6 * i.val + 4 + 1) / 6)) _ (outN m c (6 * i.val + 4)) = _
    rw [show (6 * i.val + 4 + 1) / 6 = i.val by omega, after,
      if_neg (fun h => by have := congrArg Fin.val h; change (6 * i.val + 4 + 1) % 6 = 0 at this; omega),
      if_pos (Fin.ext (by show (6 * i.val + 4 + 1) % 6 = 5; omega))]
  rw [hn, fin_at]
  have hrow : (fun k => outN m c (6 * i.val + 4) (ix2 y k)
      + ∑ f : Fin 512, act (F := Ideal) (hRow m c i.val) (insAt m c (ptN (6 * i.val + 5))).t0 (ix2 y f) * (insAt m c (ptN (6 * i.val + 5))).t0.wo (ix2 f k))
      = W.down (512 * i.val + y.val) := funext fun k => by
    have s0 := sum0 m c W hx hgp hwi hcw hcb hwo i 5 y k
    rw [out_part m c W hx hgp hwi hcw hcb hwo i y k 4 (by decide)]
    refine (congrArg (_ + ·) s0).trans ?_
    rw [← W.down_eq]
    exact (Finset.sum_range_succ _ 10).symm
  have hg : (fun k => (insAt m c (ptN (6 * i.val + 5))).gq (ix2 0 k)) = W.gq := funext fun k => (gq_blk m c _ k).trans (hgq k)
  rw [hrow, hg, x_blk m c _ y e, hx]
  unfold Wts.res
  refine congrArg (fun r => W.x r e + _) (Fin.ext ?_)
  show 512 * ((ptN (6 * i.val + 5)).val / 6) + y.val = 512 * i.val + y.val
  omega

/-- The call's array is the feed-forward. -/
theorem arr_eq : (dats m 0 c).arrAt 18 (cfgs 0).N = fun i : S16384x2048.Idx => W.res (i 0) (i 1) := by
  refine (dats m 0 c).arrAt_eq_of_covers 18 _ (by decide +kernel) fun t hf y => ?_
  have hl : t.val % 6 = 5 := (flush0_18 t).mp hf
  have ht := lt_N t
  blk_simp
  rw [after0_18]
  obtain ⟨a, e, rfl⟩ : ∃ (a : Fin 512) (e : Fin 2048), y = ix2 a e := ⟨y 0, y 1, eq_ix2 y⟩
  refine Eq.trans ?_ (out_index (fun i : S16384x2048.Idx => W.res (i 0) (i 1)) t a e).symm
  have := out_last m c W hx hgp hwi hcw hcb hwo hgq ⟨t.val / 6, by omega⟩ a e
  rw [show 6 * (⟨t.val / 6, by omega⟩ : Fin 32).val + 5 = t.val by show 6 * (t.val / 6) + 5 = t.val; omega] at this
  exact this

end

end Cert.Proof.Ffn
-- ==== Proof.FRef.lean ====
/-
  The feed-forward's reference over the extended reals, entry by entry.
-/
module

public import proofs.«01_k».proof.Proof.Gen.Reference2Ideal.Run
public import proofs.«01_k».proof.Proof.FSpec

@[expose] public section

set_option maxRecDepth 16384

noncomputable section

namespace Cert.Proof.FfnRef

open Cert.Reference2Ideal Cert.Reference2Ideal.Gen Cert.Reference2Ideal.Value Cert.Proof.Ffn
open Idealize.ShloMosaic Idealize.ShloMosaic.TcCoe Idealize.ShloMosaic.Pointwise

/-! ## The reference's stages -/

/-- Rows normed. -/
def normed (x : FVec Ideal S1x16384x2048 .f32) (g : FVec Ideal S1x2048 .f32) : FVec Ideal S1x16384x2048 .f32 :=
  mulf (mulf x (broadcastInDim S1x16384x2048 ![0, 1, 2] bcast_S1x16384x1_S1x16384x2048_0_1_2 (Host.rsqrt (addf (Host.divf
      (broadcastInDim S1x16384x1 ![0, 1] bcast_S1x16384_S1x16384x1_0_1 (Host.reduceAdd (mulf x x) (constant S_ .f32 0x00000000#32) reducesTo_S1x16384x2048_S1x16384_d2 h_S_))
      (broadcastInDim S1x16384x1 ![] bcast_S_S1x16384x1 (constant S_ .f32 0x45000000#32))) (broadcastInDim S1x16384x1 ![] bcast_S_S1x16384x1 (constant S_ .f32 0x358637BD#32))))))
    (broadcastInDim S1x16384x2048 ![0, 1, 2] bcast_S1x1x2048_S1x16384x2048_0_1_2 (broadcastInDim S1x1x2048 ![2] bcast_S2048_S1x1x2048_2 (shapeCast _ g shapeCasts_S1x2048_S2048)))

/-- Projected up, with two rows of zeros before. -/
def padded (h : FVec Ideal S1x16384x2048 .f32) (w : FVec Ideal S1x2048x11264 .f32) : FVec Ideal S1x16386x11264 .f32 :=
  pad S1x16386x11264 ![0, 2, 0] ![0, 0, 0] ![0, 0, 0] (Host.dotGeneral dot_S1x16384x2048_S2048x11264_S1x16384x11264_2_0_01_1_n_n none h
      (shapeCast _ w shapeCasts_S1x2048x11264_S2048x11264)) (sitofp .f32 (constantI S_ 32 0#32)) pads_S1x16384x11264_S1x16386x11264_000_200_000 h_S_

/-- A filter row, at every row. -/
def tap (o : Fin 3 → ℕ) (w : FVec Ideal S1x3x11264 .f32) (hs : S1x3x11264.Slices o S1x1x11264) : FVec Ideal S1x16384x11264 .f32 :=
  broadcastInDim S1x16384x11264 ![0, 1, 2] bcast_S1x1x11264_S1x16384x11264_0_1_2 (broadcastInDim S1x1x11264 ![2] bcast_S11264_S1x1x11264_2
    (shapeCast _ (extractStridedSlice S1x1x11264 o w hs) shapeCasts_S1x1x11264_S11264))

/-- Filtered. -/
def filtered (p : FVec Ideal S1x16386x11264 .f32) (w : FVec Ideal S1x3x11264 .f32) (b : FVec Ideal S1x11264 .f32) : FVec Ideal S1x16384x11264 .f32 :=
  addf (addf (addf (broadcastInDim S1x16384x11264 ![0, 1, 2] bcast_S1x1x11264_S1x16384x11264_0_1_2 (broadcastInDim S1x1x11264 ![2] bcast_S11264_S1x1x11264_2 (shapeCast _ b shapeCasts_S1x11264_S11264)))
      (mulf (extractStridedSlice S1x16384x11264 ![0, 0, 0] p slices_S1x16386x11264_S1x16384x11264_0_0_0) (tap ![0, 0, 0] w slices_S1x3x11264_S1x1x11264_0_0_0)))
      (mulf (extractStridedSlice S1x16384x11264 ![0, 1, 0] p slices_S1x16386x11264_S1x16384x11264_0_1_0) (tap ![0, 1, 0] w slices_S1x3x11264_S1x1x11264_0_1_0)))
      (mulf (extractStridedSlice S1x16384x11264 ![0, 2, 0] p slices_S1x16386x11264_S1x16384x11264_0_2_0) (tap ![0, 2, 0] w slices_S1x3x11264_S1x1x11264_0_2_0))

/-- The gate's curve. -/
def curve (g : FVec Ideal S1x16384x5632 .f32) : FVec Ideal S1x16384x5632 .f32 :=
  mulf g (mulf (broadcastInDim S1x16384x5632 ![] bcast_S_S1x16384x5632 (constant S_ .f32 0x3F000000#32))
    (addf (broadcastInDim S1x16384x5632 ![] bcast_S_S1x16384x5632 (constant S_ .f32 0x3F800000#32))
      (Host.tanh (mulf (broadcastInDim S1x16384x5632 ![] bcast_S_S1x16384x5632 (constant S_ .f32 0x3F4C422A#32))
        (addf g (mulf (broadcastInDim S1x16384x5632 ![] bcast_S_S1x16384x5632 (constant S_ .f32 0x3D372713#32)) (mulf (mulf g g) g)))))))

/-- The gate and the other half. -/
def gateR (c : FVec Ideal S1x16384x11264 .f32) : FVec Ideal S1x16384x5632 .f32 :=
  extractStridedSlice S1x16384x5632 ![0, 0, 0] c slices_S1x16384x11264_S1x16384x5632_0_0_0
def upR (c : FVec Ideal S1x16384x11264 .f32) : FVec Ideal S1x16384x5632 .f32 :=
  extractStridedSlice S1x16384x5632 ![0, 0, 5632] c slices_S1x16384x11264_S1x16384x5632_0_0_5632

/-- Projected down. -/
def downR (a : FVec Ideal S1x16384x5632 .f32) (w : FVec Ideal S1x5632x2048 .f32) : FVec Ideal S1x16384x2048 .f32 :=
  Host.dotGeneral dot_S1x16384x5632_S5632x2048_S1x16384x2048_2_0_01_1_n_n none a (shapeCast _ w shapeCasts_S1x5632x2048_S5632x2048)

/-! ## Their entries -/

theorem normed_at (x : FVec Ideal S1x16384x2048 .f32) (g : FVec Ideal S1x2048 .f32) (r : Fin 16384) (d : Fin 2048) :
    normed x g (ix3 0 r d) = nrm (fun k => x (ix3 0 r k)) (fun k => g (ix2 0 k)) d := by
  pointwise [normed, nrm]

theorem tap_at (k : Fin 3) (w : FVec Ideal S1x3x11264 .f32) (o : Fin 3 → ℕ) (ho : o = ![0, k.val, 0]) (hs) (r : Fin 16384) (n : Fin 11264) :
    tap o w hs (ix3 0 r n) = w (ix3 0 k n) := by
  subst ho
  pointwise [tap]

theorem zero_at : FloatOps.sitofp (F := Ideal) FTy.f32 0#32 = (0 : EReal) := by
  show (((0#32 : BitVec 32).toInt : ℝ) : EReal) = 0
  simp

theorem padded_at (h : FVec Ideal S1x16384x2048 .f32) (w : FVec Ideal S1x2048x11264 .f32) (r : Fin 16386) (n : Fin 11264) :
    padded h w (ix3 0 r n) = if h2 : 2 ≤ r.val then ∑ d : Fin 2048, h (ix3 0 ⟨r.val - 2, by omega⟩ d) * w (ix3 0 d n) else 0 := by
  pointwise [padded]
  rw [zero_at]
  by_cases h2 : 2 ≤ r.val
  · rw [dif_pos h2, dif_pos ⟨h2, by omega⟩]
  · rw [dif_neg h2, dif_neg fun e => h2 e.1]

theorem filtered_at (p : FVec Ideal S1x16386x11264 .f32) (w : FVec Ideal S1x3x11264 .f32) (b : FVec Ideal S1x11264 .f32) (r : Fin 16384) (n : Fin 11264) :
    filtered p w b (ix3 0 r n) = b (ix2 0 n) + p (ix3 0 ⟨r.val, by omega⟩ n) * w (ix3 0 0 n) + p (ix3 0 ⟨r.val + 1, by omega⟩ n) * w (ix3 0 1 n)
      + p (ix3 0 ⟨r.val + 2, by omega⟩ n) * w (ix3 0 2 n) := by
  rw [← tap_at 0 w ![0, 0, 0] rfl slices_S1x3x11264_S1x1x11264_0_0_0 r n, ← tap_at 1 w ![0, 1, 0] rfl slices_S1x3x11264_S1x1x11264_0_1_0 r n,
    ← tap_at 2 w ![0, 2, 0] rfl slices_S1x3x11264_S1x1x11264_0_2_0 r n]
  pointwise [filtered]
  simp only [Nat.add_comm 1 r.val, Nat.add_comm 2 r.val]

theorem curve_at (g : FVec Ideal S1x16384x5632 .f32) (i : S1x16384x5632.Idx) : curve g i = gel (g i) := by
  rw [← gel_eq]; rfl

theorem gateR_at (c : FVec Ideal S1x16384x11264 .f32) (r : Fin 16384) (f : Fin 5632) : gateR c (ix3 0 r f) = c (ix3 0 r ⟨f.val, by omega⟩) := by
  pointwise [gateR]
theorem upR_at (c : FVec Ideal S1x16384x11264 .f32) (r : Fin 16384) (f : Fin 5632) : upR c (ix3 0 r f) = c (ix3 0 r ⟨5632 + f.val, by omega⟩) := by
  pointwise [upR]

theorem downR_at (a : FVec Ideal S1x16384x5632 .f32) (w : FVec Ideal S1x5632x2048 .f32) (r : Fin 16384) (e : Fin 2048) :
    downR a w (ix3 0 r e) = ∑ f : Fin 5632, a (ix3 0 r f) * w (ix3 0 f e) := by
  pointwise [downR]

theorem flat_at (a : FVec Ideal S1x16384x2048 .f32) (r : Fin 16384) (e : Fin 2048) :
    shapeCast S16384x2048 a shapeCasts_S1x16384x2048_S16384x2048 (ix2 r e) = a (ix3 0 r e) := by
  pointwise

/-! ## The result -/

variable (m : (ℓ : Loc nD τ sig) → Buf (Elt Ideal) ℓ)

theorem res_eq (c : Dev nD) (x : FVec Ideal S1x16384x2048 .f32) (gp : FVec Ideal S1x2048 .f32) (wi : FVec Ideal S1x2048x11264 .f32) (cw : FVec Ideal S1x3x11264 .f32)
    (cb : FVec Ideal S1x11264 .f32) (wo : FVec Ideal S1x5632x2048 .f32) (gq : FVec Ideal S1x2048 .f32)
    (e0 : m (c.tc.loc main_arg0) = x) (e1 : m (c.tc.loc main_arg1) = gp) (e2 : m (c.tc.loc main_arg2) = wi) (e3 : m (c.tc.loc main_arg3) = cw)
    (e4 : m (c.tc.loc main_arg4) = cb) (e5 : m (c.tc.loc main_arg5) = wo) (e6 : m (c.tc.loc main_arg6) = gq)
    (f : FVec Ideal S1x16384x11264 .f32) (y : FVec Ideal S1x16384x2048 .f32)
    (hf : f = filtered (padded (normed x gp) wi) cw cb) (hy : y = downR (mulf (curve (gateR f)) (upR f)) wo) :
    res_main_v74 m c = shapeCast S16384x2048 (addf x (normed y gq)) shapeCasts_S1x16384x2048_S16384x2048 := by
  unfold res_main_v74
  rw [e0, e1, e2, e3, e4, e5, e6]
  subst hy hf
  rfl

/-- The arguments' entries. -/
def wts (x : FVec Ideal S1x16384x2048 .f32) (gp : FVec Ideal S1x2048 .f32) (wi : FVec Ideal S1x2048x11264 .f32) (cw : FVec Ideal S1x3x11264 .f32)
    (cb : FVec Ideal S1x11264 .f32) (wo : FVec Ideal S1x5632x2048 .f32) (gq : FVec Ideal S1x2048 .f32) : Wts where
  x r d := x (ix3 0 r d)
  gp d := gp (ix2 0 d)
  wi d n := wi (ix3 0 d n)
  cw k n := cw (ix3 0 k n)
  cb n := cb (ix2 0 n)
  wo f e := wo (ix3 0 f e)
  gq e := gq (ix2 0 e)

theorem padded_wts (x : FVec Ideal S1x16384x2048 .f32) (gp : FVec Ideal S1x2048 .f32) (wi : FVec Ideal S1x2048x11264 .f32) (cw : FVec Ideal S1x3x11264 .f32)
    (cb : FVec Ideal S1x11264 .f32) (wo : FVec Ideal S1x5632x2048 .f32) (gq : FVec Ideal S1x2048 .f32) (r : Fin 16386) (n : Fin 11264) :
    padded (normed x gp) wi (ix3 0 r n) = (wts x gp wi cw cb wo gq).proj r.val n := by
  rw [padded_at]
  unfold Wts.proj
  by_cases h : 2 ≤ r.val
  · rw [dif_pos h, dif_pos ⟨h, r.isLt⟩]
    exact Finset.sum_congr rfl fun d _ => congrArg (· * _) (normed_at x gp _ d)
  · rw [dif_neg h, dif_neg fun e => h e.1]

theorem ref_at (c : Dev nD) (x : FVec Ideal S1x16384x2048 .f32) (gp : FVec Ideal S1x2048 .f32) (wi : FVec Ideal S1x2048x11264 .f32) (cw : FVec Ideal S1x3x11264 .f32)
    (cb : FVec Ideal S1x11264 .f32) (wo : FVec Ideal S1x5632x2048 .f32) (gq : FVec Ideal S1x2048 .f32)
    (e0 : m (c.tc.loc main_arg0) = x) (e1 : m (c.tc.loc main_arg1) = gp) (e2 : m (c.tc.loc main_arg2) = wi) (e3 : m (c.tc.loc main_arg3) = cw)
    (e4 : m (c.tc.loc main_arg4) = cb) (e5 : m (c.tc.loc main_arg5) = wo) (e6 : m (c.tc.loc main_arg6) = gq) (r : Fin 16384) (e : Fin 2048) :
    res_main_v74 m c (ix2 r e) = (wts x gp wi cw cb wo gq).res r e := by
  have hf : ∀ (r : Fin 16384) (n : Fin 11264), filtered (padded (normed x gp) wi) cw cb (ix3 0 r n) = (wts x gp wi cw cb wo gq).conv r.val n := fun r n => by
    rw [filtered_at, padded_wts x gp wi cw cb wo gq, padded_wts x gp wi cw cb wo gq, padded_wts x gp wi cw cb wo gq]
    rfl
  rw [res_eq m c x gp wi cw cb wo gq e0 e1 e2 e3 e4 e5 e6 _ _ rfl rfl, flat_at]
  generalize filtered (padded (normed x gp) wi) cw cb = f at hf
  have hy : ∀ e : Fin 2048, downR (mulf (curve (gateR f)) (upR f)) wo (ix3 0 r e) = (wts x gp wi cw cb wo gq).down r.val e := fun e => by
    rw [downR_at]
    refine Finset.sum_congr rfl fun k _ => congrArg (· * _) ?_
    show curve (gateR f) (ix3 0 r k) * upR f (ix3 0 r k) = _
    rw [curve_at, gateR_at, upR_at, hf, hf]
    rfl
  generalize downR (mulf (curve (gateR f)) (upR f)) wo = y at hy
  show x (ix3 0 r e) + normed y gq (ix3 0 r e) = _
  rw [normed_at]
  simp only [hy]
  rfl

end Cert.Proof.FfnRef
-- ==== Proof.FAlgebraic.lean ====
/-
  Over the reals the feed-forward call computes the reference, whatever its arguments.
-/
module

public import proofs.«01_k».proof.Proof.FFrames
public import proofs.«01_k».proof.Proof.FOut
public import proofs.«01_k».proof.Proof.FRef

@[expose] public section

set_option maxRecDepth 16384

noncomputable section

namespace Cert.Proof

open Idealize.ShloMosaic Idealize.ShloMosaic.TcCoe Idealize.ShloMosaic.Pointwise Idealize.SL.Sem

attribute [local instance] Cert.Kernel2Ideal.Gen.facts Cert.Reference2Ideal.Gen.facts

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)
  (c : Dev Cert.Kernel2Ideal.nD)

/-- The two programs' arrays are one. -/
theorem ffn_values_eq (x : FVec Ideal Cert.Kernel2Ideal.S1x16384x2048 .f32) (gp : FVec Ideal Cert.Kernel2Ideal.S1x2048 .f32)
    (wi : FVec Ideal Cert.Kernel2Ideal.S1x2048x11264 .f32) (cw : FVec Ideal Cert.Kernel2Ideal.S1x3x11264 .f32) (cb : FVec Ideal Cert.Kernel2Ideal.S1x11264 .f32)
    (wo : FVec Ideal Cert.Kernel2Ideal.S1x5632x2048 .f32) (gq : FVec Ideal Cert.Kernel2Ideal.S1x2048 .f32)
    (e0 : m ((c.tc : Thread Cert.Kernel2Ideal.nD Cert.Kernel2Ideal.τ).loc Cert.Kernel2Ideal.main_arg0) = x)
    (e1 : m ((c.tc : Thread Cert.Kernel2Ideal.nD Cert.Kernel2Ideal.τ).loc Cert.Kernel2Ideal.main_arg1) = gp)
    (e2 : m ((c.tc : Thread Cert.Kernel2Ideal.nD Cert.Kernel2Ideal.τ).loc Cert.Kernel2Ideal.main_arg2) = wi)
    (e3 : m ((c.tc : Thread Cert.Kernel2Ideal.nD Cert.Kernel2Ideal.τ).loc Cert.Kernel2Ideal.main_arg3) = cw)
    (e4 : m ((c.tc : Thread Cert.Kernel2Ideal.nD Cert.Kernel2Ideal.τ).loc Cert.Kernel2Ideal.main_arg4) = cb)
    (e5 : m ((c.tc : Thread Cert.Kernel2Ideal.nD Cert.Kernel2Ideal.τ).loc Cert.Kernel2Ideal.main_arg5) = wo)
    (e6 : m ((c.tc : Thread Cert.Kernel2Ideal.nD Cert.Kernel2Ideal.τ).loc Cert.Kernel2Ideal.main_arg6) = gq)
    (e0' : m' ((c.tc : Thread Cert.Reference2Ideal.nD Cert.Reference2Ideal.τ).loc Cert.Reference2Ideal.main_arg0) = x)
    (e1' : m' ((c.tc : Thread Cert.Reference2Ideal.nD Cert.Reference2Ideal.τ).loc Cert.Reference2Ideal.main_arg1) = gp)
    (e2' : m' ((c.tc : Thread Cert.Reference2Ideal.nD Cert.Reference2Ideal.τ).loc Cert.Reference2Ideal.main_arg2) = wi)
    (e3' : m' ((c.tc : Thread Cert.Reference2Ideal.nD Cert.Reference2Ideal.τ).loc Cert.Reference2Ideal.main_arg3) = cw)
    (e4' : m' ((c.tc : Thread Cert.Reference2Ideal.nD Cert.Reference2Ideal.τ).loc Cert.Reference2Ideal.main_arg4) = cb)
    (e5' : m' ((c.tc : Thread Cert.Reference2Ideal.nD Cert.Reference2Ideal.τ).loc Cert.Reference2Ideal.main_arg5) = wo)
    (e6' : m' ((c.tc : Thread Cert.Reference2Ideal.nD Cert.Reference2Ideal.τ).loc Cert.Reference2Ideal.main_arg6) = gq) :
    Cert.Reference2Ideal.Value.res_main_v74 m' c = (Ffn.dats m 0 c).arrAt 18 (Cert.Kernel2Ideal.cfgs 0).N := by
  rw [Ffn.arr_eq m c (FfnRef.wts x gp wi cw cb wo gq) (fun r d => congrFun e0 _) (fun d => congrFun e1 _) (fun d n => congrFun e2 _)
    (fun k n => congrFun e3 _) (fun n => congrFun e4 _) (fun f e => congrFun e5 _) (fun e => congrFun e6 _)]
  funext i
  obtain ⟨r, e, rfl⟩ : ∃ (r : Fin 16384) (e : Fin 2048), i = ix2 r e := ⟨i 0, i 1, eq_ix2 i⟩
  exact FfnRef.ref_at m' c x gp wi cw cb wo gq e0' e1' e2' e3' e4' e5' e6' r e

theorem algebraic_ffn : Cert.algebraic_Kernel2Ideal_Reference2Ideal := by
  intro m g m' g' hpre hargs
  refine ⟨fun c => (Ffn.dats m 0 c).arrAt 18 (Cert.Kernel2Ideal.cfgs 0).N, ?_, ?_⟩
  · refine (θ_run Cert.Kernel2Ideal.defs _ _).mono (fun r h c => ⟨(h.1 c).1 18, ?_⟩) (Ffn.run_main (F := Ideal) m g)
    exact ⟨((h.1 c).2 Cert.Kernel2Ideal.main_arg0 (Pipeline.mem_restRefs_of Cert.Kernel2Ideal.main_arg0 (by decide) (by decide))).trans (Cert.Kernel2Ideal.Gen.V_main_arg0 m c),
      ((h.1 c).1 2).trans (((Ffn.dats m 0 c).arrAt_in 2 rfl _).trans ((Ffn.A_eq m c 2).trans (Cert.Kernel2Ideal.Gen.V_main_arg1 m c))),
      ((h.1 c).2 Cert.Kernel2Ideal.main_arg2 (Pipeline.mem_restRefs_of Cert.Kernel2Ideal.main_arg2 (by decide) (by decide))).trans (Cert.Kernel2Ideal.Gen.V_main_arg2 m c),
      ((h.1 c).2 Cert.Kernel2Ideal.main_arg3 (Pipeline.mem_restRefs_of Cert.Kernel2Ideal.main_arg3 (by decide) (by decide))).trans (Cert.Kernel2Ideal.Gen.V_main_arg3 m c),
      ((h.1 c).1 15).trans (((Ffn.dats m 0 c).arrAt_in 15 rfl _).trans ((Ffn.A_eq m c 15).trans (Cert.Kernel2Ideal.Gen.V_main_arg4 m c))),
      ((h.1 c).2 Cert.Kernel2Ideal.main_arg5 (Pipeline.mem_restRefs_of Cert.Kernel2Ideal.main_arg5 (by decide) (by decide))).trans (Cert.Kernel2Ideal.Gen.V_main_arg5 m c),
      ((h.1 c).1 17).trans (((Ffn.dats m 0 c).arrAt_in 17 rfl _).trans ((Ffn.A_eq m c 17).trans (Cert.Kernel2Ideal.Gen.V_main_arg6 m c)))⟩
  · refine (θ_run Cert.Reference2Ideal.defs _ _).mono (fun r h c => ⟨(h c).1.trans ?_, (h c).2⟩) (Cert.Reference2Ideal.Value.run (F := Ideal) m' g')
    exact ffn_values_eq m m' c _ _ _ _ _ _ _ rfl rfl rfl rfl rfl rfl rfl (hargs c).1 (hargs c).2.1 (hargs c).2.2.1 (hargs c).2.2.2.1 (hargs c).2.2.2.2.1
      (hargs c).2.2.2.2.2.1 (hargs c).2.2.2.2.2.2

end Cert.Proof
-- ==== Proof.PBody.lean ====
/-
  The body of the input projection on the contents of its buffers. At a row block's first point it fills the normed rows; at the first four
  points it leaves a tile of the gates, at the fifth the pooling branch and at the sixth the latents.
-/
module

public import proofs.«01_k».proof.Proof.Gen.Kernel3Ideal.Skeleton
public import proofs.«01_k».proof.Proof.Gen.Kernel3Ideal.Loops
public import Idealize.ShloMosaic.Lib.VecWindow
public import Idealize.ShloMosaic.Lib.Tactic

@[expose] public section

noncomputable section

namespace Cert.Proof.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- The kernel's programs. -/
abbrev Pr (F : FTy → Type) (α : Type) : Type 1 := Prog (TpuEff nD τ sig (Elt F) Λ₀ .tc) α

/-- The weakest precondition of the body's programs on core `c`. -/
abbrev WP (c : Dev nD) {α : Type} (p : Pr F α) (Q : α → sProp 𝕄) : sProp 𝕄 :=
  wp frame (wpE defs₀ 𝒱₀ (c : Thread nD τ) none) Set.univ p Q

/-- Core `c` holds the buffer at the contents `X`. -/
abbrev own (c : Dev nD) {S : Shape} {e : EltTy} (a : Memref sig .tc .vmem S e) (X : S.Idx → Elt F e) : sProp 𝕄 :=
  owns (c : Thread nD τ) a fullShare X

theorem put_all {α : Type} {S : Shape} (X : S.Idx → α) {off : Fin S.rank → ℕ} (h : ∀ a, off a = 0) (w : S.Idx → α) :
    VecWindow.put X off S.size w = w := by
  funext y
  unfold VecWindow.put
  rw [dif_pos (fun a => by rw [h a]; exact ⟨Nat.zero_le _, by have := (y a).isLt; omega⟩)]
  exact congrArg w (funext fun a => Fin.ext (by show (y a).val - off a = (y a).val; rw [h a]; omega))

theorem window_all {α : Type} {S : Shape} (X : S.Idx → α) {off : Fin S.rank → ℕ} (inb) :
    VecWindow.window X off S.size inb = X := by
  funext y
  exact congrArg X (funext fun a => Fin.ext (by
    show off a + 1 * (y a).val = (y a).val
    have := inb a; omega))

section Steps

variable (c : Dev nD) {α : Type} {S : Shape} {e : EltTy} {a : Memref sig .tc .vmem S e}

/-- What a buffer holds is what its memref reads of some contents. -/
theorem own_elim {X : S.Idx → Elt F e} {R : sProp 𝕄}
    (h : ∀ f : a.view.ty.Contents (Elt F), a.view.read (Elt F) f = X → (a.view.loc (c : Thread nD τ) ↦[a.view.set]{fullShare} f : sProp 𝕄) ⊢ R) :
    own c a X ⊢ R := by
  iintro H
  ihave H' := (show (own c a X) ⊢ iprop(∃ f : a.view.ty.Contents (Elt F), ⌜a.view.read (Elt F) f = X⌝ ∗ (a.view.loc (c : Thread nD τ) ↦[a.view.set]{fullShare} f)) from .rfl) $$ H
  icases H' with ⟨%f, %hf, H⟩
  iapply (h f hf) $$ H

theorem wand_left {A B R Y : sProp 𝕄} (h : A ⊢ B) : iprop((A -∗ R) -∗ Y) ⊢ iprop((B -∗ R) -∗ Y) := by
  iintro H K
  iapply H
  iintro HA
  iapply K
  iapply h $$ HA

/-- A load reads a window of the contents. -/
theorem wp_ld {Q : α → sProp 𝕄} {off size : Fin S.rank → ℕ} {inb : ∀ x, off x + size x ≤ S.size x}
    {hl : a.view.LoadsAt (Rect.unit (s := S) off size inb).toLoadRect}
    {k : ((Rect.unit (s := S) off size inb).toLoadRect.shape.Idx → Elt F e) → Pr F α} (X : S.Idx → Elt F e) :
    (own c a X) ⊢ iprop((own c a X -∗ WP c (k (VecWindow.window X off size inb)) Q)
      -∗ WP c (.op (.load a (Rect.unit (s := S) off size inb).toLoadRect hl) k) Q) := by
  refine own_elim c fun f hf => ?_
  subst hf
  exact (wp_load (defs := defs₀) 𝒱₀ (c : Thread nD τ) none Set.univ (m := a) (hl := hl) (k := k) (f := f) (q := fullShare) (View.setOn_subset_set _ _)).trans
    (wand_left (owns_intro (c : Thread nD τ) a fullShare f))

/-- A store puts its payload over a window of the contents. -/
theorem wp_st {Q : α → sProp 𝕄} {off size : Fin S.rank → ℕ} {inb : ∀ x, off x + size x ≤ S.size x}
    {w : (Rect.unit (s := S) off size inb).shape.Idx → Elt F e}
    {hx : (a.access (Rect.unit (s := S) off size inb)).Stores Finset.univ} {hm : Finset.univ = Finset.univ ∨ ∀ x, (Rect.unit (s := S) off size inb).stride x = 1}
    {k : PUnit → Pr F α} (X : S.Idx → Elt F e) :
    (own c a X) ⊢ iprop((own c a (VecWindow.put X off size w) -∗ WP c (k ⟨⟩) Q)
      -∗ WP c (.op (.store a (Rect.unit (s := S) off size inb) w Finset.univ hx hm) k) Q) := by
  refine own_elim c fun f hf => ?_
  subst hf
  have e : a.view.read (Elt F) ((a.access (Rect.unit (s := S) off size inb)).write (Elt F) f w Finset.univ)
      = VecWindow.put (a.view.read (Elt F) f) off size w :=
    View.read_writes_cons_put (Val := Elt F) a.view f inb w [] rfl
  rw [← e]
  exact (wp_store (defs := defs₀) 𝒱₀ (c : Thread nD τ) none Set.univ (m := a) (hx := hx) (hm := hm) (k := k) (f := f) (S := a.view.set) (Memref.setOn_access_subset _ _ _)).trans
    (wand_left (owns_intro (c : Thread nD τ) a fullShare _))

/-- A load of a whole buffer reads its contents. -/
theorem ldF {Q : α → sProp 𝕄} {off : Fin S.rank → ℕ} {inb : ∀ x, off x + S.size x ≤ S.size x}
    {hl : a.view.LoadsAt (Rect.unit (s := S) off S.size inb).toLoadRect} {k : (S.Idx → Elt F e) → Pr F α} (X : S.Idx → Elt F e) :
    (own c a X) ⊢ iprop((own c a X -∗ WP c (k X) Q) -∗ WP c (.op (.load a (Rect.unit (s := S) off S.size inb).toLoadRect hl) k) Q) := by
  have h := wp_ld (Q := Q) (hl := hl) (k := k) c X
  rw [window_all X] at h
  exact h

/-- A store of a whole buffer leaves its payload. -/
theorem stF {Q : α → sProp 𝕄} {off : Fin S.rank → ℕ} {inb : ∀ x, off x + S.size x ≤ S.size x}
    {w : (Rect.unit (s := S) off S.size inb).shape.Idx → Elt F e} {hx : (a.access (Rect.unit (s := S) off S.size inb)).Stores Finset.univ}
    {hm : Finset.univ = Finset.univ ∨ ∀ x, (Rect.unit (s := S) off S.size inb).stride x = 1}
    {k : PUnit → Pr F α} (X w' : S.Idx → Elt F e) (hw : w = w') :
    (own c a X) ⊢ iprop((own c a w' -∗ WP c (k ⟨⟩) Q)
      -∗ WP c (.op (.store a (Rect.unit (s := S) off S.size inb) w Finset.univ hx hm) k) Q) := by
  have e : VecWindow.put X off S.size w = w' := (put_all X (fun x => by have := inb x; omega) w).trans hw
  exact (wp_st (Q := Q) (hx := hx) (hm := hm) (k := k) (w := w) c X).trans (wand_left (by rw [e]))

theorem wp_ret_of {x : α} {Q : α → sProp 𝕄} : Q x ⊢ WP c (.ret x : Pr F α) Q := by
  unfold WP
  rw [wp_ret]
  iintro H
  imodintro
  iexact H

end Steps

/-! ## What the buffers hold -/

/-- A point's operands: the block of rows, the norm's weight, and the weights of the gates' tile, of the pooling branch and of the latents. -/
structure Ins (F : FTy → Type) [FloatOps F] where
  x : S1024x2048.Idx → Elt F .f32
  g : S1x2048.Idx → Elt F .f32
  wg : S1024x2048.Idx → Elt F .bf16
  wp : S1024x2048.Idx → Elt F .bf16
  wl : S1280x2048.Idx → Elt F .bf16

theorem inbX (r : Fin 8) : ∀ a : Fin 2, (![128 * r.val, 0] : Fin 2 → ℕ) a + S128x2048.size a ≤ S1024x2048.size a := fun a => match a with
  | ⟨0, _⟩ => by show 128 * r.val + 128 ≤ 1024; omega
  | ⟨1, _⟩ => by show 0 + 2048 ≤ 2048; omega

/-- Rows `128 r …` of a block. -/
abbrev winX (x : S1024x2048.Idx → Elt F .f32) (r : Fin 8) : Vec F S128x2048 .f32 := VecWindow.window x ![128 * r.val, 0] S128x2048.size (inbX r)

/-- The normed rows. -/
def rows (x : S1024x2048.Idx → Elt F .f32) (g : S1x2048.Idx → Elt F .f32) : S1024x2048.Idx → Elt F .bf16 := fun y =>
  k0_pay1 g (winX x ⟨(y 0).val / 128, by have : (y 0).val < 1024 := (y 0).isLt; omega⟩)
    (fun a => match a with | ⟨0, _⟩ => ⟨(y 0).val % 128, Nat.mod_lt _ (by decide)⟩ | ⟨1, _⟩ => y 1)

/-- Row block `i`, point `j` of the grid. -/
def pt (i : Fin 16) (j : Fin 6) : grid0.Coords := fun a => match a with
  | ⟨0, _⟩ => i
  | ⟨1, _⟩ => j

theorem exists_pt (i : grid0.Coords) : ∃ h b, i = pt h b :=
  ⟨i 0, i 1, funext fun a => match a with | ⟨0, _⟩ => rfl | ⟨1, _⟩ => rfl⟩

theorem conds : ∀ j : Fin 6, (k0_cond1 (pt 0 j) = 1#1 ↔ j.val = 0) ∧ (k0_cond2 (pt 0 j) = 1#1 ↔ j.val < 4) ∧ (k0_cond3 (pt 0 j) = 1#1 ↔ j.val = 4) ∧ (k0_cond4 (pt 0 j) = 1#1 ↔ j.val = 5) := by decide
theorem cond1 (i : Fin 16) (j : Fin 6) : k0_cond1 (pt i j) = 1#1 ↔ j.val = 0 := (conds j).1
theorem cond2 (i : Fin 16) (j : Fin 6) : k0_cond2 (pt i j) = 1#1 ↔ j.val < 4 := (conds j).2.1
theorem cond3 (i : Fin 16) (j : Fin 6) : k0_cond3 (pt i j) = 1#1 ↔ j.val = 4 := (conds j).2.2.1
theorem cond4 (i : Fin 16) (j : Fin 6) : k0_cond4 (pt i j) = 1#1 ↔ j.val = 5 := (conds j).2.2.2

theorem off1 : ∀ k : Fin k0_t1_loop.trips, k0_off1 k = ![128 * k.val, 0] := by decide
theorem off2 : ∀ k : Fin k0_t1_loop.trips, k0_off2 k = ![128 * k.val, 0] := by decide

section
variable (c : Dev nD)
variable (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1280x2048 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1280 .bf16) (harg9 : arg9.IsWhole) (arg10 : Memref sig .tc .vmem S1024x2048 .bf16) (harg10 : arg10.IsWhole)

/-- The operands held. -/
def InsR (X : Ins F) : sProp 𝕄 :=
  iprop(own c arg2 X.x ∗ own c arg3 X.g ∗ own c arg4 X.wg ∗ own c arg5 X.wp ∗ own c arg6 X.wl)

/-- The loop's invariant: the rows before trip `k`'s are the normed rows. -/
def Inv (X : Ins F) (k : ℕ) (_ : Unit) : sProp 𝕄 :=
  iprop(own c arg2 X.x ∗ ∃ f, own c arg10 f ∗ ⌜∀ y : S1024x2048.Idx, (y 0).val < 128 * k → f y = rows X.x X.g y⌝)

theorem inv_step (i : grid0.Coords) (h1 : k0_cond1 i = 1#1) (X : Ins F) (k : Fin k0_t1_loop.trips) (acc) :
    Inv c arg2 arg10 X k.val acc
      ⊢ WP c (k0_t1_body i arg2 harg2 arg3 harg3 arg4 harg4 arg5 harg5 arg6 harg6 arg7 harg7 arg8 harg8 arg9 harg9 arg10 harg10 h1 X.g k acc) (Inv c arg2 arg10 X (k.val + 1)) := by
  unfold Inv k0_t1_body
  simp only [Prog.bind_assoc, Prog.bind_lift, Prog.bind_op, Prog.pure_eq_ret, Prog.bind_ret]
  iintro ⟨H2, ⟨%f, H10, %hf⟩⟩
  iapply (wp_ld c _) $$ H2; iintro H2
  iapply (wp_ld c _) $$ H10; iintro H10
  iapply (wp_st c _) $$ H10; iintro H10
  iapply (wp_ret_of c)
  isplitl [H2]; · iexact H2
  iexists _
  isplitl [H10]; · iexact H10
  ipureintro
  intro y hy
  have hk : k.val < 8 := k.isLt
  have e1 := off1 k
  have e2 := off2 k
  have l1 : (y 1).val < 2048 := (y 1).isLt
  revert e1 e2
  generalize k0_off1_inb i k h1 = q1
  revert q1
  generalize k0_off1 k = o1
  generalize k0_off2 k = o2
  intro q1 e1 e2
  subst e1 e2
  unfold VecWindow.put
  split
  · rename_i h
    have h0 : 128 * k.val ≤ (y 0).val := (h 0).1
    have h0' : (y 0).val < 128 * k.val + 128 := (h 0).2
    unfold rows
    have ek : (⟨(y 0).val / 128, by have : (y 0).val < 1024 := (y 0).isLt; omega⟩ : Fin 8) = ⟨k.val, hk⟩ := Fin.ext (by show (y 0).val / 128 = k.val; omega)
    rw [ek]
    refine congrArg (k0_pay1 X.g _) (funext fun a => Fin.ext ?_)
    match a with
    | ⟨0, _⟩ => show (y 0).val - 128 * k.val = (y 0).val % 128; omega
    | ⟨1, _⟩ => show (y 1).val - 0 = (y 1).val; omega
  · rename_i h
    refine hf y ?_
    by_contra hc
    refine h fun a => ?_
    match a with
    | ⟨0, _⟩ => show 128 * k.val ≤ (y 0).val ∧ (y 0).val < 128 * k.val + 128; omega
    | ⟨1, _⟩ => show 0 ≤ (y 1).val ∧ (y 1).val < 0 + 2048; omega

set_option maxHeartbeats 2000000 in
theorem wp_first (i : grid0.Coords) (h1 : k0_cond1 i = 1#1) (h2 : k0_cond2 i = 1#1) (h3 : ¬ k0_cond3 i = 1#1) (h4 : ¬ k0_cond4 i = 1#1) (X : Ins F) (h : S1024x2048.Idx → Elt F .bf16)
    (O5 : S1024x1024.Idx → Elt F .bf16) (O6 : S1024x1024.Idx → Elt F .bf16) (O7 : S1024x1280.Idx → Elt F .bf16) {Q : PUnit → sProp 𝕄} :
    iprop(InsR c arg2 arg3 arg4 arg5 arg6 X ∗ own c arg7 O5 ∗ own c arg8 O6 ∗ own c arg9 O7 ∗ own c arg10 h)
      ⊢ iprop((iprop(InsR c arg2 arg3 arg4 arg5 arg6 X ∗ own c arg7 (k0_pay2 (rows X.x X.g) X.wg) ∗ own c arg8 O6 ∗ own c arg9 O7 ∗ own c arg10 (rows X.x X.g)) -∗ Q ⟨⟩)
        -∗ WP c (cc0_in_proj i arg2 harg2 arg3 harg3 arg4 harg4 arg5 harg5 arg6 harg6 arg7 harg7 arg8 harg8 arg9 harg9 arg10 harg10) Q) := by
  rw [cc0_in_proj_eq_skeleton]
  unfold InsR cc0_in_proj_skel
  simp only [dif_pos h1, dif_pos h2, dif_neg h3, dif_neg h4, Prog.bind_assoc, Prog.bind_lift, Prog.bind_op, Prog.pure_eq_ret, Prog.bind_ret]
  iintro ⟨⟨H2, H3, H4, H5, H6⟩, H7, H8, H9, H10⟩ HQ
  iapply (ldF c _) $$ H3; iintro H3
  iapply (Scf.wp_for_bind frame (wpE (defs₀ (F := F)) 𝒱₀ (c : Thread nD τ) none) Set.univ _ _ _ _ _ _
    (Inv c arg2 arg10 X) (inv_step c arg2 harg2 arg3 harg3 arg4 harg4 arg5 harg5 arg6 harg6 arg7 harg7 arg8 harg8 arg9 harg9 arg10 harg10 i h1 X)) $$ [H2 H10]
  · unfold Inv
    isplitl [H2]; · iexact H2
    iexists _
    isplitl [H10]; · iexact H10
    ipureintro
    intro y hy
    exact absurd hy (Nat.not_lt_zero _)
  iintro %acc HI
  unfold Inv
  icases HI with ⟨H2, %f, H10, %hf⟩
  have e : f = rows X.x X.g := funext fun y => hf y (by
    have : (y 0).val < 1024 := (y 0).isLt
    show (y 0).val < 128 * 8
    omega)
  subst e
  iapply (ldF c _) $$ H10; iintro H10
  iapply (ldF c _) $$ H4; iintro H4
  iapply (ldF c _) $$ H7; iintro H7
  iapply (stF c _ (k0_pay2 (rows X.x X.g) X.wg) rfl) $$ H7; iintro H7
  iapply (wp_ret_of c)
  iapply HQ
  isplitl [H2 H3 H4 H5 H6]; · iframe
  isplitl [H7]; · iexact H7
  isplitl [H8]; · iexact H8
  isplitl [H9]; · iexact H9
  iexact H10

set_option maxHeartbeats 2000000 in
theorem wp_gate (i : grid0.Coords) (h1 : ¬ k0_cond1 i = 1#1) (h2 : k0_cond2 i = 1#1) (h3 : ¬ k0_cond3 i = 1#1) (h4 : ¬ k0_cond4 i = 1#1) (X : Ins F) (h : S1024x2048.Idx → Elt F .bf16)
    (O5 : S1024x1024.Idx → Elt F .bf16) (O6 : S1024x1024.Idx → Elt F .bf16) (O7 : S1024x1280.Idx → Elt F .bf16) {Q : PUnit → sProp 𝕄} :
    iprop(InsR c arg2 arg3 arg4 arg5 arg6 X ∗ own c arg7 O5 ∗ own c arg8 O6 ∗ own c arg9 O7 ∗ own c arg10 h)
      ⊢ iprop((iprop(InsR c arg2 arg3 arg4 arg5 arg6 X ∗ own c arg7 (k0_pay2 h X.wg) ∗ own c arg8 O6 ∗ own c arg9 O7 ∗ own c arg10 h) -∗ Q ⟨⟩)
        -∗ WP c (cc0_in_proj i arg2 harg2 arg3 harg3 arg4 harg4 arg5 harg5 arg6 harg6 arg7 harg7 arg8 harg8 arg9 harg9 arg10 harg10) Q) := by
  rw [cc0_in_proj_eq_skeleton]
  unfold InsR cc0_in_proj_skel
  simp only [dif_neg h1, dif_pos h2, dif_neg h3, dif_neg h4, Prog.bind_assoc, Prog.bind_lift, Prog.bind_op, Prog.pure_eq_ret, Prog.bind_ret]
  iintro ⟨⟨H2, H3, H4, H5, H6⟩, H7, H8, H9, H10⟩ HQ
  iapply (ldF c _) $$ H10; iintro H10
  iapply (ldF c _) $$ H4; iintro H4
  iapply (ldF c _) $$ H7; iintro H7
  iapply (stF c _ (k0_pay2 h X.wg) rfl) $$ H7; iintro H7
  iapply (wp_ret_of c)
  iapply HQ
  isplitl [H2 H3 H4 H5 H6]; · iframe
  isplitl [H7]; · iexact H7
  isplitl [H8]; · iexact H8
  isplitl [H9]; · iexact H9
  iexact H10

set_option maxHeartbeats 2000000 in
theorem wp_pool (i : grid0.Coords) (h1 : ¬ k0_cond1 i = 1#1) (h2 : ¬ k0_cond2 i = 1#1) (h3 : k0_cond3 i = 1#1) (h4 : ¬ k0_cond4 i = 1#1) (X : Ins F) (h : S1024x2048.Idx → Elt F .bf16)
    (O5 : S1024x1024.Idx → Elt F .bf16) (O6 : S1024x1024.Idx → Elt F .bf16) (O7 : S1024x1280.Idx → Elt F .bf16) {Q : PUnit → sProp 𝕄} :
    iprop(InsR c arg2 arg3 arg4 arg5 arg6 X ∗ own c arg7 O5 ∗ own c arg8 O6 ∗ own c arg9 O7 ∗ own c arg10 h)
      ⊢ iprop((iprop(InsR c arg2 arg3 arg4 arg5 arg6 X ∗ own c arg7 O5 ∗ own c arg8 (k0_pay3 h X.wp) ∗ own c arg9 O7 ∗ own c arg10 h) -∗ Q ⟨⟩)
        -∗ WP c (cc0_in_proj i arg2 harg2 arg3 harg3 arg4 harg4 arg5 harg5 arg6 harg6 arg7 harg7 arg8 harg8 arg9 harg9 arg10 harg10) Q) := by
  rw [cc0_in_proj_eq_skeleton]
  unfold InsR cc0_in_proj_skel
  simp only [dif_neg h1, dif_neg h2, dif_pos h3, dif_neg h4, Prog.bind_assoc, Prog.bind_lift, Prog.bind_op, Prog.pure_eq_ret, Prog.bind_ret]
  iintro ⟨⟨H2, H3, H4, H5, H6⟩, H7, H8, H9, H10⟩ HQ
  iapply (ldF c _) $$ H10; iintro H10
  iapply (ldF c _) $$ H5; iintro H5
  iapply (ldF c _) $$ H8; iintro H8
  iapply (stF c _ (k0_pay3 h X.wp) rfl) $$ H8; iintro H8
  iapply (wp_ret_of c)
  iapply HQ
  isplitl [H2 H3 H4 H5 H6]; · iframe
  isplitl [H7]; · iexact H7
  isplitl [H8]; · iexact H8
  isplitl [H9]; · iexact H9
  iexact H10

set_option maxHeartbeats 2000000 in
theorem wp_lat (i : grid0.Coords) (h1 : ¬ k0_cond1 i = 1#1) (h2 : ¬ k0_cond2 i = 1#1) (h3 : ¬ k0_cond3 i = 1#1) (h4 : k0_cond4 i = 1#1) (X : Ins F) (h : S1024x2048.Idx → Elt F .bf16)
    (O5 : S1024x1024.Idx → Elt F .bf16) (O6 : S1024x1024.Idx → Elt F .bf16) (O7 : S1024x1280.Idx → Elt F .bf16) {Q : PUnit → sProp 𝕄} :
    iprop(InsR c arg2 arg3 arg4 arg5 arg6 X ∗ own c arg7 O5 ∗ own c arg8 O6 ∗ own c arg9 O7 ∗ own c arg10 h)
      ⊢ iprop((iprop(InsR c arg2 arg3 arg4 arg5 arg6 X ∗ own c arg7 O5 ∗ own c arg8 O6 ∗ own c arg9 (k0_pay4 h X.wl) ∗ own c arg10 h) -∗ Q ⟨⟩)
        -∗ WP c (cc0_in_proj i arg2 harg2 arg3 harg3 arg4 harg4 arg5 harg5 arg6 harg6 arg7 harg7 arg8 harg8 arg9 harg9 arg10 harg10) Q) := by
  rw [cc0_in_proj_eq_skeleton]
  unfold InsR cc0_in_proj_skel
  simp only [dif_neg h1, dif_neg h2, dif_neg h3, dif_pos h4, Prog.bind_assoc, Prog.bind_lift, Prog.bind_op, Prog.pure_eq_ret, Prog.bind_ret]
  iintro ⟨⟨H2, H3, H4, H5, H6⟩, H7, H8, H9, H10⟩ HQ
  iapply (ldF c _) $$ H10; iintro H10
  iapply (ldF c _) $$ H6; iintro H6
  iapply (ldF c _) $$ H9; iintro H9
  iapply (stF c _ (k0_pay4 h X.wl) rfl) $$ H9; iintro H9
  iapply (wp_ret_of c)
  iapply HQ
  isplitl [H2 H3 H4 H5 H6]; · iframe
  isplitl [H7]; · iexact H7
  isplitl [H8]; · iexact H8
  isplitl [H9]; · iexact H9
  iexact H10

/-- The normed rows after point `j`. -/
def rowsAt (j : ℕ) (h : S1024x2048.Idx → Elt F .bf16) (X : Ins F) : S1024x2048.Idx → Elt F .bf16 := if j = 0 then rows X.x X.g else h

theorem wp_body (i : Fin 16) (j : Fin 6) (X : Ins F) (h : S1024x2048.Idx → Elt F .bf16)
    (O5 : S1024x1024.Idx → Elt F .bf16) (O6 : S1024x1024.Idx → Elt F .bf16) (O7 : S1024x1280.Idx → Elt F .bf16) {Q : PUnit → sProp 𝕄} :
    iprop(InsR c arg2 arg3 arg4 arg5 arg6 X ∗ own c arg7 O5 ∗ own c arg8 O6 ∗ own c arg9 O7 ∗ own c arg10 h)
      ⊢ iprop((iprop(InsR c arg2 arg3 arg4 arg5 arg6 X ∗ own c arg7 (if j.val < 4 then k0_pay2 (rowsAt j.val h X) X.wg else O5)
          ∗ own c arg8 (if j.val = 4 then k0_pay3 (rowsAt j.val h X) X.wp else O6) ∗ own c arg9 (if j.val = 5 then k0_pay4 (rowsAt j.val h X) X.wl else O7)
          ∗ own c arg10 (rowsAt j.val h X)) -∗ Q ⟨⟩)
        -∗ WP c (cc0_in_proj (pt i j) arg2 harg2 arg3 harg3 arg4 harg4 arg5 harg5 arg6 harg6 arg7 harg7 arg8 harg8 arg9 harg9 arg10 harg10) Q) := by
  unfold rowsAt
  by_cases h0 : j.val = 0
  · rw [if_pos h0, if_pos (by omega), if_neg (by omega), if_neg (by omega)]
    exact wp_first c arg2 harg2 arg3 harg3 arg4 harg4 arg5 harg5 arg6 harg6 arg7 harg7 arg8 harg8 arg9 harg9 arg10 harg10 (pt i j) ((cond1 i j).2 h0) ((cond2 i j).2 (by omega)) (fun e => absurd ((cond3 i j).1 e) (by omega)) (fun e => absurd ((cond4 i j).1 e) (by omega)) X h O5 O6 O7
  · rw [if_neg h0]
    by_cases h4 : j.val < 4
    · rw [if_pos h4, if_neg (by omega), if_neg (by omega)]
      exact wp_gate c arg2 harg2 arg3 harg3 arg4 harg4 arg5 harg5 arg6 harg6 arg7 harg7 arg8 harg8 arg9 harg9 arg10 harg10 (pt i j) (fun e => h0 ((cond1 i j).1 e)) ((cond2 i j).2 h4) (fun e => absurd ((cond3 i j).1 e) (by omega)) (fun e => absurd ((cond4 i j).1 e) (by omega)) X h O5 O6 O7
    · by_cases h5 : j.val = 4
      · rw [if_neg h4, if_pos h5, if_neg (by omega)]
        exact wp_pool c arg2 harg2 arg3 harg3 arg4 harg4 arg5 harg5 arg6 harg6 arg7 harg7 arg8 harg8 arg9 harg9 arg10 harg10 (pt i j) (fun e => h0 ((cond1 i j).1 e)) (fun e => h4 ((cond2 i j).1 e)) ((cond3 i j).2 h5) (fun e => absurd ((cond4 i j).1 e) (by omega)) X h O5 O6 O7
      · have h6 : j.val = 5 := by omega
        rw [if_neg h4, if_neg h5, if_pos h6]
        exact wp_lat c arg2 harg2 arg3 harg3 arg4 harg4 arg5 harg5 arg6 harg6 arg7 harg7 arg8 harg8 arg9 harg9 arg10 harg10 (pt i j) (fun e => h0 ((cond1 i j).1 e)) (fun e => h4 ((cond2 i j).1 e)) (fun e => h5 ((cond3 i j).1 e)) ((cond4 i j).2 h6) X h O5 O6 O7

end

end Cert.Proof.Proj
-- ==== Proof.PRun.lean ====
/-
  The launch of the input projection: every fair execution ends with the three output arrays that the row blocks' products make, the operands
  as they were and every semaphore at zero.
-/
module

public import proofs.«01_k».proof.Proof.PBody
public import proofs.«01_k».proof.Proof.Gen.Kernel3Ideal.Frame

@[expose] public section

noncomputable section

namespace Cert.Proof.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coords_val : ∀ t : Fin cfg0.N, (grid0.coords t 0).val = t.val / 6 ∧ (grid0.coords t 1).val = t.val % 6 :=
  (by decide +kernel : ∀ t : Fin grid0.N, (grid0.coords t 0).val = t.val / 6 ∧ (grid0.coords t 1).val = t.val % 6)

/-- The row block and the point of it, of the `n`-th point of the grid. -/
def rowN (n : ℕ) : Fin 16 := ⟨n / 6 % 16, Nat.mod_lt _ (by decide)⟩
def colN (n : ℕ) : Fin 6 := ⟨n % 6, Nat.mod_lt _ (by decide)⟩
/-- The `n`-th point of the grid. -/
def ptN (n : ℕ) : Fin cfg0.N := ⟨n % 96, by rw [show cfg0.N = 96 from N_0]; exact Nat.mod_lt _ (by decide)⟩

theorem lt_N (t : Fin cfg0.N) : t.val < 96 := lt_of_lt_of_eq t.isLt N_0

theorem ptN_val (t : Fin cfg0.N) : ptN t.val = t := Fin.ext (Nat.mod_eq_of_lt (lt_N t))

theorem coords_eq (t : Fin cfg0.N) : grid0.coords t = pt (rowN t.val) (colN t.val) := funext fun a => match a with
  | ⟨0, _⟩ => Fin.ext ((coords_val t).1.trans (by have := lt_N t; show _ = t.val / 6 % 16; omega))
  | ⟨1, _⟩ => Fin.ext (coords_val t).2

/-- The gates' tile is written back where the next point has another, or another row block. -/
theorem flush5 : ∀ t : Fin cfg0.N, (cfg0.win 5).flush t = true ↔ t.val % 6 ≠ 3 ∧ t.val % 6 ≠ 4 :=
  (by decide +kernel : ∀ t : Fin grid0.N, win0_5.flush t = true ↔ t.val % 6 ≠ 3 ∧ t.val % 6 ≠ 4)

theorem idle5 (t : Fin cfg0.N) : idle0 5 (grid0.coords t) = true ↔ ¬ t.val % 6 < 4 := by
  rw [coords_eq t]
  show (!(k0_cond2 (pt (rowN t.val) (colN t.val)) == 1#1)) = true ↔ _
  have := cond2 (rowN t.val) (colN t.val)
  simpa [colN] using not_congr this
theorem idle6 (t : Fin cfg0.N) : idle0 6 (grid0.coords t) = true ↔ ¬ t.val % 6 = 4 := by
  rw [coords_eq t]
  show (!(k0_cond3 (pt (rowN t.val) (colN t.val)) == 1#1)) = true ↔ _
  have := cond3 (rowN t.val) (colN t.val)
  simpa [colN] using not_congr this
theorem idle7 (t : Fin cfg0.N) : idle0 7 (grid0.coords t) = true ↔ ¬ t.val % 6 = 5 := by
  rw [coords_eq t]
  show (!(k0_cond4 (pt (rowN t.val) (colN t.val)) == 1#1)) = true ↔ _
  have := cond4 (rowN t.val) (colN t.val)
  simpa [colN] using not_congr this

/-! ## The pipeline's proof data -/

/-- The operands' blocks at a point. -/
def insAt (c : Dev nD) (t : Fin cfg0.N) : Ins F := ⟨iblk m c 0 t, iblk m c 1 t, iblk m c 2 t, iblk m c 3 t, iblk m c 4 t⟩

/-- The normed rows of row block `r`. -/
def hRow (c : Dev nD) (r : ℕ) : S1024x2048.Idx → Elt F .bf16 := rows (iblk m c 0 (ptN (6 * r))) (iblk m c 1 (ptN (6 * r)))

/-- The three outputs' buffers after the `n`-th point: the last of the row block's tiles of the gates, its pooling branch, its latents. -/
def gateN (c : Dev nD) (n : ℕ) : S1024x1024.Idx → Elt F .bf16 := k0_pay2 (hRow m c (n / 6)) (iblk m c 2 (ptN (6 * (n / 6) + min (n % 6) 3)))
def poolN (c : Dev nD) (n : ℕ) : S1024x1024.Idx → Elt F .bf16 := k0_pay3 (hRow m c (n / 6)) (iblk m c 3 (ptN (6 * (n / 6) + 4)))
def latN (c : Dev nD) (n : ℕ) : S1024x1280.Idx → Elt F .bf16 := k0_pay4 (hRow m c (n / 6)) (iblk m c 4 (ptN n))

theorem rowsAt_eq (c : Dev nD) (n : ℕ) (h : S1024x2048.Idx → Elt F .bf16) (hh : n % 6 ≠ 0 → h = hRow m c (n / 6)) :
    rowsAt (n % 6) h (insAt m c (ptN n)) = hRow m c (n / 6) := by
  unfold rowsAt
  by_cases h0 : n % 6 = 0
  · rw [if_pos h0]
    unfold hRow
    rw [show 6 * (n / 6) = n by omega]
    rfl
  · rw [if_neg h0, hh h0]

/-- Before the `n`-th point the rows' buffer holds its row block's rows, but at a row block's first point. -/
def Bufs (c : Dev nD) (n : ℕ) : sProp 𝕄 :=
  iprop(∃ h : {h : S1024x2048.Idx → Elt F .bf16 // n % 6 ≠ 0 → h = hRow m c (n / 6)}, own c (Memref.whole cc0_scratch0) h.1)

/-- The rows' buffer as it is before a row block's first point. -/
theorem bufs_any (c : Dev nD) (n : ℕ) (hn : n % 6 = 0) :
    (Pipeline.ΦA spec0 c : sProp 𝕄) ⊢ iprop(Bufs m c n ∗ ∃ r, prngReg c r) := by
  unfold Pipeline.ΦA Bufs own
  rw [scopedRest0_eq]
  simp only [owns_whole]
  iintro ⟨⟨%f0, H0⟩, Hr⟩
  isplitr [Hr]
  · iexists ⟨f0, fun h => absurd hn h⟩
    iexact H0
  iexact Hr

theorem any_bufs (c : Dev nD) (n : ℕ) : iprop(Bufs m c n ∗ ∃ r, prngReg c r) ⊢ (Pipeline.ΦA spec0 c : sProp 𝕄) := by
  unfold Pipeline.ΦA Bufs own
  rw [scopedRest0_eq]
  simp only [owns_whole]
  iintro ⟨⟨%h, H0⟩, Hr⟩
  isplitr [Hr]
  · iexists h.1; iexact H0
  iexact Hr

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gateN m c t.val
    | ⟨6, _⟩ => poolN m c t.val
    | ⟨7, _⟩ => latN m c t.val
    | ⟨n + 8, h⟩ => absurd h (by show ¬ n + 8 < 8; omega)
  Φ t := iprop(Bufs m c t.val ∗ ∃ r, prngReg c r)
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = gateN m c t.val := by dsimp only [dats]
theorem after0_6 (c : Dev nD) (t : Fin cfg0.N) : (dats m 0 c).after 6 t = poolN m c t.val := by dsimp only [dats]
theorem after0_7 (c : Dev nD) (t : Fin cfg0.N) : (dats m 0 c).after 7 t = latN m c t.val := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What an output's buffer held after the point before, if it stored to it and didn't write it back. -/
theorem before_kept (c : Dev nD) (w : Fin cfg0.W) (hw : (cfg0.win w).isOut = true) (hclip : ∀ (i : cfg0.grid.Coords) a, (cfg0.win w).clip i a = none)
    (t t' : Fin cfg0.N) (ht : t.val = t'.val + 1) (hfl : (cfg0.win w).flush t' = false) (hlive : cfg0.idle w (cfg0.grid.coords t') = false) (d) :
    (dats m 0 c).before w t d = (dats m 0 c).after w t' := by
  have e : (⟨t.val - 1, Nat.lt_of_le_of_lt (Nat.sub_le _ _) t.isLt⟩ : Fin cfg0.N) = t' := Fin.ext (by show t.val - 1 = t'.val; omega)
  rw [(dats m 0 c).before_of_pos w t (by omega) ((cfg0.win w).fetch_out hw t), e, hfl, if_neg Bool.false_ne_true]
  unfold Dat.left; rw [hlive]
  show (dats m 0 c).kept w t' d = _
  unfold Dat.kept
  rw [Pipeline.fill_of_clip_none w _ (hclip _) d ((dats m 0 c).after w _), Window.fill_cut]

/-- What it held before the point before, if that point neither stored to it nor wrote it back. -/
theorem before_idle (c : Dev nD) (w : Fin cfg0.W) (hw : (cfg0.win w).isOut = true)
    (t t' : Fin cfg0.N) (ht : t.val = t'.val + 1) (hfl : (cfg0.win w).flush t' = false) (hidle : cfg0.idle w (cfg0.grid.coords t') = true) (d) :
    (dats m 0 c).before w t d = (dats m 0 c).before w t' d := by
  have e : (⟨t.val - 1, Nat.lt_of_le_of_lt (Nat.sub_le _ _) t.isLt⟩ : Fin cfg0.N) = t' := Fin.ext (by show t.val - 1 = t'.val; omega)
  rw [(dats m 0 c).before_of_pos w t (by omega) ((cfg0.win w).fetch_out hw t), e, hfl, if_neg Bool.false_ne_true]
  unfold Dat.left; rw [hidle]

/-- At a row block's last point the gates' buffer still holds its last tile. -/
theorem before0_5 (c : Dev nD) (t : Fin cfg0.N) (d) (h : t.val % 6 = 5) : (dats m 0 c).before 5 t d = gateN m c t.val := by
  have hN := t.isLt
  have v1 : (⟨t.val - 1, by omega⟩ : Fin cfg0.N).val % 6 = 4 := by show (t.val - 1) % 6 = 4; omega
  have v2 : (⟨t.val - 2, by omega⟩ : Fin cfg0.N).val % 6 = 3 := by show (t.val - 2) % 6 = 3; omega
  rw [before_idle m c 5 rfl t ⟨t.val - 1, by omega⟩ (by show t.val = t.val - 1 + 1; omega)
      (by rw [Bool.eq_false_iff]; intro e; exact ((flush5 _).1 e).2 v1) ((idle5 _).2 (by omega)),
    before_kept m c 5 rfl (fun _ _ => rfl) ⟨t.val - 1, by omega⟩ ⟨t.val - 2, by omega⟩ (by show t.val - 1 = t.val - 2 + 1; omega)
      (by rw [Bool.eq_false_iff]; intro e; exact ((flush5 _).1 e).1 v2) (by rw [Bool.eq_false_iff]; intro e; exact (idle5 _).1 e (by omega)), after0_5]
  show gateN m c (t.val - 2) = _
  unfold gateN
  rw [show (t.val - 2) / 6 = t.val / 6 by omega, show (t.val - 2) % 6 = 3 by omega, h]
  rfl

/-- At a row block's last point the pooling branch's buffer still holds its block. -/
theorem before0_6 (c : Dev nD) (t : Fin cfg0.N) (d) (h : t.val % 6 = 5) : (dats m 0 c).before 6 t d = poolN m c t.val := by
  have hN := t.isLt
  have v1 : (⟨t.val - 1, by omega⟩ : Fin cfg0.N).val % 6 = 4 := by show (t.val - 1) % 6 = 4; omega
  rw [before_kept m c 6 rfl (fun _ _ => rfl) t ⟨t.val - 1, by omega⟩ (by show t.val = t.val - 1 + 1; omega)
      (by rw [Bool.eq_false_iff]; intro e; have := (flush0_6 _).1 e; omega) (by rw [Bool.eq_false_iff]; intro e; exact (idle6 _).1 e v1), after0_6]
  show poolN m c (t.val - 1) = _
  unfold poolN
  rw [show (t.val - 1) / 6 = t.val / 6 by omega]

/-! ## The body at a point -/

theorem wp_point (c : Dev nD) (t : Fin cfg0.N) {Q : PUnit → sProp 𝕄}
    (arg2 : Memref sig .tc .vmem S1024x2048 .f32) (harg2 : arg2.IsWhole)
    (arg3 : Memref sig .tc .vmem S1x2048 .f32) (harg3 : arg3.IsWhole)
    (arg4 : Memref sig .tc .vmem S1024x2048 .bf16) (harg4 : arg4.IsWhole)
    (arg5 : Memref sig .tc .vmem S1024x2048 .bf16) (harg5 : arg5.IsWhole)
    (arg6 : Memref sig .tc .vmem S1280x2048 .bf16) (harg6 : arg6.IsWhole)
    (arg7 : Memref sig .tc .vmem S1024x1024 .bf16) (harg7 : arg7.IsWhole)
    (arg8 : Memref sig .tc .vmem S1024x1024 .bf16) (harg8 : arg8.IsWhole)
    (arg9 : Memref sig .tc .vmem S1024x1280 .bf16) (harg9 : arg9.IsWhole)
    (O5 : S1024x1024.Idx → Elt F .bf16) (O6 : S1024x1024.Idx → Elt F .bf16) (O7 : S1024x1280.Idx → Elt F .bf16) :
    iprop((own c arg2 (iblk m c 0 t) ∗ own c arg3 (iblk m c 1 t) ∗ own c arg4 (iblk m c 2 t) ∗ own c arg5 (iblk m c 3 t) ∗ own c arg6 (iblk m c 4 t)) ∗ own c arg7 O5 ∗ own c arg8 O6 ∗ own c arg9 O7 ∗ Bufs m c t.val)
      ⊢ iprop((iprop((own c arg2 (iblk m c 0 t) ∗ own c arg3 (iblk m c 1 t) ∗ own c arg4 (iblk m c 2 t) ∗ own c arg5 (iblk m c 3 t) ∗ own c arg6 (iblk m c 4 t))
          ∗ own c arg7 (if t.val % 6 < 4 then gateN m c t.val else O5) ∗ own c arg8 (if t.val % 6 = 4 then poolN m c t.val else O6)
          ∗ own c arg9 (if t.val % 6 = 5 then latN m c t.val else O7) ∗ Bufs m c (t.val + 1)) -∗ Q ⟨⟩)
        -∗ WP c (cc0_in_proj (grid0.coords t) arg2 harg2 arg3 harg3 arg4 harg4 arg5 harg5 arg6 harg6 arg7 harg7 arg8 harg8 arg9 harg9 (Memref.whole cc0_scratch0) (Memref.isWhole_whole _)) Q) := by
  rw [coords_eq t]
  unfold Bufs
  iintro ⟨Hin, H5, H6, H7, ⟨%h, HW⟩⟩ HQ
  iapply (wp_body c arg2 harg2 arg3 harg3 arg4 harg4 arg5 harg5 arg6 harg6 arg7 harg7 arg8 harg8 arg9 harg9 (Memref.whole cc0_scratch0) (Memref.isWhole_whole _) (rowN t.val) (colN t.val) (insAt m c t) h.1 O5 O6 O7) $$ [Hin H5 H6 H7 HW]
  · isplitl [Hin]; · unfold InsR; iexact Hin
    isplitl [H5]; · iexact H5
    isplitl [H6]; · iexact H6
    isplitl [H7]; · iexact H7
    iexact HW
  have e2 := rowsAt_eq m c t.val h.1 h.2
  rw [ptN_val] at e2
  rw [show (colN t.val).val = t.val % 6 from rfl, e2]
  have hN := lt_N t
  have e5 : (if t.val % 6 < 4 then k0_pay2 (hRow m c (t.val / 6)) (insAt m c t).wg else O5) = if t.val % 6 < 4 then gateN m c t.val else O5 := by
    by_cases h4 : t.val % 6 < 4
    · rw [if_pos h4, if_pos h4]
      unfold gateN
      rw [show 6 * (t.val / 6) + min (t.val % 6) 3 = t.val by omega, ptN_val]
      rfl
    · rw [if_neg h4, if_neg h4]
  have e6 : (if t.val % 6 = 4 then k0_pay3 (hRow m c (t.val / 6)) (insAt m c t).wp else O6) = if t.val % 6 = 4 then poolN m c t.val else O6 := by
    by_cases h4 : t.val % 6 = 4
    · rw [if_pos h4, if_pos h4]
      unfold poolN
      rw [show 6 * (t.val / 6) + 4 = t.val by omega, ptN_val]
      rfl
    · rw [if_neg h4, if_neg h4]
  have e7 : (if t.val % 6 = 5 then k0_pay4 (hRow m c (t.val / 6)) (insAt m c t).wl else O7) = if t.val % 6 = 5 then latN m c t.val else O7 := by
    by_cases h4 : t.val % 6 = 5
    · rw [if_pos h4, if_pos h4]
      unfold latN
      rw [ptN_val]
      rfl
    · rw [if_neg h4, if_neg h4]
  rw [e5, e6, e7]
  iintro ⟨Hin, H5, H6, H7, HW⟩
  iapply HQ
  isplitl [Hin]; · unfold InsR; iexact Hin
  isplitl [H5]; · iexact H5
  isplitl [H6]; · iexact H6
  isplitl [H7]; · iexact H7
  iexists ⟨hRow m c (t.val / 6), fun e => by rw [show (t.val + 1) / 6 = t.val / 6 by omega]⟩
  iexact HW

set_option maxHeartbeats 4000000 in
theorem body_lt (c : Dev nD) (t : Fin cfg0.N) (h : t.val % 6 < 4) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) 𝒱₀ (c : Thread nD τ) none) Set.univ (defs₀ .tc cfg0.body (cfg0.bodyArgs t (cfg0.slots t))) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  have q5 : idle0 5 (grid0.coords t) = false := by rw [Bool.eq_false_iff]; intro e; exact (idle5 t).1 e (by omega)
  have q6 : idle0 6 (grid0.coords t) = true := (idle6 t).2 (by omega)
  have q7 : idle0 7 (grid0.coords t) = true := (idle7 t).2 (by omega)
  have p6 : (cfg0.win 6).flush t = false := by rw [Bool.eq_false_iff]; intro e; have := (flush0_6 t).1 e; omega
  have p7 : (cfg0.win 7).flush t = false := by rw [Bool.eq_false_iff]; intro e; have := (flush0_7 t).1 e; omega
  rw [bigSep_W0, bigSep_W0]
  sl_whnfR [defs₀, Defs.onTc]
  simp only [before0_0, before0_1, before0_2, before0_3, before0_4]
  rw [q5, q6, q7, p6, p7]
  dsimp only []
  rw [show (dats m 0 c).owesAt () t.succ = (dats m 0 c).owesAt () t.castSucc from rfl, after0_0, after0_1, after0_2, after0_3, after0_4, after0_5]
  rw [show (dats m 0 c).Φ t.castSucc = iprop(Bufs m c t.val ∗ ∃ r, prngReg c r) from rfl,
    show (dats m 0 c).Φ t.succ = iprop(Bufs m c (t.val + 1) ∗ ∃ r, prngReg c r) from rfl]
  iintro ⟨⟨HΦ, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_point m c t _ _ _ _ _ _ _ _ _ _ _ _ _ _ _ _ ((dats m 0 c).before 5 t d5) ((dats m 0 c).before 6 t d6) ((dats m 0 c).before 7 t d7)) $$ [HΦ H0 H1 H2 H3 H4 H5 H6 H7]
  · isplitl [H0 H1 H2 H3 H4]
    · isplitl [H0]; · iexact H0
      isplitl [H1]; · iexact H1
      isplitl [H2]; · iexact H2
      isplitl [H3]; · iexact H3
      iexact H4
    isplitl [H5]; · iexact H5
    isplitl [H6]; · iexact H6
    isplitl [H7]; · iexact H7
    iexact HΦ
  rw [if_pos h, if_neg (show ¬ t.val % 6 = 4 by omega), if_neg (show ¬ t.val % 6 = 5 by omega)]
  iintro ⟨⟨H0, H1, H2, H3, H4⟩, H5, H6, H7, HΦ⟩
  isplitl [HΦ Hr]
  · isplitl [HΦ]; · iexact HΦ
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iexists d7; iexact H7

set_option maxHeartbeats 4000000 in
theorem body_4 (c : Dev nD) (t : Fin cfg0.N) (h : t.val % 6 = 4) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) 𝒱₀ (c : Thread nD τ) none) Set.univ (defs₀ .tc cfg0.body (cfg0.bodyArgs t (cfg0.slots t))) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  have q5 : idle0 5 (grid0.coords t) = true := (idle5 t).2 (by omega)
  have q6 : idle0 6 (grid0.coords t) = false := by rw [Bool.eq_false_iff]; intro e; exact (idle6 t).1 e (by omega)
  have q7 : idle0 7 (grid0.coords t) = true := (idle7 t).2 (by omega)
  have p5 : (cfg0.win 5).flush t = false := by rw [Bool.eq_false_iff]; intro e; have := (flush5 t).1 e; omega
  have p7 : (cfg0.win 7).flush t = false := by rw [Bool.eq_false_iff]; intro e; have := (flush0_7 t).1 e; omega
  rw [bigSep_W0, bigSep_W0]
  sl_whnfR [defs₀, Defs.onTc]
  simp only [before0_0, before0_1, before0_2, before0_3, before0_4]
  rw [q5, q6, q7, p5, p7]
  dsimp only []
  rw [show (dats m 0 c).owesAt () t.succ = (dats m 0 c).owesAt () t.castSucc from rfl, after0_0, after0_1, after0_2, after0_3, after0_4, after0_6]
  rw [show (dats m 0 c).Φ t.castSucc = iprop(Bufs m c t.val ∗ ∃ r, prngReg c r) from rfl,
    show (dats m 0 c).Φ t.succ = iprop(Bufs m c (t.val + 1) ∗ ∃ r, prngReg c r) from rfl]
  iintro ⟨⟨HΦ, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_point m c t _ _ _ _ _ _ _ _ _ _ _ _ _ _ _ _ ((dats m 0 c).before 5 t d5) ((dats m 0 c).before 6 t d6) ((dats m 0 c).before 7 t d7)) $$ [HΦ H0 H1 H2 H3 H4 H5 H6 H7]
  · isplitl [H0 H1 H2 H3 H4]
    · isplitl [H0]; · iexact H0
      isplitl [H1]; · iexact H1
      isplitl [H2]; · iexact H2
      isplitl [H3]; · iexact H3
      iexact H4
    isplitl [H5]; · iexact H5
    isplitl [H6]; · iexact H6
    isplitl [H7]; · iexact H7
    iexact HΦ
  rw [if_neg (show ¬ t.val % 6 < 4 by omega), if_pos h, if_neg (show ¬ t.val % 6 = 5 by omega)]
  iintro ⟨⟨H0, H1, H2, H3, H4⟩, H5, H6, H7, HΦ⟩
  isplitl [HΦ Hr]
  · isplitl [HΦ]; · iexact HΦ
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexact H6
  iexists d7; iexact H7

set_option maxHeartbeats 4000000 in
theorem body_5 (c : Dev nD) (t : Fin cfg0.N) (h : t.val % 6 = 5) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) 𝒱₀ (c : Thread nD τ) none) Set.univ (defs₀ .tc cfg0.body (cfg0.bodyArgs t (cfg0.slots t))) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  have q5 : idle0 5 (grid0.coords t) = true := (idle5 t).2 (by omega)
  have q6 : idle0 6 (grid0.coords t) = true := (idle6 t).2 (by omega)
  have q7 : idle0 7 (grid0.coords t) = false := by rw [Bool.eq_false_iff]; intro e; exact (idle7 t).1 e (by omega)
  have p5 : (cfg0.win 5).flush t = true := (flush5 t).2 (by omega)
  have p6 : (cfg0.win 6).flush t = true := (flush0_6 t).2 (by omega)
  rw [bigSep_W0, bigSep_W0]
  sl_whnfR [defs₀, Defs.onTc]
  simp only [before0_0, before0_1, before0_2, before0_3, before0_4]
  rw [q5, q6, q7, p5, p6]
  dsimp only []
  rw [show (dats m 0 c).owesAt () t.succ = (dats m 0 c).owesAt () t.castSucc from rfl, after0_0, after0_1, after0_2, after0_3, after0_4, after0_5, after0_6, after0_7]
  rw [show (dats m 0 c).Φ t.castSucc = iprop(Bufs m c t.val ∗ ∃ r, prngReg c r) from rfl,
    show (dats m 0 c).Φ t.succ = iprop(Bufs m c (t.val + 1) ∗ ∃ r, prngReg c r) from rfl]
  iintro ⟨⟨HΦ, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_point m c t _ _ _ _ _ _ _ _ _ _ _ _ _ _ _ _ ((dats m 0 c).before 5 t d5) ((dats m 0 c).before 6 t d6) ((dats m 0 c).before 7 t d7)) $$ [HΦ H0 H1 H2 H3 H4 H5 H6 H7]
  · isplitl [H0 H1 H2 H3 H4]
    · isplitl [H0]; · iexact H0
      isplitl [H1]; · iexact H1
      isplitl [H2]; · iexact H2
      isplitl [H3]; · iexact H3
      iexact H4
    isplitl [H5]; · iexact H5
    isplitl [H6]; · iexact H6
    isplitl [H7]; · iexact H7
    iexact HΦ
  rw [if_neg (show ¬ t.val % 6 < 4 by omega), if_neg (show ¬ t.val % 6 = 4 by omega), if_pos h]
  rw [before0_5 m c t d5 h, before0_6 m c t d6 h]
  iintro ⟨⟨H0, H1, H2, H3, H4⟩, H5, H6, H7, HΦ⟩
  isplitl [HΦ Hr]
  · isplitl [HΦ]; · iexact HΦ
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) 𝒱₀ () Set.univ := fun t => by
  by_cases h : t.val % 6 < 4
  · exact body_lt m c t h
  by_cases h4 : t.val % 6 = 4
  · exact body_4 m c t h4
  exact body_5 m c t (by omega)

/-! ## The run -/

set_option backward.isDefEq.respectTransparency.types false in
/-- Every fair execution ends with each array of the call at what the proof data make of it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl)
    (hin := fun c => bufs_any m c 0 rfl) (hout := fun c => any_bufs m c _)

end Cert.Proof.Proj
-- ==== Proof.PFrames.lean ====
/-
  The input projection's frames: the kernel, as printed and over the extended reals, and the reference end with their arguments
  as they were and every semaphore at zero.
-/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.PRun

@[expose] public section

noncomputable section

namespace Cert.Proof

open Idealize.ShloMosaic Idealize.ShloMosaic.TcCoe Idealize.SL.Sem

attribute [local instance] Cert.Kernel3.Gen.facts Cert.Kernel3Ideal.Gen.facts Cert.Reference3Ideal.Gen.facts

/-- The input projection call's frame, over any values. -/
theorem frame_proj {F : FTy → Type} [FloatOps F] (m : (ℓ : Loc Cert.Kernel3Ideal.nD Cert.Kernel3Ideal.τ Cert.Kernel3Ideal.sig) → Buf (Elt F) ℓ) (ρ : Dev Cert.Kernel3Ideal.nD → PrngReg) :
    θ_run (Cert.Kernel3Ideal.defs (F := F)) (onTc (τ := Cert.Kernel3Ideal.τ) (Cert.Kernel3Ideal.main (F := F))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0) :=
  θ_run_with_sems (Cert.Kernel3Ideal.Gen.frame_of m ρ (Proj.dats m) (Proj.A_eq m)) (Proj.run_main m ρ)

theorem frame_Kernel3Ideal : Cert.quiescent_Kernel3Ideal := fun m ρ _ => frame_proj (F := Ideal) m ρ

set_option maxHeartbeats 4000000 in
/-- The two programs' tables of bodies are one. -/
theorem proj_defs0_eq {F : FTy → Type} [FloatOps F] : Cert.Kernel3.defs₀ (F := F) = Cert.Kernel3Ideal.defs₀ (F := F) := by
  unfold Cert.Kernel3.defs₀ Cert.Kernel3Ideal.defs₀
  refine congrArg Defs.onTc ?_
  funext l x
  match l, x with
  | ⟨0, _⟩, (t, s) => rfl

theorem proj_defs_eq {F : FTy → Type} [FloatOps F] : Cert.Kernel3.defs (F := F) = Cert.Kernel3Ideal.defs (F := F) := by
  unfold Cert.Kernel3.defs Cert.Kernel3Ideal.defs
  rw [proj_defs0_eq]; rfl

theorem frame_Kernel3 : Cert.quiescent_Kernel3 := fun m ρ _ => by
  rw [proj_defs_eq]
  exact frame_proj (F := Bits) m ρ

theorem frame_Reference3Ideal : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

end Cert.Proof

end
-- ==== Proof.PSpec.lean ====
/-
  The input projection over the extended reals, entry by entry: what the kernel and the reference both compute.
-/
module

public import proofs.«01_k».proof.Proof.FSpec

@[expose] public section

noncomputable section

namespace Cert.Proof.Proj

open Idealize.ShloMosaic Cert.Proof.Ffn

/-- The projection's operands. -/
structure Wts where
  x : Fin 16384 → Fin 2048 → EReal
  g : Fin 2048 → EReal
  w : Fin 2048 → Fin 6208 → EReal

namespace Wts

variable (W : Wts)

/-- Row `r`'s column `n`: the normed row times the weights. -/
def z (r : Fin 16384) (n : Fin 6208) : EReal := ∑ d : Fin 2048, nrm (W.x r) W.g d * W.w d n

/-- The gates, and the pooling branch. -/
def gate (r : Fin 16384) (n : Fin 4096) : EReal := W.z r ⟨2112 + n.val, by omega⟩
def pool (r : Fin 16384) (n : Fin 1024) : EReal := W.z r ⟨1088 + n.val, by omega⟩

/-- The latents' column `n`: the first 1088 columns, the last of them again with their halves exchanged, zeros. -/
def latW (d : Fin 2048) (n : Fin 1280) : EReal :=
  if h : n.val < 1088 then W.w d ⟨n.val, by omega⟩ else if h : n.val < 1120 then W.w d ⟨n.val - 32, by omega⟩
  else if h : n.val < 1152 then W.w d ⟨n.val - 96, by omega⟩ else 0
def lat (r : Fin 16384) (n : Fin 1280) : EReal :=
  if h : n.val < 1088 then W.z r ⟨n.val, by omega⟩ else if h : n.val < 1120 then W.z r ⟨n.val - 32, by omega⟩
  else if h : n.val < 1152 then W.z r ⟨n.val - 96, by omega⟩ else 0

/-- Arranging the weights' columns arranges the product's. -/
theorem lat_eq (r : Fin 16384) (n : Fin 1280) : ∑ d : Fin 2048, nrm (W.x r) W.g d * W.latW d n = W.lat r n := by
  unfold latW lat z
  split
  · rfl
  split
  · rfl
  split
  · rfl
  exact Finset.sum_eq_zero fun d _ => mul_zero _

end Wts

end Cert.Proof.Proj
-- ==== Proof.PBlocks.lean ====
/-
  The blocks of the input projection's operands, entry by entry, over the arguments.
-/
module

public import proofs.«01_k».proof.Proof.PRun
public import proofs.«01_k».proof.Proof.PSpec
public import Idealize.ShloMosaic.Lib.Pointwise
public import Idealize.ShloMosaic.Lib.Pipeline.ValueKit

@[expose] public section

set_option maxRecDepth 16384

noncomputable section

namespace Cert.Proof.Proj

open Cert.Kernel3Ideal Cert.Kernel3Ideal.Gen
open Idealize.ShloMosaic Idealize.ShloMosaic.TcCoe Idealize.ShloMosaic.Pointwise Idealize.SL.Sem

variable (m : (ℓ : Loc nD τ sig) → Buf (Elt Ideal) ℓ)

/-! ## The arrays the call reads -/

/-- The weights, transposed. -/
def wT (w : FVec Ideal S1x2048x6208 .f32) : FVec Ideal S6208x2048 .bf16 :=
  truncf .bf16 (transpose S6208x2048 [1, 0] (shapeCast S2048x6208 w shapeCasts_S1x2048x6208_S2048x6208) transposes_S2048x6208_S6208x2048_1_0 : FVec Ideal S6208x2048 .f32) bitsLt_bf16_f32

/-- Their rows of the rotary part. -/
def wR (w : FVec Ideal S6208x2048 .bf16) : FVec Ideal S64x2048 .bf16 := extractStridedSlice S64x2048 ![1024, 0] w slices_S6208x2048_S64x2048_1024_0

/-- Their rows of the latents. -/
def wL (w : FVec Ideal S6208x2048 .bf16) : FVec Ideal S1280x2048 .bf16 :=
  concatenate S1280x2048 0 [⟨S1088x2048, extractStridedSlice S1088x2048 ![0, 0] w slices_S6208x2048_S1088x2048_0_0⟩,
    ⟨S32x2048, extractStridedSlice S32x2048 ![32, 0] (wR w) slices_S64x2048_S32x2048_32_0⟩,
    ⟨S32x2048, extractStridedSlice S32x2048 ![0, 0] (wR w) slices_S64x2048_S32x2048_0_0⟩,
    ⟨S128x2048, (broadcastInDim S128x2048 ![] bcast_S_S128x2048 (constant S_ .bf16 0x0000#16) : FVec Ideal S128x2048 .bf16)⟩]
    concatenates_S1088x2048_S32x2048_S32x2048_S128x2048_S1280x2048_d0

theorem v9_eq (c : Dev nD) : V m c main_v9 = shapeCast S16384x2048 (m ((c : Thread nD τ).loc main_arg0)) shapeCasts_S1x16384x2048_S16384x2048 := by
  unfold V
  simp only [hostOps0]
  after_results_simp <;> rfl
theorem v10_eq (c : Dev nD) : V m c main_v10 = extractStridedSlice S4096x2048 ![2112, 0] (wT (m ((c : Thread nD τ).loc main_arg2))) slices_S6208x2048_S4096x2048_2112_0 := by
  unfold V
  simp only [hostOps0]
  after_results_simp <;> rfl
theorem v11_eq (c : Dev nD) : V m c main_v11 = extractStridedSlice S1024x2048 ![1088, 0] (wT (m ((c : Thread nD τ).loc main_arg2))) slices_S6208x2048_S1024x2048_1088_0 := by
  unfold V
  simp only [hostOps0]
  after_results_simp <;> rfl
theorem v8_eq (c : Dev nD) : V m c main_v8 = wL (wT (m ((c : Thread nD τ).loc main_arg2))) := by
  unfold V
  simp only [hostOps0]
  after_results_simp <;> (try dsimp only [Matrix.cons_val]) <;> (try after_results_simp) <;> rfl

theorem flatX (x : FVec Ideal S1x16384x2048 .f32) (r : Fin 16384) (d : Fin 2048) :
    shapeCast S16384x2048 x shapeCasts_S1x16384x2048_S16384x2048 (ix2 r d) = x (ix3 0 r d) := by
  pointwise
theorem wT_at (w : FVec Ideal S1x2048x6208 .f32) (n : Fin 6208) (d : Fin 2048) : wT w (ix2 n d) = w (ix3 0 d n) := by
  pointwise [wT]
theorem cutG (w : FVec Ideal S6208x2048 .bf16) (n : Fin 4096) (d : Fin 2048) :
    extractStridedSlice S4096x2048 ![2112, 0] w slices_S6208x2048_S4096x2048_2112_0 (ix2 n d) = w (ix2 ⟨2112 + n.val, by omega⟩ d) := by
  pointwise
theorem cutP (w : FVec Ideal S6208x2048 .bf16) (n : Fin 1024) (d : Fin 2048) :
    extractStridedSlice S1024x2048 ![1088, 0] w slices_S6208x2048_S1024x2048_1088_0 (ix2 n d) = w (ix2 ⟨1088 + n.val, by omega⟩ d) := by
  pointwise
theorem wL_at (w : FVec Ideal S6208x2048 .bf16) (n : Fin 1280) (d : Fin 2048) :
    wL w (ix2 n d) = if h : n.val < 1088 then w (ix2 ⟨n.val, by omega⟩ d) else if h : n.val < 1120 then w (ix2 ⟨n.val - 32, by omega⟩ d)
      else if h : n.val < 1152 then w (ix2 ⟨n.val - 96, by omega⟩ d) else 0 := by
  pointwise [wL, wR]
  by_cases h0 : n.val < 1088
  · rw [dif_pos h0, dif_pos h0]
  by_cases h1 : n.val < 1120
  · rw [dif_neg h0, dif_neg h0, dif_pos h1, dif_pos (by omega)]
    exact congrArg (fun q : Fin 6208 => w (ix2 q d)) (Fin.ext (by dsimp only; omega))
  by_cases h2 : n.val < 1152
  · rw [dif_neg h0, dif_neg h0, dif_neg h1, dif_neg (by omega), dif_pos h2, dif_pos (by omega)]
    exact congrArg (fun q : Fin 6208 => w (ix2 q d)) (Fin.ext (by dsimp only; omega))
  · rw [dif_neg h0, dif_neg h0, dif_neg h1, dif_neg (by omega), dif_neg h2, dif_neg (by omega)]

/-! ## The blocks -/

theorem index_eq : ∀ t : Fin cfg0.N, win0_0.index t = ![t.val / 6, 0]
    ∧ win0_1.index t = ![0, 0]
    ∧ win0_2.index t = ![min (t.val % 6) 3, 0]
    ∧ win0_3.index t = ![0, 0]
    ∧ win0_4.index t = ![0, 0]
    ∧ win0_5.index t = ![t.val / 6, min (t.val % 6) 3]
    ∧ win0_6.index t = ![t.val / 6, 0]
    ∧ win0_7.index t = ![t.val / 6, 0] :=
  (by decide +kernel : ∀ t : Fin grid0.N, _)

theorem x_blk (c : Dev nD) (t : Fin cfg0.N) (y : Fin 1024) (d : Fin 2048) :
    (insAt m c t).x (ix2 y d) = m ((c : Thread nD τ).loc main_arg0) (ix3 0 ⟨1024 * (t.val / 6) + y.val, by have := lt_N t; omega⟩ d) := by
  have e : (insAt m c t).x (ix2 y d) = V m c main_v9 (ix2 ⟨1024 * (t.val / 6) + y.val, by have := lt_N t; omega⟩ d) := by
    show V m c main_v9 (((cfg0.win 0).blk t).view.emb (ix2 y d)) = _
    generalize V m c main_v9 = A
    have := index_eq t
    have ht := lt_N t
    blk_ext [this]
  rw [e, v9_eq]; exact flatX _ _ _

theorem g_blk (c : Dev nD) (t : Fin cfg0.N) (y : Fin 1) (d : Fin 2048) :
    (insAt m c t).g (ix2 y d) = m ((c : Thread nD τ).loc main_arg1) (ix2 y d) := by
  have e : (insAt m c t).g (ix2 y d) = V m c main_arg1 (ix2 y d) := by
    show V m c main_arg1 (((cfg0.win 1).blk t).view.emb (ix2 y d)) = _
    generalize V m c main_arg1 = A
    have := index_eq t
    have ht := lt_N t
    blk_ext [this]
  rw [e, V_main_arg1]

theorem wg_blk (c : Dev nD) (t : Fin cfg0.N) (y : Fin 1024) (d : Fin 2048) :
    (insAt m c t).wg (ix2 y d) = m ((c : Thread nD τ).loc main_arg2) (ix3 0 d ⟨2112 + (1024 * min (t.val % 6) 3 + y.val), by omega⟩) := by
  have e : (insAt m c t).wg (ix2 y d) = V m c main_v10 (ix2 ⟨1024 * min (t.val % 6) 3 + y.val, by omega⟩ d) := by
    show V m c main_v10 (((cfg0.win 2).blk t).view.emb (ix2 y d)) = _
    generalize V m c main_v10 = A
    have := index_eq t
    have ht := lt_N t
    blk_ext [this]
  rw [e, v10_eq, cutG, wT_at]

theorem wp_blk (c : Dev nD) (t : Fin cfg0.N) (y : Fin 1024) (d : Fin 2048) :
    (insAt m c t).wp (ix2 y d) = m ((c : Thread nD τ).loc main_arg2) (ix3 0 d ⟨1088 + y.val, by omega⟩) := by
  have e : (insAt m c t).wp (ix2 y d) = V m c main_v11 (ix2 y d) := by
    show V m c main_v11 (((cfg0.win 3).blk t).view.emb (ix2 y d)) = _
    generalize V m c main_v11 = A
    have := index_eq t
    have ht := lt_N t
    blk_ext [this]
  rw [e, v11_eq, cutP, wT_at]

theorem wl_blk (c : Dev nD) (t : Fin cfg0.N) (y : Fin 1280) (d : Fin 2048) :
    (insAt m c t).wl (ix2 y d) = wL (wT (m ((c : Thread nD τ).loc main_arg2))) (ix2 y d) := by
  have e : (insAt m c t).wl (ix2 y d) = V m c main_v8 (ix2 y d) := by
    show V m c main_v8 (((cfg0.win 4).blk t).view.emb (ix2 y d)) = _
    generalize V m c main_v8 = A
    have := index_eq t
    have ht := lt_N t
    blk_ext [this]
  rw [e, v8_eq]

/-! ## The outputs' blocks -/

theorem out5_index (B : S16384x4096.Idx → EReal) (t : Fin cfg0.N) (y n : Fin 1024) :
    B ((win0_5.blk t).view.emb (ix2 y n)) = B (ix2 ⟨1024 * (t.val / 6) + y.val, by have := lt_N t; omega⟩ ⟨1024 * min (t.val % 6) 3 + n.val, by omega⟩) := by
  have := index_eq t
  have ht := lt_N t
  blk_ext [this]
theorem out6_index (B : S16384x1024.Idx → EReal) (t : Fin cfg0.N) (y n : Fin 1024) :
    B ((win0_6.blk t).view.emb (ix2 y n)) = B (ix2 ⟨1024 * (t.val / 6) + y.val, by have := lt_N t; omega⟩ n) := by
  have := index_eq t
  have ht := lt_N t
  blk_ext [this]
theorem out7_index (B : S16384x1280.Idx → EReal) (t : Fin cfg0.N) (y : Fin 1024) (n : Fin 1280) :
    B ((win0_7.blk t).view.emb (ix2 y n)) = B (ix2 ⟨1024 * (t.val / 6) + y.val, by have := lt_N t; omega⟩ n) := by
  have := index_eq t
  have ht := lt_N t
  blk_ext [this]

end Cert.Proof.Proj
-- ==== Proof.PVals.lean ====
/-
  The input projection's stages over the extended reals, entry by entry.
-/
module

public import proofs.«01_k».proof.Proof.PBody
public import proofs.«01_k».proof.Proof.PSpec

@[expose] public section

set_option maxRecDepth 16384

noncomputable section

namespace Cert.Proof.Proj

open Cert.Kernel3Ideal Cert.Kernel3Ideal.Gen
open Idealize.ShloMosaic Idealize.ShloMosaic.TcCoe Idealize.ShloMosaic.Pointwise
open Cert.Proof.Ffn (nrm litN litE)

theorem pay1_at (g : Vec Ideal S1x2048 .f32) (v : Vec Ideal S128x2048 .f32) (y : Fin 128) (d : Fin 2048) :
    k0_pay1 g v (ix2 y d) = nrm (fun k => v (ix2 y k)) (fun k => g (ix2 0 k)) d := by
  pointwise [k0_pay1, nrm]

theorem pay2_at (h : Vec Ideal S1024x2048 .bf16) (w : Vec Ideal S1024x2048 .bf16) (y n : Fin 1024) :
    k0_pay2 h w (ix2 y n) = ∑ d : Fin 2048, h (ix2 y d) * w (ix2 n d) := by
  pointwise [k0_pay2]

theorem pay3_at (h : Vec Ideal S1024x2048 .bf16) (w : Vec Ideal S1024x2048 .bf16) (y n : Fin 1024) :
    k0_pay3 h w (ix2 y n) = ∑ d : Fin 2048, h (ix2 y d) * w (ix2 n d) := by
  pointwise [k0_pay3]

theorem pay4_at (h : Vec Ideal S1024x2048 .bf16) (w : Vec Ideal S1280x2048 .bf16) (y : Fin 1024) (n : Fin 1280) :
    k0_pay4 h w (ix2 y n) = ∑ d : Fin 2048, h (ix2 y d) * w (ix2 n d) := by
  pointwise [k0_pay4]

theorem winX_at (x : S1024x2048.Idx → EReal) (r : Fin 8) (y : Fin 128) (d : Fin 2048) :
    winX (F := Ideal) x r (ix2 y d) = x (ix2 ⟨128 * r.val + y.val, by omega⟩ d) :=
  congrArg x (funext fun k => Fin.ext (match k with
    | ⟨0, _⟩ => by show 128 * r.val + 1 * y.val = 128 * r.val + y.val; omega
    | ⟨1, _⟩ => by show 0 + 1 * d.val = d.val; omega))

/-- The normed rows. -/
theorem rows_at (x : S1024x2048.Idx → EReal) (g : S1x2048.Idx → EReal) (y : Fin 1024) (d : Fin 2048) :
    rows (F := Ideal) x g (ix2 y d) = nrm (fun k => x (ix2 y k)) (fun k => g (ix2 0 k)) d := by
  have e0 : rows (F := Ideal) x g (ix2 y d) = k0_pay1 g (winX (F := Ideal) x ⟨y.val / 128, by omega⟩) (ix2 ⟨y.val % 128, Nat.mod_lt _ (by decide)⟩ d) := by
    unfold rows
    refine congrArg (k0_pay1 (F := Ideal) g (winX x ⟨y.val / 128, by omega⟩)) ?_
    funext a
    match a with
    | ⟨0, _⟩ => rfl
    | ⟨1, _⟩ => rfl
  rw [e0, pay1_at]
  have e : ∀ k : Fin 2048, winX (F := Ideal) x ⟨y.val / 128, by omega⟩ (ix2 ⟨y.val % 128, Nat.mod_lt _ (by decide)⟩ k) = x (ix2 y k) := fun k => by
    rw [winX_at]
    exact congrArg x (congrArg (fun z : Fin 1024 => (ix2 z k : S1024x2048.Idx)) (Fin.ext (Nat.div_add_mod y.val 128)))
  simp only [e]

end Cert.Proof.Proj
-- ==== Proof.POut.lean ====
/-
  The input projection's results, entry by entry.
-/
module

public import proofs.«01_k».proof.Proof.PBlocks
public import proofs.«01_k».proof.Proof.PVals
public import proofs.«01_k».proof.Proof.PSpec

@[expose] public section

set_option maxRecDepth 16384

noncomputable section

namespace Cert.Proof.Proj

open Cert.Kernel3Ideal Cert.Kernel3Ideal.Gen
open Idealize.ShloMosaic Idealize.ShloMosaic.TcCoe Idealize.ShloMosaic.Pointwise Idealize.SL.Sem
open Cert.Proof.Ffn (nrm litN litE)

variable (m : (ℓ : Loc nD τ sig) → Buf (Elt Ideal) ℓ) (c : Dev nD) (W : Wts)
  (hx : ∀ r d, m ((c : Thread nD τ).loc main_arg0) (ix3 0 r d) = W.x r d) (hg : ∀ d, m ((c : Thread nD τ).loc main_arg1) (ix2 0 d) = W.g d)
  (hw : ∀ d n, m ((c : Thread nD τ).loc main_arg2) (ix3 0 d n) = W.w d n)

theorem ptN_at (i : Fin 16) (j : Fin 6) : (ptN (6 * i.val + j.val)).val = 6 * i.val + j.val := Nat.mod_eq_of_lt (by omega)

include hx hg in
/-- The normed rows of a row block. -/
theorem hRow_at (i : Fin 16) (y : Fin 1024) (d : Fin 2048) :
    hRow m c i.val (ix2 y d) = nrm (W.x ⟨1024 * i.val + y.val, by omega⟩) W.g d := by
  have ht : (ptN (6 * i.val)).val = 6 * i.val := ptN_at i 0
  have e1 : (fun k => (insAt m c (ptN (6 * i.val))).g (ix2 0 k)) = W.g := funext fun k => (g_blk m c _ 0 k).trans (hg k)
  have e0 : (fun k => (insAt m c (ptN (6 * i.val))).x (ix2 y k)) = W.x ⟨1024 * i.val + y.val, by omega⟩ := funext fun k => by
    rw [x_blk m c _ y k, hx]
    refine congrArg (fun r => W.x r k) (Fin.ext ?_)
    show 1024 * ((ptN (6 * i.val)).val / 6) + y.val = 1024 * i.val + y.val
    omega
  refine (rows_at _ _ y d).trans ?_
  exact congrArg₂ (fun a b => nrm a b d) e0 e1

section
include hx hg hw

theorem gateN_at (i : Fin 16) (j : Fin 6) (y n : Fin 1024) :
    gateN m c (6 * i.val + j.val) (ix2 y n) = W.gate ⟨1024 * i.val + y.val, by omega⟩ ⟨1024 * min j.val 3 + n.val, by omega⟩ := by
  have ht : (ptN (6 * i.val + min j.val 3)).val = 6 * i.val + min j.val 3 := ptN_at i ⟨min j.val 3, by omega⟩
  unfold gateN
  rw [show (6 * i.val + j.val) / 6 = i.val by omega, show (6 * i.val + j.val) % 6 = j.val by omega]
  refine (pay2_at _ _ y n).trans ?_
  unfold Wts.gate Wts.z
  refine Finset.sum_congr rfl fun d _ => congrArg₂ _ (hRow_at m c W hx hg i y d) ?_
  refine (wg_blk m c (ptN (6 * i.val + min j.val 3)) n d).trans ((hw _ _).trans (congrArg (fun q => W.w d q) (Fin.ext ?_)))
  show 2112 + (1024 * min ((ptN (6 * i.val + min j.val 3)).val % 6) 3 + n.val) = 2112 + (1024 * min j.val 3 + n.val)
  omega

theorem poolN_at (i : Fin 16) (j : Fin 6) (y n : Fin 1024) :
    poolN m c (6 * i.val + j.val) (ix2 y n) = W.pool ⟨1024 * i.val + y.val, by omega⟩ n := by
  unfold poolN
  rw [show (6 * i.val + j.val) / 6 = i.val by omega]
  refine (pay3_at _ _ y n).trans ?_
  unfold Wts.pool Wts.z
  refine Finset.sum_congr rfl fun d _ => congrArg₂ _ (hRow_at m c W hx hg i y d) ?_
  exact (wp_blk m c (ptN (6 * i.val + 4)) n d).trans (hw _ _)

theorem latN_at (i : Fin 16) (j : Fin 6) (y : Fin 1024) (n : Fin 1280) :
    latN m c (6 * i.val + j.val) (ix2 y n) = W.lat ⟨1024 * i.val + y.val, by omega⟩ n := by
  unfold latN
  rw [show (6 * i.val + j.val) / 6 = i.val by omega]
  refine (pay4_at _ _ y n).trans ?_
  rw [← W.lat_eq]
  refine Finset.sum_congr rfl fun d _ => congrArg₂ _ (hRow_at m c W hx hg i y d) ?_
  refine (wl_blk m c (ptN (6 * i.val + j.val)) n d).trans ((wL_at _ n d).trans ?_)
  simp only [wT_at, hw]
  rfl

/-- The first array is the gates. -/
theorem arr5_eq : (dats m 0 c).arrAt 5 (cfgs 0).N = fun i : S16384x4096.Idx => W.gate (i 0) (i 1) := by
  refine (dats m 0 c).arrAt_eq_of_covers 5 _ (by decide +kernel) fun t hf y => ?_
  have ht := lt_N t
  blk_simp
  rw [after0_5]
  obtain ⟨a, e, rfl⟩ : ∃ (a : Fin 1024) (e : Fin 1024), y = ix2 a e := ⟨y 0, y 1, eq_ix2 y⟩
  refine Eq.trans ?_ (out5_index (fun i : S16384x4096.Idx => W.gate (i 0) (i 1)) t a e).symm
  have := gateN_at m c W hx hg hw ⟨t.val / 6, by omega⟩ ⟨t.val % 6, by omega⟩ a e
  rw [show 6 * (⟨t.val / 6, by omega⟩ : Fin 16).val + (⟨t.val % 6, by omega⟩ : Fin 6).val = t.val by show 6 * (t.val / 6) + t.val % 6 = t.val; omega] at this
  exact this

/-- The second is the pooling branch. -/
theorem arr6_eq : (dats m 0 c).arrAt 6 (cfgs 0).N = fun i : S16384x1024.Idx => W.pool (i 0) (i 1) := by
  refine (dats m 0 c).arrAt_eq_of_covers 6 _ (by decide +kernel) fun t hf y => ?_
  have ht := lt_N t
  blk_simp
  rw [after0_6]
  obtain ⟨a, e, rfl⟩ : ∃ (a : Fin 1024) (e : Fin 1024), y = ix2 a e := ⟨y 0, y 1, eq_ix2 y⟩
  refine Eq.trans ?_ (out6_index (fun i : S16384x1024.Idx => W.pool (i 0) (i 1)) t a e).symm
  have := poolN_at m c W hx hg hw ⟨t.val / 6, by omega⟩ ⟨t.val % 6, by omega⟩ a e
  rw [show 6 * (⟨t.val / 6, by omega⟩ : Fin 16).val + (⟨t.val % 6, by omega⟩ : Fin 6).val = t.val by show 6 * (t.val / 6) + t.val % 6 = t.val; omega] at this
  exact this

/-- The third is the latents. -/
theorem arr7_eq : (dats m 0 c).arrAt 7 (cfgs 0).N = fun i : S16384x1280.Idx => W.lat (i 0) (i 1) := by
  refine (dats m 0 c).arrAt_eq_of_covers 7 _ (by decide +kernel) fun t hf y => ?_
  have ht := lt_N t
  blk_simp
  rw [after0_7]
  obtain ⟨a, e, rfl⟩ : ∃ (a : Fin 1024) (e : Fin 1280), y = ix2 a e := ⟨y 0, y 1, eq_ix2 y⟩
  refine Eq.trans ?_ (out7_index (fun i : S16384x1280.Idx => W.lat (i 0) (i 1)) t a e).symm
  have := latN_at m c W hx hg hw ⟨t.val / 6, by omega⟩ ⟨t.val % 6, by omega⟩ a e
  rw [show 6 * (⟨t.val / 6, by omega⟩ : Fin 16).val + (⟨t.val % 6, by omega⟩ : Fin 6).val = t.val by show 6 * (t.val / 6) + t.val % 6 = t.val; omega] at this
  exact this

end

end Cert.Proof.Proj
-- ==== Proof.PRef.lean ====
/-
  The input projection's reference over the extended reals, entry by entry.
-/
module

public import proofs.«01_k».proof.Proof.Gen.Reference3Ideal.Run
public import proofs.«01_k».proof.Proof.PSpec

@[expose] public section

set_option maxRecDepth 16384

noncomputable section

namespace Cert.Proof.ProjRef

open Cert.Reference3Ideal Cert.Reference3Ideal.Gen Cert.Reference3Ideal.Value Cert.Proof.Proj
open Idealize.ShloMosaic Idealize.ShloMosaic.TcCoe Idealize.ShloMosaic.Pointwise
open Cert.Proof.Ffn (nrm litN litE)

/-! ## The reference's stages -/

/-- Rows normed. -/
def normed (x : FVec Ideal S1x16384x2048 .f32) (g : FVec Ideal S1x2048 .f32) : FVec Ideal S1x16384x2048 .f32 :=
  mulf (mulf x (broadcastInDim S1x16384x2048 ![0, 1, 2] bcast_S1x16384x1_S1x16384x2048_0_1_2 (Host.rsqrt (addf (Host.divf
      (broadcastInDim S1x16384x1 ![0, 1] bcast_S1x16384_S1x16384x1_0_1 (Host.reduceAdd (mulf x x) (constant S_ .f32 0x00000000#32) reducesTo_S1x16384x2048_S1x16384_d2 h_S_))
      (broadcastInDim S1x16384x1 ![] bcast_S_S1x16384x1 (constant S_ .f32 0x45000000#32))) (broadcastInDim S1x16384x1 ![] bcast_S_S1x16384x1 (constant S_ .f32 0x358637BD#32))))))
    (broadcastInDim S1x16384x2048 ![0, 1, 2] bcast_S1x1x2048_S1x16384x2048_0_1_2 (broadcastInDim S1x1x2048 ![2] bcast_S2048_S1x1x2048_2 (shapeCast _ g shapeCasts_S1x2048_S2048)))

/-- Projected. -/
def zR (h : FVec Ideal S1x16384x2048 .f32) (w : FVec Ideal S1x2048x6208 .f32) : FVec Ideal S16384x6208 .f32 :=
  shapeCast _ (Host.dotGeneral dot_S1x16384x2048_S2048x6208_S1x16384x6208_2_0_01_1_n_n none h (shapeCast _ w shapeCasts_S1x2048x6208_S2048x6208)) shapeCasts_S1x16384x6208_S16384x6208

/-- The gates, the pooling branch and the latents of it. -/
def gateR (z : FVec Ideal S16384x6208 .f32) : FVec Ideal S16384x4096 .bf16 :=
  truncf .bf16 (extractStridedSlice S16384x4096 ![0, 2112] z slices_S16384x6208_S16384x4096_0_2112) bitsLt_bf16_f32
def poolR (z : FVec Ideal S16384x6208 .f32) : FVec Ideal S16384x1024 .bf16 :=
  truncf .bf16 (extractStridedSlice S16384x1024 ![0, 1088] z slices_S16384x6208_S16384x1024_0_1088) bitsLt_bf16_f32
def rotR (z : FVec Ideal S16384x6208 .f32) : FVec Ideal S16384x64 .f32 := extractStridedSlice S16384x64 ![0, 1024] z slices_S16384x6208_S16384x64_0_1024
def latR (z : FVec Ideal S16384x6208 .f32) : FVec Ideal S16384x1280 .bf16 :=
  truncf .bf16 ((concatenate S16384x1280 1 [⟨S16384x1088, extractStridedSlice S16384x1088 ![0, 0] z slices_S16384x6208_S16384x1088_0_0⟩,
    ⟨S16384x32, extractStridedSlice S16384x32 ![0, 32] (rotR z) slices_S16384x64_S16384x32_0_32⟩,
    ⟨S16384x32, extractStridedSlice S16384x32 ![0, 0] (rotR z) slices_S16384x64_S16384x32_0_0⟩,
    ⟨S16384x128, (broadcastInDim S16384x128 ![] bcast_S_S16384x128 (constant S_ .f32 0x00000000#32) : FVec Ideal S16384x128 .f32)⟩]
    concatenates_S16384x1088_S16384x32_S16384x32_S16384x128_S16384x1280_d1 : FVec Ideal S16384x1280 .f32)) bitsLt_bf16_f32

/-! ## Their entries -/

theorem normed_at (x : FVec Ideal S1x16384x2048 .f32) (g : FVec Ideal S1x2048 .f32) (r : Fin 16384) (d : Fin 2048) :
    normed x g (ix3 0 r d) = nrm (fun k => x (ix3 0 r k)) (fun k => g (ix2 0 k)) d := by
  pointwise [normed, nrm]

theorem zR_at (h : FVec Ideal S1x16384x2048 .f32) (w : FVec Ideal S1x2048x6208 .f32) (r : Fin 16384) (n : Fin 6208) :
    zR h w (ix2 r n) = ∑ d : Fin 2048, h (ix3 0 r d) * w (ix3 0 d n) := by
  pointwise [zR]

theorem gateR_at (z : FVec Ideal S16384x6208 .f32) (r : Fin 16384) (n : Fin 4096) : gateR z (ix2 r n) = z (ix2 r ⟨2112 + n.val, by omega⟩) := by
  pointwise [gateR]
theorem poolR_at (z : FVec Ideal S16384x6208 .f32) (r : Fin 16384) (n : Fin 1024) : poolR z (ix2 r n) = z (ix2 r ⟨1088 + n.val, by omega⟩) := by
  pointwise [poolR]
theorem latR_at (z : FVec Ideal S16384x6208 .f32) (r : Fin 16384) (n : Fin 1280) :
    latR z (ix2 r n) = if h : n.val < 1088 then z (ix2 r ⟨n.val, by omega⟩) else if h : n.val < 1120 then z (ix2 r ⟨n.val - 32, by omega⟩)
      else if h : n.val < 1152 then z (ix2 r ⟨n.val - 96, by omega⟩) else 0 := by
  pointwise [latR, rotR]
  by_cases h0 : n.val < 1088
  · rw [dif_pos h0, dif_pos h0]
  by_cases h1 : n.val < 1120
  · rw [dif_neg h0, dif_neg h0, dif_pos h1, dif_pos (by omega)]
    exact congrArg (fun q : Fin 6208 => z (ix2 r q)) (Fin.ext (by dsimp only; omega))
  by_cases h2 : n.val < 1152
  · rw [dif_neg h0, dif_neg h0, dif_neg h1, dif_neg (by omega), dif_pos h2, dif_pos (by omega)]
    exact congrArg (fun q : Fin 6208 => z (ix2 r q)) (Fin.ext (by dsimp only; omega))
  · rw [dif_neg h0, dif_neg h0, dif_neg h1, dif_neg (by omega), dif_neg h2, dif_neg (by omega)]

/-! ## The results -/

/-- The arguments' entries. -/
def wts (x : FVec Ideal S1x16384x2048 .f32) (g : FVec Ideal S1x2048 .f32) (w : FVec Ideal S1x2048x6208 .f32) : Wts where
  x r d := x (ix3 0 r d)
  g d := g (ix2 0 d)
  w d n := w (ix3 0 d n)

variable (x : FVec Ideal S1x16384x2048 .f32) (g : FVec Ideal S1x2048 .f32) (w : FVec Ideal S1x2048x6208 .f32)

theorem z_eq (r : Fin 16384) (n : Fin 6208) : zR (normed x g) w (ix2 r n) = (wts x g w).z r n := by
  rw [zR_at]
  exact Finset.sum_congr rfl fun d _ => congrArg (· * _) (normed_at x g r d)

theorem gate_eq (r : Fin 16384) (n : Fin 4096) : gateR (zR (normed x g) w) (ix2 r n) = (wts x g w).gate r n := by
  rw [gateR_at, z_eq]; rfl
theorem pool_eq (r : Fin 16384) (n : Fin 1024) : poolR (zR (normed x g) w) (ix2 r n) = (wts x g w).pool r n := by
  rw [poolR_at, z_eq]; rfl
theorem lat_eq (r : Fin 16384) (n : Fin 1280) : latR (zR (normed x g) w) (ix2 r n) = (wts x g w).lat r n := by
  rw [latR_at]
  simp only [z_eq]
  rfl

end Cert.Proof.ProjRef
-- ==== Proof.PAlgebraic.lean ====
/-
  Over the reals the input projection call computes the reference, whatever its arguments.
-/
module

public import proofs.«01_k».proof.Proof.PFrames
public import proofs.«01_k».proof.Proof.POut
public import proofs.«01_k».proof.Proof.PRef

@[expose] public section

set_option maxRecDepth 16384

noncomputable section

namespace Cert.Proof

open Idealize.ShloMosaic Idealize.ShloMosaic.TcCoe Idealize.ShloMosaic.Pointwise Idealize.SL.Sem

attribute [local instance] Cert.Kernel3Ideal.Gen.facts Cert.Reference3Ideal.Gen.facts

variable (m : (ℓ : Loc Cert.Kernel3Ideal.nD Cert.Kernel3Ideal.τ Cert.Kernel3Ideal.sig) → Buf (Elt Ideal) ℓ)
  (c : Dev Cert.Kernel3Ideal.nD)

/-! The two programs' arrays are one. -/

theorem proj_gate_eq (x : FVec Ideal Cert.Kernel3Ideal.S1x16384x2048 .f32) (g : FVec Ideal Cert.Kernel3Ideal.S1x2048 .f32) (w : FVec Ideal Cert.Kernel3Ideal.S1x2048x6208 .f32)
    (e0 : m ((c.tc : Thread Cert.Kernel3Ideal.nD Cert.Kernel3Ideal.τ).loc Cert.Kernel3Ideal.main_arg0) = x)
    (e1 : m ((c.tc : Thread Cert.Kernel3Ideal.nD Cert.Kernel3Ideal.τ).loc Cert.Kernel3Ideal.main_arg1) = g)
    (e2 : m ((c.tc : Thread Cert.Kernel3Ideal.nD Cert.Kernel3Ideal.τ).loc Cert.Kernel3Ideal.main_arg2) = w) :
    ProjRef.gateR (ProjRef.zR (ProjRef.normed x g) w) = (Proj.dats m 0 c).arrAt 5 (Cert.Kernel3Ideal.cfgs 0).N := by
  rw [Proj.arr5_eq m c (ProjRef.wts x g w) (fun r d => congrFun e0 _) (fun d => congrFun e1 _) (fun d n => congrFun e2 _)]
  funext i
  obtain ⟨r, n, rfl⟩ : ∃ (r : Fin 16384) (n : Fin 4096), i = ix2 r n := ⟨i 0, i 1, eq_ix2 i⟩
  exact ProjRef.gate_eq x g w r n

theorem proj_pool_eq (x : FVec Ideal Cert.Kernel3Ideal.S1x16384x2048 .f32) (g : FVec Ideal Cert.Kernel3Ideal.S1x2048 .f32) (w : FVec Ideal Cert.Kernel3Ideal.S1x2048x6208 .f32)
    (e0 : m ((c.tc : Thread Cert.Kernel3Ideal.nD Cert.Kernel3Ideal.τ).loc Cert.Kernel3Ideal.main_arg0) = x)
    (e1 : m ((c.tc : Thread Cert.Kernel3Ideal.nD Cert.Kernel3Ideal.τ).loc Cert.Kernel3Ideal.main_arg1) = g)
    (e2 : m ((c.tc : Thread Cert.Kernel3Ideal.nD Cert.Kernel3Ideal.τ).loc Cert.Kernel3Ideal.main_arg2) = w) :
    ProjRef.poolR (ProjRef.zR (ProjRef.normed x g) w) = (Proj.dats m 0 c).arrAt 6 (Cert.Kernel3Ideal.cfgs 0).N := by
  rw [Proj.arr6_eq m c (ProjRef.wts x g w) (fun r d => congrFun e0 _) (fun d => congrFun e1 _) (fun d n => congrFun e2 _)]
  funext i
  obtain ⟨r, n, rfl⟩ : ∃ (r : Fin 16384) (n : Fin 1024), i = ix2 r n := ⟨i 0, i 1, eq_ix2 i⟩
  exact ProjRef.pool_eq x g w r n

theorem proj_lat_eq (x : FVec Ideal Cert.Kernel3Ideal.S1x16384x2048 .f32) (g : FVec Ideal Cert.Kernel3Ideal.S1x2048 .f32) (w : FVec Ideal Cert.Kernel3Ideal.S1x2048x6208 .f32)
    (e0 : m ((c.tc : Thread Cert.Kernel3Ideal.nD Cert.Kernel3Ideal.τ).loc Cert.Kernel3Ideal.main_arg0) = x)
    (e1 : m ((c.tc : Thread Cert.Kernel3Ideal.nD Cert.Kernel3Ideal.τ).loc Cert.Kernel3Ideal.main_arg1) = g)
    (e2 : m ((c.tc : Thread Cert.Kernel3Ideal.nD Cert.Kernel3Ideal.τ).loc Cert.Kernel3Ideal.main_arg2) = w) :
    ProjRef.latR (ProjRef.zR (ProjRef.normed x g) w) = (Proj.dats m 0 c).arrAt 7 (Cert.Kernel3Ideal.cfgs 0).N := by
  rw [Proj.arr7_eq m c (ProjRef.wts x g w) (fun r d => congrFun e0 _) (fun d => congrFun e1 _) (fun d n => congrFun e2 _)]
  funext i
  obtain ⟨r, n, rfl⟩ : ∃ (r : Fin 16384) (n : Fin 1280), i = ix2 r n := ⟨i 0, i 1, eq_ix2 i⟩
  exact ProjRef.lat_eq x g w r n

theorem algebraic_proj : Cert.algebraic_Kernel3Ideal_Reference3Ideal := by
  intro m g m' g' hpre hargs
  refine ⟨fun c => (Proj.dats m 0 c).arrAt 5 (Cert.Kernel3Ideal.cfgs 0).N, fun c => (Proj.dats m 0 c).arrAt 6 (Cert.Kernel3Ideal.cfgs 0).N,
    fun c => (Proj.dats m 0 c).arrAt 7 (Cert.Kernel3Ideal.cfgs 0).N, ?_, ?_⟩
  · refine (θ_run Cert.Kernel3Ideal.defs _ _).mono (fun r h c => ⟨(h.1 c).1 5, (h.1 c).1 6, (h.1 c).1 7, ?_⟩) (Proj.run_main (F := Ideal) m g)
    exact ⟨((h.1 c).2 Cert.Kernel3Ideal.main_arg0 (Pipeline.mem_restRefs_of Cert.Kernel3Ideal.main_arg0 (by decide) (by decide))).trans (Cert.Kernel3Ideal.Gen.V_main_arg0 m c),
      ((h.1 c).1 1).trans (((Proj.dats m 0 c).arrAt_in 1 rfl _).trans ((Proj.A_eq m c 1).trans (Cert.Kernel3Ideal.Gen.V_main_arg1 m c))),
      ((h.1 c).2 Cert.Kernel3Ideal.main_arg2 (Pipeline.mem_restRefs_of Cert.Kernel3Ideal.main_arg2 (by decide) (by decide))).trans (Cert.Kernel3Ideal.Gen.V_main_arg2 m c)⟩
  · refine (θ_run Cert.Reference3Ideal.defs _ _).mono (fun r h c => ⟨(h c).1.trans ?_, (h c).2.1.trans ?_, (h c).2.2.1.trans ?_, (h c).2.2.2⟩)
      (Cert.Reference3Ideal.Value.run (F := Ideal) m' g')
    · exact proj_gate_eq m c _ _ _ (hargs c).1.symm (hargs c).2.1.symm (hargs c).2.2.symm
    · exact proj_pool_eq m c _ _ _ (hargs c).1.symm (hargs c).2.1.symm (hargs c).2.2.symm
    · exact proj_lat_eq m c _ _ _ (hargs c).1.symm (hargs c).2.1.symm (hargs c).2.2.symm

end Cert.Proof
-- ==== Proof.lean ====
/-
  The certificate of the attention call, of the feed-forward call and of the input projection call.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Frames
public import proofs.«01_k».proof.Proof.Algebraic
public import proofs.«01_k».proof.Proof.FFrames
public import proofs.«01_k».proof.Proof.FAlgebraic
public import proofs.«01_k».proof.Proof.PFrames
public import proofs.«01_k».proof.Proof.PAlgebraic

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite.Gen.facts, frame_Kernel, frame_KernelIdeal, fun m g _ => frame_KernelIdeal m g trivial,
    frame_ReferenceIdeal, fun m g _ => frame_ReferenceIdeal m g trivial, frame_Kernel2, frame_Kernel2Ideal, frame_Reference2Ideal,
    frame_Kernel3, frame_Kernel3Ideal, frame_Reference3Ideal, trivial, algebraic, trivial, algebraic_ffn, trivial, algebraic_proj⟩

end Cert.Proof

end
